-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_v13) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)) (v5 : (c : Dev Cert.Kernel4Ideal.nD) → Buf (Elt Ideal) ((c.tc : Thread Cert.Kernel4Ideal.nD Cert.Kernel4Ideal.τ).loc Cert.Kernel4Ideal.main_v4_5)) (v6 : (c : Dev Cert.Kernel4Ideal.nD) → Buf (Elt Ideal) ((c.tc : Thread Cert.Kernel4Ideal.nD Cert.Kernel4Ideal.τ).loc Cert.Kernel4Ideal.main_v4_6)) (v7 : (c : Dev Cert.Kernel4Ideal.nD) → Buf (Elt Ideal) ((c.tc : Thread Cert.Kernel4Ideal.nD Cert.Kernel4Ideal.τ).loc Cert.Kernel4Ideal.main_v4_7)) (v8 : (c : Dev Cert.Kernel4Ideal.nD) → Buf (Elt Ideal) ((c.tc : Thread Cert.Kernel4Ideal.nD Cert.Kernel4Ideal.τ).loc Cert.Kernel4Ideal.main_v4_8)) (v9 : (c : Dev Cert.Kernel4Ideal.nD) → Buf (Elt Ideal) ((c.tc : Thread Cert.Kernel4Ideal.nD Cert.Kernel4Ideal.τ).loc Cert.Kernel4Ideal.main_v4_9)) (v10 : (c : Dev Cert.Kernel4Ideal.nD) → Buf (Elt Ideal) ((c.tc : Thread Cert.Kernel4Ideal.nD Cert.Kernel4Ideal.τ).loc Cert.Kernel4Ideal.main_v4_10)) (v11 : (c : Dev Cert.Kernel4Ideal.nD) → Buf (Elt Ideal) ((c.tc : Thread Cert.Kernel4Ideal.nD Cert.Kernel4Ideal.τ).loc Cert.Kernel4Ideal.main_v4_11)) (v12 : (c : Dev Cert.Kernel4Ideal.nD) → Buf (Elt Ideal) ((c.tc : Thread Cert.Kernel4Ideal.nD Cert.Kernel4Ideal.τ).loc Cert.Kernel4Ideal.main_v4_12)) (v13 : (c : Dev Cert.Kernel4Ideal.nD) → Buf (Elt Ideal) ((c.tc : Thread Cert.Kernel4Ideal.nD Cert.Kernel4Ideal.τ).loc Cert.Kernel4Ideal.main_v4_13)) (v14 : (c : Dev Cert.Kernel4Ideal.nD) → Buf (Elt Ideal) ((c.tc : Thread Cert.Kernel4Ideal.nD Cert.Kernel4Ideal.τ).loc Cert.Kernel4Ideal.main_v4_14)) (v15 : (c : Dev Cert.Kernel4Ideal.nD) → Buf (Elt Ideal) ((c.tc : Thread Cert.Kernel4Ideal.nD Cert.Kernel4Ideal.τ).loc Cert.Kernel4Ideal.main_v4_15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_v4_5) = v5 c
          ∧ r.2.mem ((c.tc : Thread Cert.Kernel4Ideal.nD Cert.Kernel4Ideal.τ).loc Cert.Kernel4Ideal.main_v4_6) = v6 c
          ∧ r.2.mem ((c.tc : Thread Cert.Kernel4Ideal.nD Cert.Kernel4Ideal.τ).loc Cert.Kernel4Ideal.main_v4_7) = v7 c
          ∧ r.2.mem ((c.tc : Thread Cert.Kernel4Ideal.nD Cert.Kernel4Ideal.τ).loc Cert.Kernel4Ideal.main_v4_8) = v8 c
          ∧ r.2.mem ((c.tc : Thread Cert.Kernel4Ideal.nD Cert.Kernel4Ideal.τ).loc Cert.Kernel4Ideal.main_v4_9) = v9 c
          ∧ r.2.mem ((c.tc : Thread Cert.Kernel4Ideal.nD Cert.Kernel4Ideal.τ).loc Cert.Kernel4Ideal.main_v4_10) = v10 c
          ∧ r.2.mem ((c.tc : Thread Cert.Kernel4Ideal.nD Cert.Kernel4Ideal.τ).loc Cert.Kernel4Ideal.main_v4_11) = v11 c
          ∧ r.2.mem ((c.tc : Thread Cert.Kernel4Ideal.nD Cert.Kernel4Ideal.τ).loc Cert.Kernel4Ideal.main_v4_12) = v12 c
          ∧ r.2.mem ((c.tc : Thread Cert.Kernel4Ideal.nD Cert.Kernel4Ideal.τ).loc Cert.Kernel4Ideal.main_v4_13) = v13 c
          ∧ r.2.mem ((c.tc : Thread Cert.Kernel4Ideal.nD Cert.Kernel4Ideal.τ).loc Cert.Kernel4Ideal.main_v4_14) = v14 c
          ∧ r.2.mem ((c.tc : Thread Cert.Kernel4Ideal.nD Cert.Kernel4Ideal.τ).loc Cert.Kernel4Ideal.main_v4_15) = v15 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v207) = v0 c
          ∧ r.2.mem ((c.tc : Thread Cert.Reference4Ideal.nD Cert.Reference4Ideal.τ).loc Cert.Reference4Ideal.main_v200) = v1 c
          ∧ r.2.mem ((c.tc : Thread Cert.Reference4Ideal.nD Cert.Reference4Ideal.τ).loc Cert.Reference4Ideal.main_v198) = v2 c
          ∧ r.2.mem ((c.tc : Thread Cert.Reference4Ideal.nD Cert.Reference4Ideal.τ).loc Cert.Reference4Ideal.main_v176) = v3 c
          ∧ r.2.mem ((c.tc : Thread Cert.Reference4Ideal.nD Cert.Reference4Ideal.τ).loc Cert.Reference4Ideal.main_v173) = v4 c
          ∧ r.2.mem ((c.tc : Thread Cert.Reference4Ideal.nD Cert.Reference4Ideal.τ).loc Cert.Reference4Ideal.main_v152) = v5 c
          ∧ r.2.mem ((c.tc : Thread Cert.Reference4Ideal.nD Cert.Reference4Ideal.τ).loc Cert.Reference4Ideal.main_v144) = v6 c
          ∧ r.2.mem ((c.tc : Thread Cert.Reference4Ideal.nD Cert.Reference4Ideal.τ).loc Cert.Reference4Ideal.main_v208) = v7 c
          ∧ r.2.mem ((c.tc : Thread Cert.Reference4Ideal.nD Cert.Reference4Ideal.τ).loc Cert.Reference4Ideal.main_v209) = v8 c
          ∧ r.2.mem ((c.tc : Thread Cert.Reference4Ideal.nD Cert.Reference4Ideal.τ).loc Cert.Reference4Ideal.main_v142) = v9 c
          ∧ r.2.mem ((c.tc : Thread Cert.Reference4Ideal.nD Cert.Reference4Ideal.τ).loc Cert.Reference4Ideal.main_v117) = v10 c
          ∧ r.2.mem ((c.tc : Thread Cert.Reference4Ideal.nD Cert.Reference4Ideal.τ).loc Cert.Reference4Ideal.main_v110) = v11 c
          ∧ r.2.mem ((c.tc : Thread Cert.Reference4Ideal.nD Cert.Reference4Ideal.τ).loc Cert.Reference4Ideal.main_v205) = v12 c
          ∧ r.2.mem ((c.tc : Thread Cert.Reference4Ideal.nD Cert.Reference4Ideal.τ).loc Cert.Reference4Ideal.main_v185) = v13 c
          ∧ r.2.mem ((c.tc : Thread Cert.Reference4Ideal.nD Cert.Reference4Ideal.τ).loc Cert.Reference4Ideal.main_v183) = v14 c
          ∧ r.2.mem ((c.tc : Thread Cert.Reference4Ideal.nD Cert.Reference4Ideal.τ).loc Cert.Reference4Ideal.main_v160) = v15 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_v13) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S2x2048x1024 : Shape := ⟨3, ![2, 2048, 1024]⟩
abbrev S2x2x1024 : Shape := ⟨3, ![2, 2, 1024]⟩
abbrev S2x2048x512 : Shape := ⟨3, ![2, 2048, 512]⟩
abbrev S2x2048x1536 : Shape := ⟨3, ![2, 2048, 1536]⟩
abbrev S2x2048x16 : Shape := ⟨3, ![2, 2048, 16]⟩
abbrev S3088x1024 : Shape := ⟨2, ![3088, 1024]⟩
abbrev S1x256x1024 : Shape := ⟨3, ![1, 256, 1024]⟩
abbrev S1x2x1024 : Shape := ⟨3, ![1, 2, 1024]⟩
abbrev S1x256x512 : Shape := ⟨3, ![1, 256, 512]⟩
abbrev S1x256x1536 : Shape := ⟨3, ![1, 256, 1536]⟩
abbrev S1x256x16 : Shape := ⟨3, ![1, 256, 16]⟩
abbrev S2x1024 : Shape := ⟨2, ![2, 1024]⟩
abbrev S256x1024 : Shape := ⟨2, ![256, 1024]⟩
abbrev S1x1x1024 : Shape := ⟨3, ![1, 1, 1024]⟩
abbrev S1x1024 : Shape := ⟨2, ![1, 1024]⟩
abbrev S256x512 : Shape := ⟨2, ![256, 512]⟩
abbrev S256x1536 : Shape := ⟨2, ![256, 1536]⟩
abbrev S256x16 : Shape := ⟨2, ![256, 16]⟩
abbrev S512x1024 : Shape := ⟨2, ![512, 1024]⟩
abbrev S1536x1024 : Shape := ⟨2, ![1536, 1024]⟩
abbrev S16x1024 : Shape := ⟨2, ![16, 1024]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S2x2x1024, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x1536, .f32⟩
  | .hbm, ⟨7, _⟩ => ⟨S2x2048x512, .f32⟩
  | .hbm, ⟨8, _⟩ => ⟨S2x2048x16, .f32⟩
  | .hbm, ⟨9, _⟩ => ⟨S3088x1024, .f32⟩
  | .hbm, ⟨10, _⟩ => ⟨S2x2048x1024, .f32⟩
  | .hbm, ⟨11, _⟩ => ⟨S3088x1024, .f32⟩
  | .hbm, ⟨12, _⟩ => ⟨S3088x1024, .f32⟩
  | .hbm, ⟨13, _⟩ => ⟨S2x2x1024, .f32⟩
  | .hbm, ⟨14, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1536, .f32⟩
  | .local _ .vmem, ⟨13, _⟩ => ⟨S1x256x1536, .f32⟩
  | .local _ .vmem, ⟨14, _⟩ => ⟨S1x256x512, .f32⟩
  | .local _ .vmem, ⟨15, _⟩ => ⟨S1x256x512, .f32⟩
  | .local _ .vmem, ⟨16, _⟩ => ⟨S1x256x16, .f32⟩
  | .local _ .vmem, ⟨17, _⟩ => ⟨S1x256x16, .f32⟩
  | .local _ .vmem, ⟨18, _⟩ => ⟨S3088x1024, .f32⟩
  | .local _ .vmem, ⟨19, _⟩ => ⟨S1x256x1024, .f32⟩
  | .local _ .vmem, ⟨20, _⟩ => ⟨S1x256x1024, .f32⟩
  | .local _ .vmem, ⟨21, _⟩ => ⟨S3088x1024, .f32⟩
  | .local _ .vmem, ⟨22, _⟩ => ⟨S3088x1024, .f32⟩
  | .local _ .vmem, ⟨23, _⟩ => ⟨S1x2x1024, .f32⟩
  | .local _ .vmem, ⟨24, _⟩ => ⟨S1x2x1024, .f32⟩
  | .local _ .vmem, ⟨25, _⟩ => ⟨S1x256x1024, .f32⟩
  | .local _ .vmem, ⟨26, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3088x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S3088x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3088x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x2048x1024 : Shape := ⟨3, ![2, 2048, 1024]⟩
abbrev S2x2x1024 : Shape := ⟨3, ![2, 2, 1024]⟩
abbrev S2x2048x512 : Shape := ⟨3, ![2, 2048, 512]⟩
abbrev S2x2048x1536 : Shape := ⟨3, ![2, 2048, 1536]⟩
abbrev S2x2048x16 : Shape := ⟨3, ![2, 2048, 16]⟩
abbrev S3088x1024 : Shape := ⟨2, ![3088, 1024]⟩
abbrev S2x1x1024 : Shape := ⟨3, ![2, 1, 1024]⟩
abbrev S_ : Shape := ⟨0, ![]⟩
abbrev S2x2048x3088 : Shape := ⟨3, ![2, 2048, 3088]⟩
abbrev S2x1024 : Shape := ⟨2, ![2, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2x1024, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x1536, .f32⟩
  | .hbm, ⟨7, _⟩ => ⟨S2x2048x512, .f32⟩
  | .hbm, ⟨8, _⟩ => ⟨S2x2048x16, .f32⟩
  | .hbm, ⟨9, _⟩ => ⟨S3088x1024, .f32⟩
  | .hbm, ⟨10, _⟩ => ⟨S2x2048x1024, .f32⟩
  | .hbm, ⟨11, _⟩ => ⟨S3088x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x2048x1024, .f32⟩
  | .hbm, ⟨17, _⟩ => ⟨S2x2048x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x3088, .f32⟩
  | .hbm, ⟨22, _⟩ => ⟨S2x2048x512, .f32⟩
  | .hbm, ⟨23, _⟩ => ⟨S2x2048x512, .f32⟩
  | .hbm, ⟨24, _⟩ => ⟨S2x2048x1536, .f32⟩
  | .hbm, ⟨25, _⟩ => ⟨S2x2048x512, .f32⟩
  | .hbm, ⟨26, _⟩ => ⟨S2x2048x16, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x3088, .f32⟩
  | .hbm, ⟨31, _⟩ => ⟨S_, .f32⟩
  | .hbm, ⟨32, _⟩ => ⟨S2x2048x3088, .f32⟩
  | .hbm, ⟨33, _⟩ => ⟨S2x2048x3088, .f32⟩
  | .hbm, ⟨34, _⟩ => ⟨S_, .f32⟩
  | .hbm, ⟨35, _⟩ => ⟨S2x2048x3088, .f32⟩
  | .hbm, ⟨36, _⟩ => ⟨S2x2048x3088, .f32⟩
  | .hbm, ⟨37, _⟩ => ⟨S_, .f32⟩
  | .hbm, ⟨38, _⟩ => ⟨S2x2048x3088, .f32⟩
  | .hbm, ⟨39, _⟩ => ⟨S2x2048x3088, .f32⟩
  | .hbm, ⟨40, _⟩ => ⟨S_, .f32⟩
  | .hbm, ⟨41, _⟩ => ⟨S2x2048x3088, .f32⟩
  | .hbm, ⟨42, _⟩ => ⟨S2x2048x3088, .f32⟩
  | .hbm, ⟨43, _⟩ => ⟨S3088x1024, .f32⟩
  | .hbm, ⟨44, _⟩ => ⟨S2x2048x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S_, .f32⟩
  | .hbm, ⟨49, _⟩ => ⟨S2x2x1024, .f32⟩
  | .hbm, ⟨50, _⟩ => ⟨S2x2048x1024, .f32⟩
  | .hbm, ⟨51, _⟩ => ⟨S_, .f32⟩
  | .hbm, ⟨52, _⟩ => ⟨S2x1024, .f32⟩
  | .hbm, ⟨53, _⟩ => ⟨S2x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S2x2x1024, .f32⟩
  | .hbm, ⟨58, _⟩ => ⟨S2x2x1024, .f32⟩
  | .hbm, ⟨59, _⟩ => ⟨S3088x1024, .f32⟩
  | .hbm, ⟨60, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x2x1024 : Shape := ⟨3, ![2, 2, 1024]⟩
abbrev S3088x1024 : Shape := ⟨2, ![3088, 1024]⟩
abbrev S2x2048x512 : Shape := ⟨3, ![2, 2048, 512]⟩
abbrev S2x2048x1536 : Shape := ⟨3, ![2, 2048, 1536]⟩
abbrev S2x2048x16 : Shape := ⟨3, ![2, 2048, 16]⟩
abbrev S1x512x1024 : Shape := ⟨3, ![1, 512, 1024]⟩
abbrev S1x2x1024 : Shape := ⟨3, ![1, 2, 1024]⟩
abbrev S1x512x512 : Shape := ⟨3, ![1, 512, 512]⟩
abbrev S1x512x1536 : Shape := ⟨3, ![1, 512, 1536]⟩
abbrev S1x512x16 : Shape := ⟨3, ![1, 512, 16]⟩
abbrev S512x1024 : Shape := ⟨2, ![512, 1024]⟩
abbrev S1x1x1024 : Shape := ⟨3, ![1, 1, 1024]⟩
abbrev S1x1024 : Shape := ⟨2, ![1, 1024]⟩
abbrev S512x512 : Shape := ⟨2, ![512, 512]⟩
abbrev S1536x1024 : Shape := ⟨2, ![1536, 1024]⟩
abbrev S512x1536 : Shape := ⟨2, ![512, 1536]⟩
abbrev S16x1024 : Shape := ⟨2, ![16, 1024]⟩
abbrev S512x16 : Shape := ⟨2, ![512, 16]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2x1024, .f32⟩
  | .hbm, ⟨2, _⟩ => ⟨S3088x1024, .f32⟩
  | .hbm, ⟨3, _⟩ => ⟨S2x2048x512, .f32⟩
  | .hbm, ⟨4, _⟩ => ⟨S2x2048x512, .f32⟩
  | .hbm, ⟨5, _⟩ => ⟨S2x2048x1536, .f32⟩
  | .hbm, ⟨6, _⟩ => ⟨S2x2048x512, .f32⟩
  | .hbm, ⟨7, _⟩ => ⟨S2x2048x16, .f32⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S3088x1024, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x1536, .f32⟩
  | .local _ .vmem, ⟨10, _⟩ => ⟨S1x512x1536, .f32⟩
  | .local _ .vmem, ⟨11, _⟩ => ⟨S1x512x512, .f32⟩
  | .local _ .vmem, ⟨12, _⟩ => ⟨S1x512x512, .f32⟩
  | .local _ .vmem, ⟨13, _⟩ => ⟨S1x512x16, .f32⟩
  | .local _ .vmem, ⟨14, _⟩ => ⟨S1x512x16, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3088x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x2048x1024 : Shape := ⟨3, ![2, 2048, 1024]⟩
abbrev S2x2x1024 : Shape := ⟨3, ![2, 2, 1024]⟩
abbrev S3088x1024 : Shape := ⟨2, ![3088, 1024]⟩
abbrev S2x1x1024 : Shape := ⟨3, ![2, 1, 1024]⟩
abbrev S_ : Shape := ⟨0, ![]⟩
abbrev S2x2048x3088 : Shape := ⟨3, ![2, 2048, 3088]⟩
abbrev S2x2048x512 : Shape := ⟨3, ![2, 2048, 512]⟩
abbrev S2x2048x1536 : Shape := ⟨3, ![2, 2048, 1536]⟩
abbrev S2x2048x16 : Shape := ⟨3, ![2, 2048, 16]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2x1024, .f32⟩
  | .hbm, ⟨2, _⟩ => ⟨S3088x1024, .f32⟩
  | .hbm, ⟨3, _⟩ => ⟨S2x1x1024, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x2048x1024, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x3088, .f32⟩
  | .hbm, ⟨13, _⟩ => ⟨S2x2048x512, .f32⟩
  | .hbm, ⟨14, _⟩ => ⟨S2x2048x512, .f32⟩
  | .hbm, ⟨15, _⟩ => ⟨S2x2048x1536, .f32⟩
  | .hbm, ⟨16, _⟩ => ⟨S2x2048x512, .f32⟩
  | .hbm, ⟨17, _⟩ => ⟨S2x2048x16, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel3.lean ====
abbrev S2x256x1024 : Shape := ⟨3, ![2, 256, 1024]⟩
abbrev S2x2x1024 : Shape := ⟨3, ![2, 2, 1024]⟩
abbrev S2x256x512 : Shape := ⟨3, ![2, 256, 512]⟩
abbrev S2x256x1536 : Shape := ⟨3, ![2, 256, 1536]⟩
abbrev S2x256x16 : Shape := ⟨3, ![2, 256, 16]⟩
abbrev S3088x1024 : Shape := ⟨2, ![3088, 1024]⟩
abbrev S1x256x1024 : Shape := ⟨3, ![1, 256, 1024]⟩
abbrev S1x2x1024 : Shape := ⟨3, ![1, 2, 1024]⟩
abbrev S1x256x512 : Shape := ⟨3, ![1, 256, 512]⟩
abbrev S1x256x1536 : Shape := ⟨3, ![1, 256, 1536]⟩
abbrev S1x256x16 : Shape := ⟨3, ![1, 256, 16]⟩
abbrev S2x1024 : Shape := ⟨2, ![2, 1024]⟩
abbrev S256x1024 : Shape := ⟨2, ![256, 1024]⟩
abbrev S1x1x1024 : Shape := ⟨3, ![1, 1, 1024]⟩
abbrev S1x1024 : Shape := ⟨2, ![1, 1024]⟩
abbrev S256x512 : Shape := ⟨2, ![256, 512]⟩
abbrev S256x1536 : Shape := ⟨2, ![256, 1536]⟩
abbrev S256x16 : Shape := ⟨2, ![256, 16]⟩
abbrev S512x1024 : Shape := ⟨2, ![512, 1024]⟩
abbrev S1536x1024 : Shape := ⟨2, ![1536, 1024]⟩
abbrev S16x1024 : Shape := ⟨2, ![16, 1024]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S2x256x1024, .f32⟩
  | .hbm, ⟨1, _⟩ => ⟨S2x2x1024, .f32⟩
  | .hbm, ⟨2, _⟩ => ⟨S2x256x512, .f32⟩
  | .hbm, ⟨3, _⟩ => ⟨S2x256x512, .f32⟩
  | .hbm, ⟨4, _⟩ => ⟨S2x256x512, .f32⟩
  | .hbm, ⟨5, _⟩ => ⟨S2x256x1536, .f32⟩
  | .hbm, ⟨6, _⟩ => ⟨S2x256x512, .f32⟩
  | .hbm, ⟨7, _⟩ => ⟨S2x256x16, .f32⟩
  | .hbm, ⟨8, _⟩ => ⟨S3088x1024, .f32⟩
  | .hbm, ⟨9, _⟩ => ⟨S3088x1024, .f32⟩
  | .hbm, ⟨10, _⟩ => ⟨S2x2x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x1536, .f32⟩
  | .local _ .vmem, ⟨11, _⟩ => ⟨S1x256x1536, .f32⟩
  | .local _ .vmem, ⟨12, _⟩ => ⟨S1x256x512, .f32⟩
  | .local _ .vmem, ⟨13, _⟩ => ⟨S1x256x512, .f32⟩
  | .local _ .vmem, ⟨14, _⟩ => ⟨S1x256x16, .f32⟩
  | .local _ .vmem, ⟨15, _⟩ => ⟨S1x256x16, .f32⟩
  | .local _ .vmem, ⟨16, _⟩ => ⟨S3088x1024, .f32⟩
  | .local _ .vmem, ⟨17, _⟩ => ⟨S3088x1024, .f32⟩
  | .local _ .vmem, ⟨18, _⟩ => ⟨S1x2x1024, .f32⟩
  | .local _ .vmem, ⟨19, _⟩ => ⟨S1x2x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3088x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3088x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S2x256x1024 : Shape := ⟨3, ![2, 256, 1024]⟩
abbrev S2x2x1024 : Shape := ⟨3, ![2, 2, 1024]⟩
abbrev S2x256x512 : Shape := ⟨3, ![2, 256, 512]⟩
abbrev S2x256x1536 : Shape := ⟨3, ![2, 256, 1536]⟩
abbrev S2x256x16 : Shape := ⟨3, ![2, 256, 16]⟩
abbrev S3088x1024 : Shape := ⟨2, ![3088, 1024]⟩
abbrev S2x1x1024 : Shape := ⟨3, ![2, 1, 1024]⟩
abbrev S_ : Shape := ⟨0, ![]⟩
abbrev S2x256x3088 : Shape := ⟨3, ![2, 256, 3088]⟩
abbrev S2x1024 : Shape := ⟨2, ![2, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x2x1024, .f32⟩
  | .hbm, ⟨2, _⟩ => ⟨S2x256x512, .f32⟩
  | .hbm, ⟨3, _⟩ => ⟨S2x256x512, .f32⟩
  | .hbm, ⟨4, _⟩ => ⟨S2x256x512, .f32⟩
  | .hbm, ⟨5, _⟩ => ⟨S2x256x1536, .f32⟩
  | .hbm, ⟨6, _⟩ => ⟨S2x256x512, .f32⟩
  | .hbm, ⟨7, _⟩ => ⟨S2x256x16, .f32⟩
  | .hbm, ⟨8, _⟩ => ⟨S3088x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x256x1024, .f32⟩
  | .hbm, ⟨14, _⟩ => ⟨S2x256x1024, .f32⟩
  | .hbm, ⟨15, _⟩ => ⟨S2x1x1024, .f32⟩
  | .hbm, ⟨16, _⟩ => ⟨S2x256x1024, .f32⟩
  | .hbm, ⟨17, _⟩ => ⟨S2x256x1024, .f32⟩
  | .hbm, ⟨18, _⟩ => ⟨S2x256x3088, .f32⟩
  | .hbm, ⟨19, _⟩ => ⟨S2x256x512, .f32⟩
  | .hbm, ⟨20, _⟩ => ⟨S2x256x512, .f32⟩
  | .hbm, ⟨21, _⟩ => ⟨S2x256x1536, .f32⟩
  | .hbm, ⟨22, _⟩ => ⟨S2x256x512, .f32⟩
  | .hbm, ⟨23, _⟩ => ⟨S2x256x16, .f32⟩
  | .hbm, ⟨24, _⟩ => ⟨S2x256x512, .f32⟩
  | .hbm, ⟨25, _⟩ => ⟨S_, .f32⟩
  | .hbm, ⟨26, _⟩ => ⟨S2x256x3088, .f32⟩
  | .hbm, ⟨27, _⟩ => ⟨S_, .f32⟩
  | .hbm, ⟨28, _⟩ => ⟨S2x256x3088, .f32⟩
  | .hbm, ⟨29, _⟩ => ⟨S2x256x3088, .f32⟩
  | .hbm, ⟨30, _⟩ => ⟨S_, .f32⟩
  | .hbm, ⟨31, _⟩ => ⟨S2x256x3088, .f32⟩
  | .hbm, ⟨32, _⟩ => ⟨S2x256x3088, .f32⟩
  | .hbm, ⟨33, _⟩ => ⟨S_, .f32⟩
  | .hbm, ⟨34, _⟩ => ⟨S2x256x3088, .f32⟩
  | .hbm, ⟨35, _⟩ => ⟨S2x256x3088, .f32⟩
  | .hbm, ⟨36, _⟩ => ⟨S_, .f32⟩
  | .hbm, ⟨37, _⟩ => ⟨S2x256x3088, .f32⟩
  | .hbm, ⟨38, _⟩ => ⟨S2x256x3088, .f32⟩
  | .hbm, ⟨39, _⟩ => ⟨S3088x1024, .f32⟩
  | .hbm, ⟨40, _⟩ => ⟨S2x256x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S_, .f32⟩
  | .hbm, ⟨45, _⟩ => ⟨S2x2x1024, .f32⟩
  | .hbm, ⟨46, _⟩ => ⟨S2x256x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S_, .f32⟩
  | .hbm, ⟨51, _⟩ => ⟨S2x2x1024, .f32⟩
  | .hbm, ⟨52, _⟩ => ⟨S2x2x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel4.lean ====
abbrev S2x2048x512 : Shape := ⟨3, ![2, 2048, 512]⟩
abbrev S2x2048x1024 : Shape := ⟨3, ![2, 2048, 1024]⟩
abbrev S2x1x1024 : Shape := ⟨3, ![2, 1, 1024]⟩
abbrev S1x1024 : Shape := ⟨2, ![1, 1024]⟩
abbrev S1024x1024 : Shape := ⟨2, ![1024, 1024]⟩
abbrev S1x512 : Shape := ⟨2, ![1, 512]⟩
abbrev S512x512 : Shape := ⟨2, ![512, 512]⟩
abbrev S1x128 : Shape := ⟨2, ![1, 128]⟩
abbrev S512x1024 : Shape := ⟨2, ![512, 1024]⟩
abbrev S2x8x128 : Shape := ⟨3, ![2, 8, 128]⟩
abbrev S1x256x512 : Shape := ⟨3, ![1, 256, 512]⟩
abbrev S1x256x1024 : Shape := ⟨3, ![1, 256, 1024]⟩
abbrev S1x1x1024 : Shape := ⟨3, ![1, 1, 1024]⟩
abbrev S1x8x128 : Shape := ⟨3, ![1, 8, 128]⟩
abbrev S8x128 : Shape := ⟨2, ![8, 128]⟩
abbrev S256x512 : Shape := ⟨2, ![256, 512]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩
abbrev S512 : Shape := ⟨1, ![512]⟩
abbrev S128 : Shape := ⟨1, ![128]⟩

abbrev nBuf : Space → Nat
  | .hbm => 37
  | .vmem => 52
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x1024, .f32⟩
  | .hbm, ⟨8, _⟩ => ⟨S2x2048x1024, .f32⟩
  | .hbm, ⟨9, _⟩ => ⟨S2x1x1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1x512, .f32⟩
  | .hbm, ⟨14, _⟩ => ⟨S512x512, .f32⟩
  | .hbm, ⟨15, _⟩ => ⟨S1x512, .f32⟩
  | .hbm, ⟨16, _⟩ => ⟨S1x128, .f32⟩
  | .hbm, ⟨17, _⟩ => ⟨S1024x1024, .bf16⟩
  | .hbm, ⟨18, _⟩ => ⟨S512x1024, .bf16⟩
  | .hbm, ⟨19, _⟩ => ⟨S512x1024, .bf16⟩
  | .hbm, ⟨20, _⟩ => ⟨S512x512, .bf16⟩
  | .hbm, ⟨21, _⟩ => ⟨S2x8x128, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S2x2048x512, .f32⟩
  | .hbm, ⟨27, _⟩ => ⟨S2x2048x1024, .f32⟩
  | .hbm, ⟨28, _⟩ => ⟨S512x1024, .f32⟩
  | .hbm, ⟨29, _⟩ => ⟨S512x1024, .f32⟩
  | .hbm, ⟨30, _⟩ => ⟨S2x1x1024, .f32⟩
  | .hbm, ⟨31, _⟩ => ⟨S1x1024, .f32⟩
  | .hbm, ⟨32, _⟩ => ⟨S1x1024, .f32⟩
  | .hbm, ⟨33, _⟩ => ⟨S1x512, .f32⟩
  | .hbm, ⟨34, _⟩ => ⟨S512x512, .f32⟩
  | .hbm, ⟨35, _⟩ => ⟨S1x512, .f32⟩
  | .hbm, ⟨36, _⟩ => ⟨S1x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x512, .f32⟩
  | .local _ .vmem, ⟨25, _⟩ => ⟨S512x512, .bf16⟩
  | .local _ .vmem, ⟨26, _⟩ => ⟨S1x512, .f32⟩
  | .local _ .vmem, ⟨27, _⟩ => ⟨S1x128, .f32⟩
  | .local _ .vmem, ⟨28, _⟩ => ⟨S1x8x128, .f32⟩
  | .local _ .vmem, ⟨29, _⟩ => ⟨S1x8x128, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x256x512, .f32⟩
  | .local _ .vmem, ⟨34, _⟩ => ⟨S1x256x512, .f32⟩
  | .local _ .vmem, ⟨35, _⟩ => ⟨S1x256x512, .f32⟩
  | .local _ .vmem, ⟨36, _⟩ => ⟨S1x256x512, .f32⟩
  | .local _ .vmem, ⟨37, _⟩ => ⟨S1x256x512, .f32⟩
  | .local _ .vmem, ⟨38, _⟩ => ⟨S1x256x512, .f32⟩
  | .local _ .vmem, ⟨39, _⟩ => ⟨S1x256x512, .f32⟩
  | .local _ .vmem, ⟨40, _⟩ => ⟨S1x256x1024, .f32⟩
  | .local _ .vmem, ⟨41, _⟩ => ⟨S1x256x1024, .f32⟩
  | .local _ .vmem, ⟨42, _⟩ => ⟨S512x1024, .f32⟩
  | .local _ .vmem, ⟨43, _⟩ => ⟨S512x1024, .f32⟩
  | .local _ .vmem, ⟨44, _⟩ => ⟨S1x1x1024, .f32⟩
  | .local _ .vmem, ⟨45, _⟩ => ⟨S1x1x1024, .f32⟩
  | .local _ .vmem, ⟨46, _⟩ => ⟨S1x1024, .f32⟩
  | .local _ .vmem, ⟨47, _⟩ => ⟨S1x1024, .f32⟩
  | .local _ .vmem, ⟨48, _⟩ => ⟨S1x512, .f32⟩
  | .local _ .vmem, ⟨49, _⟩ => ⟨S512x512, .f32⟩
  | .local _ .vmem, ⟨50, _⟩ => ⟨S1x512, .f32⟩
  | .local _ .vmem, ⟨51, _⟩ => ⟨S1x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v4_2 : Ref sig .tc := ⟨.hbm, 23, rfl⟩
abbrev main_v4_3 : Ref sig .tc := ⟨.hbm, 24, rfl⟩
abbrev main_v4_4 : Ref sig .tc := ⟨.hbm, 25, rfl⟩
abbrev main_v4_5 : Ref sig .tc := ⟨.hbm, 26, rfl⟩
abbrev main_v4_6 : Ref sig .tc := ⟨.hbm, 27, rfl⟩
abbrev main_v4_7 : Ref sig .tc := ⟨.hbm, 28, rfl⟩
abbrev main_v4_8 : Ref sig .tc := ⟨.hbm, 29, rfl⟩
abbrev main_v4_9 : Ref sig .tc := ⟨.hbm, 30, rfl⟩
abbrev main_v4_10 : Ref sig .tc := ⟨.hbm, 31, rfl⟩
abbrev main_v4_11 : Ref sig .tc := ⟨.hbm, 32, rfl⟩
abbrev main_v4_12 : Ref sig .tc := ⟨.hbm, 33, rfl⟩
abbrev main_v4_13 : Ref sig .tc := ⟨.hbm, 34, rfl⟩
abbrev main_v4_14 : Ref sig .tc := ⟨.hbm, 35, rfl⟩
abbrev main_v4_15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg26_0 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg29_0 : Ref sig .tc := ⟨.vmem, 47, rfl⟩
abbrev cc0_stg30_0 : Ref sig .tc := ⟨.vmem, 48, rfl⟩
abbrev cc0_stg31_0 : Ref sig .tc := ⟨.vmem, 49, rfl⟩
abbrev cc0_stg32_0 : Ref sig .tc := ⟨.vmem, 50, rfl⟩
abbrev cc0_stg33_0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem26_0 : DmaSem sig := 43
abbrev cc0_sem27_0 : DmaSem sig := 44
abbrev cc0_sem27_1 : DmaSem sig := 45
abbrev cc0_sem28_0 : DmaSem sig := 46
abbrev cc0_sem29_0 : DmaSem sig := 47
abbrev cc0_sem30_0 : DmaSem sig := 48
abbrev cc0_sem31_0 : DmaSem sig := 49
abbrev cc0_sem32_0 : DmaSem sig := 50
abbrev cc0_sem33_0 : DmaSem sig := 51

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 1 → Memref sig .tc .vmem S512x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S512x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S1x1x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S512x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]
-- ==== Reference4Ideal.lean ====
abbrev S2x2048x512 : Shape := ⟨3, ![2, 2048, 512]⟩
abbrev S2x2048x1024 : Shape := ⟨3, ![2, 2048, 1024]⟩
abbrev S2x1x1024 : Shape := ⟨3, ![2, 1, 1024]⟩
abbrev S1x1024 : Shape := ⟨2, ![1, 1024]⟩
abbrev S1024x1024 : Shape := ⟨2, ![1024, 1024]⟩
abbrev S1x512 : Shape := ⟨2, ![1, 512]⟩
abbrev S512x512 : Shape := ⟨2, ![512, 512]⟩
abbrev S1x128 : Shape := ⟨2, ![1, 128]⟩
abbrev S1x1x512 : Shape := ⟨3, ![1, 1, 512]⟩
abbrev S_ : Shape := ⟨0, ![]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩
abbrev S2x2048 : Shape := ⟨2, ![2, 2048]⟩
abbrev S2x2048x1 : Shape := ⟨3, ![2, 2048, 1]⟩
abbrev S1x1x1024 : Shape := ⟨3, ![1, 1, 1024]⟩
abbrev S2 : Shape := ⟨1, ![2]⟩
abbrev S1024 : Shape := ⟨1, ![1024]⟩
abbrev S2x1024 : Shape := ⟨2, ![2, 1024]⟩
abbrev S128 : Shape := ⟨1, ![128]⟩
abbrev S512 : Shape := ⟨1, ![512]⟩
abbrev S2x1x1 : Shape := ⟨3, ![2, 1, 1]⟩
abbrev S2x8x128 : Shape := ⟨3, ![2, 8, 128]⟩
abbrev S512x1024 : Shape := ⟨2, ![512, 1024]⟩

abbrev nBuf : Space → Nat
  | .hbm => 308
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x512, .f32⟩
  | 5 => ⟨S2x2048x512, .f32⟩
  | 6 => ⟨S2x2048x512, .f32⟩
  | 7 => ⟨S2x2048x1024, .f32⟩
  | 8 => ⟨S2x2048x1024, .f32⟩
  | 9 => ⟨S2x1x1024, .f32⟩
  | 10 => ⟨S1x1024, .f32⟩
  | 11 => ⟨S1x1024, .f32⟩
  | 12 => ⟨S1024x1024, .f32⟩
  | 13 => ⟨S1x512, .f32⟩
  | 14 => ⟨S512x512, .f32⟩
  | 15 => ⟨S1x512, .f32⟩
  | 16 => ⟨S1x128, .f32⟩
  | 17 => ⟨S1x1x512, .f32⟩
  | 18 => ⟨S2x2048x512, .f32⟩
  | 19 => ⟨S2x2048x512, .f32⟩
  | 20 => ⟨S2x2048x512, .f32⟩
  | 21 => ⟨S2x2048x512, .f32⟩
  | 22 => ⟨S_, .f32⟩
  | 23 => ⟨S2x2048x512, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S2x2048x512, .f32⟩
  | 33 => ⟨S2x2048x512, .f32⟩
  | 34 => ⟨S2x2048x512, .f32⟩
  | 35 => ⟨S1x1x512, .f32⟩
  | 36 => ⟨S2x2048x512, .f32⟩
  | 37 => ⟨S2x2048x512, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S_, .f32⟩
  | 47 => ⟨S2x2048x512, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S_, .f32⟩
  | 60 => ⟨S2x2048x512, .f32⟩
  | 61 => ⟨S2x2048x512, .f32⟩
  | 62 => ⟨S2x2048x512, .f32⟩
  | 63 => ⟨S2x2048x512, .f32⟩
  | 64 => ⟨S2x2048x512, .f32⟩
  | 65 => ⟨S2x2048x512, .f32⟩
  | 66 => ⟨S2x2048x4x128, .f32⟩
  | 67 => ⟨S2x2048x4x128, .f32⟩
  | 68 => ⟨S_, .f32⟩
  | 69 => ⟨S2x2048x4x128, .f32⟩
  | 70 => ⟨S2x2048x4x128, .f32⟩
  | 71 => ⟨S_, .f32⟩
  | 72 => ⟨S2x2048x4, .f32⟩
  | 73 => ⟨S2x2048x4x1, .f32⟩
  | 74 => ⟨S_, .f32⟩
  | 75 => ⟨S2x2048x4x1, .f32⟩
  | 76 => ⟨S2x2048x4x1, .f32⟩
  | 77 => ⟨S_, .f32⟩
  | 78 => ⟨S2x2048x4x1, .f32⟩
  | 79 => ⟨S2x2048x4x1, .f32⟩
  | 80 => ⟨S2x2048x4x1, .f32⟩
  | 81 => ⟨S2x2048x4x1, .f32⟩
  | 82 => ⟨S_, .f32⟩
  | 83 => ⟨S2x2048x4x1, .f32⟩
  | 84 => ⟨S2x2048x4x1, .f32⟩
  | 85 => ⟨S2x2048x4x128, .f32⟩
  | 86 => ⟨S2x2048x4x128, .f32⟩
  | 87 => ⟨S1x1x1x128, .f32⟩
  | 88 => ⟨S2x2048x4x128, .f32⟩
  | 89 => ⟨S2x2048x4x128, .f32⟩
  | 90 => ⟨S2x2048x512, .f32⟩
  | 91 => ⟨S2x2048x512, .f32⟩
  | 92 => ⟨S2x2048x512, .f32⟩
  | 93 => ⟨S_, .f32⟩
  | 94 => ⟨S2x2048x512, .f32⟩
  | 95 => ⟨S2x2048x512, .f32⟩
  | 96 => ⟨S_, .f32⟩
  | 97 => ⟨S2x2048x512, .f32⟩
  | 98 => ⟨S2x2048x512, .f32⟩
  | 99 => ⟨S_, .f32⟩
  | 100 => ⟨S2x2048x512, .f32⟩
  | 101 => ⟨S2x2048x512, .f32⟩
  | 102 => ⟨S2x2048x512, .f32⟩
  | 103 => ⟨S2x2048x512, .f32⟩
  | 104 => ⟨S2x2048x512, .f32⟩
  | 105 => ⟨S2x2048x1024, .f32⟩
  | 106 => ⟨S2x2048x1024, .f32⟩
  | 107 => ⟨S_, .f32⟩
  | 108 => ⟨S2x2048x1024, .f32⟩
  | 109 => ⟨S2x2048x1024, .f32⟩
  | 110 => ⟨S2x2048x1024, .f32⟩
  | 111 => ⟨S2x2048x1024, .f32⟩
  | 112 => ⟨S2x2048x1024, .f32⟩
  | 113 => ⟨S_, .f32⟩
  | 114 => ⟨S2x2048, .f32⟩
  | 115 => ⟨S2x2048x1, .f32⟩
  | 116 => ⟨S_, .f32⟩
  | 117 => ⟨S2x2048x1, .f32⟩
  | 118 => ⟨S2x2048x1, .f32⟩
  | 119 => ⟨S2x2048x1024, .f32⟩
  | 120 => ⟨S2x2048x1024, .f32⟩
  | 121 => ⟨S2x2048x1024, .f32⟩
  | 122 => ⟨S_, .f32⟩
  | 123 => ⟨S2x2048x1024, .f32⟩
  | 124 => ⟨S2x2048x1024, .f32⟩
  | 125 => ⟨S_, .f32⟩
  | 126 => ⟨S2x2048, .f32⟩
  | 127 => ⟨S2x2048x1, .f32⟩
  | _ => ⟨S2x2048x512, .f32⟩

abbrev hbmTy0_1 (i : Nat) : BufTy := match i % 128 with
  | 0 => ⟨S_, .f32⟩
  | 1 => ⟨S2x2048x1, .f32⟩
  | 2 => ⟨S2x2048x1, .f32⟩
  | 3 => ⟨S_, .f32⟩
  | 4 => ⟨S2x2048x1, .f32⟩
  | 5 => ⟨S2x2048x1, .f32⟩
  | 6 => ⟨S2x2048x1, .f32⟩
  | 7 => ⟨S2x2048x1, .f32⟩
  | 8 => ⟨S_, .f32⟩
  | 9 => ⟨S2x2048x1, .f32⟩
  | 10 => ⟨S2x2048x1, .f32⟩
  | 11 => ⟨S2x2048x1024, .f32⟩
  | 12 => ⟨S2x2048x1024, .f32⟩
  | 13 => ⟨S1x1x1024, .f32⟩
  | 14 => ⟨S2x2048x1024, .f32⟩
  | 15 => ⟨S2x2048x1024, .f32⟩
  | 16 => ⟨S1x1x1024, .f32⟩
  | 17 => ⟨S2x2048x1024, .f32⟩
  | 18 => ⟨S2x2048x1024, .f32⟩
  | 19 => ⟨S2x2048x1024, .f32⟩
  | 20 => ⟨S2x2048x1024, .f32⟩
  | 21 => ⟨S_, .f32⟩
  | 22 => ⟨S2x2048x1024, .f32⟩
  | 23 => ⟨S2x2048x1024, .f32⟩
  | 24 => ⟨S_, .f32⟩
  | 25 => ⟨S2x2048, .f32⟩
  | 26 => ⟨S_, .f32⟩
  | 27 => ⟨S2x2048, .f32⟩
  | 28 => ⟨S2x2048, .f32⟩
  | 29 => ⟨S_, .f32⟩
  | 30 => ⟨S2, .f32⟩
  | 31 => ⟨S_, .f32⟩
  | 32 => ⟨S2, .f32⟩
  | 33 => ⟨S2, .f32⟩
  | 34 => ⟨S_, .f32⟩
  | 35 => ⟨S_, .f32⟩
  | 36 => ⟨S_, .f32⟩
  | 37 => ⟨S2, .f32⟩
  | 38 => ⟨S_, .f32⟩
  | 39 => ⟨S2, .f32⟩
  | 40 => ⟨S2, .f32⟩
  | 41 => ⟨S2x2048, .f32⟩
  | 42 => ⟨S_, .f32⟩
  | 43 => ⟨S2x2048, .f32⟩
  | 44 => ⟨S2x2048, .f32⟩
  | 45 => ⟨S2x2048x1024, .f32⟩
  | 46 => ⟨S2x2048x1024, .f32⟩
  | 47 => ⟨S_, .f32⟩
  | 48 => ⟨S1024, .f32⟩
  | 49 => ⟨S1x1x1024, .f32⟩
  | 50 => ⟨S_, .f32⟩
  | 51 => ⟨S1024, .f32⟩
  | 52 => ⟨S1x1024, .f32⟩
  | 53 => ⟨S2x2048x1024, .f32⟩
  | 54 => ⟨S_, .f32⟩
  | 55 => ⟨S1024, .f32⟩
  | 56 => ⟨S1x1x1024, .f32⟩
  | 57 => ⟨S2x2048x1024, .f32⟩
  | 58 => ⟨S2x2048x1024, .f32⟩
  | 59 => ⟨S_, .f32⟩
  | 60 => ⟨S1024, .f32⟩
  | 61 => ⟨S1x1024, .f32⟩
  | 62 => ⟨S2x2048x1024, .f32⟩
  | 63 => ⟨S_, .f32⟩
  | 64 => ⟨S2x2048, .f32⟩
  | 65 => ⟨S2x2048x1, .f32⟩
  | 66 => ⟨S2x2048x1024, .f32⟩
  | 67 => ⟨S2x2048x1024, .f32⟩
  | 68 => ⟨S2x2048x1, .f32⟩
  | 69 => ⟨S_, .f32⟩
  | 70 => ⟨S2x2048x1, .f32⟩
  | 71 => ⟨S2x2048x1, .f32⟩
  | 72 => ⟨S_, .f32⟩
  | 73 => ⟨S2x2048, .f32⟩
  | 74 => ⟨S2x2048x1024, .f32⟩
  | 75 => ⟨S2x2048x1024, .f32⟩
  | 76 => ⟨S2x2048x1024, .f32⟩
  | 77 => ⟨S2x2048x1024, .f32⟩
  | 78 => ⟨S_, .f32⟩
  | 79 => ⟨S2x2048, .f32⟩
  | 80 => ⟨S2x2048x1, .f32⟩
  | 81 => ⟨S_, .f32⟩
  | 82 => ⟨S2x2048x1, .f32⟩
  | 83 => ⟨S2x2048x1, .f32⟩
  | 84 => ⟨S_, .f32⟩
  | 85 => ⟨S2x2048, .f32⟩
  | 86 => ⟨S2x2048x1024, .f32⟩
  | 87 => ⟨S2x2048x1024, .f32⟩
  | 88 => ⟨S2x2048x1024, .f32⟩
  | 89 => ⟨S2x2048x1024, .f32⟩
  | 90 => ⟨S2x2048x1024, .f32⟩
  | 91 => ⟨S_, .f32⟩
  | 92 => ⟨S2x1024, .f32⟩
  | 93 => ⟨S2x1x1024, .f32⟩
  | 94 => ⟨S_, .f32⟩
  | 95 => ⟨S2x2048x1024, .f32⟩
  | 96 => ⟨S2x2048x1024, .f32⟩
  | 97 => ⟨S1024x1024, .f32⟩
  | 98 => ⟨S1024x1024, .f32⟩
  | 99 => ⟨S2x2048x1024, .f32⟩
  | 100 => ⟨S2x2048x512, .f32⟩
  | 101 => ⟨S2x2048x512, .f32⟩
  | 102 => ⟨S2x2048x512, .f32⟩
  | 103 => ⟨S2x2048x512, .f32⟩
  | 104 => ⟨S2x2048x512, .f32⟩
  | 105 => ⟨S2x2048x512, .f32⟩
  | 106 => ⟨S2x2048x512, .f32⟩
  | 107 => ⟨S2x2048x512, .f32⟩
  | 108 => ⟨S2x2048x4x128, .f32⟩
  | 109 => ⟨S2x2048x4x128, .f32⟩
  | 110 => ⟨S_, .f32⟩
  | 111 => ⟨S128, .f32⟩
  | 112 => ⟨S1x1x1x128, .f32⟩
  | 113 => ⟨S2x2048x4x128, .f32⟩
  | 114 => ⟨S2x2048x4x128, .f32⟩
  | 115 => ⟨S_, .f32⟩
  | 116 => ⟨S128, .f32⟩
  | 117 => ⟨S1x128, .f32⟩
  | 118 => ⟨S2x2048x4x128, .f32⟩
  | 119 => ⟨S_, .f32⟩
  | 120 => ⟨S2x2048x4, .f32⟩
  | 121 => ⟨S2x2048x4x1, .f32⟩
  | 122 => ⟨S2x2048x4x128, .f32⟩
  | 123 => ⟨S2x2048x4x128, .f32⟩
  | 124 => ⟨S2x2048x4x1, .f32⟩
  | 125 => ⟨S_, .f32⟩
  | 126 => ⟨S2x2048x4x1, .f32⟩
  | 127 => ⟨S2x2048x4x1, .f32⟩
  | _ => ⟨S2x2048x512, .f32⟩

abbrev hbmTy0_2 (i : Nat) : BufTy := match i % 128 with
  | 0 => ⟨S_, .f32⟩
  | 1 => ⟨S2x2048x4, .f32⟩
  | 2 => ⟨S2x2048x4x128, .f32⟩
  | 3 => ⟨S2x2048x4x128, .f32⟩
  | 4 => ⟨S2x2048x4x128, .f32⟩
  | 5 => ⟨S2x2048x512, .f32⟩
  | 6 => ⟨S2x2048x512, .f32⟩
  | 7 => ⟨S2x2048x512, .f32⟩
  | 8 => ⟨S2x2048x512, .f32⟩
  | 9 => ⟨S2x2048x512, .f32⟩
  | 10 => ⟨S2x2048x512, .f32⟩
  | 11 => ⟨S2x2048x512, .f32⟩
  | 12 => ⟨S2x2048x512, .f32⟩
  | 13 => ⟨S2x2048x512, .f32⟩
  | 14 => ⟨S2x2048x512, .f32⟩
  | 15 => ⟨S_, .f32⟩
  | 16 => ⟨S512, .f32⟩
  | 17 => ⟨S1x1x512, .f32⟩
  | 18 => ⟨S_, .f32⟩
  | 19 => ⟨S512, .f32⟩
  | 20 => ⟨S1x512, .f32⟩
  | 21 => ⟨S512x512, .f32⟩
  | 22 => ⟨S512x512, .f32⟩
  | 23 => ⟨S2x2048x512, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S2x2048x512, .f32⟩
  | 31 => ⟨S_, .f32⟩
  | 32 => ⟨S2x2048x512, .f32⟩
  | 33 => ⟨S2x2048x512, .f32⟩
  | 34 => ⟨S2x2048x512, .f32⟩
  | 35 => ⟨S_, .f32⟩
  | 36 => ⟨S2x2048x512, .f32⟩
  | 37 => ⟨S2x2048x512, .f32⟩
  | 38 => ⟨S2x2048x512, .f32⟩
  | 39 => ⟨S2x2048x512, .f32⟩
  | 40 => ⟨S2x2048x512, .f32⟩
  | 41 => ⟨S2x2048x512, .f32⟩
  | 42 => ⟨S_, .f32⟩
  | 43 => ⟨S512, .f32⟩
  | 44 => ⟨S1x1x512, .f32⟩
  | 45 => ⟨S_, .f32⟩
  | 46 => ⟨S512, .f32⟩
  | 47 => ⟨S1x512, .f32⟩
  | 48 => ⟨S2x1x1, .f32⟩
  | 49 => ⟨S2x8x128, .f32⟩
  | 50 => ⟨S512x1024, .f32⟩
  | 51 => ⟨S512x1024, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v29_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v29_1 : Ref sig .tc := ⟨.hbm, 62, rfl⟩
abbrev main_v29_0 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_4 : Ref sig .tc := ⟨.hbm, 68, rfl⟩
abbrev main_v34 : Ref sig .tc := ⟨.hbm, 69, rfl⟩
abbrev main_v35 : Ref sig .tc := ⟨.hbm, 70, rfl⟩
abbrev main_cst_5 : Ref sig .tc := ⟨.hbm, 71, rfl⟩
abbrev main_v36 : Ref sig .tc := ⟨.hbm, 72, rfl⟩
abbrev main_v37 : Ref sig .tc := ⟨.hbm, 73, rfl⟩
abbrev main_cst_6 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_v52_2 : Ref sig .tc := ⟨.hbm, 98, rfl⟩
abbrev main_call1_cst_1 : Ref sig .tc := ⟨.hbm, 99, rfl⟩
abbrev main_call1_v6 : Ref sig .tc := ⟨.hbm, 100, rfl⟩
abbrev main_call1_v7 : Ref sig .tc := ⟨.hbm, 101, rfl⟩
abbrev main_v52_1 : Ref sig .tc := ⟨.hbm, 102, rfl⟩
abbrev main_v52_0 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_9 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_10 : Ref sig .tc := ⟨.hbm, 113, rfl⟩
abbrev main_v61 : Ref sig .tc := ⟨.hbm, 114, rfl⟩
abbrev main_v62 : Ref sig .tc := ⟨.hbm, 115, rfl⟩
abbrev main_cst_11 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_12 : Ref sig .tc := ⟨.hbm, 122, rfl⟩
abbrev main_v68 : Ref sig .tc := ⟨.hbm, 123, rfl⟩
abbrev main_v69 : Ref sig .tc := ⟨.hbm, 124, rfl⟩
abbrev main_cst_13 : Ref sig .tc := ⟨.hbm, 125, rfl⟩
abbrev main_v70 : Ref sig .tc := ⟨.hbm, 126, rfl⟩
abbrev main_v71 : Ref sig .tc := ⟨.hbm, 127, rfl⟩
abbrev main_cst_14 : Ref sig .tc := ⟨.hbm, 128, rfl⟩
abbrev main_v72 : Ref sig .tc := ⟨.hbm, 129, rfl⟩
abbrev main_v73 : Ref sig .tc := ⟨.hbm, 130, rfl⟩
abbrev main_cst_15 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_16 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_17 : Ref sig .tc := ⟨.hbm, 149, rfl⟩
abbrev main_v90 : Ref sig .tc := ⟨.hbm, 150, rfl⟩
abbrev main_v91 : Ref sig .tc := ⟨.hbm, 151, rfl⟩
abbrev main_cst_18 : Ref sig .tc := ⟨.hbm, 152, rfl⟩
abbrev main_v92 : Ref sig .tc := ⟨.hbm, 153, rfl⟩
abbrev main_cst_19 : Ref sig .tc := ⟨.hbm, 154, rfl⟩
abbrev main_v93 : Ref sig .tc := ⟨.hbm, 155, rfl⟩
abbrev main_v94 : Ref sig .tc := ⟨.hbm, 156, rfl⟩
abbrev main_cst_20 : Ref sig .tc := ⟨.hbm, 157, rfl⟩
abbrev main_v95 : Ref sig .tc := ⟨.hbm, 158, rfl⟩
abbrev main_cst_21 : Ref sig .tc := ⟨.hbm, 159, rfl⟩
abbrev main_v96 : Ref sig .tc := ⟨.hbm, 160, rfl⟩
abbrev main_v97 : Ref sig .tc := ⟨.hbm, 161, rfl⟩
abbrev main_cst_22 : Ref sig .tc := ⟨.hbm, 162, rfl⟩
abbrev main_v98 : Ref sig .tc := ⟨.hbm, 163, rfl⟩
abbrev main_cst_23 : Ref sig .tc := ⟨.hbm, 164, rfl⟩
abbrev main_v99 : Ref sig .tc := ⟨.hbm, 165, rfl⟩
abbrev main_cst_24 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_25 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_26 : Ref sig .tc := ⟨.hbm, 175, rfl⟩
abbrev main_v107 : Ref sig .tc := ⟨.hbm, 176, rfl⟩
abbrev main_v108 : Ref sig .tc := ⟨.hbm, 177, rfl⟩
abbrev main_cst_27 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_28 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_29 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_cst_30 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_31 : Ref sig .tc := ⟨.hbm, 197, rfl⟩
abbrev main_v124 : Ref sig .tc := ⟨.hbm, 198, rfl⟩
abbrev main_v125 : Ref sig .tc := ⟨.hbm, 199, rfl⟩
abbrev main_cst_32 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_33 : Ref sig .tc := ⟨.hbm, 206, rfl⟩
abbrev main_v131 : Ref sig .tc := ⟨.hbm, 207, rfl⟩
abbrev main_v132 : Ref sig .tc := ⟨.hbm, 208, rfl⟩
abbrev main_cst_34 : Ref sig .tc := ⟨.hbm, 209, rfl⟩
abbrev main_v133 : Ref sig .tc := ⟨.hbm, 210, rfl⟩
abbrev main_v134 : Ref sig .tc := ⟨.hbm, 211, rfl⟩
abbrev main_cst_35 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_36 : Ref sig .tc := ⟨.hbm, 219, rfl⟩
abbrev main_v141 : Ref sig .tc := ⟨.hbm, 220, rfl⟩
abbrev main_v142 : Ref sig .tc := ⟨.hbm, 221, rfl⟩
abbrev main_cst_37 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_38 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_cst_39 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_cst_40 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_cst_41 : Ref sig .tc := ⟨.hbm, 253, rfl⟩
abbrev main_v167 : Ref sig .tc := ⟨.hbm, 254, rfl⟩
abbrev main_v168 : Ref sig .tc := ⟨.hbm, 255, rfl⟩
abbrev main_cst_42 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_call3_v0 : Ref sig .tc := ⟨.hbm, 264, rfl⟩
abbrev main_call3_v1 : Ref sig .tc := ⟨.hbm, 265, rfl⟩
abbrev main_call3_v2 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_cst_43 : Ref sig .tc := ⟨.hbm, 271, rfl⟩
abbrev main_v180 : Ref sig .tc := ⟨.hbm, 272, rfl⟩
abbrev main_v181 : Ref sig .tc := ⟨.hbm, 273, rfl⟩
abbrev main_cst_44 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_cst_45 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_cst_46 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_cst_47 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_cst_48 : Ref sig .tc := ⟨.hbm, 298, rfl⟩
abbrev main_v202 : Ref sig .tc := ⟨.hbm, 299, rfl⟩
abbrev main_v203 : Ref sig .tc := ⟨.hbm, 300, rfl⟩
abbrev main_cst_49 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩

abbrev nD : Nat := 1
abbrev τ : Topo := Topo.v7x

variable {F : FTy → Type} [FloatOps F]
-- ==== Kernel5.lean ====
abbrev S2x256x1024 : Shape := ⟨3, ![2, 256, 1024]⟩
abbrev S2x2x1024 : Shape := ⟨3, ![2, 2, 1024]⟩
abbrev S3088x1024 : Shape := ⟨2, ![3088, 1024]⟩
abbrev S2x256x512 : Shape := ⟨3, ![2, 256, 512]⟩
abbrev S2x256x1536 : Shape := ⟨3, ![2, 256, 1536]⟩
abbrev S2x256x16 : Shape := ⟨3, ![2, 256, 16]⟩
abbrev S1x256x1024 : Shape := ⟨3, ![1, 256, 1024]⟩
abbrev S1x2x1024 : Shape := ⟨3, ![1, 2, 1024]⟩
abbrev S1x256x512 : Shape := ⟨3, ![1, 256, 512]⟩
abbrev S1x256x1536 : Shape := ⟨3, ![1, 256, 1536]⟩
abbrev S1x256x16 : Shape := ⟨3, ![1, 256, 16]⟩
abbrev S256x1024 : Shape := ⟨2, ![256, 1024]⟩
abbrev S1x1x1024 : Shape := ⟨3, ![1, 1, 1024]⟩
abbrev S1x1024 : Shape := ⟨2, ![1, 1024]⟩
abbrev S512x1024 : Shape := ⟨2, ![512, 1024]⟩
abbrev S256x512 : Shape := ⟨2, ![256, 512]⟩
abbrev S1536x1024 : Shape := ⟨2, ![1536, 1024]⟩
abbrev S256x1536 : Shape := ⟨2, ![256, 1536]⟩
abbrev S16x1024 : Shape := ⟨2, ![16, 1024]⟩
abbrev S256x16 : Shape := ⟨2, ![256, 16]⟩

abbrev nBuf : Space → Nat
  | .hbm => 8
  | .vmem => 15
  | .smem => 0
  | _ => 0

abbrev bufTy : (tb : Table) → Fin (tcTables nBuf tb) → BufTy
  | .hbm, ⟨0, _⟩ => ⟨S2x256x1024, .f32⟩
  | .hbm, ⟨1, _⟩ => ⟨S2x2x1024, .f32⟩
  | .hbm, ⟨2, _⟩ => ⟨S3088x1024, .f32⟩
  | .hbm, ⟨3, _⟩ => ⟨S2x256x512, .f32⟩
  | .hbm, ⟨4, _⟩ => ⟨S2x256x512, .f32⟩
  | .hbm, ⟨5, _⟩ => ⟨S2x256x1536, .f32⟩
  | .hbm, ⟨6, _⟩ => ⟨S2x256x512, .f32⟩
  | .hbm, ⟨7, _⟩ => ⟨S2x256x16, .f32⟩
  | .local _ .vmem, ⟨0, _⟩ => ⟨S1x256x1024, .f32⟩
  | .local _ .vmem, ⟨1, _⟩ => ⟨S1x256x1024, .f32⟩
  | .local _ .vmem, ⟨2, _⟩ => ⟨S1x2x1024, .f32⟩
  | .local _ .vmem, ⟨3, _⟩ => ⟨S1x2x1024, .f32⟩
  | .local _ .vmem, ⟨4, _⟩ => ⟨S3088x1024, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x1536, .f32⟩
  | .local _ .vmem, ⟨10, _⟩ => ⟨S1x256x1536, .f32⟩
  | .local _ .vmem, ⟨11, _⟩ => ⟨S1x256x512, .f32⟩
  | .local _ .vmem, ⟨12, _⟩ => ⟨S1x256x512, .f32⟩
  | .local _ .vmem, ⟨13, _⟩ => ⟨S1x256x16, .f32⟩
  | .local _ .vmem, ⟨14, _⟩ => ⟨S1x256x16, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3088x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x256x1024 : Shape := ⟨3, ![2, 256, 1024]⟩
abbrev S2x2x1024 : Shape := ⟨3, ![2, 2, 1024]⟩
abbrev S3088x1024 : Shape := ⟨2, ![3088, 1024]⟩
abbrev S2x1x1024 : Shape := ⟨3, ![2, 1, 1024]⟩
abbrev S_ : Shape := ⟨0, ![]⟩
abbrev S2x256x3088 : Shape := ⟨3, ![2, 256, 3088]⟩
abbrev S2x256x512 : Shape := ⟨3, ![2, 256, 512]⟩
abbrev S2x256x1536 : Shape := ⟨3, ![2, 256, 1536]⟩
abbrev S2x256x16 : Shape := ⟨3, ![2, 256, 16]⟩

abbrev nBuf : Space → Nat
  | .hbm => 18
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x2x1024, .f32⟩
  | .hbm, ⟨2, _⟩ => ⟨S3088x1024, .f32⟩
  | .hbm, ⟨3, _⟩ => ⟨S2x1x1024, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x256x1024, .f32⟩
  | .hbm, ⟨8, _⟩ => ⟨S2x256x1024, .f32⟩
  | .hbm, ⟨9, _⟩ => ⟨S2x1x1024, .f32⟩
  | .hbm, ⟨10, _⟩ => ⟨S2x256x1024, .f32⟩
  | .hbm, ⟨11, _⟩ => ⟨S2x256x1024, .f32⟩
  | .hbm, ⟨12, _⟩ => ⟨S2x256x3088, .f32⟩
  | .hbm, ⟨13, _⟩ => ⟨S2x256x512, .f32⟩
  | .hbm, ⟨14, _⟩ => ⟨S2x256x512, .f32⟩
  | .hbm, ⟨15, _⟩ => ⟨S2x256x1536, .f32⟩
  | .hbm, ⟨16, _⟩ => ⟨S2x256x512, .f32⟩
  | .hbm, ⟨17, _⟩ => ⟨S2x256x16, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1x1024x772 : Shape := ⟨3, ![1, 1024, 772]⟩
abbrev S1x772x1024 : Shape := ⟨3, ![1, 772, 1024]⟩
abbrev S772x1x1024 : Shape := ⟨3, ![772, 1, 1024]⟩
abbrev S193x1x1024 : Shape := ⟨3, ![193, 1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x772, .f32⟩
  | .hbm, ⟨1, _⟩ => ⟨S1x772x1024, .f32⟩
  | .hbm, ⟨2, _⟩ => ⟨S1x1024x772, .f32⟩
  | .hbm, ⟨3, _⟩ => ⟨S1x1024x772, .f32⟩
  | .hbm, ⟨4, _⟩ => ⟨S772x1x1024, .f32⟩
  | .hbm, ⟨5, _⟩ => ⟨S772x1x1024, .f32⟩
  | .hbm, ⟨6, _⟩ => ⟨S772x1x1024, .f32⟩
  | .hbm, ⟨7, _⟩ => ⟨S772x1x1024, .f32⟩
  | .hbm, ⟨8, _⟩ => ⟨S772x1x1024, .f32⟩
  | .hbm, ⟨9, _⟩ => ⟨S772x1x1024, .f32⟩
  | .hbm, ⟨10, _⟩ => ⟨S772x1x1024, .f32⟩
  | .local _ .vmem, ⟨0, _⟩ => ⟨S193x1x1024, .f32⟩
  | .local _ .vmem, ⟨1, _⟩ => ⟨S193x1x1024, .f32⟩
  | .local _ .vmem, ⟨2, _⟩ => ⟨S193x1x1024, .f32⟩
  | .local _ .vmem, ⟨3, _⟩ => ⟨S193x1x1024, .f32⟩
  | .local _ .vmem, ⟨4, _⟩ => ⟨S193x1x1024, .f32⟩
  | .local _ .vmem, ⟨5, _⟩ => ⟨S193x1x1024, .f32⟩
  | .local _ .vmem, ⟨6, _⟩ => ⟨S193x1x1024, .f32⟩
  | .local _ .vmem, ⟨7, _⟩ => ⟨S193x1x1024, .f32⟩
  | .local _ .vmem, ⟨8, _⟩ => ⟨S193x1x1024, .f32⟩
  | .local _ .vmem, ⟨9, _⟩ => ⟨S193x1x1024, .f32⟩
  | .local _ .vmem, ⟨10, _⟩ => ⟨S193x1x1024, .f32⟩
  | .local _ .vmem, ⟨11, _⟩ => ⟨S193x1x1024, .f32⟩
  | .local _ .vmem, ⟨12, _⟩ => ⟨S193x1x1024, .f32⟩
  | .local _ .vmem, ⟨13, _⟩ => ⟨S193x1x1024, .f32⟩
  | _, _ => ⟨S1x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S193x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S193x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S193x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S193x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S193x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S193x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S193x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1x1024x772 : Shape := ⟨3, ![1, 1024, 772]⟩
abbrev S1x772x1024 : Shape := ⟨3, ![1, 772, 1024]⟩
abbrev S_ : Shape := ⟨0, ![]⟩
abbrev S772x1x1024 : Shape := ⟨3, ![772, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x772, .f32⟩
  | .hbm, ⟨1, _⟩ => ⟨S1x772x1024, .f32⟩
  | .hbm, ⟨2, _⟩ => ⟨S1x1024x772, .f32⟩
  | .hbm, ⟨3, _⟩ => ⟨S1x1024x772, .f32⟩
  | .hbm, ⟨4, _⟩ => ⟨S1x1024x772, .f32⟩
  | .hbm, ⟨5, _⟩ => ⟨S_, .f32⟩
  | .hbm, ⟨6, _⟩ => ⟨S1x1024x772, .f32⟩
  | .hbm, ⟨7, _⟩ => ⟨S1x1024x772, .f32⟩
  | .hbm, ⟨8, _⟩ => ⟨S_, .f32⟩
  | .hbm, ⟨9, _⟩ => ⟨S1x1024x772, .f32⟩
  | .hbm, ⟨10, _⟩ => ⟨S1x1024x772, .f32⟩
  | .hbm, ⟨11, _⟩ => ⟨S1x1024x772, .f32⟩
  | .hbm, ⟨12, _⟩ => ⟨S_, .f32⟩
  | .hbm, ⟨13, _⟩ => ⟨S1x1024x772, .f32⟩
  | .hbm, ⟨14, _⟩ => ⟨S1x1024x772, .f32⟩
  | .hbm, ⟨15, _⟩ => ⟨S1x1024x772, .f32⟩
  | .hbm, ⟨16, _⟩ => ⟨S_, .f32⟩
  | .hbm, ⟨17, _⟩ => ⟨S1x1024x772, .f32⟩
  | .hbm, ⟨18, _⟩ => ⟨S1x1024x772, .f32⟩
  | .hbm, ⟨19, _⟩ => ⟨S1x1024x772, .f32⟩
  | .hbm, ⟨20, _⟩ => ⟨S_, .f32⟩
  | .hbm, ⟨21, _⟩ => ⟨S1x1024x772, .f32⟩
  | .hbm, ⟨22, _⟩ => ⟨S1x1024x772, .f32⟩
  | .hbm, ⟨23, _⟩ => ⟨S_, .f32⟩
  | .hbm, ⟨24, _⟩ => ⟨S1x1024x772, .f32⟩
  | .hbm, ⟨25, _⟩ => ⟨S1x1024x772, .f32⟩
  | .hbm, ⟨26, _⟩ => ⟨S1x1024x772, .f32⟩
  | .hbm, ⟨27, _⟩ => ⟨S_, .f32⟩
  | .hbm, ⟨28, _⟩ => ⟨S1x1024x772, .f32⟩
  | .hbm, ⟨29, _⟩ => ⟨S1x1024x772, .f32⟩
  | .hbm, ⟨30, _⟩ => ⟨S1x1024x772, .f32⟩
  | .hbm, ⟨31, _⟩ => ⟨S_, .f32⟩
  | .hbm, ⟨32, _⟩ => ⟨S1x1024x772, .f32⟩
  | .hbm, ⟨33, _⟩ => ⟨S1x1024x772, .f32⟩
  | .hbm, ⟨34, _⟩ => ⟨S1x1024x772, .f32⟩
  | .hbm, ⟨35, _⟩ => ⟨S_, .f32⟩
  | .hbm, ⟨36, _⟩ => ⟨S1x1024x772, .f32⟩
  | .hbm, ⟨37, _⟩ => ⟨S1x1024x772, .f32⟩
  | .hbm, ⟨38, _⟩ => ⟨S772x1x1024, .f32⟩
  | .hbm, ⟨39, _⟩ => ⟨S772x1x1024, .f32⟩
  | .hbm, ⟨40, _⟩ => ⟨S772x1x1024, .f32⟩
  | _, _ => ⟨S1x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel8.lean ====
abbrev S8x8x1024 : Shape := ⟨3, ![8, 8, 1024]⟩
abbrev S1x1024x768 : Shape := ⟨3, ![1, 1024, 768]⟩
abbrev S8x8x768 : Shape := ⟨3, ![8, 8, 768]⟩
abbrev S1024x768 : Shape := ⟨2, ![1024, 768]⟩
abbrev S8x1024 : Shape := ⟨2, ![8, 1024]⟩
abbrev S1x768 : Shape := ⟨2, ![1, 768]⟩
abbrev S1x8x1024 : Shape := ⟨3, ![1, 8, 1024]⟩
abbrev S1x8x768 : Shape := ⟨3, ![1, 8, 768]⟩
abbrev S8x768 : Shape := ⟨2, ![8, 768]⟩
abbrev S768 : Shape := ⟨1, ![768]⟩
abbrev S1x1024 : Shape := ⟨2, ![1, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8x8x1024, .f32⟩
  | .hbm, ⟨1, _⟩ => ⟨S1x1024x768, .f32⟩
  | .hbm, ⟨2, _⟩ => ⟨S8x8x768, .f32⟩
  | .hbm, ⟨3, _⟩ => ⟨S1024x768, .f32⟩
  | .hbm, ⟨4, _⟩ => ⟨S1024x768, .bf16⟩
  | .hbm, ⟨5, _⟩ => ⟨S1x1024x768, .f32⟩
  | .hbm, ⟨6, _⟩ => ⟨S8x1024, .f32⟩
  | .local _ .vmem, ⟨0, _⟩ => ⟨S8x8x1024, .f32⟩
  | .local _ .vmem, ⟨1, _⟩ => ⟨S1024x768, .bf16⟩
  | .local _ .vmem, ⟨2, _⟩ => ⟨S8x8x768, .f32⟩
  | .local _ .vmem, ⟨3, _⟩ => ⟨S1x1024x768, .f32⟩
  | .local _ .vmem, ⟨4, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference8Ideal.lean ====
abbrev S8x8x1024 : Shape := ⟨3, ![8, 8, 1024]⟩
abbrev S1x1024x768 : Shape := ⟨3, ![1, 1024, 768]⟩
abbrev S8x8x768 : Shape := ⟨3, ![8, 8, 768]⟩
abbrev S_ : Shape := ⟨0, ![]⟩
abbrev S1024x768 : Shape := ⟨2, ![1024, 768]⟩
abbrev S768 : Shape := ⟨1, ![768]⟩
abbrev S1x1x768 : Shape := ⟨3, ![1, 1, 768]⟩
abbrev S768x1024 : Shape := ⟨2, ![768, 1024]⟩
abbrev S8x1x1024 : Shape := ⟨3, ![8, 1, 1024]⟩
abbrev S8x1024 : Shape := ⟨2, ![8, 1024]⟩
abbrev S1024 : Shape := ⟨1, ![1024]⟩
abbrev S1x1024 : Shape := ⟨2, ![1, 1024]⟩
abbrev S1x768 : Shape := ⟨2, ![1, 768]⟩
abbrev S6x1024 : Shape := ⟨2, ![6, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1x1024x768, .f32⟩
  | .hbm, ⟨2, _⟩ => ⟨S8x8x768, .f32⟩
  | .hbm, ⟨3, _⟩ => ⟨S8x8x1024, .f32⟩
  | .hbm, ⟨4, _⟩ => ⟨S8x8x1024, .f32⟩
  | .hbm, ⟨5, _⟩ => ⟨S_, .f32⟩
  | .hbm, ⟨6, _⟩ => ⟨S8x8x1024, .f32⟩
  | .hbm, ⟨7, _⟩ => ⟨S8x8x1024, .f32⟩
  | .hbm, ⟨8, _⟩ => ⟨S_, .f32⟩
  | .hbm, ⟨9, _⟩ => ⟨S8x8x1024, .f32⟩
  | .hbm, ⟨10, _⟩ => ⟨S8x8x1024, .f32⟩
  | .hbm, ⟨11, _⟩ => ⟨S8x8x1024, .f32⟩
  | .hbm, ⟨12, _⟩ => ⟨S1024x768, .f32⟩
  | .hbm, ⟨13, _⟩ => ⟨S_, .f32⟩
  | .hbm, ⟨14, _⟩ => ⟨S768, .f32⟩
  | .hbm, ⟨15, _⟩ => ⟨S8x8x768, .f32⟩
  | .hbm, ⟨16, _⟩ => ⟨S1x1x768, .f32⟩
  | .hbm, ⟨17, _⟩ => ⟨S8x8x768, .f32⟩
  | .hbm, ⟨18, _⟩ => ⟨S8x8x768, .f32⟩
  | .hbm, ⟨19, _⟩ => ⟨S8x8x768, .f32⟩
  | .hbm, ⟨20, _⟩ => ⟨S_, .f32⟩
  | .hbm, ⟨21, _⟩ => ⟨S768, .f32⟩
  | .hbm, ⟨22, _⟩ => ⟨S1x1x768, .f32⟩
  | .hbm, ⟨23, _⟩ => ⟨S_, .f32⟩
  | .hbm, ⟨24, _⟩ => ⟨S768, .f32⟩
  | .hbm, ⟨25, _⟩ => ⟨S768x1024, .f32⟩
  | .hbm, ⟨26, _⟩ => ⟨S1024x768, .f32⟩
  | .hbm, ⟨27, _⟩ => ⟨S8x8x1024, .f32⟩
  | .hbm, ⟨28, _⟩ => ⟨S8x1x1024, .f32⟩
  | .hbm, ⟨29, _⟩ => ⟨S8x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S1x768, .f32⟩
  | .hbm, ⟨34, _⟩ => ⟨S_, .i32⟩
  | .hbm, ⟨35, _⟩ => ⟨S_, .f32⟩
  | .hbm, ⟨36, _⟩ => ⟨S1x1024, .f32⟩
  | .hbm, ⟨37, _⟩ => ⟨S_, .f32⟩
  | .hbm, ⟨38, _⟩ => ⟨S6x1024, .f32⟩
  | .hbm, ⟨39, _⟩ => ⟨S8x1024, .f32⟩
  | .hbm, ⟨40, _⟩ => ⟨S1x1024x768, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel9.lean ====
abbrev S1x16x384 : Shape := ⟨3, ![1, 16, 384]⟩
abbrev S16x384 : Shape := ⟨2, ![16, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x16x384, .f32⟩
  | .hbm, ⟨1, _⟩ => ⟨S1x16x384, .f32⟩
  | .hbm, ⟨2, _⟩ => ⟨S1x16x384, .f32⟩
  | .hbm, ⟨3, _⟩ => ⟨S1x16x384, .f32⟩
  | .hbm, ⟨4, _⟩ => ⟨S1x16x384, .f32⟩
  | .hbm, ⟨5, _⟩ => ⟨S1x16x384, .f32⟩
  | .hbm, ⟨6, _⟩ => ⟨S1x16x384, .f32⟩
  | .local _ .vmem, ⟨0, _⟩ => ⟨S1x16x384, .f32⟩
  | .local _ .vmem, ⟨1, _⟩ => ⟨S1x16x384, .f32⟩
  | .local _ .vmem, ⟨2, _⟩ => ⟨S1x16x384, .f32⟩
  | .local _ .vmem, ⟨3, _⟩ => ⟨S1x16x384, .f32⟩
  | .local _ .vmem, ⟨4, _⟩ => ⟨S1x16x384, .f32⟩
  | .local _ .vmem, ⟨5, _⟩ => ⟨S1x16x384, .f32⟩
  | .local _ .vmem, ⟨6, _⟩ => ⟨S1x16x384, .f32⟩
  | _, _ => ⟨S1x16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S1x16x384 : Shape := ⟨3, ![1, 16, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x384, .f32⟩
  | .hbm, ⟨1, _⟩ => ⟨S1x16x384, .f32⟩
  | .hbm, ⟨2, _⟩ => ⟨S1x16x384, .f32⟩
  | .hbm, ⟨3, _⟩ => ⟨S1x16x384, .f32⟩
  | .hbm, ⟨4, _⟩ => ⟨S_, .f32⟩
  | .hbm, ⟨5, _⟩ => ⟨S1x16x384, .f32⟩
  | .hbm, ⟨6, _⟩ => ⟨S1x16x384, .f32⟩
  | .hbm, ⟨7, _⟩ => ⟨S_, .f32⟩
  | .hbm, ⟨8, _⟩ => ⟨S1x16x384, .f32⟩
  | .hbm, ⟨9, _⟩ => ⟨S1x16x384, .f32⟩
  | .hbm, ⟨10, _⟩ => ⟨S1x16x384, .f32⟩
  | .hbm, ⟨11, _⟩ => ⟨S_, .f32⟩
  | .hbm, ⟨12, _⟩ => ⟨S1x16x384, .f32⟩
  | .hbm, ⟨13, _⟩ => ⟨S1x16x384, .f32⟩
  | .hbm, ⟨14, _⟩ => ⟨S1x16x384, .f32⟩
  | .hbm, ⟨15, _⟩ => ⟨S_, .f32⟩
  | .hbm, ⟨16, _⟩ => ⟨S1x16x384, .f32⟩
  | .hbm, ⟨17, _⟩ => ⟨S1x16x384, .f32⟩
  | .hbm, ⟨18, _⟩ => ⟨S1x16x384, .f32⟩
  | .hbm, ⟨19, _⟩ => ⟨S_, .f32⟩
  | .hbm, ⟨20, _⟩ => ⟨S1x16x384, .f32⟩
  | .hbm, ⟨21, _⟩ => ⟨S1x16x384, .f32⟩
  | .hbm, ⟨22, _⟩ => ⟨S_, .f32⟩
  | .hbm, ⟨23, _⟩ => ⟨S1x16x384, .f32⟩
  | .hbm, ⟨24, _⟩ => ⟨S1x16x384, .f32⟩
  | .hbm, ⟨25, _⟩ => ⟨S1x16x384, .f32⟩
  | .hbm, ⟨26, _⟩ => ⟨S_, .f32⟩
  | .hbm, ⟨27, _⟩ => ⟨S1x16x384, .f32⟩
  | .hbm, ⟨28, _⟩ => ⟨S1x16x384, .f32⟩
  | .hbm, ⟨29, _⟩ => ⟨S1x16x384, .f32⟩
  | .hbm, ⟨30, _⟩ => ⟨S_, .f32⟩
  | .hbm, ⟨31, _⟩ => ⟨S1x16x384, .f32⟩
  | .hbm, ⟨32, _⟩ => ⟨S1x16x384, .f32⟩
  | .hbm, ⟨33, _⟩ => ⟨S1x16x384, .f32⟩
  | .hbm, ⟨34, _⟩ => ⟨S_, .f32⟩
  | .hbm, ⟨35, _⟩ => ⟨S1x16x384, .f32⟩
  | .hbm, ⟨36, _⟩ => ⟨S1x16x384, .f32⟩
  | _, _ => ⟨S1x16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8x8x1024 : Shape := ⟨3, ![8, 8, 1024]⟩
abbrev S1x1024x768 : Shape := ⟨3, ![1, 1024, 768]⟩
abbrev S1x768 : Shape := ⟨2, ![1, 768]⟩
abbrev S1024x768 : Shape := ⟨2, ![1024, 768]⟩
abbrev S8x8x768 : Shape := ⟨3, ![8, 8, 768]⟩
abbrev S1x8x1024 : Shape := ⟨3, ![1, 8, 1024]⟩
abbrev S8x1024 : Shape := ⟨2, ![8, 1024]⟩
abbrev S8x768 : Shape := ⟨2, ![8, 768]⟩
abbrev S1x8x768 : Shape := ⟨3, ![1, 8, 768]⟩

abbrev nBuf : Space → Nat
  | .hbm => 6
  | .vmem => 4
  | .smem => 0
  | _ => 0

abbrev bufTy : (tb : Table) → Fin (tcTables nBuf tb) → BufTy
  | .hbm, ⟨0, _⟩ => ⟨S8x8x1024, .f32⟩
  | .hbm, ⟨1, _⟩ => ⟨S1x1024x768, .f32⟩
  | .hbm, ⟨2, _⟩ => ⟨S1x768, .f32⟩
  | .hbm, ⟨3, _⟩ => ⟨S1024x768, .f32⟩
  | .hbm, ⟨4, _⟩ => ⟨S1024x768, .bf16⟩
  | .hbm, ⟨5, _⟩ => ⟨S8x8x768, .f32⟩
  | .local _ .vmem, ⟨0, _⟩ => ⟨S8x8x1024, .f32⟩
  | .local _ .vmem, ⟨1, _⟩ => ⟨S1024x768, .bf16⟩
  | .local _ .vmem, ⟨2, _⟩ => ⟨S1x768, .f32⟩
  | .local _ .vmem, ⟨3, _⟩ => ⟨S8x8x768, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference10Ideal.lean ====
abbrev S8x8x1024 : Shape := ⟨3, ![8, 8, 1024]⟩
abbrev S1x1024x768 : Shape := ⟨3, ![1, 1024, 768]⟩
abbrev S1x768 : Shape := ⟨2, ![1, 768]⟩
abbrev S_ : Shape := ⟨0, ![]⟩
abbrev S1024x768 : Shape := ⟨2, ![1024, 768]⟩
abbrev S8x8x768 : Shape := ⟨3, ![8, 8, 768]⟩
abbrev S768 : Shape := ⟨1, ![768]⟩
abbrev S1x1x768 : Shape := ⟨3, ![1, 1, 768]⟩

abbrev nBuf : Space → Nat
  | .hbm => 18
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1x1024x768, .f32⟩
  | .hbm, ⟨2, _⟩ => ⟨S1x768, .f32⟩
  | .hbm, ⟨3, _⟩ => ⟨S8x8x1024, .f32⟩
  | .hbm, ⟨4, _⟩ => ⟨S8x8x1024, .f32⟩
  | .hbm, ⟨5, _⟩ => ⟨S_, .f32⟩
  | .hbm, ⟨6, _⟩ => ⟨S8x8x1024, .f32⟩
  | .hbm, ⟨7, _⟩ => ⟨S8x8x1024, .f32⟩
  | .hbm, ⟨8, _⟩ => ⟨S_, .f32⟩
  | .hbm, ⟨9, _⟩ => ⟨S8x8x1024, .f32⟩
  | .hbm, ⟨10, _⟩ => ⟨S8x8x1024, .f32⟩
  | .hbm, ⟨11, _⟩ => ⟨S8x8x1024, .f32⟩
  | .hbm, ⟨12, _⟩ => ⟨S1024x768, .f32⟩
  | .hbm, ⟨13, _⟩ => ⟨S8x8x768, .f32⟩
  | .hbm, ⟨14, _⟩ => ⟨S768, .f32⟩
  | .hbm, ⟨15, _⟩ => ⟨S1x1x768, .f32⟩
  | .hbm, ⟨16, _⟩ => ⟨S8x8x768, .f32⟩
  | .hbm, ⟨17, _⟩ => ⟨S8x8x768, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S8x8x1024 : Shape := ⟨3, ![8, 8, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 4
  | .vmem => 3
  | .smem => 0
  | _ => 0

abbrev bufTy : (tb : Table) → Fin (tcTables nBuf tb) → BufTy
  | .hbm, ⟨0, _⟩ => ⟨S8x8x1024, .f32⟩
  | .hbm, ⟨1, _⟩ => ⟨S1024, .f32⟩
  | .hbm, ⟨2, _⟩ => ⟨S1x1024, .f32⟩
  | .hbm, ⟨3, _⟩ => ⟨S1x1024, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference11Ideal.lean ====
abbrev S8x8x1024 : Shape := ⟨3, ![8, 8, 1024]⟩
abbrev S1024 : Shape := ⟨1, ![1024]⟩
abbrev S_ : Shape := ⟨0, ![]⟩
abbrev S4x1x1024 : Shape := ⟨3, ![4, 1, 1024]⟩
abbrev S4x1024 : Shape := ⟨2, ![4, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S4x1x1024, .f32⟩
  | .hbm, ⟨16, _⟩ => ⟨S4x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.InProjRef.lean ====
/- The backward pass of the input projection as plain functions of one entry, and the reference program's
   three results read at an entry.  Hand-written, untrusted. -/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open scoped BigOperators

namespace Cert.InProj

open Cert.ReferenceIdeal Cert.ReferenceIdeal.Gen

/-- The gradient of the projection's output, its five pieces side by side, as the reference builds it: each piece padded
    with zeros to the full width, and the padded pieces added. -/
def refD (a2 a3 a4 a5 : FVec Ideal S2x2048x512 .f32) (a6 : FVec Ideal S2x2048x1536 .f32) (a7 : FVec Ideal S2x2048x512 .f32)
    (a8 : FVec Ideal S2x2048x16 .f32) : FVec Ideal S2x2048x3088 .f32 :=
  addf (addf (addf (addf
    (pad S2x2048x3088 ![0, 0, 3072] ![0, 0, 0] ![0, 0, 0] a8 (constant S_ .f32 0x00000000#32) pads_S2x2048x16_S2x2048x3088_000_000_307200 h_S_)
    (pad S2x2048x3088 ![0, 0, 2560] ![0, 0, 16] ![0, 0, 0] a7 (constant S_ .f32 0x00000000#32) pads_S2x2048x512_S2x2048x3088_000_000_2560160 h_S_))
    (pad S2x2048x3088 ![0, 0, 1024] ![0, 0, 528] ![0, 0, 0] a6 (constant S_ .f32 0x00000000#32) pads_S2x2048x1536_S2x2048x3088_000_000_10245280 h_S_))
    (pad S2x2048x3088 ![0, 0, 512] ![0, 0, 2064] ![0, 0, 0] a5 (constant S_ .f32 0x00000000#32) pads_S2x2048x512_S2x2048x3088_000_000_51220640 h_S_))
    (pad S2x2048x3088 ![0, 0, 0] ![0, 0, 2576] ![0, 0, 0] (addf (addf a2 a3) a4) (constant S_ .f32 0x00000000#32) pads_S2x2048x512_S2x2048x3088_000_000_025760 h_S_)

/-- The projection's input `x * (1 + scale) + shift`. -/
def refH (a0 : FVec Ideal S2x2048x1024 .f32) (a1 : FVec Ideal S2x2x1024 .f32) : FVec Ideal S2x2048x1024 .f32 :=
  addf (mulf a0 (broadcastInDim S2x2048x1024 ![0, 1, 2] bcast_S2x1x1024_S2x2048x1024_0_1_2
      (addf (broadcastInDim S2x1x1024 ![] bcast_S_S2x1x1024 (constant S_ .f32 0x3F800000#32))
        (extractStridedSlice S2x1x1024 ![0, 0, 0] a1 slices_S2x2x1024_S2x1x1024_0_0_0))))
    (broadcastInDim S2x2048x1024 ![0, 1, 2] bcast_S2x1x1024_S2x2048x1024_0_1_2
      (extractStridedSlice S2x1x1024 ![0, 1, 0] a1 slices_S2x2x1024_S2x1x1024_0_1_0))

/-- The gradient of the projection's input: the output's gradient through the weights. -/
def refDH (D : FVec Ideal S2x2048x3088 .f32) (W : FVec Ideal S3088x1024 .f32) : FVec Ideal S2x2048x1024 .f32 :=
  Host.dotGeneral dot_S2x2048x3088_S3088x1024_S2x2048x1024_2_0_01_1_n_n none D W

/-- The weights' gradient, added to what it starts from. -/
def refDW (D : FVec Ideal S2x2048x3088 .f32) (H : FVec Ideal S2x2048x1024 .f32) (s : FVec Ideal S3088x1024 .f32) :
    FVec Ideal S3088x1024 .f32 :=
  addf s (Host.dotGeneral dot_S2x2048x3088_S2x2048x1024_S3088x1024_01_01_2_2_n_n none D H)

/-- The gradient of scale (row 0) and shift (row 1). -/
def refDM (x DH : FVec Ideal S2x2048x1024 .f32) : FVec Ideal S2x2x1024 .f32 :=
  addf (pad S2x2x1024 ![0, 1, 0] ![0, 0, 0] ![0, 0, 0]
      (shapeCast _ (Host.reduceAdd DH (constant S_ .f32 0x00000000#32) reducesTo_S2x2048x1024_S2x1024_d1 h_S_) shapeCasts_S2x1024_S2x1x1024)
      (constant S_ .f32 0x00000000#32) pads_S2x1x1024_S2x2x1024_000_100_000 h_S_)
    (pad S2x2x1024 ![0, 0, 0] ![0, 1, 0] ![0, 0, 0]
      (shapeCast _ (Host.reduceAdd (mulf x DH) (constant S_ .f32 0x00000000#32) reducesTo_S2x2048x1024_S2x1024_d1 h_S_) shapeCasts_S2x1024_S2x1x1024)
      (constant S_ .f32 0x00000000#32) pads_S2x1x1024_S2x2x1024_000_010_000 h_S_)

/-- The gradient of `x`, added to the residual stream's gradient. -/
def refDX (DH : FVec Ideal S2x2048x1024 .f32) (a1 : FVec Ideal S2x2x1024 .f32) (g : FVec Ideal S2x2048x1024 .f32) :
    FVec Ideal S2x2048x1024 .f32 :=
  addf g (mulf DH (broadcastInDim S2x2048x1024 ![0, 1, 2] bcast_S2x1x1024_S2x2048x1024_0_1_2
      (addf (broadcastInDim S2x1x1024 ![] bcast_S_S2x1x1024 (constant S_ .f32 0x3F800000#32))
        (extractStridedSlice S2x1x1024 ![0, 0, 0] a1 slices_S2x2x1024_S2x1x1024_0_0_0))))

/-- A sum over the 3088 output columns is the sum of its five pieces, added from the left. -/
theorem sum_cols (f : Fin 3088 → EReal) :
    ∑ p, f p = (((∑ k : Fin 512, f ⟨k.val, by omega⟩ + ∑ k : Fin 512, f ⟨512 + k.val, by omega⟩)
      + ∑ k : Fin 1536, f ⟨1024 + k.val, by omega⟩) + ∑ k : Fin 512, f ⟨2560 + k.val, by omega⟩)
      + ∑ k : Fin 16, f ⟨3072 + k.val, by omega⟩ := by
  have e1 := Fin.sum_univ_add (M := EReal) (a := 3072) (b := 16) f
  have e2 := Fin.sum_univ_add (M := EReal) (a := 2560) (b := 512) fun k => f (Fin.castAdd 16 k)
  have e3 := Fin.sum_univ_add (M := EReal) (a := 1024) (b := 1536) fun k => f (Fin.castAdd 16 (Fin.castAdd 512 k))
  have e4 := Fin.sum_univ_add (M := EReal) (a := 512) (b := 512) fun k => f (Fin.castAdd 16 (Fin.castAdd 512 (Fin.castAdd 1536 k)))
  refine e1.trans ?_
  rw [e2, e3, e4]
  rfl

section
variable (a2 a3 a4 a5 : FVec Ideal S2x2048x512 .f32) (a6 : FVec Ideal S2x2048x1536 .f32) (a7 : FVec Ideal S2x2048x512 .f32)
    (a8 : FVec Ideal S2x2048x16 .f32)

/-- Columns 0 to 511 of the output's gradient: the three gradients of `u`, added. -/
theorem refD_u (b : Fin 2) (l : Fin 2048) (k : Fin 512) (h) :
    refD a2 a3 a4 a5 a6 a7 a8 (ix3 b l ⟨k.val, h⟩) = a2 (ix3 b l k) + a3 (ix3 b l k) + a4 (ix3 b l k) := by
  have hk := k.isLt
  pointwise [refD]
  repeat rw [dif_neg (by first | omega | simp)]
  try simp only [zero_add, add_zero]

/-- Columns 512 to 1023 of the output's gradient: the gradient of the gate `z`. -/
theorem refD_z (b : Fin 2) (l : Fin 2048) (k : Fin 512) (h) :
    refD a2 a3 a4 a5 a6 a7 a8 (ix3 b l ⟨512 + k.val, h⟩) = a5 (ix3 b l k) := by
  have hk := k.isLt
  pointwise [refD]
  repeat rw [dif_neg (by first | omega | simp)]
  try simp only [zero_add, add_zero]

/-- Columns 1024 to 2559 of the output's gradient: the gradient of the queries, keys and values. -/
theorem refD_qkv (b : Fin 2) (l : Fin 2048) (k : Fin 1536) (h) :
    refD a2 a3 a4 a5 a6 a7 a8 (ix3 b l ⟨1024 + k.val, h⟩) = a6 (ix3 b l k) := by
  have hk := k.isLt
  pointwise [refD]
  repeat rw [dif_neg (by first | omega | simp)]
  try simp only [zero_add, add_zero]

/-- Columns 2560 to 3071 of the output's gradient: the gradient of the output gate. -/
theorem refD_zg (b : Fin 2) (l : Fin 2048) (k : Fin 512) (h) :
    refD a2 a3 a4 a5 a6 a7 a8 (ix3 b l ⟨2560 + k.val, h⟩) = a7 (ix3 b l k) := by
  have hk := k.isLt
  pointwise [refD]
  repeat rw [dif_neg (by first | omega | simp)]
  try simp only [zero_add, add_zero]

/-- Columns 3072 to 3087 of the output's gradient: the gradient of the gates' logits. -/
theorem refD_ba (b : Fin 2) (l : Fin 2048) (k : Fin 16) (h) :
    refD a2 a3 a4 a5 a6 a7 a8 (ix3 b l ⟨3072 + k.val, h⟩) = a8 (ix3 b l k) := by
  have hk := k.isLt
  pointwise [refD]
  repeat rw [dif_neg (by first | omega | simp)]
  try simp only [zero_add, add_zero]

end

/-- The projection's input at an entry. -/
theorem refH_at (a0 : FVec Ideal S2x2048x1024 .f32) (a1 : FVec Ideal S2x2x1024 .f32) (b : Fin 2) (l : Fin 2048) (j : Fin 1024) :
    refH a0 a1 (ix3 b l j) = a0 (ix3 b l j) * (1 + a1 (ix3 b 0 j)) + a1 (ix3 b 1 j) := by
  pointwise [refH]

/-- The gradient of the projection's input at an entry. -/
theorem refDH_at (D : FVec Ideal S2x2048x3088 .f32) (W : FVec Ideal S3088x1024 .f32) (b : Fin 2) (l : Fin 2048) (j : Fin 1024) :
    refDH D W (ix3 b l j) = ∑ p : Fin 3088, D (ix3 b l p) * W (ix2 p j) := by
  pointwise [refDH]

/-- The weights' gradient at an entry. -/
theorem refDW_at (D : FVec Ideal S2x2048x3088 .f32) (H : FVec Ideal S2x2048x1024 .f32) (s : FVec Ideal S3088x1024 .f32)
    (p : Fin 3088) (j : Fin 1024) :
    refDW D H s (ix2 p j) = s (ix2 p j) + ∑ b : Fin 2, ∑ l : Fin 2048, D (ix3 b l p) * H (ix3 b l j) := by
  pointwise [refDW]

/-- Row 0 of the gradient of scale and shift. -/
theorem refDM_0 (x DH : FVec Ideal S2x2048x1024 .f32) (b : Fin 2) (j : Fin 1024) :
    refDM x DH (ix3 b 0 j) = ∑ l : Fin 2048, x (ix3 b l j) * DH (ix3 b l j) := by
  pointwise [refDM]

/-- Row 1 of the gradient of scale and shift. -/
theorem refDM_1 (x DH : FVec Ideal S2x2048x1024 .f32) (b : Fin 2) (j : Fin 1024) :
    refDM x DH (ix3 b 1 j) = ∑ l : Fin 2048, DH (ix3 b l j) := by
  pointwise [refDM]

/-- The gradient of `x` at an entry. -/
theorem refDX_at (DH : FVec Ideal S2x2048x1024 .f32) (a1 : FVec Ideal S2x2x1024 .f32) (g : FVec Ideal S2x2048x1024 .f32)
    (b : Fin 2) (l : Fin 2048) (j : Fin 1024) :
    refDX DH a1 g (ix3 b l j) = g (ix3 b l j) + DH (ix3 b l j) * (1 + a1 (ix3 b 0 j)) := by
  pointwise [refDX]

end Cert.InProj

end
-- ==== Proof.InProjPay.lean ====
/- The vectors the projection's backward body computes, read at an entry.  Hand-written, untrusted. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open scoped BigOperators

namespace Cert.InProj

open Cert.KernelIdeal Cert.KernelIdeal.Gen

/-- The gradient of the projection's input over one tile of tokens: the five pieces' products with their rows of the
    weights, added from the left. -/
theorem dh_at (v21 v23 v26 v30 v34 : Vec Ideal S1x256x512 .f32) (v32 : Vec Ideal S1x256x1536 .f32) (v36 : Vec Ideal S1x256x16 .f32)
    (w0 w1 w3 : Vec Ideal S512x1024 .f32) (w2 : Vec Ideal S1536x1024 .f32) (w4 : Vec Ideal S16x1024 .f32)
    (r : Fin 256) (j : Fin 1024) :
    k0_pay22 (F := Ideal) (k0_pay10 v34) (k0_pay11 v36) (k0_pay15 (k0_pay8 v21 v23 v26) k0_pay9 v30 w0 w1) (k0_pay17 v32) w2 w3 w4 (ix2 r j)
      = (((∑ k : Fin 512, (v21 (ix3 0 r k) + v23 (ix3 0 r k) + v26 (ix3 0 r k)) * w0 (ix2 k j)
          + ∑ k : Fin 512, v30 (ix3 0 r k) * w1 (ix2 k j))
          + ∑ k : Fin 1536, v32 (ix3 0 r k) * w2 (ix2 k j))
          + ∑ k : Fin 512, v34 (ix3 0 r k) * w3 (ix2 k j))
          + ∑ k : Fin 16, v36 (ix3 0 r k) * w4 (ix2 k j) := by
  pointwise [k0_pay22, k0_pay10, k0_pay11, k0_pay15, k0_pay8, k0_pay9, k0_pay17, k0_pay12, k0_pay14, k0_pay19, k0_pay21]

/-- What the body stores of the gradient of `x`. -/
theorem pay3_at (v10 : Vec Ideal S1x1x1024 .f32) (v82 : FVec Ideal S256x1024 .f32) (v105 : Vec Ideal S1x256x1024 .f32)
    (q : Fin 1) (r : Fin 256) (j : Fin 1024) :
    k0_pay3 (F := Ideal) (k0_pay6 v10) v82 v105 (ix3 q r j) = v105 (ix3 0 r j) + v82 (ix2 r j) * (1 + v10 (ix3 0 0 j)) := by
  pointwise [k0_pay3, k0_pay6]

/-- The body's row of scale gradients: what was there, plus the tile's. -/
theorem pay1_at (v88 : Vec Ideal S1x1x1024 .f32) (v90 : FVec Ideal S256x1024 .f32) (p q : Fin 1) (j : Fin 1024) :
    k0_pay1 (F := Ideal) (k0_pay24 v88) v90 (ix3 p q j) = v88 (ix3 0 0 j) + ∑ r : Fin 256, v90 (ix2 r j) := by
  pointwise [k0_pay1, k0_pay24]

/-- The body's row of shift gradients: what was there, plus the tile's. -/
theorem pay2_at (v97 : Vec Ideal S1x1x1024 .f32) (v82 : FVec Ideal S256x1024 .f32) (p q : Fin 1) (j : Fin 1024) :
    k0_pay2 (F := Ideal) v82 v97 (ix3 p q j) = v97 (ix3 0 0 j) + ∑ r : Fin 256, v82 (ix2 r j) := by
  pointwise [k0_pay2]

/-- The input's gradient times `x`. -/
theorem pay25_at (v8 : Vec Ideal S1x256x1024 .f32) (v35 : FVec Ideal S256x512 .f32) (v37 : FVec Ideal S256x16 .f32) (v52 : FVec Ideal S256x1024 .f32)
    (v58 : FVec Ideal S256x1536 .bf16) (w2 : Vec Ideal S1536x1024 .f32) (w3 : Vec Ideal S512x1024 .f32) (w4 : Vec Ideal S16x1024 .f32)
    (r : Fin 256) (j : Fin 1024) :
    k0_pay25 (F := Ideal) (k0_pay5 v8) v35 v37 v52 v58 w2 w3 w4 (ix2 r j)
      = k0_pay22 (F := Ideal) v35 v37 v52 v58 w2 w3 w4 (ix2 r j) * v8 (ix3 0 r j) := by
  pointwise [k0_pay25, k0_pay5]

/-- The projection's input over one tile of tokens. -/
theorem pay7_at (v8 : Vec Ideal S1x256x1024 .f32) (v10 v16 : Vec Ideal S1x1x1024 .f32) (r : Fin 256) (j : Fin 1024) :
    k0_pay7 (F := Ideal) v8 v10 v16 (ix2 r j) = v8 (ix3 0 r j) * (1 + v10 (ix3 0 0 j)) + v16 (ix3 0 0 j) := by
  pointwise [k0_pay7, k0_pay6, k0_pay5]

/-- The weights' rows of `u`: what was there, plus the tile's product. -/
theorem pay13_at (v20 : FVec Ideal S256x1024 .bf16) (v21 v23 v26 : Vec Ideal S1x256x512 .f32) (acc : Vec Ideal S512x1024 .f32) (k : Fin 512) (j : Fin 1024) :
    k0_pay13 (F := Ideal) v20 (k0_pay8 v21 v23 v26) acc (ix2 k j) = acc (ix2 k j) + ∑ r : Fin 256, (v21 (ix3 0 r k) + v23 (ix3 0 r k) + v26 (ix3 0 r k)) * v20 (ix2 r j) := by
  pointwise [k0_pay8, k0_pay10, k0_pay11, k0_pay12, k0_pay13, k0_pay14, k0_pay16, k0_pay17, k0_pay18, k0_pay19, k0_pay20, k0_pay21, k0_pay23]

/-- The weights' rows of `z`: what was there, plus the tile's product. -/
theorem pay16_at (v20 : FVec Ideal S256x1024 .bf16) (v : Vec Ideal S1x256x512 .f32) (acc : Vec Ideal S512x1024 .f32) (k : Fin 512) (j : Fin 1024) :
    k0_pay16 (F := Ideal) v20 v acc (ix2 k j) = acc (ix2 k j) + ∑ r : Fin 256, v (ix3 0 r k) * v20 (ix2 r j) := by
  pointwise [k0_pay8, k0_pay10, k0_pay11, k0_pay12, k0_pay13, k0_pay14, k0_pay16, k0_pay17, k0_pay18, k0_pay19, k0_pay20, k0_pay21, k0_pay23]

/-- The weights' rows of queries, keys and values: what was there, plus the tile's product. -/
theorem pay18_at (v20 : FVec Ideal S256x1024 .bf16) (v : Vec Ideal S1x256x1536 .f32) (acc : Vec Ideal S1536x1024 .f32) (k : Fin 1536) (j : Fin 1024) :
    k0_pay18 (F := Ideal) v20 (k0_pay17 v) acc (ix2 k j) = acc (ix2 k j) + ∑ r : Fin 256, v (ix3 0 r k) * v20 (ix2 r j) := by
  pointwise [k0_pay8, k0_pay10, k0_pay11, k0_pay12, k0_pay13, k0_pay14, k0_pay16, k0_pay17, k0_pay18, k0_pay19, k0_pay20, k0_pay21, k0_pay23]

/-- The weights' rows of the output gate: what was there, plus the tile's product. -/
theorem pay20_at (v20 : FVec Ideal S256x1024 .bf16) (v : Vec Ideal S1x256x512 .f32) (acc : Vec Ideal S512x1024 .f32) (k : Fin 512) (j : Fin 1024) :
    k0_pay20 (F := Ideal) v20 (k0_pay10 v) acc (ix2 k j) = acc (ix2 k j) + ∑ r : Fin 256, v (ix3 0 r k) * v20 (ix2 r j) := by
  pointwise [k0_pay8, k0_pay10, k0_pay11, k0_pay12, k0_pay13, k0_pay14, k0_pay16, k0_pay17, k0_pay18, k0_pay19, k0_pay20, k0_pay21, k0_pay23]

/-- The weights' rows of the gates: what was there, plus the tile's product. -/
theorem pay23_at (v20 : FVec Ideal S256x1024 .bf16) (v : Vec Ideal S1x256x16 .f32) (acc : Vec Ideal S16x1024 .f32) (k : Fin 16) (j : Fin 1024) :
    k0_pay23 (F := Ideal) v20 (k0_pay11 v) acc (ix2 k j) = acc (ix2 k j) + ∑ r : Fin 256, v (ix3 0 r k) * v20 (ix2 r j) := by
  pointwise [k0_pay8, k0_pay10, k0_pay11, k0_pay12, k0_pay13, k0_pay14, k0_pay16, k0_pay17, k0_pay18, k0_pay19, k0_pay20, k0_pay21, k0_pay23]

end Cert.InProj

end
-- ==== Proof.InProjBlocks.lean ====
/- The projection's backward kernel: its blocks as entries of the arguments, and a row of the input's gradient.  Hand-written, untrusted. -/
module

public import proofs.«01_k».proof.Proof.InProjRef
public import proofs.«01_k».proof.Proof.InProjPay
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProj

open Cert.KernelIdeal Cert.KernelIdeal.Gen

variable (m : (ℓ : Loc nD τ sig) → Buf (Elt Ideal) ℓ) (c : Dev nD)

/-- The arguments, by name. -/
abbrev A0 : FVec Ideal S2x2048x1024 .f32 := m ((c : Thread nD τ).loc main_arg0)
abbrev A1 : FVec Ideal S2x2x1024 .f32 := m ((c : Thread nD τ).loc main_arg1)
abbrev A2 : FVec Ideal S2x2048x512 .f32 := m ((c : Thread nD τ).loc main_arg2)
abbrev A3 : FVec Ideal S2x2048x512 .f32 := m ((c : Thread nD τ).loc main_arg3)
abbrev A4 : FVec Ideal S2x2048x512 .f32 := m ((c : Thread nD τ).loc main_arg4)
abbrev A5 : FVec Ideal S2x2048x512 .f32 := m ((c : Thread nD τ).loc main_arg5)
abbrev A6 : FVec Ideal S2x2048x1536 .f32 := m ((c : Thread nD τ).loc main_arg6)
abbrev A7 : FVec Ideal S2x2048x512 .f32 := m ((c : Thread nD τ).loc main_arg7)
abbrev A8 : FVec Ideal S2x2048x16 .f32 := m ((c : Thread nD τ).loc main_arg8)
abbrev A9 : FVec Ideal S3088x1024 .f32 := m ((c : Thread nD τ).loc main_arg9)
abbrev A10 : FVec Ideal S2x2048x1024 .f32 := m ((c : Thread nD τ).loc main_arg10)
abbrev A11 : FVec Ideal S3088x1024 .f32 := m ((c : Thread nD τ).loc main_arg11)
/-- The output's gradient, the projection's input and the input's gradient at these arguments. -/
abbrev AD := refD (A2 m c) (A3 m c) (A4 m c) (A5 m c) (A6 m c) (A7 m c) (A8 m c)
abbrev AH := refH (A0 m c) (A1 m c)
abbrev ADH := refDH (AD m c) (A9 m c)

/-- Every window's block index at every grid point. -/
theorem idx_val : ∀ t : Fin cfg0.N, win0_0.index t = ![t.val / 8, t.val % 8, 0]
    ∧ win0_1.index t = ![t.val / 8, 0, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0]
    ∧ win0_9.index t = ![0, 0]
    ∧ win0_10.index t = ![t.val / 8, t.val % 8, 0]
    ∧ win0_11.index t = ![0, 0]
    ∧ win0_12.index t = ![0, 0]
    ∧ win0_13.index t = ![t.val / 8, 0, 0]
    ∧ win0_14.index t = ![t.val / 8, t.val % 8, 0] :=
  (by decide +kernel : ∀ t : Fin grid0.N, _)

/-- Argument 0 under point `t`'s block. -/
theorem blk_0 (t : Fin cfg0.N) (b : Fin 2) (l : Fin 2048) (r : Fin 256) (hb : b.val = t.val / 8) (hl : l.val = t.val % 8 * 256 + r.val)
    (k : Fin 1024) : (iblk m c 0 t : Vec Ideal S1x256x1024 .f32) (ix3 0 r k) = A0 m c (ix3 b l k) := by
  blk_ext [iblk, V, idx_val t]

/-- Argument 2 under point `t`'s block. -/
theorem blk_2 (t : Fin cfg0.N) (b : Fin 2) (l : Fin 2048) (r : Fin 256) (hb : b.val = t.val / 8) (hl : l.val = t.val % 8 * 256 + r.val)
    (k : Fin 512) : (iblk m c 2 t : Vec Ideal S1x256x512 .f32) (ix3 0 r k) = A2 m c (ix3 b l k) := by
  blk_ext [iblk, V, idx_val t]

/-- Argument 3 under point `t`'s block. -/
theorem blk_3 (t : Fin cfg0.N) (b : Fin 2) (l : Fin 2048) (r : Fin 256) (hb : b.val = t.val / 8) (hl : l.val = t.val % 8 * 256 + r.val)
    (k : Fin 512) : (iblk m c 3 t : Vec Ideal S1x256x512 .f32) (ix3 0 r k) = A3 m c (ix3 b l k) := by
  blk_ext [iblk, V, idx_val t]

/-- Argument 4 under point `t`'s block. -/
theorem blk_4 (t : Fin cfg0.N) (b : Fin 2) (l : Fin 2048) (r : Fin 256) (hb : b.val = t.val / 8) (hl : l.val = t.val % 8 * 256 + r.val)
    (k : Fin 512) : (iblk m c 4 t : Vec Ideal S1x256x512 .f32) (ix3 0 r k) = A4 m c (ix3 b l k) := by
  blk_ext [iblk, V, idx_val t]

/-- Argument 5 under point `t`'s block. -/
theorem blk_5 (t : Fin cfg0.N) (b : Fin 2) (l : Fin 2048) (r : Fin 256) (hb : b.val = t.val / 8) (hl : l.val = t.val % 8 * 256 + r.val)
    (k : Fin 512) : (iblk m c 5 t : Vec Ideal S1x256x512 .f32) (ix3 0 r k) = A5 m c (ix3 b l k) := by
  blk_ext [iblk, V, idx_val t]

/-- Argument 6 under point `t`'s block. -/
theorem blk_6 (t : Fin cfg0.N) (b : Fin 2) (l : Fin 2048) (r : Fin 256) (hb : b.val = t.val / 8) (hl : l.val = t.val % 8 * 256 + r.val)
    (k : Fin 1536) : (iblk m c 6 t : Vec Ideal S1x256x1536 .f32) (ix3 0 r k) = A6 m c (ix3 b l k) := by
  blk_ext [iblk, V, idx_val t]

/-- Argument 7 under point `t`'s block. -/
theorem blk_7 (t : Fin cfg0.N) (b : Fin 2) (l : Fin 2048) (r : Fin 256) (hb : b.val = t.val / 8) (hl : l.val = t.val % 8 * 256 + r.val)
    (k : Fin 512) : (iblk m c 7 t : Vec Ideal S1x256x512 .f32) (ix3 0 r k) = A7 m c (ix3 b l k) := by
  blk_ext [iblk, V, idx_val t]

/-- Argument 8 under point `t`'s block. -/
theorem blk_8 (t : Fin cfg0.N) (b : Fin 2) (l : Fin 2048) (r : Fin 256) (hb : b.val = t.val / 8) (hl : l.val = t.val % 8 * 256 + r.val)
    (k : Fin 16) : (iblk m c 8 t : Vec Ideal S1x256x16 .f32) (ix3 0 r k) = A8 m c (ix3 b l k) := by
  blk_ext [iblk, V, idx_val t]

/-- Argument 10 under point `t`'s block. -/
theorem blk_10 (t : Fin cfg0.N) (b : Fin 2) (l : Fin 2048) (r : Fin 256) (hb : b.val = t.val / 8) (hl : l.val = t.val % 8 * 256 + r.val)
    (k : Fin 1024) : (iblk m c 10 t : Vec Ideal S1x256x1024 .f32) (ix3 0 r k) = A10 m c (ix3 b l k) := by
  blk_ext [iblk, V, idx_val t]

/-- Scale and shift under point `t`'s block. -/
theorem blk_1 (t : Fin cfg0.N) (b : Fin 2) (hb : b.val = t.val / 8) (q : Fin 2)
    (k : Fin 1024) : (iblk m c 1 t : Vec Ideal S1x2x1024 .f32) (ix3 0 q k) = A1 m c (ix3 b q k) := by
  blk_ext [iblk, V, idx_val t]

/-- The weights, resident at every point. -/
theorem blk_9 (t : Fin cfg0.N) (p : Fin 3088) (k : Fin 1024) : (iblk m c 9 t : Vec Ideal S3088x1024 .f32) (ix2 p k) = A9 m c (ix2 p k) := by
  blk_ext [iblk, V, idx_val t]

/-- What the weights' gradient starts from, resident at every point. -/
theorem blk_11 (t : Fin cfg0.N) (p : Fin 3088) (k : Fin 1024) : (iblk m c 11 t : Vec Ideal S3088x1024 .f32) (ix2 p k) = A11 m c (ix2 p k) := by
  blk_ext [iblk, V, idx_val t]

/-- One row of a tile of the input's gradient is the reference's row, when the pieces read are that row's and the loaded
    rows of the weights are theirs. -/
theorem dh_row (a2 a3 a4 a5 : FVec Ideal S2x2048x512 .f32) (a6 : FVec Ideal S2x2048x1536 .f32) (a7 : FVec Ideal S2x2048x512 .f32)
    (a8 : FVec Ideal S2x2048x16 .f32) (W : FVec Ideal S3088x1024 .f32)
    (v21 v23 v26 v30 v34 : Vec Ideal S1x256x512 .f32) (v32 : Vec Ideal S1x256x1536 .f32) (v36 : Vec Ideal S1x256x16 .f32)
    (w0 w1 w3 : Vec Ideal S512x1024 .f32) (w2 : Vec Ideal S1536x1024 .f32) (w4 : Vec Ideal S16x1024 .f32)
    (r : Fin 256) (j : Fin 1024) (b : Fin 2) (l : Fin 2048)
    (h2 : ∀ k, v21 (ix3 0 r k) = a2 (ix3 b l k)) (h3 : ∀ k, v23 (ix3 0 r k) = a3 (ix3 b l k))
    (h4 : ∀ k, v26 (ix3 0 r k) = a4 (ix3 b l k)) (h5 : ∀ k, v30 (ix3 0 r k) = a5 (ix3 b l k))
    (h6 : ∀ k, v32 (ix3 0 r k) = a6 (ix3 b l k)) (h7 : ∀ k, v34 (ix3 0 r k) = a7 (ix3 b l k))
    (h8 : ∀ k, v36 (ix3 0 r k) = a8 (ix3 b l k))
    (g0 : ∀ k : Fin 512, w0 (ix2 k j) = W (ix2 ⟨k.val, by omega⟩ j))
    (g1 : ∀ k : Fin 512, w1 (ix2 k j) = W (ix2 ⟨512 + k.val, by omega⟩ j))
    (g2 : ∀ k : Fin 1536, w2 (ix2 k j) = W (ix2 ⟨1024 + k.val, by omega⟩ j))
    (g3 : ∀ k : Fin 512, w3 (ix2 k j) = W (ix2 ⟨2560 + k.val, by omega⟩ j))
    (g4 : ∀ k : Fin 16, w4 (ix2 k j) = W (ix2 ⟨3072 + k.val, by omega⟩ j)) :
    k0_pay22 (F := Ideal) (k0_pay10 v34) (k0_pay11 v36) (k0_pay15 (k0_pay8 v21 v23 v26) k0_pay9 v30 w0 w1) (k0_pay17 v32) w2 w3 w4 (ix2 r j)
      = refDH (refD a2 a3 a4 a5 a6 a7 a8) W (ix3 b l j) := by
  rw [dh_at, refDH_at, sum_cols]
  simp only [h2, h3, h4, h5, h6, h7, h8, g0, g1, g2, g3, g4, refD_u, refD_z, refD_qkv, refD_zg, refD_ba]

/-- The batch entry and the token a point's row stands for. -/
def rowB (t : Fin cfg0.N) : Fin 2 := ⟨t.val / 8, by have : t.val < 16 := t.isLt; omega⟩
def rowL (t : Fin cfg0.N) (r : Fin 256) : Fin 2048 := ⟨t.val % 8 * 256 + r.val, by omega⟩

/-- A tile's part of the gradient of scale (row 0) and shift (row 1). -/
def dmPart (x DH : FVec Ideal S2x2048x1024 .f32) (t : Fin cfg0.N) (j : S1x2x1024.Idx) : EReal :=
  ∑ r : Fin 256, if (j 1 : ℕ) = 0 then DH (ix3 (rowB t) (rowL t r) (j 2)) * x (ix3 (rowB t) (rowL t r) (j 2))
    else DH (ix3 (rowB t) (rowL t r) (j 2))

end Cert.InProj

end
-- ==== Proof.InProjDx.lean ====
/- The projection's backward kernel: the gradient of `x`.  Hand-written, untrusted. -/
module

public import proofs.«01_k».proof.Proof.InProjBlocks

@[expose] public section

set_option maxRecDepth 16384

noncomputable section

open Idealize.ShloMosaic Idealize.ShloMosaic.TcCoe Idealize.SL.Sem
open Idealize.ShloMosaic.Pipeline (Dat)
open scoped BigOperators

namespace Cert.InProj

open Cert.KernelIdeal Cert.KernelIdeal.Gen

variable (m : (ℓ : Loc nD τ sig) → Buf (Elt Ideal) ℓ) (c : Dev nD)

/-- The gradient of `x`: what a point stores is the reference's array under the point's block. -/
theorem final_14 : (dats m 0 c).arrAt 14 (cfgs 0).N = refDX (ADH m c) (A1 m c) (A10 m c) := by
  refine (dats m 0 c).arrAt_eq_of_covers 14 _ (by decide +kernel) fun t hf y => ?_
  blk_simp; rw [after0_14]
  by_cases h1 : t.val % 8 = 0
  on_goal 1 => by_cases h0 : t.val % 16 = 0
  on_goal 1 => rw [outsAt0_A m c t h0 h1]; frame_out
  on_goal 2 => rw [outsAt0_C m c t h0 h1]; frame_out
  on_goal 3 => rw [outsAt0_B m c t (by omega) h1]; frame_out
  all_goals
    idx_vars y
    obtain ⟨b, hb⟩ : ∃ b : Fin 2, b.val = t.val / 8 := ⟨⟨t.val / 8, by have := t.isLt; have : t.val < 16 := this; omega⟩, rfl⟩
    obtain ⟨l, hl⟩ : ∃ l : Fin 2048, l.val = t.val % 8 * 256 + y1.val := ⟨⟨t.val % 8 * 256 + y1.val, by omega⟩, rfl⟩
    have e : ((View.whole main_v0_2).slice (win0_14.rect t)).emb (ix3 y0 y1 y2) = (ix3 b l y2 : S2x2048x1024.Idx) := by
      blk_ext [idx_val t]
    rw [e, refDX_at, pay3_at, dh_row (A2 m c) (A3 m c) (A4 m c) (A5 m c) (A6 m c) (A7 m c) (A8 m c) (A9 m c) (b := b) (l := l)
      (h2 := blk_2 m c t b l y1 hb hl) (h3 := blk_3 m c t b l y1 hb hl) (h4 := blk_4 m c t b l y1 hb hl) (h5 := blk_5 m c t b l y1 hb hl)
      (h6 := blk_6 m c t b l y1 hb hl) (h7 := blk_7 m c t b l y1 hb hl) (h8 := blk_8 m c t b l y1 hb hl)
      (g0 := fun k => by pointwise; exact blk_9 m c t _ _) (g1 := fun k => by pointwise; exact blk_9 m c t _ _)
      (g2 := fun k => by pointwise; exact blk_9 m c t _ _) (g3 := fun k => by pointwise; exact blk_9 m c t _ _)
      (g4 := fun k => by pointwise; exact blk_9 m c t _ _)]
    exact Ideal.add_congr (blk_10 m c t b l y1 hb hl y2)
      (Ideal.mul_congr rfl (Ideal.add_congr rfl (by pointwise; exact blk_1 m c t b hb 0 y2)))

end Cert.InProj

end
-- ==== Proof.CanonDrop.lean ====
/- Stores over an earlier fill: when they cover the buffer, the fill is not seen.  Hand-written, untrusted. -/
module

public import Idealize.ShloMosaic.Lib.Pipeline.ValueKit
public import Idealize.ShloMosaic.Lib.Ring

@[expose] public section

namespace Idealize.ShloMosaic.View

/-- Where one of the later stores covers an index, the earlier stores do not matter there. -/
theorem canon_drop_of_mem {Val : EltTy → Type} [∀ e, Nonempty (Val e)] {s : Shape} {e : EltTy} (L' : List (Piece Val s e)) (y : s.Idx) :
    ∀ L : List (Piece Val s e), (∃ p ∈ L, y ∈ p.1.set) → canon (L ++ L') y = canon L y
  | [], ⟨_, hp, _⟩ => absurd hp List.not_mem_nil
  | p :: L, ⟨q, hq, hy⟩ => by
    by_cases hp : y ∈ p.1.set
    · obtain ⟨x, rfl⟩ := p.1.exists_idx_of_mem hp
      exact (canon_cons_emb p.1 p.2 (L ++ L') x).trans (canon_cons_emb p.1 p.2 L x).symm
    · have e1 := canon_cons_of_not_mem p (L ++ L') hp
      have e2 := canon_cons_of_not_mem p L hp
      refine e1.trans (Eq.trans ?_ e2.symm)
      rcases List.mem_cons.mp hq with rfl | hq
      · exact absurd hy hp
      · exact canon_drop_of_mem L' y L ⟨q, hq, hy⟩

/-- Later stores that tile the buffer leave nothing of the earlier ones. -/
theorem canon_drop {Val : EltTy → Type} [∀ e, Nonempty (Val e)] {s : Shape} {e : EltTy} (L L' : List (Piece Val s e)) (g : Fin s.rank → ℕ)
    (h : Piece.tiledBy L g = true) (y : s.Idx) : canon (L ++ L') y = canon L y :=
  canon_drop_of_mem L' y L (cover_of_tiledBy L g h y)

end Idealize.ShloMosaic.View

end
-- ==== Proof.InProjDm.lean ====
/- The projection's backward kernel: the gradient of scale and shift.  Hand-written, untrusted. -/
module

public import proofs.«01_k».proof.Proof.InProjBlocks
public import proofs.«01_k».proof.Proof.CanonDrop
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InProj

open Cert.KernelIdeal Cert.KernelIdeal.Gen

variable (m : (ℓ : Loc nD τ sig) → Buf (Elt Ideal) ℓ) (c : Dev nD)

/-- The row of a tile's part the scale's gradient gets. -/
theorem dmPart_0 (x DH : FVec Ideal S2x2048x1024 .f32) (t : Fin cfg0.N) (b : Fin 1) (q : Fin 2) (hq : q.val = 0) (k : Fin 1024) :
    dmPart x DH t (ix3 b q k) = ∑ r : Fin 256, DH (ix3 (rowB t) (rowL t r) k) * x (ix3 (rowB t) (rowL t r) k) := by
  unfold dmPart; exact Finset.sum_congr rfl fun r _ => if_pos hq

/-- The row of a tile's part the shift's gradient gets. -/
theorem dmPart_1 (x DH : FVec Ideal S2x2048x1024 .f32) (t : Fin cfg0.N) (b : Fin 1) (q : Fin 2) (hq : q.val = 1) (k : Fin 1024) :
    dmPart x DH t (ix3 b q k) = ∑ r : Fin 256, DH (ix3 (rowB t) (rowL t r) k) := by
  unfold dmPart; exact Finset.sum_congr rfl fun r _ => if_neg (by show ¬ q.val = 0; omega)

/-- The gradient of scale and shift: a batch entry's eight tiles added up. -/
theorem final_13 : (dats m 0 c).arrAt 13 (cfgs 0).N = refDM (A0 m c) (ADH m c) := by
  refine (dats m 0 c).arrAt_eq_of_covers 13 _ (by decide +kernel) fun t hf y => ?_
  blk_simp
  rw [after0_13, Pipeline.eq_sum_fin_of_reset_step_apply_of_flush (fun n h => (outsAt0 m c n h).2.1) 8 (fun _ => 0) (dmPart (A0 m c) (ADH m c))
    (fun t h j => by
      by_cases h0 : t.val % 16 = 0
      on_goal 1 => rw [outsAt0_A m c t h0 h]
      on_goal 2 => rw [outsAt0_C m c t h0 h]
      all_goals
        frame_open
        simp (disch := decide) only [↓ View.readCov_skip, ↓ View.readCov_cons_toLoadRect, ↓ View.readCov_fill]
        frame_out
        refine (View.canon_drop [_, _] [_] ![1, 1, 1024] (by sl_kernel_rfl) _).trans ?_
        canon_tiles x h
        all_goals idx_vars x
        all_goals idx_vars j
        all_goals obtain rfl : j2 = x2 := Fin.ext h2
        · rw [dmPart_1 _ _ _ _ _ (by simpa using h1), pay2_at]
          refine Ideal.add_congr (by pointwise [k0_pay4]) (Fin.sum_fin_congr fun r => ?_)
          exact dh_row (A2 m c) (A3 m c) (A4 m c) (A5 m c) (A6 m c) (A7 m c) (A8 m c) (A9 m c) (b := rowB t) (l := rowL t r)
                    (h2 := blk_2 m c t _ _ r rfl rfl) (h3 := blk_3 m c t _ _ r rfl rfl) (h4 := blk_4 m c t _ _ r rfl rfl)
                    (h5 := blk_5 m c t _ _ r rfl rfl) (h6 := blk_6 m c t _ _ r rfl rfl) (h7 := blk_7 m c t _ _ r rfl rfl)
                    (h8 := blk_8 m c t _ _ r rfl rfl)
                    (g0 := fun k => by pointwise; exact blk_9 m c t _ _) (g1 := fun k => by pointwise; exact blk_9 m c t _ _)
                    (g2 := fun k => by pointwise; exact blk_9 m c t _ _) (g3 := fun k => by pointwise; exact blk_9 m c t _ _)
                    (g4 := fun k => by pointwise; exact blk_9 m c t _ _)
        · rw [dmPart_0 _ _ _ _ _ (by simpa using h1), pay1_at]
          refine Ideal.add_congr (by pointwise [k0_pay4]) (Fin.sum_fin_congr fun r => ?_)
          rw [pay25_at]
          refine Ideal.mul_congr ?_ (blk_0 m c t _ _ r rfl rfl _)
          exact dh_row (A2 m c) (A3 m c) (A4 m c) (A5 m c) (A6 m c) (A7 m c) (A8 m c) (A9 m c) (b := rowB t) (l := rowL t r)
                    (h2 := blk_2 m c t _ _ r rfl rfl) (h3 := blk_3 m c t _ _ r rfl rfl) (h4 := blk_4 m c t _ _ r rfl rfl)
                    (h5 := blk_5 m c t _ _ r rfl rfl) (h6 := blk_6 m c t _ _ r rfl rfl) (h7 := blk_7 m c t _ _ r rfl rfl)
                    (h8 := blk_8 m c t _ _ r rfl rfl)
                    (g0 := fun k => by pointwise; exact blk_9 m c t _ _) (g1 := fun k => by pointwise; exact blk_9 m c t _ _)
                    (g2 := fun k => by pointwise; exact blk_9 m c t _ _) (g3 := fun k => by pointwise; exact blk_9 m c t _ _)
                    (g4 := fun k => by pointwise; exact blk_9 m c t _ _)
        )
    (fun t h j => by
      rw [outsAt0_B m c t (by omega) h]; frame_open
      simp (disch := decide) only [↓ View.readCov_skip, ↓ View.readCov_cons_toLoadRect, ↓ View.readCov_fill]
      frame_out
      canon_tiles x h
      all_goals idx_vars x
      all_goals idx_vars j
      all_goals obtain rfl : j2 = x2 := Fin.ext h2
      · rw [dmPart_1 _ _ _ _ _ (by simpa using h1), pay2_at]
        refine Ideal.add_congr (by pointwise; blk_ext) (Fin.sum_fin_congr fun r => ?_)
        exact dh_row (A2 m c) (A3 m c) (A4 m c) (A5 m c) (A6 m c) (A7 m c) (A8 m c) (A9 m c) (b := rowB t) (l := rowL t r)
                  (h2 := blk_2 m c t _ _ r rfl rfl) (h3 := blk_3 m c t _ _ r rfl rfl) (h4 := blk_4 m c t _ _ r rfl rfl)
                  (h5 := blk_5 m c t _ _ r rfl rfl) (h6 := blk_6 m c t _ _ r rfl rfl) (h7 := blk_7 m c t _ _ r rfl rfl)
                  (h8 := blk_8 m c t _ _ r rfl rfl)
                  (g0 := fun k => by pointwise; exact blk_9 m c t _ _) (g1 := fun k => by pointwise; exact blk_9 m c t _ _)
                  (g2 := fun k => by pointwise; exact blk_9 m c t _ _) (g3 := fun k => by pointwise; exact blk_9 m c t _ _)
                  (g4 := fun k => by pointwise; exact blk_9 m c t _ _)
      · rw [dmPart_0 _ _ _ _ _ (by simpa using h1), pay1_at]
        refine Ideal.add_congr (by pointwise; blk_ext) (Fin.sum_fin_congr fun r => ?_)
        rw [pay25_at]
        refine Ideal.mul_congr ?_ (blk_0 m c t _ _ r rfl rfl _)
        exact dh_row (A2 m c) (A3 m c) (A4 m c) (A5 m c) (A6 m c) (A7 m c) (A8 m c) (A9 m c) (b := rowB t) (l := rowL t r)
                  (h2 := blk_2 m c t _ _ r rfl rfl) (h3 := blk_3 m c t _ _ r rfl rfl) (h4 := blk_4 m c t _ _ r rfl rfl)
                  (h5 := blk_5 m c t _ _ r rfl rfl) (h6 := blk_6 m c t _ _ r rfl rfl) (h7 := blk_7 m c t _ _ r rfl rfl)
                  (h8 := blk_8 m c t _ _ r rfl rfl)
                  (g0 := fun k => by pointwise; exact blk_9 m c t _ _) (g1 := fun k => by pointwise; exact blk_9 m c t _ _)
                  (g2 := fun k => by pointwise; exact blk_9 m c t _ _) (g3 := fun k => by pointwise; exact blk_9 m c t _ _)
                  (g4 := fun k => by pointwise; exact blk_9 m c t _ _)
      )
    t ((flush0_13 t).mp hf) _, zero_add]
  idx_vars y
  have ht : t.val < 16 := t.isLt
  obtain ⟨b, hb⟩ : ∃ b : Fin 2, b.val = t.val / 8 := ⟨⟨t.val / 8, by omega⟩, rfl⟩
  have e : (win0_13.blk t).view.emb (ix3 y0 y1 y2) = (ix3 b y1 y2 : S2x2x1024.Idx) := by
    blk_ext [idx_val t]
  have eB : ∀ s : Fin 8, ∀ h, rowB ⟨8 * (t.val / 8) + s.val, h⟩ = b := fun s h => Fin.ext (by show (8 * (t.val / 8) + s.val) / 8 = b.val; omega)
  have eL : ∀ (s : Fin 8) (r : Fin 256) (h h'), rowL ⟨8 * (t.val / 8) + s.val, h⟩ r = ⟨s.val * 256 + r.val, h'⟩ :=
    fun s r h h' => Fin.ext (by show (8 * (t.val / 8) + s.val) % 8 * 256 + r.val = s.val * 256 + r.val; omega)
  rw [e]
  rcases (by omega : y1.val = 0 ∨ y1.val = 1) with hy | hy
  · obtain rfl : y1 = 0 := Fin.ext hy
    rw [refDM_0]
    simp only [dmPart_0 _ _ _ _ (0 : Fin 2) rfl]
    refine Fin.sum_mul_add_congr fun s r hl => ?_
    rw [eB, eL s r _ hl]; exact mul_comm (_ : EReal) _
  · obtain rfl : y1 = 1 := Fin.ext hy
    rw [refDM_1]
    simp only [dmPart_1 _ _ _ _ (1 : Fin 2) rfl]
    refine Fin.sum_mul_add_congr fun s r hl => ?_
    rw [eB, eL s r _ hl]

end Cert.InProj

end
-- ==== Proof.InProjDw.lean ====
/- The projection's backward kernel: the weights' gradient.  Hand-written, untrusted. -/
module

public import proofs.«01_k».proof.Proof.InProjBlocks
public import proofs.«01_k».proof.Proof.CanonDrop
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InProj

open Cert.KernelIdeal Cert.KernelIdeal.Gen

variable (m : (ℓ : Loc nD τ sig) → Buf (Elt Ideal) ℓ) (c : Dev nD)

/-- The weights' gradient: what it starts from, and the sixteen tiles' products added up. -/
theorem final_12 : (dats m 0 c).arrAt 12 (cfgs 0).N = refDW (AD m c) (AH m c) (A11 m c) := by
  refine (dats m 0 c).arrAt_eq_of_after_last 12 t0_15 (by decide +kernel) _ fun j => ?_
  blk_simp
  rw [after0_12, Pipeline.eq_sum_fin_of_reset_step_apply_last (fun n h => (outsAt0 m c n h).1) 16 (A11 m c)
    (fun t j => ∑ r : Fin 256, AD m c (ix3 (rowB t) (rowL t r) (j 0)) * AH m c (ix3 (rowB t) (rowL t r) (j 1)))
    (fun t h j => by
      rw [outsAt0_A m c t h (by omega)]; frame_open
      simp (disch := decide) only [↓ View.readCov_skip, ↓ View.readCov_cons_toLoadRect, ↓ View.readCov_fill]
      frame_out
      refine (View.canon_drop [_, _, _, _, _] [_] ![16, 1024] (by sl_kernel_rfl) _).trans ?_
      canon_tiles x h using View.cover_of_tiledBy _ ![16, 1024] (by sl_kernel_rfl) _
      all_goals idx_vars x
      all_goals idx_vars j
      all_goals obtain rfl : j1 = x1 := Fin.ext h1
      · obtain rfl : j0 = ⟨3072 + x0.val, by clear h0; omega⟩ := Fin.ext h0
        rw [pay23_at]
        refine Ideal.add_congr (by pointwise; exact blk_11 m c t _ _) (Fin.sum_fin_congr fun r => ?_)
        refine Ideal.mul_congr ((blk_8 m c t _ _ r rfl rfl _).trans (refD_ba _ _ _ _ _ _ _ _ _ _ _).symm) ?_
        rw [pay7_at]
        refine Eq.trans ?_ (refH_at _ _ _ _ _).symm
        refine Ideal.add_congr (Ideal.mul_congr (blk_0 m c t _ _ r rfl rfl _) (Ideal.add_congr rfl ?_)) ?_
        · pointwise; exact blk_1 m c t _ rfl 0 _
        · pointwise; exact blk_1 m c t _ rfl 1 _
      · obtain rfl : j0 = ⟨2560 + x0.val, by clear h0; omega⟩ := Fin.ext h0
        rw [pay20_at]
        refine Ideal.add_congr (by pointwise; exact blk_11 m c t _ _) (Fin.sum_fin_congr fun r => ?_)
        refine Ideal.mul_congr ((blk_7 m c t _ _ r rfl rfl _).trans (refD_zg _ _ _ _ _ _ _ _ _ _ _).symm) ?_
        rw [pay7_at]
        refine Eq.trans ?_ (refH_at _ _ _ _ _).symm
        refine Ideal.add_congr (Ideal.mul_congr (blk_0 m c t _ _ r rfl rfl _) (Ideal.add_congr rfl ?_)) ?_
        · pointwise; exact blk_1 m c t _ rfl 0 _
        · pointwise; exact blk_1 m c t _ rfl 1 _
      · obtain rfl : j0 = ⟨1024 + x0.val, by clear h0; omega⟩ := Fin.ext h0
        rw [pay18_at]
        refine Ideal.add_congr (by pointwise; exact blk_11 m c t _ _) (Fin.sum_fin_congr fun r => ?_)
        refine Ideal.mul_congr ((blk_6 m c t _ _ r rfl rfl _).trans (refD_qkv _ _ _ _ _ _ _ _ _ _ _).symm) ?_
        rw [pay7_at]
        refine Eq.trans ?_ (refH_at _ _ _ _ _).symm
        refine Ideal.add_congr (Ideal.mul_congr (blk_0 m c t _ _ r rfl rfl _) (Ideal.add_congr rfl ?_)) ?_
        · pointwise; exact blk_1 m c t _ rfl 0 _
        · pointwise; exact blk_1 m c t _ rfl 1 _
      · obtain rfl : j0 = ⟨512 + x0.val, by clear h0; omega⟩ := Fin.ext h0
        rw [pay16_at]
        refine Ideal.add_congr (by pointwise; exact blk_11 m c t _ _) (Fin.sum_fin_congr fun r => ?_)
        refine Ideal.mul_congr ((blk_5 m c t _ _ r rfl rfl _).trans (refD_z _ _ _ _ _ _ _ _ _ _ _).symm) ?_
        rw [pay7_at]
        refine Eq.trans ?_ (refH_at _ _ _ _ _).symm
        refine Ideal.add_congr (Ideal.mul_congr (blk_0 m c t _ _ r rfl rfl _) (Ideal.add_congr rfl ?_)) ?_
        · pointwise; exact blk_1 m c t _ rfl 0 _
        · pointwise; exact blk_1 m c t _ rfl 1 _
      · obtain rfl : j0 = ⟨x0.val, by clear h0; omega⟩ := Fin.ext h0
        rw [pay13_at]
        refine Ideal.add_congr (by pointwise; exact blk_11 m c t _ _) (Fin.sum_fin_congr fun r => ?_)
        refine Ideal.mul_congr ((Ideal.add_congr (Ideal.add_congr (blk_2 m c t _ _ r rfl rfl _) (blk_3 m c t _ _ r rfl rfl _)) (blk_4 m c t _ _ r rfl rfl _)).trans (refD_u _ _ _ _ _ _ _ _ _ _ _).symm) ?_
        rw [pay7_at]
        refine Eq.trans ?_ (refH_at _ _ _ _ _).symm
        refine Ideal.add_congr (Ideal.mul_congr (blk_0 m c t _ _ r rfl rfl _) (Ideal.add_congr rfl ?_)) ?_
        · pointwise; exact blk_1 m c t _ rfl 0 _
        · pointwise; exact blk_1 m c t _ rfl 1 _
      )
    (fun t h j => by
      by_cases hq : t.val % 8 = 0
      on_goal 1 => rw [outsAt0_C m c t h hq]
      on_goal 2 => rw [outsAt0_B m c t h hq]
      all_goals
        frame_open
        simp (disch := decide) only [↓ View.readCov_skip, ↓ View.readCov_cons_toLoadRect, ↓ View.readCov_fill]
        frame_out
        canon_tiles x h using View.cover_of_tiledBy _ ![16, 1024] (by sl_kernel_rfl) _
        all_goals idx_vars x
        all_goals idx_vars j
        all_goals obtain rfl : j1 = x1 := Fin.ext h1
        · obtain rfl : j0 = ⟨3072 + x0.val, by clear h0; omega⟩ := Fin.ext h0
          rw [pay23_at]
          refine Ideal.add_congr (by pointwise) (Fin.sum_fin_congr fun r => ?_)
          refine Ideal.mul_congr ((blk_8 m c t _ _ r rfl rfl _).trans (refD_ba _ _ _ _ _ _ _ _ _ _ _).symm) ?_
          rw [pay7_at]
          refine Eq.trans ?_ (refH_at _ _ _ _ _).symm
          refine Ideal.add_congr (Ideal.mul_congr (blk_0 m c t _ _ r rfl rfl _) (Ideal.add_congr rfl ?_)) ?_
          · pointwise; exact blk_1 m c t _ rfl 0 _
          · pointwise; exact blk_1 m c t _ rfl 1 _
        · obtain rfl : j0 = ⟨2560 + x0.val, by clear h0; omega⟩ := Fin.ext h0
          rw [pay20_at]
          refine Ideal.add_congr (by pointwise) (Fin.sum_fin_congr fun r => ?_)
          refine Ideal.mul_congr ((blk_7 m c t _ _ r rfl rfl _).trans (refD_zg _ _ _ _ _ _ _ _ _ _ _).symm) ?_
          rw [pay7_at]
          refine Eq.trans ?_ (refH_at _ _ _ _ _).symm
          refine Ideal.add_congr (Ideal.mul_congr (blk_0 m c t _ _ r rfl rfl _) (Ideal.add_congr rfl ?_)) ?_
          · pointwise; exact blk_1 m c t _ rfl 0 _
          · pointwise; exact blk_1 m c t _ rfl 1 _
        · obtain rfl : j0 = ⟨1024 + x0.val, by clear h0; omega⟩ := Fin.ext h0
          rw [pay18_at]
          refine Ideal.add_congr (by pointwise) (Fin.sum_fin_congr fun r => ?_)
          refine Ideal.mul_congr ((blk_6 m c t _ _ r rfl rfl _).trans (refD_qkv _ _ _ _ _ _ _ _ _ _ _).symm) ?_
          rw [pay7_at]
          refine Eq.trans ?_ (refH_at _ _ _ _ _).symm
          refine Ideal.add_congr (Ideal.mul_congr (blk_0 m c t _ _ r rfl rfl _) (Ideal.add_congr rfl ?_)) ?_
          · pointwise; exact blk_1 m c t _ rfl 0 _
          · pointwise; exact blk_1 m c t _ rfl 1 _
        · obtain rfl : j0 = ⟨512 + x0.val, by clear h0; omega⟩ := Fin.ext h0
          rw [pay16_at]
          refine Ideal.add_congr (by pointwise) (Fin.sum_fin_congr fun r => ?_)
          refine Ideal.mul_congr ((blk_5 m c t _ _ r rfl rfl _).trans (refD_z _ _ _ _ _ _ _ _ _ _ _).symm) ?_
          rw [pay7_at]
          refine Eq.trans ?_ (refH_at _ _ _ _ _).symm
          refine Ideal.add_congr (Ideal.mul_congr (blk_0 m c t _ _ r rfl rfl _) (Ideal.add_congr rfl ?_)) ?_
          · pointwise; exact blk_1 m c t _ rfl 0 _
          · pointwise; exact blk_1 m c t _ rfl 1 _
        · obtain rfl : j0 = ⟨x0.val, by clear h0; omega⟩ := Fin.ext h0
          rw [pay13_at]
          refine Ideal.add_congr (by pointwise) (Fin.sum_fin_congr fun r => ?_)
          refine Ideal.mul_congr ((Ideal.add_congr (Ideal.add_congr (blk_2 m c t _ _ r rfl rfl _) (blk_3 m c t _ _ r rfl rfl _)) (blk_4 m c t _ _ r rfl rfl _)).trans (refD_u _ _ _ _ _ _ _ _ _ _ _).symm) ?_
          rw [pay7_at]
          refine Eq.trans ?_ (refH_at _ _ _ _ _).symm
          refine Ideal.add_congr (Ideal.mul_congr (blk_0 m c t _ _ r rfl rfl _) (Ideal.add_congr rfl ?_)) ?_
          · pointwise; exact blk_1 m c t _ rfl 0 _
          · pointwise; exact blk_1 m c t _ rfl 1 _
      )
    (le_of_eq N_0) t0_15 rfl j]
  idx_vars j
  rw [refDW_at]
  refine Ideal.add_congr rfl ?_
  refine Fin.sum_points_lanes_congr 8 fun t k ha hl => ?_
  rfl

end Cert.InProj

end
-- ==== Proof.InProjRun.lean ====
/- The runs of the input projection's two programs and their equality.  Hand-written, untrusted. -/
module

public import proofs.«01_k».proof.Defs
public import proofs.«01_k».proof.Proof.Gen.KernelIdeal.Value
public import proofs.«01_k».proof.Proof.InProjRef
public import proofs.«01_k».proof.Proof.InProjDx
public import proofs.«01_k».proof.Proof.InProjDm
public import proofs.«01_k».proof.Proof.InProjDw
public import Idealize.ShloMosaic.Lib.Claim

@[expose] public section

set_option maxRecDepth 16384

noncomputable section

namespace Cert.InProj

open Idealize.ShloMosaic Idealize.SL.Sem
open Cert.ReferenceIdeal Cert.ReferenceIdeal.Gen

variable (m : (ℓ : Loc nD τ sig) → Buf (Elt Ideal) ℓ) (c : Dev nD)

/-- The gradient of the projection's output, over the reference's arguments. -/
abbrev rD := refD (m (c.tc.loc main_arg2)) (m (c.tc.loc main_arg3)) (m (c.tc.loc main_arg4)) (m (c.tc.loc main_arg5))
  (m (c.tc.loc main_arg6)) (m (c.tc.loc main_arg7)) (m (c.tc.loc main_arg8))

/-- The gradient of the projection's input, over the reference's arguments. -/
abbrev rDH := refDH (rD m c) (m (c.tc.loc main_arg9))

/-- The reference's run, its three results named by the stages of the gradient. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v37) = refDW (rD m c) (refH (m (c.tc.loc main_arg0)) (m (c.tc.loc main_arg1))) (m (c.tc.loc main_arg11))
      ∧ r.2.mem (c.tc.loc main_v36) = refDM (m (c.tc.loc main_arg0)) (rDH m c)
      ∧ r.2.mem (c.tc.loc main_v38) = refDX (rDH m c) (m (c.tc.loc main_arg1)) (m (c.tc.loc main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) :=
  (θ_run defs _ _).mono (fun _ h c => h c) (Cert.ReferenceIdeal.Value.run m ρ)

/-- The reference runs from every starting memory, keeps its arguments, and declares no semaphore. -/
theorem ref_frame : Cert.quiescent_ReferenceIdeal := by
  intro m ρ _
  exact (θ_run defs _ _).mono (fun r h => ⟨fun c => (h c).2.2.2, Idealize.ShloMosaic.sem_eq_zero_of_no_sems (by decide) r.2⟩) (ref_run m ρ)

/-- The backward kernel of the input projection computes exactly the gradients of the projection: the weights' gradient
    added to its starting value, the gradients of scale and shift, the gradient of the input added to the residual's. -/
theorem value : Cert.algebraic_KernelIdeal_ReferenceIdeal := by
  intro m g m' g' _ hagree
  refine ⟨fun c => (Cert.KernelIdeal.Gen.dats m 0 c).arrAt 12 (Cert.KernelIdeal.cfgs 0).N,
    fun c => (Cert.KernelIdeal.Gen.dats m 0 c).arrAt 13 (Cert.KernelIdeal.cfgs 0).N,
    fun c => (Cert.KernelIdeal.Gen.dats m 0 c).arrAt 14 (Cert.KernelIdeal.cfgs 0).N, Cert.KernelIdeal.Value.run_blocks m g, ?_⟩
  refine (θ_run Cert.ReferenceIdeal.defs _ _).mono (fun r h c => ?_) (ref_run m' g')
  obtain ⟨e0, e1, e2, hargs⟩ := h c
  obtain ⟨a0, a1, a2, a3, a4, a5, a6, a7, a8, a9, a10, a11⟩ := hagree c
  refine ⟨e0.trans ?_, e1.trans ?_, e2.trans ?_, hargs⟩
  · refine Eq.trans ?_ (Cert.InProj.final_12 m c).symm; simp only [rD, a0, a1, a2, a3, a4, a5, a6, a7, a8, a11]
  · refine Eq.trans ?_ (Cert.InProj.final_13 m c).symm; simp only [rD, rDH, a0, a1, a2, a3, a4, a5, a6, a7, a8, a9]
  · refine Eq.trans ?_ (Cert.InProj.final_14 m c).symm; simp only [rD, rDH, a0, a1, a2, a3, a4, a5, a6, a7, a8, a9, a10]

end Cert.InProj

end
-- ==== Proof.ProjFwdRef.lean ====
/- The input projection's reference: its stages, each read at an entry.  Hand-written, untrusted. -/
module

public import proofs.«01_k».proof.Proof.Gen.Reference2Ideal
public import proofs.«01_k».proof.Proof.Gen.Reference2Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjF

open Cert.Reference2Ideal Cert.Reference2Ideal.Gen

/-- The modulated input `x * (1 + scale) + shift`. -/
def refH (a0 : FVec Ideal S2x2048x1024 .f32) (a1 : FVec Ideal S2x2x1024 .f32) : FVec Ideal S2x2048x1024 .f32 :=
  addf (mulf a0 (broadcastInDim S2x2048x1024 ![0, 1, 2] bcast_S2x1x1024_S2x2048x1024_0_1_2
      (addf (broadcastInDim S2x1x1024 ![] bcast_S_S2x1x1024 (constant S_ .f32 0x3F800000#32))
        (extractStridedSlice S2x1x1024 ![0, 0, 0] a1 slices_S2x2x1024_S2x1x1024_0_0_0))))
    (broadcastInDim S2x2048x1024 ![0, 1, 2] bcast_S2x1x1024_S2x2048x1024_0_1_2
      (extractStridedSlice S2x1x1024 ![0, 1, 0] a1 slices_S2x2x1024_S2x1x1024_0_1_0))

/-- The whole projection, all 3088 columns. -/
def refY (a0 : FVec Ideal S2x2048x1024 .f32) (a1 : FVec Ideal S2x2x1024 .f32) (a2 : FVec Ideal S3088x1024 .f32) : FVec Ideal S2x2048x3088 .f32 :=
  Host.dotGeneral dot_S2x2048x1024_S3088x1024_S2x2048x3088_2_1_01_0_n_n none (refH a0 a1) a2

/-- The modulated input at an entry. -/
theorem refH_at (a0 : FVec Ideal S2x2048x1024 .f32) (a1 : FVec Ideal S2x2x1024 .f32) (b : Fin 2) (l : Fin 2048) (j : Fin 1024) :
    refH a0 a1 (ix3 b l j) = a0 (ix3 b l j) * (1 + a1 (ix3 b 0 j)) + a1 (ix3 b 1 j) := by
  pointwise [refH]

/-- The projection at an entry. -/
theorem refY_at (a0 : FVec Ideal S2x2048x1024 .f32) (a1 : FVec Ideal S2x2x1024 .f32) (a2 : FVec Ideal S3088x1024 .f32)
    (b : Fin 2) (l : Fin 2048) (p : Fin 3088) :
    refY a0 a1 a2 (ix3 b l p) = ∑ k : Fin 1024, (a0 (ix3 b l k) * (1 + a1 (ix3 b 0 k)) + a1 (ix3 b 1 k)) * a2 (ix2 p k) := by
  refine Eq.trans (b := ∑ k : Fin 1024, refH a0 a1 (ix3 b l k) * a2 (ix2 p k)) (by pointwise [refY]) ?_
  exact Fin.sum_fin_congr fun k => by rw [refH_at]

/-- Columns 0 to 511 of the projection. -/
def ref_u (Y : FVec Ideal S2x2048x3088 .f32) : FVec Ideal S2x2048x512 .f32 :=
  extractStridedSlice S2x2048x512 ![0, 0, 0] Y slices_S2x2048x3088_S2x2048x512_0_0_0

/-- Those columns at an entry. -/
theorem ref_u_at (Y : FVec Ideal S2x2048x3088 .f32) (b : Fin 2) (l : Fin 2048) (k : Fin 512) :
    ref_u Y (ix3 b l k) = Y (ix3 b l ⟨0 + k.val, by omega⟩) := by
  pointwise [ref_u]

/-- Columns 512 to 1023 of the projection. -/
def ref_z (Y : FVec Ideal S2x2048x3088 .f32) : FVec Ideal S2x2048x512 .f32 :=
  extractStridedSlice S2x2048x512 ![0, 0, 512] Y slices_S2x2048x3088_S2x2048x512_0_0_512

/-- Those columns at an entry. -/
theorem ref_z_at (Y : FVec Ideal S2x2048x3088 .f32) (b : Fin 2) (l : Fin 2048) (k : Fin 512) :
    ref_z Y (ix3 b l k) = Y (ix3 b l ⟨512 + k.val, by omega⟩) := by
  pointwise [ref_z]

/-- Columns 1024 to 2559 of the projection. -/
def ref_qkv (Y : FVec Ideal S2x2048x3088 .f32) : FVec Ideal S2x2048x1536 .f32 :=
  extractStridedSlice S2x2048x1536 ![0, 0, 1024] Y slices_S2x2048x3088_S2x2048x1536_0_0_1024

/-- Those columns at an entry. -/
theorem ref_qkv_at (Y : FVec Ideal S2x2048x3088 .f32) (b : Fin 2) (l : Fin 2048) (k : Fin 1536) :
    ref_qkv Y (ix3 b l k) = Y (ix3 b l ⟨1024 + k.val, by omega⟩) := by
  pointwise [ref_qkv]

/-- Columns 2560 to 3071 of the projection. -/
def ref_zg (Y : FVec Ideal S2x2048x3088 .f32) : FVec Ideal S2x2048x512 .f32 :=
  extractStridedSlice S2x2048x512 ![0, 0, 2560] Y slices_S2x2048x3088_S2x2048x512_0_0_2560

/-- Those columns at an entry. -/
theorem ref_zg_at (Y : FVec Ideal S2x2048x3088 .f32) (b : Fin 2) (l : Fin 2048) (k : Fin 512) :
    ref_zg Y (ix3 b l k) = Y (ix3 b l ⟨2560 + k.val, by omega⟩) := by
  pointwise [ref_zg]

/-- Columns 3072 to 3087 of the projection. -/
def ref_ba (Y : FVec Ideal S2x2048x3088 .f32) : FVec Ideal S2x2048x16 .f32 :=
  extractStridedSlice S2x2048x16 ![0, 0, 3072] Y slices_S2x2048x3088_S2x2048x16_0_0_3072

/-- Those columns at an entry. -/
theorem ref_ba_at (Y : FVec Ideal S2x2048x3088 .f32) (b : Fin 2) (l : Fin 2048) (k : Fin 16) :
    ref_ba Y (ix3 b l k) = Y (ix3 b l ⟨3072 + k.val, by omega⟩) := by
  pointwise [ref_ba]

end Cert.InProjF

end
-- ==== Proof.ProjFwd.lean ====
/- The input projection's kernel: its blocks and its payloads at an entry, and its five outputs.  Hand-written, untrusted. -/
module

public import proofs.«01_k».proof.Proof.ProjFwdRef
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjF

open Cert.Kernel2Ideal Cert.Kernel2Ideal.Gen

variable (m : (ℓ : Loc nD τ sig) → Buf (Elt Ideal) ℓ) (c : Dev nD)

/-- The arguments, by name. -/
abbrev A0 : FVec Ideal S2x2048x1024 .f32 := m ((c : Thread nD τ).loc main_arg0)
abbrev A1 : FVec Ideal S2x2x1024 .f32 := m ((c : Thread nD τ).loc main_arg1)
abbrev A2 : FVec Ideal S3088x1024 .f32 := m ((c : Thread nD τ).loc main_arg2)

/-- Every window's block index at every grid point. -/
theorem idx_val : ∀ t : Fin cfg0.N, win0_0.index t = ![t.val / 4, t.val % 4, 0]
    ∧ win0_1.index t = ![t.val / 4, 0, 0]
    ∧ win0_2.index t = ![0, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0] :=
  (by decide +kernel : ∀ t : Fin grid0.N, _)

/-- The input under point `t`'s block. -/
theorem blk_0 (t : Fin cfg0.N) (b : Fin 2) (l : Fin 2048) (r : Fin 512) (hb : b.val = t.val / 4) (hl : l.val = t.val % 4 * 512 + r.val)
    (k : Fin 1024) : (iblk m c 0 t : Vec Ideal S1x512x1024 .f32) (ix3 0 r k) = A0 m c (ix3 b l k) := by
  blk_ext [iblk, V, idx_val t]

/-- Scale and shift under point `t`'s block. -/
theorem blk_1 (t : Fin cfg0.N) (b : Fin 2) (hb : b.val = t.val / 4) (q : Fin 2)
    (k : Fin 1024) : (iblk m c 1 t : Vec Ideal S1x2x1024 .f32) (ix3 0 q k) = A1 m c (ix3 b q k) := by
  blk_ext [iblk, V, idx_val t]

/-- The weights, resident at every point. -/
theorem blk_2 (t : Fin cfg0.N) (p : Fin 3088) (k : Fin 1024) : (iblk m c 2 t : Vec Ideal S3088x1024 .f32) (ix2 p k) = A2 m c (ix2 p k) := by
  blk_ext [iblk, V, idx_val t]

section
variable (v0 : Vec Ideal S1x512x1024 .f32) (v2 v8 : Vec Ideal S1x1x1024 .f32) (q : Fin 1) (r : Fin 512)

/-- A tile's product with 512 rows of the weights, as each of the outputs of that width is computed. -/
theorem pay5_at (w : Vec Ideal S512x1024 .f32) (j : Fin 512) : k0_pay5 (F := Ideal) v0 v2 v8 w (ix3 q r j)
    = ∑ k : Fin 1024, (v0 (ix3 0 r k) * (1 + v2 (ix3 0 0 k)) + v8 (ix3 0 0 k)) * w (ix2 j k) := by
  pointwise [k0_pay5, k0_pay4]
theorem pay6_at (w : Vec Ideal S512x1024 .f32) (j : Fin 512) : k0_pay6 (F := Ideal) v0 v2 v8 w (ix3 q r j)
    = ∑ k : Fin 1024, (v0 (ix3 0 r k) * (1 + v2 (ix3 0 0 k)) + v8 (ix3 0 0 k)) * w (ix2 j k) := by
  pointwise [k0_pay6, k0_pay4]
theorem pay2_at (w : Vec Ideal S512x1024 .f32) (j : Fin 512) : k0_pay2 (F := Ideal) (k0_pay4 v0 v2 v8) w (ix3 q r j)
    = ∑ k : Fin 1024, (v0 (ix3 0 r k) * (1 + v2 (ix3 0 0 k)) + v8 (ix3 0 0 k)) * w (ix2 j k) := by
  pointwise [k0_pay2, k0_pay4]

/-- A tile's product with the 1536 rows of queries, keys and values. -/
theorem pay1_at (w : Vec Ideal S1536x1024 .f32) (j : Fin 1536) : k0_pay1 (F := Ideal) (k0_pay7 v0 v2 v8 w) (ix3 q r j)
    = ∑ k : Fin 1024, (v0 (ix3 0 r k) * (1 + v2 (ix3 0 0 k)) + v8 (ix3 0 0 k)) * w (ix2 j k) := by
  pointwise [k0_pay1, k0_pay7, k0_pay4]

/-- A tile's product with the 16 rows of the gates' logits. -/
theorem pay3_at (w : Vec Ideal S16x1024 .f32) (j : Fin 16) : k0_pay3 (F := Ideal) (k0_pay4 v0 v2 v8) w (ix3 q r j)
    = ∑ k : Fin 1024, (v0 (ix3 0 r k) * (1 + v2 (ix3 0 0 k)) + v8 (ix3 0 0 k)) * w (ix2 j k) := by
  pointwise [k0_pay3, k0_pay4]
end

/-- Output window 3 holds columns 0 to 511 of the projection. -/
theorem final_3 : (dats m 0 c).arrAt 3 (cfgs 0).N = ref_u (refY (A0 m c) (A1 m c) (A2 m c)) := by
  refine (dats m 0 c).arrAt_eq_of_covers 3 _ (by decide +kernel) fun t hf y => ?_
  blk_simp; rw [Cert.Kernel2Ideal.Gen.after0_3]; frame_out
  idx_vars y
  obtain ⟨b, hb⟩ : ∃ b : Fin 2, b.val = t.val / 4 := ⟨⟨t.val / 4, by have := t.isLt; have : t.val < 8 := this; omega⟩, rfl⟩
  obtain ⟨l, hl⟩ : ∃ l : Fin 2048, l.val = t.val % 4 * 512 + y1.val := ⟨⟨t.val % 4 * 512 + y1.val, by omega⟩, rfl⟩
  have e : ((View.whole main_v0_0).slice (win0_3.rect t)).emb (ix3 y0 y1 y2) = (ix3 b l y2 : S2x2048x512.Idx) := by
    blk_ext [idx_val t]
  rw [e, ref_u_at, refY_at, pay5_at]
  refine Fin.sum_fin_congr fun k => Ideal.mul_congr (Ideal.add_congr (Ideal.mul_congr (by first | exact blk_0 m c t b l y1 hb hl k | (pointwise; exact blk_0 m c t b l y1 hb hl k))
    (Ideal.add_congr rfl (by pointwise; exact blk_1 m c t b hb 0 k))) (by pointwise; exact blk_1 m c t b hb 1 k)) (by pointwise; exact blk_2 m c t _ k)

/-- Output window 4 holds columns 512 to 1023 of the projection. -/
theorem final_4 : (dats m 0 c).arrAt 4 (cfgs 0).N = ref_z (refY (A0 m c) (A1 m c) (A2 m c)) := by
  refine (dats m 0 c).arrAt_eq_of_covers 4 _ (by decide +kernel) fun t hf y => ?_
  blk_simp; rw [Cert.Kernel2Ideal.Gen.after0_4]; frame_out
  idx_vars y
  obtain ⟨b, hb⟩ : ∃ b : Fin 2, b.val = t.val / 4 := ⟨⟨t.val / 4, by have := t.isLt; have : t.val < 8 := this; omega⟩, rfl⟩
  obtain ⟨l, hl⟩ : ∃ l : Fin 2048, l.val = t.val % 4 * 512 + y1.val := ⟨⟨t.val % 4 * 512 + y1.val, by omega⟩, rfl⟩
  have e : ((View.whole main_v0_1).slice (win0_4.rect t)).emb (ix3 y0 y1 y2) = (ix3 b l y2 : S2x2048x512.Idx) := by
    blk_ext [idx_val t]
  rw [e, ref_z_at, refY_at, pay6_at]
  refine Fin.sum_fin_congr fun k => Ideal.mul_congr (Ideal.add_congr (Ideal.mul_congr (by first | exact blk_0 m c t b l y1 hb hl k | (pointwise; exact blk_0 m c t b l y1 hb hl k))
    (Ideal.add_congr rfl (by pointwise; exact blk_1 m c t b hb 0 k))) (by pointwise; exact blk_1 m c t b hb 1 k)) (by pointwise; exact blk_2 m c t _ k)

/-- Output window 5 holds columns 1024 to 2559 of the projection. -/
theorem final_5 : (dats m 0 c).arrAt 5 (cfgs 0).N = ref_qkv (refY (A0 m c) (A1 m c) (A2 m c)) := by
  refine (dats m 0 c).arrAt_eq_of_covers 5 _ (by decide +kernel) fun t hf y => ?_
  blk_simp; rw [Cert.Kernel2Ideal.Gen.after0_5]; frame_out
  idx_vars y
  obtain ⟨b, hb⟩ : ∃ b : Fin 2, b.val = t.val / 4 := ⟨⟨t.val / 4, by have := t.isLt; have : t.val < 8 := this; omega⟩, rfl⟩
  obtain ⟨l, hl⟩ : ∃ l : Fin 2048, l.val = t.val % 4 * 512 + y1.val := ⟨⟨t.val % 4 * 512 + y1.val, by omega⟩, rfl⟩
  have e : ((View.whole main_v0_2).slice (win0_5.rect t)).emb (ix3 y0 y1 y2) = (ix3 b l y2 : S2x2048x1536.Idx) := by
    blk_ext [idx_val t]
  rw [e, ref_qkv_at, refY_at, pay1_at]
  refine Fin.sum_fin_congr fun k => Ideal.mul_congr (Ideal.add_congr (Ideal.mul_congr (by first | exact blk_0 m c t b l y1 hb hl k | (pointwise; exact blk_0 m c t b l y1 hb hl k))
    (Ideal.add_congr rfl (by pointwise; exact blk_1 m c t b hb 0 k))) (by pointwise; exact blk_1 m c t b hb 1 k)) (by pointwise; exact blk_2 m c t _ k)

/-- Output window 6 holds columns 2560 to 3071 of the projection. -/
theorem final_6 : (dats m 0 c).arrAt 6 (cfgs 0).N = ref_zg (refY (A0 m c) (A1 m c) (A2 m c)) := by
  refine (dats m 0 c).arrAt_eq_of_covers 6 _ (by decide +kernel) fun t hf y => ?_
  blk_simp; rw [Cert.Kernel2Ideal.Gen.after0_6]; frame_out
  idx_vars y
  obtain ⟨b, hb⟩ : ∃ b : Fin 2, b.val = t.val / 4 := ⟨⟨t.val / 4, by have := t.isLt; have : t.val < 8 := this; omega⟩, rfl⟩
  obtain ⟨l, hl⟩ : ∃ l : Fin 2048, l.val = t.val % 4 * 512 + y1.val := ⟨⟨t.val % 4 * 512 + y1.val, by omega⟩, rfl⟩
  have e : ((View.whole main_v0_3).slice (win0_6.rect t)).emb (ix3 y0 y1 y2) = (ix3 b l y2 : S2x2048x512.Idx) := by
    blk_ext [idx_val t]
  rw [e, ref_zg_at, refY_at, k0_pay8, pay2_at]
  refine Fin.sum_fin_congr fun k => Ideal.mul_congr (Ideal.add_congr (Ideal.mul_congr (by first | exact blk_0 m c t b l y1 hb hl k | (pointwise; exact blk_0 m c t b l y1 hb hl k))
    (Ideal.add_congr rfl (by pointwise; exact blk_1 m c t b hb 0 k))) (by pointwise; exact blk_1 m c t b hb 1 k)) (by pointwise; exact blk_2 m c t _ k)

/-- Output window 7 holds columns 3072 to 3087 of the projection. -/
theorem final_7 : (dats m 0 c).arrAt 7 (cfgs 0).N = ref_ba (refY (A0 m c) (A1 m c) (A2 m c)) := by
  refine (dats m 0 c).arrAt_eq_of_covers 7 _ (by decide +kernel) fun t hf y => ?_
  blk_simp; rw [Cert.Kernel2Ideal.Gen.after0_7]; frame_out
  idx_vars y
  obtain ⟨b, hb⟩ : ∃ b : Fin 2, b.val = t.val / 4 := ⟨⟨t.val / 4, by have := t.isLt; have : t.val < 8 := this; omega⟩, rfl⟩
  obtain ⟨l, hl⟩ : ∃ l : Fin 2048, l.val = t.val % 4 * 512 + y1.val := ⟨⟨t.val % 4 * 512 + y1.val, by omega⟩, rfl⟩
  have e : ((View.whole main_v0_4).slice (win0_7.rect t)).emb (ix3 y0 y1 y2) = (ix3 b l y2 : S2x2048x16.Idx) := by
    blk_ext [idx_val t]
  rw [e, ref_ba_at, refY_at, k0_pay8, pay3_at]
  refine Fin.sum_fin_congr fun k => Ideal.mul_congr (Ideal.add_congr (Ideal.mul_congr (by first | exact blk_0 m c t b l y1 hb hl k | (pointwise; exact blk_0 m c t b l y1 hb hl k))
    (Ideal.add_congr rfl (by pointwise; exact blk_1 m c t b hb 0 k))) (by pointwise; exact blk_1 m c t b hb 1 k)) (by pointwise; exact blk_2 m c t _ k)

end Cert.InProjF

end
-- ==== Proof.ProjFwdRun.lean ====
/- The runs of the input projection's two programs and their equality.  Hand-written, untrusted. -/
module

public import proofs.«01_k».proof.Defs
public import proofs.«01_k».proof.Proof.ProjFwd

@[expose] public section

set_option maxRecDepth 16384

noncomputable section

namespace Cert.InProjF

open Idealize.ShloMosaic Idealize.SL.Sem
open Cert.Reference2Ideal Cert.Reference2Ideal.Gen

/-- The projection over the reference's arguments. -/
abbrev rY (m : (ℓ : Loc nD τ sig) → Buf (Elt Ideal) ℓ) (c : Dev nD) :=
  refY (m (c.tc.loc main_arg0)) (m (c.tc.loc main_arg1)) (m (c.tc.loc main_arg2))

/-- The reference's run, its five results named as columns of the projection. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v9) = ref_u (rY m c)
      ∧ r.2.mem (c.tc.loc main_v10) = ref_z (rY m c)
      ∧ r.2.mem (c.tc.loc main_v11) = ref_qkv (rY m c)
      ∧ r.2.mem (c.tc.loc main_v12) = ref_zg (rY m c)
      ∧ r.2.mem (c.tc.loc main_v13) = ref_ba (rY m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => h c) (Cert.Reference2Ideal.Value.run m ρ)

/-- The reference runs from every starting memory, keeps its arguments, and declares no semaphore. -/
theorem ref_frame : Cert.quiescent_Reference2Ideal := by
  intro m ρ _
  exact (θ_run defs _ _).mono (fun r h => ⟨fun c => (h c).2.2.2.2.2, Idealize.ShloMosaic.sem_eq_zero_of_no_sems (by decide) r.2⟩) (ref_run m ρ)

/-- The forward kernel of the input projection computes exactly the projection's five pieces. -/
theorem value : Cert.algebraic_Kernel2Ideal_Reference2Ideal := by
  intro m g m' g' _ hagree
  refine ⟨fun c => (Cert.Kernel2Ideal.Gen.dats m 0 c).arrAt 3 (Cert.Kernel2Ideal.cfgs 0).N, fun c => (Cert.Kernel2Ideal.Gen.dats m 0 c).arrAt 4 (Cert.Kernel2Ideal.cfgs 0).N, fun c => (Cert.Kernel2Ideal.Gen.dats m 0 c).arrAt 5 (Cert.Kernel2Ideal.cfgs 0).N, fun c => (Cert.Kernel2Ideal.Gen.dats m 0 c).arrAt 6 (Cert.Kernel2Ideal.cfgs 0).N, fun c => (Cert.Kernel2Ideal.Gen.dats m 0 c).arrAt 7 (Cert.Kernel2Ideal.cfgs 0).N,
    Cert.Kernel2Ideal.Value.run_blocks m g, ?_⟩
  refine (θ_run Cert.Reference2Ideal.defs _ _).mono (fun r h c => ?_) (ref_run m' g')
  obtain ⟨e0, e1, e2, e3, e4, hargs⟩ := h c
  obtain ⟨a0, a1, a2⟩ := hagree c
  refine ⟨e0.trans ?_, e1.trans ?_, e2.trans ?_, e3.trans ?_, e4.trans ?_, hargs⟩
  · refine Eq.trans ?_ (Cert.InProjF.final_3 m c).symm; simp only [rY, a0, a1, a2]
  · refine Eq.trans ?_ (Cert.InProjF.final_4 m c).symm; simp only [rY, a0, a1, a2]
  · refine Eq.trans ?_ (Cert.InProjF.final_5 m c).symm; simp only [rY, a0, a1, a2]
  · refine Eq.trans ?_ (Cert.InProjF.final_6 m c).symm; simp only [rY, a0, a1, a2]
  · refine Eq.trans ?_ (Cert.InProjF.final_7 m c).symm; simp only [rY, a0, a1, a2]

end Cert.InProjF

end
-- ==== Proof.ProjCtxRef.lean ====
/- The context tokens' backward projection: the reference's stages, each read at an entry.  Hand-written, untrusted. -/
module

public import proofs.«01_k».proof.Proof.InProjRef
public import proofs.«01_k».proof.Proof.Gen.Reference3Ideal
public import proofs.«01_k».proof.Proof.Gen.Reference3Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjC

open Cert.Reference3Ideal Cert.Reference3Ideal.Gen

/-- The gradient of the projection's output: its five pieces, each padded with zeros to the full width, added. -/
def refD (a2 a3 a4 : FVec Ideal S2x256x512 .f32) (a5 : FVec Ideal S2x256x1536 .f32) (a6 : FVec Ideal S2x256x512 .f32)
    (a7 : FVec Ideal S2x256x16 .f32) : FVec Ideal S2x256x3088 .f32 :=
  addf (addf (addf (addf
    (pad S2x256x3088 ![0, 0, 3072] ![0, 0, 0] ![0, 0, 0] a7 (constant S_ .f32 0x00000000#32) pads_S2x256x16_S2x256x3088_000_000_307200 h_S_)
    (pad S2x256x3088 ![0, 0, 2560] ![0, 0, 16] ![0, 0, 0] a6 (constant S_ .f32 0x00000000#32) pads_S2x256x512_S2x256x3088_000_000_2560160 h_S_))
    (pad S2x256x3088 ![0, 0, 1024] ![0, 0, 528] ![0, 0, 0] a5 (constant S_ .f32 0x00000000#32) pads_S2x256x1536_S2x256x3088_000_000_10245280 h_S_))
    (pad S2x256x3088 ![0, 0, 512] ![0, 0, 2064] ![0, 0, 0] a4 (constant S_ .f32 0x00000000#32) pads_S2x256x512_S2x256x3088_000_000_51220640 h_S_))
    (pad S2x256x3088 ![0, 0, 0] ![0, 0, 2576] ![0, 0, 0] (addf a2 a3) (constant S_ .f32 0x00000000#32) pads_S2x256x512_S2x256x3088_000_000_025760 h_S_)

/-- The projection's input `x * (1 + scale) + shift`. -/
def refH (a0 : FVec Ideal S2x256x1024 .f32) (a1 : FVec Ideal S2x2x1024 .f32) : FVec Ideal S2x256x1024 .f32 :=
  addf (mulf a0 (broadcastInDim S2x256x1024 ![0, 1, 2] bcast_S2x1x1024_S2x256x1024_0_1_2
      (addf (broadcastInDim S2x1x1024 ![] bcast_S_S2x1x1024 (constant S_ .f32 0x3F800000#32))
        (extractStridedSlice S2x1x1024 ![0, 0, 0] a1 slices_S2x2x1024_S2x1x1024_0_0_0))))
    (broadcastInDim S2x256x1024 ![0, 1, 2] bcast_S2x1x1024_S2x256x1024_0_1_2
      (extractStridedSlice S2x1x1024 ![0, 1, 0] a1 slices_S2x2x1024_S2x1x1024_0_1_0))

/-- The gradient of the projection's input: the output's gradient through the weights. -/
def refDH (D : FVec Ideal S2x256x3088 .f32) (W : FVec Ideal S3088x1024 .f32) : FVec Ideal S2x256x1024 .f32 :=
  Host.dotGeneral dot_S2x256x3088_S3088x1024_S2x256x1024_2_0_01_1_n_n none D W

/-- The weights' gradient. -/
def refDW (D : FVec Ideal S2x256x3088 .f32) (H : FVec Ideal S2x256x1024 .f32) : FVec Ideal S3088x1024 .f32 :=
  Host.dotGeneral dot_S2x256x3088_S2x256x1024_S3088x1024_01_01_2_2_n_n none D H

/-- The gradient of scale (row 0) and shift (row 1). -/
def refDM (x DH : FVec Ideal S2x256x1024 .f32) : FVec Ideal S2x2x1024 .f32 :=
  addf (pad S2x2x1024 ![0, 1, 0] ![0, 0, 0] ![0, 0, 0]
      (shapeCast _ (Host.reduceAdd DH (constant S_ .f32 0x00000000#32) reducesTo_S2x256x1024_S2x1024_d1 h_S_) shapeCasts_S2x1024_S2x1x1024)
      (constant S_ .f32 0x00000000#32) pads_S2x1x1024_S2x2x1024_000_100_000 h_S_)
    (pad S2x2x1024 ![0, 0, 0] ![0, 1, 0] ![0, 0, 0]
      (shapeCast _ (Host.reduceAdd (mulf x DH) (constant S_ .f32 0x00000000#32) reducesTo_S2x256x1024_S2x1024_d1 h_S_) shapeCasts_S2x1024_S2x1x1024)
      (constant S_ .f32 0x00000000#32) pads_S2x1x1024_S2x2x1024_000_010_000 h_S_)

section
variable (a2 a3 a4 : FVec Ideal S2x256x512 .f32) (a5 : FVec Ideal S2x256x1536 .f32) (a6 : FVec Ideal S2x256x512 .f32)
    (a7 : FVec Ideal S2x256x16 .f32)

/-- Columns 0 to 511 of the output's gradient. -/
theorem refD_u (b : Fin 2) (l : Fin 256) (k : Fin 512) (h) :
    refD a2 a3 a4 a5 a6 a7 (ix3 b l ⟨k.val, h⟩) = a2 (ix3 b l k) + a3 (ix3 b l k) := by
  have hk := k.isLt
  pointwise [refD]
  repeat rw [dif_neg (by first | omega | simp)]
  try simp only [zero_add, add_zero]

/-- Columns 512 to 1023 of the output's gradient. -/
theorem refD_z (b : Fin 2) (l : Fin 256) (k : Fin 512) (h) :
    refD a2 a3 a4 a5 a6 a7 (ix3 b l ⟨512 + k.val, h⟩) = a4 (ix3 b l k) := by
  have hk := k.isLt
  pointwise [refD]
  repeat rw [dif_neg (by first | omega | simp)]
  try simp only [zero_add, add_zero]

/-- Columns 1024 to 2559 of the output's gradient. -/
theorem refD_qkv (b : Fin 2) (l : Fin 256) (k : Fin 1536) (h) :
    refD a2 a3 a4 a5 a6 a7 (ix3 b l ⟨1024 + k.val, h⟩) = a5 (ix3 b l k) := by
  have hk := k.isLt
  pointwise [refD]
  repeat rw [dif_neg (by first | omega | simp)]
  try simp only [zero_add, add_zero]

/-- Columns 2560 to 3071 of the output's gradient. -/
theorem refD_zg (b : Fin 2) (l : Fin 256) (k : Fin 512) (h) :
    refD a2 a3 a4 a5 a6 a7 (ix3 b l ⟨2560 + k.val, h⟩) = a6 (ix3 b l k) := by
  have hk := k.isLt
  pointwise [refD]
  repeat rw [dif_neg (by first | omega | simp)]
  try simp only [zero_add, add_zero]

/-- Columns 3072 to 3087 of the output's gradient. -/
theorem refD_ba (b : Fin 2) (l : Fin 256) (k : Fin 16) (h) :
    refD a2 a3 a4 a5 a6 a7 (ix3 b l ⟨3072 + k.val, h⟩) = a7 (ix3 b l k) := by
  have hk := k.isLt
  pointwise [refD]
  repeat rw [dif_neg (by first | omega | simp)]
  try simp only [zero_add, add_zero]

end

/-- The projection's input at an entry. -/
theorem refH_at (a0 : FVec Ideal S2x256x1024 .f32) (a1 : FVec Ideal S2x2x1024 .f32) (b : Fin 2) (l : Fin 256) (j : Fin 1024) :
    refH a0 a1 (ix3 b l j) = a0 (ix3 b l j) * (1 + a1 (ix3 b 0 j)) + a1 (ix3 b 1 j) := by
  pointwise [refH]

/-- The gradient of the projection's input at an entry. -/
theorem refDH_at (D : FVec Ideal S2x256x3088 .f32) (W : FVec Ideal S3088x1024 .f32) (b : Fin 2) (l : Fin 256) (j : Fin 1024) :
    refDH D W (ix3 b l j) = ∑ p : Fin 3088, D (ix3 b l p) * W (ix2 p j) := by
  pointwise [refDH]

/-- The weights' gradient at an entry. -/
theorem refDW_at (D : FVec Ideal S2x256x3088 .f32) (H : FVec Ideal S2x256x1024 .f32) (p : Fin 3088) (j : Fin 1024) :
    refDW D H (ix2 p j) = ∑ b : Fin 2, ∑ l : Fin 256, D (ix3 b l p) * H (ix3 b l j) := by
  pointwise [refDW]

/-- Row 0 of the gradient of scale and shift. -/
theorem refDM_0 (x DH : FVec Ideal S2x256x1024 .f32) (b : Fin 2) (j : Fin 1024) :
    refDM x DH (ix3 b 0 j) = ∑ l : Fin 256, x (ix3 b l j) * DH (ix3 b l j) := by
  pointwise [refDM]

/-- Row 1 of the gradient of scale and shift. -/
theorem refDM_1 (x DH : FVec Ideal S2x256x1024 .f32) (b : Fin 2) (j : Fin 1024) :
    refDM x DH (ix3 b 1 j) = ∑ l : Fin 256, DH (ix3 b l j) := by
  pointwise [refDM]

end Cert.InProjC

end
-- ==== Proof.ProjCtx.lean ====
/- The context tokens' backward projection: the kernel's payloads and blocks at an entry.  Hand-written, untrusted. -/
module

public import proofs.«01_k».proof.Proof.ProjCtxRef
public import proofs.«01_k».proof.Proof.CanonDrop
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import Idealize.ShloMosaic.Lib.Pointwise
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjC

open Cert.Kernel3Ideal Cert.Kernel3Ideal.Gen

/-- The gradient of the projection's input over one tile of tokens. -/
theorem dh_at (v21 v23 v27 v31 : Vec Ideal S1x256x512 .f32) (v29 : Vec Ideal S1x256x1536 .f32) (v33 : Vec Ideal S1x256x16 .f32)
    (w0 w1 w3 : Vec Ideal S512x1024 .f32) (w2 : Vec Ideal S1536x1024 .f32) (w4 : Vec Ideal S16x1024 .f32)
    (r : Fin 256) (j : Fin 1024) :
    k0_pay22 (F := Ideal) (k0_pay10 v31) (k0_pay11 v33) (k0_pay17 (k0_pay7 v21 v23) k0_pay8 (k0_pay9 v27) v29 w0 w1 w2) w3 w4 (ix2 r j)
      = (((∑ k : Fin 512, (v21 (ix3 0 r k) + v23 (ix3 0 r k)) * w0 (ix2 k j)
          + ∑ k : Fin 512, v27 (ix3 0 r k) * w1 (ix2 k j))
          + ∑ k : Fin 1536, v29 (ix3 0 r k) * w2 (ix2 k j))
          + ∑ k : Fin 512, v31 (ix3 0 r k) * w3 (ix2 k j))
          + ∑ k : Fin 16, v33 (ix3 0 r k) * w4 (ix2 k j) := by
  pointwise [k0_pay22, k0_pay10, k0_pay11, k0_pay17, k0_pay7, k0_pay8, k0_pay9, k0_pay12, k0_pay14, k0_pay16, k0_pay19, k0_pay21]

/-- The row of scale gradients: what was there, plus the tile's. -/
theorem pay1_at (v8 : Vec Ideal S1x256x1024 .f32) (v32 : FVec Ideal S256x512 .f32) (v34 : FVec Ideal S256x16 .f32) (v59 : FVec Ideal S256x1024 .f32)
    (w3 : Vec Ideal S512x1024 .f32) (w4 : Vec Ideal S16x1024 .f32) (v85 : Vec Ideal S1x1x1024 .f32) (p q : Fin 1) (j : Fin 1024) :
    k0_pay1 (F := Ideal) (k0_pay24 (k0_pay5 v8) v32 v34 v59 w3 w4 v85) (ix3 p q j)
      = v85 (ix3 0 0 j) + ∑ r : Fin 256, k0_pay22 (F := Ideal) v32 v34 v59 w3 w4 (ix2 r j) * v8 (ix3 0 r j) := by
  pointwise [k0_pay1, k0_pay24, k0_pay5]

/-- The row of shift gradients: what was there, plus the tile's. -/
theorem pay2_at (v97 : Vec Ideal S1x1x1024 .f32) (v82 : FVec Ideal S256x1024 .f32) (p q : Fin 1) (j : Fin 1024) :
    k0_pay2 (F := Ideal) v82 v97 (ix3 p q j) = v97 (ix3 0 0 j) + ∑ r : Fin 256, v82 (ix2 r j) := by
  pointwise [k0_pay2]

/-- The projection's input over one tile of tokens. -/
theorem pay6_at (v8 : Vec Ideal S1x256x1024 .f32) (v10 v16 : Vec Ideal S1x1x1024 .f32) (r : Fin 256) (j : Fin 1024) :
    k0_pay6 (F := Ideal) v8 v10 v16 (ix2 r j) = v8 (ix3 0 r j) * (1 + v10 (ix3 0 0 j)) + v16 (ix3 0 0 j) := by
  pointwise [k0_pay6, k0_pay5]

/-- A band of 512 rows of the weights' gradient: what was there, plus the tile's product. -/
theorem pay13_at (v20 : FVec Ideal S256x1024 .bf16) (v21 v23 : Vec Ideal S1x256x512 .f32) (acc : Vec Ideal S512x1024 .f32) (k : Fin 512) (j : Fin 1024) :
    k0_pay13 (F := Ideal) v20 (k0_pay7 v21 v23) acc (ix2 k j) = acc (ix2 k j) + ∑ r : Fin 256, (v21 (ix3 0 r k) + v23 (ix3 0 r k)) * v20 (ix2 r j) := by
  pointwise [k0_pay7, k0_pay9, k0_pay10, k0_pay11, k0_pay12, k0_pay13, k0_pay14, k0_pay15, k0_pay16, k0_pay18, k0_pay19, k0_pay20, k0_pay21, k0_pay23]

/-- A band of 512 rows of the weights' gradient: what was there, plus the tile's product. -/
theorem pay15_at (v20 : FVec Ideal S256x1024 .bf16) (v : Vec Ideal S1x256x512 .f32) (acc : Vec Ideal S512x1024 .f32) (k : Fin 512) (j : Fin 1024) :
    k0_pay15 (F := Ideal) v20 (k0_pay9 v) acc (ix2 k j) = acc (ix2 k j) + ∑ r : Fin 256, v (ix3 0 r k) * v20 (ix2 r j) := by
  pointwise [k0_pay7, k0_pay9, k0_pay10, k0_pay11, k0_pay12, k0_pay13, k0_pay14, k0_pay15, k0_pay16, k0_pay18, k0_pay19, k0_pay20, k0_pay21, k0_pay23]

/-- A band of 1536 rows of the weights' gradient: what was there, plus the tile's product. -/
theorem pay18_at (v20 : FVec Ideal S256x1024 .bf16) (v : Vec Ideal S1x256x1536 .f32) (acc : Vec Ideal S1536x1024 .f32) (k : Fin 1536) (j : Fin 1024) :
    k0_pay18 (F := Ideal) v20 (k0_pay16 v) acc (ix2 k j) = acc (ix2 k j) + ∑ r : Fin 256, v (ix3 0 r k) * v20 (ix2 r j) := by
  pointwise [k0_pay7, k0_pay9, k0_pay10, k0_pay11, k0_pay12, k0_pay13, k0_pay14, k0_pay15, k0_pay16, k0_pay18, k0_pay19, k0_pay20, k0_pay21, k0_pay23]

/-- A band of 512 rows of the weights' gradient: what was there, plus the tile's product. -/
theorem pay20_at (v20 : FVec Ideal S256x1024 .bf16) (v : Vec Ideal S1x256x512 .f32) (acc : Vec Ideal S512x1024 .f32) (k : Fin 512) (j : Fin 1024) :
    k0_pay20 (F := Ideal) v20 (k0_pay10 v) acc (ix2 k j) = acc (ix2 k j) + ∑ r : Fin 256, v (ix3 0 r k) * v20 (ix2 r j) := by
  pointwise [k0_pay7, k0_pay9, k0_pay10, k0_pay11, k0_pay12, k0_pay13, k0_pay14, k0_pay15, k0_pay16, k0_pay18, k0_pay19, k0_pay20, k0_pay21, k0_pay23]

/-- A band of 16 rows of the weights' gradient: what was there, plus the tile's product. -/
theorem pay23_at (v20 : FVec Ideal S256x1024 .bf16) (v : Vec Ideal S1x256x16 .f32) (acc : Vec Ideal S16x1024 .f32) (k : Fin 16) (j : Fin 1024) :
    k0_pay23 (F := Ideal) v20 (k0_pay11 v) acc (ix2 k j) = acc (ix2 k j) + ∑ r : Fin 256, v (ix3 0 r k) * v20 (ix2 r j) := by
  pointwise [k0_pay7, k0_pay9, k0_pay10, k0_pay11, k0_pay12, k0_pay13, k0_pay14, k0_pay15, k0_pay16, k0_pay18, k0_pay19, k0_pay20, k0_pay21, k0_pay23]

variable (m : (ℓ : Loc nD τ sig) → Buf (Elt Ideal) ℓ) (c : Dev nD)

/-- The arguments, by name. -/
abbrev A0 : FVec Ideal S2x256x1024 .f32 := m ((c : Thread nD τ).loc main_arg0)
abbrev A1 : FVec Ideal S2x2x1024 .f32 := m ((c : Thread nD τ).loc main_arg1)
abbrev A2 : FVec Ideal S2x256x512 .f32 := m ((c : Thread nD τ).loc main_arg2)
abbrev A3 : FVec Ideal S2x256x512 .f32 := m ((c : Thread nD τ).loc main_arg3)
abbrev A4 : FVec Ideal S2x256x512 .f32 := m ((c : Thread nD τ).loc main_arg4)
abbrev A5 : FVec Ideal S2x256x1536 .f32 := m ((c : Thread nD τ).loc main_arg5)
abbrev A6 : FVec Ideal S2x256x512 .f32 := m ((c : Thread nD τ).loc main_arg6)
abbrev A7 : FVec Ideal S2x256x16 .f32 := m ((c : Thread nD τ).loc main_arg7)
abbrev A8 : FVec Ideal S3088x1024 .f32 := m ((c : Thread nD τ).loc main_arg8)

/-- The output's gradient, the projection's input and the input's gradient at these arguments. -/
abbrev AD := refD (A2 m c) (A3 m c) (A4 m c) (A5 m c) (A6 m c) (A7 m c)
abbrev AH := refH (A0 m c) (A1 m c)
abbrev ADH := refDH (AD m c) (A8 m c)

/-- Every window's block index at every grid point. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![0, 0]
    ∧ win0_9.index t = ![0, 0]
    ∧ win0_10.index t = ![t.val, 0, 0] :=
  (by decide +kernel : ∀ t : Fin grid0.N, _)

/-- The batch entry a point stands for. -/
def rowB (t : Fin cfg0.N) : Fin 2 := ⟨t.val, t.isLt⟩

/-- Argument 0 under point `t`'s block. -/
theorem blk_0 (t : Fin cfg0.N) (r : Fin 256) (k : Fin 1024) : (iblk m c 0 t : Vec Ideal S1x256x1024 .f32) (ix3 0 r k) = A0 m c (ix3 (rowB t) r k) := by
  have hb : (rowB t).val = t.val := rfl
  blk_ext [iblk, V, idx_val t]

/-- Argument 2 under point `t`'s block. -/
theorem blk_2 (t : Fin cfg0.N) (r : Fin 256) (k : Fin 512) : (iblk m c 2 t : Vec Ideal S1x256x512 .f32) (ix3 0 r k) = A2 m c (ix3 (rowB t) r k) := by
  have hb : (rowB t).val = t.val := rfl
  blk_ext [iblk, V, idx_val t]

/-- Argument 3 under point `t`'s block. -/
theorem blk_3 (t : Fin cfg0.N) (r : Fin 256) (k : Fin 512) : (iblk m c 3 t : Vec Ideal S1x256x512 .f32) (ix3 0 r k) = A3 m c (ix3 (rowB t) r k) := by
  have hb : (rowB t).val = t.val := rfl
  blk_ext [iblk, V, idx_val t]

/-- Argument 4 under point `t`'s block. -/
theorem blk_4 (t : Fin cfg0.N) (r : Fin 256) (k : Fin 512) : (iblk m c 4 t : Vec Ideal S1x256x512 .f32) (ix3 0 r k) = A4 m c (ix3 (rowB t) r k) := by
  have hb : (rowB t).val = t.val := rfl
  blk_ext [iblk, V, idx_val t]

/-- Argument 5 under point `t`'s block. -/
theorem blk_5 (t : Fin cfg0.N) (r : Fin 256) (k : Fin 1536) : (iblk m c 5 t : Vec Ideal S1x256x1536 .f32) (ix3 0 r k) = A5 m c (ix3 (rowB t) r k) := by
  have hb : (rowB t).val = t.val := rfl
  blk_ext [iblk, V, idx_val t]

/-- Argument 6 under point `t`'s block. -/
theorem blk_6 (t : Fin cfg0.N) (r : Fin 256) (k : Fin 512) : (iblk m c 6 t : Vec Ideal S1x256x512 .f32) (ix3 0 r k) = A6 m c (ix3 (rowB t) r k) := by
  have hb : (rowB t).val = t.val := rfl
  blk_ext [iblk, V, idx_val t]

/-- Argument 7 under point `t`'s block. -/
theorem blk_7 (t : Fin cfg0.N) (r : Fin 256) (k : Fin 16) : (iblk m c 7 t : Vec Ideal S1x256x16 .f32) (ix3 0 r k) = A7 m c (ix3 (rowB t) r k) := by
  have hb : (rowB t).val = t.val := rfl
  blk_ext [iblk, V, idx_val t]

/-- Scale and shift under point `t`'s block. -/
theorem blk_1 (t : Fin cfg0.N) (q : Fin 2) (k : Fin 1024) : (iblk m c 1 t : Vec Ideal S1x2x1024 .f32) (ix3 0 q k) = A1 m c (ix3 (rowB t) q k) := by
  have hb : (rowB t).val = t.val := rfl
  blk_ext [iblk, V, idx_val t]

/-- The weights, resident at every point. -/
theorem blk_8 (t : Fin cfg0.N) (p : Fin 3088) (k : Fin 1024) : (iblk m c 8 t : Vec Ideal S3088x1024 .f32) (ix2 p k) = A8 m c (ix2 p k) := by
  blk_ext [iblk, V, idx_val t]

/-- One row of a tile of the input's gradient is the reference's row, when the pieces read are that row's and the loaded
    rows of the weights are theirs. -/
theorem dh_row (a2 a3 a4 : FVec Ideal S2x256x512 .f32) (a5 : FVec Ideal S2x256x1536 .f32) (a6 : FVec Ideal S2x256x512 .f32)
    (a7 : FVec Ideal S2x256x16 .f32) (W : FVec Ideal S3088x1024 .f32)
    (v21 v23 v27 v31 : Vec Ideal S1x256x512 .f32) (v29 : Vec Ideal S1x256x1536 .f32) (v33 : Vec Ideal S1x256x16 .f32)
    (w0 w1 w3 : Vec Ideal S512x1024 .f32) (w2 : Vec Ideal S1536x1024 .f32) (w4 : Vec Ideal S16x1024 .f32)
    (r : Fin 256) (j : Fin 1024) (b : Fin 2)
    (h2 : ∀ k, v21 (ix3 0 r k) = a2 (ix3 b r k)) (h3 : ∀ k, v23 (ix3 0 r k) = a3 (ix3 b r k))
    (h4 : ∀ k, v27 (ix3 0 r k) = a4 (ix3 b r k)) (h5 : ∀ k, v29 (ix3 0 r k) = a5 (ix3 b r k))
    (h6 : ∀ k, v31 (ix3 0 r k) = a6 (ix3 b r k)) (h7 : ∀ k, v33 (ix3 0 r k) = a7 (ix3 b r k))
    (g0 : ∀ k : Fin 512, w0 (ix2 k j) = W (ix2 ⟨k.val, by omega⟩ j))
    (g1 : ∀ k : Fin 512, w1 (ix2 k j) = W (ix2 ⟨512 + k.val, by omega⟩ j))
    (g2 : ∀ k : Fin 1536, w2 (ix2 k j) = W (ix2 ⟨1024 + k.val, by omega⟩ j))
    (g3 : ∀ k : Fin 512, w3 (ix2 k j) = W (ix2 ⟨2560 + k.val, by omega⟩ j))
    (g4 : ∀ k : Fin 16, w4 (ix2 k j) = W (ix2 ⟨3072 + k.val, by omega⟩ j)) :
    k0_pay22 (F := Ideal) (k0_pay10 v31) (k0_pay11 v33) (k0_pay17 (k0_pay7 v21 v23) k0_pay8 (k0_pay9 v27) v29 w0 w1 w2) w3 w4 (ix2 r j)
      = refDH (refD a2 a3 a4 a5 a6 a7) W (ix3 b r j) := by
  rw [dh_at, refDH_at, Cert.InProj.sum_cols]
  simp only [h2, h3, h4, h5, h6, h7, g0, g1, g2, g3, g4, refD_u, refD_z, refD_qkv, refD_zg, refD_ba]

end Cert.InProjC

end
-- ==== Proof.ProjCtxDm.lean ====
/- The context tokens' backward projection: the gradients of scale and shift and of the weights.  Hand-written, untrusted. -/
module

public import proofs.«01_k».proof.Proof.ProjCtx

@[expose] public section

set_option maxRecDepth 16384

noncomputable section

open Idealize.ShloMosaic Idealize.ShloMosaic.TcCoe Idealize.SL.Sem
open Idealize.ShloMosaic.Pipeline (Dat)
open scoped BigOperators

namespace Cert.InProjC

open Cert.Kernel3Ideal Cert.Kernel3Ideal.Gen

variable (m : (ℓ : Loc nD τ sig) → Buf (Elt Ideal) ℓ) (c : Dev nD)

/-- The gradient of scale and shift: one tile per batch entry. -/
theorem final_10 : (dats m 0 c).arrAt 10 (cfgs 0).N = refDM (A0 m c) (ADH m c) := by
  refine (dats m 0 c).arrAt_eq_of_covers 10 _ (by decide +kernel) fun t hf y => ?_
  blk_simp
  rw [after0_10]
  by_cases hq : t.val % 2 = 0
  on_goal 1 => rw [outsAt0_A m c t hq]
  on_goal 2 => rw [outsAt0_B m c t hq]
  all_goals
    frame_open
    simp (disch := decide) only [↓ View.readCov_skip, ↓ View.readCov_cons_toLoadRect, ↓ View.readCov_fill]
    frame_out
    refine (View.canon_drop [_, _] [_] ![1, 1, 1024] (by sl_kernel_rfl) _).trans ?_
    canon_tiles x h
    all_goals idx_vars x
    all_goals idx_vars y
    all_goals obtain rfl : y2 = x2 := Fin.ext h2
    · obtain rfl : y1 = 1 := Fin.ext (by simpa using h1)
      have e : (win0_10.blk t).view.emb (ix3 y0 1 y2) = (ix3 (rowB t) 1 y2 : S2x2x1024.Idx) := by
        have hb : (rowB t).val = t.val := rfl
        blk_ext [idx_val t]
      rw [e, refDM_1, pay2_at]
      refine Eq.trans (Ideal.add_congr (a' := 0) (by pointwise [k0_pay4]) (Fin.sum_fin_congr fun r => ?_)) (zero_add _)
      exact dh_row (A2 m c) (A3 m c) (A4 m c) (A5 m c) (A6 m c) (A7 m c) (A8 m c) (b := rowB t)
          (h2 := blk_2 m c t r) (h3 := blk_3 m c t r) (h4 := blk_4 m c t r) (h5 := blk_5 m c t r) (h6 := blk_6 m c t r) (h7 := blk_7 m c t r)
          (g0 := fun k => by pointwise; exact blk_8 m c t _ _) (g1 := fun k => by pointwise; exact blk_8 m c t _ _)
          (g2 := fun k => by pointwise; exact blk_8 m c t _ _) (g3 := fun k => by pointwise; exact blk_8 m c t _ _)
          (g4 := fun k => by pointwise; exact blk_8 m c t _ _)
    · obtain rfl : y1 = 0 := Fin.ext (by simpa using h1)
      have e : (win0_10.blk t).view.emb (ix3 y0 0 y2) = (ix3 (rowB t) 0 y2 : S2x2x1024.Idx) := by
        have hb : (rowB t).val = t.val := rfl
        blk_ext [idx_val t]
      rw [e, refDM_0, pay1_at]
      refine Eq.trans (Ideal.add_congr (a' := 0) (by pointwise [k0_pay4]) (Fin.sum_fin_congr fun r => ?_)) (zero_add _)
      refine Eq.trans (Ideal.mul_congr ?_ (blk_0 m c t r _)) (mul_comm (_ : EReal) _)
      exact dh_row (A2 m c) (A3 m c) (A4 m c) (A5 m c) (A6 m c) (A7 m c) (A8 m c) (b := rowB t)
          (h2 := blk_2 m c t r) (h3 := blk_3 m c t r) (h4 := blk_4 m c t r) (h5 := blk_5 m c t r) (h6 := blk_6 m c t r) (h7 := blk_7 m c t r)
          (g0 := fun k => by pointwise; exact blk_8 m c t _ _) (g1 := fun k => by pointwise; exact blk_8 m c t _ _)
          (g2 := fun k => by pointwise; exact blk_8 m c t _ _) (g3 := fun k => by pointwise; exact blk_8 m c t _ _)
          (g4 := fun k => by pointwise; exact blk_8 m c t _ _)

end Cert.InProjC

end
-- ==== Proof.ProjCtxDw.lean ====
/- The context tokens' backward projection: the gradient of the weights.  Hand-written, untrusted. -/
module

public import proofs.«01_k».proof.Proof.ProjCtx

@[expose] public section

set_option maxRecDepth 16384

noncomputable section

open Idealize.ShloMosaic Idealize.ShloMosaic.TcCoe Idealize.SL.Sem
open Idealize.ShloMosaic.Pipeline (Dat)
open scoped BigOperators

namespace Cert.InProjC

open Cert.Kernel3Ideal Cert.Kernel3Ideal.Gen

variable (m : (ℓ : Loc nD τ sig) → Buf (Elt Ideal) ℓ) (c : Dev nD)

/-- The weights' gradient: from zero, the two batch entries' products added up. -/
theorem final_9 : (dats m 0 c).arrAt 9 (cfgs 0).N = refDW (AD m c) (AH m c) := by
  refine (dats m 0 c).arrAt_eq_of_after_last 9 t0_1 (by decide +kernel) _ fun j => ?_
  blk_simp
  rw [after0_9, Pipeline.eq_sum_fin_of_reset_step_apply_last (fun n h => (outsAt0 m c n h).1) 2 (fun _ => 0)
    (fun t j => ∑ r : Fin 256, AD m c (ix3 (rowB t) r (j 0)) * AH m c (ix3 (rowB t) r (j 1)))
    (fun t hh j => by
      rw [outsAt0_A m c t hh]; frame_open
      simp (disch := decide) only [↓ View.readCov_skip, ↓ View.readCov_cons_toLoadRect, ↓ View.readCov_fill]
      frame_out
      refine (View.canon_drop [_, _, _, _, _] [_] ![16, 1024] (by sl_kernel_rfl) _).trans ?_
      canon_tiles x h using View.cover_of_tiledBy _ ![16, 1024] (by sl_kernel_rfl) _
      all_goals idx_vars x
      all_goals idx_vars j
      all_goals obtain rfl : j1 = x1 := Fin.ext h1
      · obtain rfl : j0 = ⟨3072 + x0.val, by clear h0; omega⟩ := Fin.ext h0
        rw [pay23_at]
        refine Ideal.add_congr (by pointwise [k0_pay3]) (Fin.sum_fin_congr fun r => ?_)
        refine Ideal.mul_congr ((blk_7 m c t r _).trans (refD_ba _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨2560 + x0.val, by clear h0; omega⟩ := Fin.ext h0
        rw [pay20_at]
        refine Ideal.add_congr (by pointwise [k0_pay3]) (Fin.sum_fin_congr fun r => ?_)
        refine Ideal.mul_congr ((blk_6 m c t r _).trans (refD_zg _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨1024 + x0.val, by clear h0; omega⟩ := Fin.ext h0
        rw [pay18_at]
        refine Ideal.add_congr (by pointwise [k0_pay3]) (Fin.sum_fin_congr fun r => ?_)
        refine Ideal.mul_congr ((blk_5 m c t r _).trans (refD_qkv _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨512 + x0.val, by clear h0; omega⟩ := Fin.ext h0
        rw [pay15_at]
        refine Ideal.add_congr (by pointwise [k0_pay3]) (Fin.sum_fin_congr fun r => ?_)
        refine Ideal.mul_congr ((blk_4 m c t r _).trans (refD_z _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨x0.val, by clear h0; omega⟩ := Fin.ext h0
        rw [pay13_at]
        refine Ideal.add_congr (by pointwise [k0_pay3]) (Fin.sum_fin_congr fun r => ?_)
        refine Ideal.mul_congr ((Ideal.add_congr (blk_2 m c t r _) (blk_3 m c t r _)).trans (refD_u _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      )
    (fun t hh j => by
      rw [outsAt0_B m c t hh]; frame_open
      simp (disch := decide) only [↓ View.readCov_skip, ↓ View.readCov_cons_toLoadRect, ↓ View.readCov_fill]
      frame_out
      canon_tiles x h using View.cover_of_tiledBy _ ![16, 1024] (by sl_kernel_rfl) _
      all_goals idx_vars x
      all_goals idx_vars j
      all_goals obtain rfl : j1 = x1 := Fin.ext h1
      · obtain rfl : j0 = ⟨3072 + x0.val, by clear h0; omega⟩ := Fin.ext h0
        rw [pay23_at]
        refine Ideal.add_congr (by pointwise) (Fin.sum_fin_congr fun r => ?_)
        refine Ideal.mul_congr ((blk_7 m c t r _).trans (refD_ba _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨2560 + x0.val, by clear h0; omega⟩ := Fin.ext h0
        rw [pay20_at]
        refine Ideal.add_congr (by pointwise) (Fin.sum_fin_congr fun r => ?_)
        refine Ideal.mul_congr ((blk_6 m c t r _).trans (refD_zg _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨1024 + x0.val, by clear h0; omega⟩ := Fin.ext h0
        rw [pay18_at]
        refine Ideal.add_congr (by pointwise) (Fin.sum_fin_congr fun r => ?_)
        refine Ideal.mul_congr ((blk_5 m c t r _).trans (refD_qkv _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨512 + x0.val, by clear h0; omega⟩ := Fin.ext h0
        rw [pay15_at]
        refine Ideal.add_congr (by pointwise) (Fin.sum_fin_congr fun r => ?_)
        refine Ideal.mul_congr ((blk_4 m c t r _).trans (refD_z _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      · obtain rfl : j0 = ⟨x0.val, by clear h0; omega⟩ := Fin.ext h0
        rw [pay13_at]
        refine Ideal.add_congr (by pointwise) (Fin.sum_fin_congr fun r => ?_)
        refine Ideal.mul_congr ((Ideal.add_congr (blk_2 m c t r _) (blk_3 m c t r _)).trans (refD_u _ _ _ _ _ _ _ _ _ _).symm) ?_
        rw [pay6_at]
        refine Eq.trans ?_ (refH_at _ _ _ _ _).symm
        refine Ideal.add_congr (Ideal.mul_congr (blk_0 m c t r _) (Ideal.add_congr rfl ?_)) ?_
        · pointwise; exact blk_1 m c t 0 _
        · pointwise; exact blk_1 m c t 1 _
      )
    (le_of_eq N_0) t0_1 rfl j, zero_add]
  idx_vars j
  rw [refDW_at]
  refine Fin.sum_fin_congr fun t => ?_
  rfl

end Cert.InProjC

end
-- ==== Proof.ProjCtxRun.lean ====
/- The context tokens' backward projection: the runs of its two programs and their equality.  Hand-written, untrusted. -/
module

public import proofs.«01_k».proof.Defs
public import proofs.«01_k».proof.Proof.ProjCtxDm
public import proofs.«01_k».proof.Proof.ProjCtxDw

@[expose] public section

set_option maxRecDepth 16384

noncomputable section

namespace Cert.InProjC

open Idealize.ShloMosaic Idealize.SL.Sem
open Cert.Reference3Ideal Cert.Reference3Ideal.Gen

variable (m : (ℓ : Loc nD τ sig) → Buf (Elt Ideal) ℓ) (c : Dev nD)

/-- The gradient of the projection's output, over the reference's arguments. -/
abbrev rD := refD (m (c.tc.loc main_arg2)) (m (c.tc.loc main_arg3)) (m (c.tc.loc main_arg4)) (m (c.tc.loc main_arg5))
  (m (c.tc.loc main_arg6)) (m (c.tc.loc main_arg7))

/-- The gradient of the projection's input, over the reference's arguments. -/
abbrev rDH := refDH (rD m c) (m (c.tc.loc main_arg8))

/-- The reference's run, its two results named by the stages of the gradient. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v24) = refDW (rD m c) (refH (m (c.tc.loc main_arg0)) (m (c.tc.loc main_arg1)))
      ∧ r.2.mem (c.tc.loc main_v33) = refDM (m (c.tc.loc main_arg0)) (rDH m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) :=
  (θ_run defs _ _).mono (fun _ h c => h c) (Cert.Reference3Ideal.Value.run m ρ)

/-- The reference runs from every starting memory, keeps its arguments, and declares no semaphore. -/
theorem ref_frame : Cert.quiescent_Reference3Ideal := by
  intro m ρ _
  exact (θ_run defs _ _).mono (fun r h => ⟨fun c => (h c).2.2, Idealize.ShloMosaic.sem_eq_zero_of_no_sems (by decide) r.2⟩) (ref_run m ρ)

/-- The context tokens' backward kernel computes exactly the gradients of the projection: the weights', from zero, and
    those of scale and shift. -/
theorem value : Cert.algebraic_Kernel3Ideal_Reference3Ideal := by
  intro m g m' g' _ hagree
  refine ⟨fun c => (Cert.Kernel3Ideal.Gen.dats m 0 c).arrAt 9 (Cert.Kernel3Ideal.cfgs 0).N,
    fun c => (Cert.Kernel3Ideal.Gen.dats m 0 c).arrAt 10 (Cert.Kernel3Ideal.cfgs 0).N, Cert.Kernel3Ideal.Value.run_blocks m g, ?_⟩
  refine (θ_run Cert.Reference3Ideal.defs _ _).mono (fun r h c => ?_) (ref_run m' g')
  obtain ⟨e0, e1, hargs⟩ := h c
  obtain ⟨a0, a1, a2, a3, a4, a5, a6, a7, a8⟩ := hagree c
  refine ⟨e0.trans ?_, e1.trans ?_, hargs⟩
  · refine Eq.trans ?_ (Cert.InProjC.final_9 m c).symm; simp only [rD, a0, a1, a2, a3, a4, a5, a6, a7]
  · refine Eq.trans ?_ (Cert.InProjC.final_10 m c).symm; simp only [rD, rDH, a0, a2, a3, a4, a5, a6, a7, a8]

end Cert.InProjC

end
-- ==== Proof.FwdCtxRef.lean ====
/- The context tokens' projection: the reference, each stage read at an entry.  Hand-written, untrusted. -/
module

public import proofs.«01_k».proof.Proof.Gen.Reference5Ideal
public import proofs.«01_k».proof.Proof.Gen.Reference5Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjFC

open Cert.Reference5Ideal Cert.Reference5Ideal.Gen

/-- The tokens scaled by one plus the first row of `a1` and shifted by its second. -/
def refH (a0 : FVec Ideal S2x256x1024 .f32) (a1 : FVec Ideal S2x2x1024 .f32) : FVec Ideal S2x256x1024 .f32 :=
  addf (mulf a0 (broadcastInDim S2x256x1024 ![0, 1, 2] bcast_S2x1x1024_S2x256x1024_0_1_2
      (addf (broadcastInDim S2x1x1024 ![] bcast_S_S2x1x1024 (constant S_ .f32 0x3F800000#32))
        (extractStridedSlice S2x1x1024 ![0, 0, 0] a1 slices_S2x2x1024_S2x1x1024_0_0_0))))
    (broadcastInDim S2x256x1024 ![0, 1, 2] bcast_S2x1x1024_S2x256x1024_0_1_2
      (extractStridedSlice S2x1x1024 ![0, 1, 0] a1 slices_S2x2x1024_S2x1x1024_0_1_0))

/-- Their product with all 3088 rows of the weights. -/
def refY (a0 : FVec Ideal S2x256x1024 .f32) (a1 : FVec Ideal S2x2x1024 .f32) (a2 : FVec Ideal S3088x1024 .f32) : FVec Ideal S2x256x3088 .f32 :=
  Host.dotGeneral dot_S2x256x1024_S3088x1024_S2x256x3088_2_1_01_0_n_n none (refH a0 a1) a2

/-- The product at an entry. -/
theorem refY_at (a0 : FVec Ideal S2x256x1024 .f32) (a1 : FVec Ideal S2x2x1024 .f32) (a2 : FVec Ideal S3088x1024 .f32)
    (b : Fin 2) (l : Fin 256) (p : Fin 3088) :
    refY a0 a1 a2 (ix3 b l p) = ∑ k : Fin 1024, (a0 (ix3 b l k) * (1 + a1 (ix3 b 0 k)) + a1 (ix3 b 1 k)) * a2 (ix2 p k) := by
  pointwise [refY, refH]

/-- Columns 0 to 511 of the product, and one of them at an entry. -/
def ref_u (Y : FVec Ideal S2x256x3088 .f32) : FVec Ideal S2x256x512 .f32 :=
  extractStridedSlice S2x256x512 ![0, 0, 0] Y slices_S2x256x3088_S2x256x512_0_0_0
theorem ref_u_at (Y : FVec Ideal S2x256x3088 .f32) (b : Fin 2) (l : Fin 256) (k : Fin 512) :
    ref_u Y (ix3 b l k) = Y (ix3 b l ⟨0 + k.val, by omega⟩) := by
  pointwise [ref_u]

/-- Columns 512 to 1023 of the product, and one of them at an entry. -/
def ref_z (Y : FVec Ideal S2x256x3088 .f32) : FVec Ideal S2x256x512 .f32 :=
  extractStridedSlice S2x256x512 ![0, 0, 512] Y slices_S2x256x3088_S2x256x512_0_0_512
theorem ref_z_at (Y : FVec Ideal S2x256x3088 .f32) (b : Fin 2) (l : Fin 256) (k : Fin 512) :
    ref_z Y (ix3 b l k) = Y (ix3 b l ⟨512 + k.val, by omega⟩) := by
  pointwise [ref_z]

/-- Columns 1024 to 2559 of the product, and one of them at an entry. -/
def ref_qkv (Y : FVec Ideal S2x256x3088 .f32) : FVec Ideal S2x256x1536 .f32 :=
  extractStridedSlice S2x256x1536 ![0, 0, 1024] Y slices_S2x256x3088_S2x256x1536_0_0_1024
theorem ref_qkv_at (Y : FVec Ideal S2x256x3088 .f32) (b : Fin 2) (l : Fin 256) (k : Fin 1536) :
    ref_qkv Y (ix3 b l k) = Y (ix3 b l ⟨1024 + k.val, by omega⟩) := by
  pointwise [ref_qkv]

/-- Columns 2560 to 3071 of the product, and one of them at an entry. -/
def ref_zg (Y : FVec Ideal S2x256x3088 .f32) : FVec Ideal S2x256x512 .f32 :=
  extractStridedSlice S2x256x512 ![0, 0, 2560] Y slices_S2x256x3088_S2x256x512_0_0_2560
theorem ref_zg_at (Y : FVec Ideal S2x256x3088 .f32) (b : Fin 2) (l : Fin 256) (k : Fin 512) :
    ref_zg Y (ix3 b l k) = Y (ix3 b l ⟨2560 + k.val, by omega⟩) := by
  pointwise [ref_zg]

/-- Columns 3072 to 3087 of the product, and one of them at an entry. -/
def ref_ba (Y : FVec Ideal S2x256x3088 .f32) : FVec Ideal S2x256x16 .f32 :=
  extractStridedSlice S2x256x16 ![0, 0, 3072] Y slices_S2x256x3088_S2x256x16_0_0_3072
theorem ref_ba_at (Y : FVec Ideal S2x256x3088 .f32) (b : Fin 2) (l : Fin 256) (k : Fin 16) :
    ref_ba Y (ix3 b l k) = Y (ix3 b l ⟨3072 + k.val, by omega⟩) := by
  pointwise [ref_ba]

end Cert.InProjFC

end
-- ==== Proof.FwdCtx.lean ====
/- The context tokens' projection: the kernel's five outputs, block by block.  Hand-written, untrusted. -/
module

public import proofs.«01_k».proof.Proof.FwdCtxRef
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjFC

open Cert.Kernel5Ideal Cert.Kernel5Ideal.Gen

variable (m : (ℓ : Loc nD τ sig) → Buf (Elt Ideal) ℓ) (c : Dev nD)

/-- The tokens, the two rows of scale and shift, and the weights. -/
abbrev A0 : FVec Ideal S2x256x1024 .f32 := m ((c : Thread nD τ).loc main_arg0)
abbrev A1 : FVec Ideal S2x2x1024 .f32 := m ((c : Thread nD τ).loc main_arg1)
abbrev A2 : FVec Ideal S3088x1024 .f32 := m ((c : Thread nD τ).loc main_arg2)

/-- The product that the reference cuts into five pieces, over the kernel's arguments. -/
abbrev Y := refY (A0 m c) (A1 m c) (A2 m c)

/-- Grid point `t` is batch row `t`: every window but the weights' is at that row. -/
theorem idx_val : ∀ t : Fin cfg0.N, win0_0.index t = ![t.val, 0, 0]
    ∧ win0_1.index t = ![t.val, 0, 0]
    ∧ win0_2.index t = ![0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0] :=
  (by decide +kernel : ∀ t : Fin grid0.N, _)

/-- The block of tokens at batch row `b`. -/
theorem blk_0 (t : Fin cfg0.N) (b : Fin 2) (hb : b.val = t.val) (l : Fin 256)
    (k : Fin 1024) : (iblk m c 0 t : Vec Ideal S1x256x1024 .f32) (ix3 0 l k) = A0 m c (ix3 b l k) := by
  blk_ext [iblk, V, idx_val t]

/-- Scale and shift of batch row `b`. -/
theorem blk_1 (t : Fin cfg0.N) (b : Fin 2) (hb : b.val = t.val) (q : Fin 2)
    (k : Fin 1024) : (iblk m c 1 t : Vec Ideal S1x2x1024 .f32) (ix3 0 q k) = A1 m c (ix3 b q k) := by
  blk_ext [iblk, V, idx_val t]

/-- The weights, the same at every point. -/
theorem blk_2 (t : Fin cfg0.N) (p : Fin 3088) (k : Fin 1024) : (iblk m c 2 t : Vec Ideal S3088x1024 .f32) (ix2 p k) = A2 m c (ix2 p k) := by
  blk_ext [iblk, V, idx_val t]

/-- One entry of a batch row's product with given rows of the weights. -/
def tile {n : ℕ} (x : Vec Ideal S1x256x1024 .f32) (s h : Vec Ideal S1x1x1024 .f32) (w : Vec Ideal ⟨2, ![n, 1024]⟩ .f32)
    (r : Fin 256) (j : Fin n) : EReal :=
  ∑ k : Fin 1024, (x (ix3 0 r k) * (1 + s (ix3 0 0 k)) + h (ix3 0 0 k)) * w (ix2 j k)

section
variable (v0 : Vec Ideal S1x256x1024 .f32) (v2 v8 : Vec Ideal S1x1x1024 .f32) (q : Fin 1) (r : Fin 256)

/-- What each of the five stores writes is such an entry. -/
theorem pay5_at (w : Vec Ideal S512x1024 .f32) (j : Fin 512) : k0_pay5 (F := Ideal) v0 v2 v8 w (ix3 q r j) = tile v0 v2 v8 w r j := by
  pointwise [k0_pay5, k0_pay4, tile]
theorem pay6_at (w : Vec Ideal S512x1024 .f32) (j : Fin 512) : k0_pay6 (F := Ideal) v0 v2 v8 w (ix3 q r j) = tile v0 v2 v8 w r j := by
  pointwise [k0_pay6, k0_pay4, tile]
theorem pay1_at (w : Vec Ideal S1536x1024 .f32) (j : Fin 1536) : k0_pay1 (F := Ideal) (k0_pay7 v0 v2 v8 w) (ix3 q r j) = tile v0 v2 v8 w r j := by
  pointwise [k0_pay1, k0_pay7, k0_pay4, tile]
theorem pay2_at (w : Vec Ideal S512x1024 .f32) (j : Fin 512) : k0_pay2 (F := Ideal) (k0_pay4 v0 v2 v8) w (ix3 q r j) = tile v0 v2 v8 w r j := by
  pointwise [k0_pay2, k0_pay4, tile]
theorem pay3_at (w : Vec Ideal S16x1024 .f32) (j : Fin 16) : k0_pay3 (F := Ideal) (k0_pay4 v0 v2 v8) w (ix3 q r j) = tile v0 v2 v8 w r j := by
  pointwise [k0_pay3, k0_pay4, tile]
end

/-- Such an entry, over blocks that hold batch row `b` of the arguments, is the product's entry. -/
theorem tile_eq {n : ℕ} (b : Fin 2) (x : Vec Ideal S1x256x1024 .f32) (s h : Vec Ideal S1x1x1024 .f32) (w : Vec Ideal ⟨2, ![n, 1024]⟩ .f32)
    (r : Fin 256) (j : Fin n) (p : Fin 3088) (hx : ∀ k, x (ix3 0 r k) = A0 m c (ix3 b r k)) (hs : ∀ k, s (ix3 0 0 k) = A1 m c (ix3 b 0 k))
    (hh : ∀ k, h (ix3 0 0 k) = A1 m c (ix3 b 1 k)) (hw : ∀ k, w (ix2 j k) = A2 m c (ix2 p k)) :
    tile x s h w r j = Y m c (ix3 b r p) := by
  refine Eq.trans ?_ (refY_at _ _ _ b r p).symm
  exact Fin.sum_fin_congr fun k => by rw [hx, hs, hh, hw]

/-- Output 0 holds columns 0 to 511 of the product. -/
theorem final_3 : (dats m 0 c).arrAt 3 (cfgs 0).N = ref_u (Y m c) := by
  refine (dats m 0 c).arrAt_eq_of_covers 3 _ (by decide +kernel) fun t hf y => ?_
  blk_simp; rw [after0_3]; frame_out
  idx_vars y
  obtain ⟨b, hb⟩ : ∃ b : Fin 2, b.val = t.val := ⟨⟨t.val, t.isLt⟩, rfl⟩
  have e : ((View.whole main_v0_0).slice (win0_3.rect t)).emb (ix3 y0 y1 y2) = (ix3 b y1 y2 : S2x256x512.Idx) := by
    blk_ext [idx_val t]
  rw [e, ref_u_at, pay5_at]
  refine tile_eq m c b _ _ _ _ y1 y2 _ (fun k => ?_) (fun k => ?_) (fun k => ?_) (fun k => ?_)
  · first | exact blk_0 m c t b hb y1 k | (pointwise; exact blk_0 m c t b hb y1 k)
  · pointwise; exact blk_1 m c t b hb 0 k
  · pointwise; exact blk_1 m c t b hb 1 k
  · pointwise; exact blk_2 m c t _ k

/-- Output 1 holds columns 512 to 1023 of the product. -/
theorem final_4 : (dats m 0 c).arrAt 4 (cfgs 0).N = ref_z (Y m c) := by
  refine (dats m 0 c).arrAt_eq_of_covers 4 _ (by decide +kernel) fun t hf y => ?_
  blk_simp; rw [after0_4]; frame_out
  idx_vars y
  obtain ⟨b, hb⟩ : ∃ b : Fin 2, b.val = t.val := ⟨⟨t.val, t.isLt⟩, rfl⟩
  have e : ((View.whole main_v0_1).slice (win0_4.rect t)).emb (ix3 y0 y1 y2) = (ix3 b y1 y2 : S2x256x512.Idx) := by
    blk_ext [idx_val t]
  rw [e, ref_z_at, pay6_at]
  refine tile_eq m c b _ _ _ _ y1 y2 _ (fun k => ?_) (fun k => ?_) (fun k => ?_) (fun k => ?_)
  · first | exact blk_0 m c t b hb y1 k | (pointwise; exact blk_0 m c t b hb y1 k)
  · pointwise; exact blk_1 m c t b hb 0 k
  · pointwise; exact blk_1 m c t b hb 1 k
  · pointwise; exact blk_2 m c t _ k

/-- Output 2 holds columns 1024 to 2559 of the product. -/
theorem final_5 : (dats m 0 c).arrAt 5 (cfgs 0).N = ref_qkv (Y m c) := by
  refine (dats m 0 c).arrAt_eq_of_covers 5 _ (by decide +kernel) fun t hf y => ?_
  blk_simp; rw [after0_5]; frame_out
  idx_vars y
  obtain ⟨b, hb⟩ : ∃ b : Fin 2, b.val = t.val := ⟨⟨t.val, t.isLt⟩, rfl⟩
  have e : ((View.whole main_v0_2).slice (win0_5.rect t)).emb (ix3 y0 y1 y2) = (ix3 b y1 y2 : S2x256x1536.Idx) := by
    blk_ext [idx_val t]
  rw [e, ref_qkv_at, pay1_at]
  refine tile_eq m c b _ _ _ _ y1 y2 _ (fun k => ?_) (fun k => ?_) (fun k => ?_) (fun k => ?_)
  · first | exact blk_0 m c t b hb y1 k | (pointwise; exact blk_0 m c t b hb y1 k)
  · pointwise; exact blk_1 m c t b hb 0 k
  · pointwise; exact blk_1 m c t b hb 1 k
  · pointwise; exact blk_2 m c t _ k

/-- Output 3 holds columns 2560 to 3071 of the product. -/
theorem final_6 : (dats m 0 c).arrAt 6 (cfgs 0).N = ref_zg (Y m c) := by
  refine (dats m 0 c).arrAt_eq_of_covers 6 _ (by decide +kernel) fun t hf y => ?_
  blk_simp; rw [after0_6]; frame_out
  idx_vars y
  obtain ⟨b, hb⟩ : ∃ b : Fin 2, b.val = t.val := ⟨⟨t.val, t.isLt⟩, rfl⟩
  have e : ((View.whole main_v0_3).slice (win0_6.rect t)).emb (ix3 y0 y1 y2) = (ix3 b y1 y2 : S2x256x512.Idx) := by
    blk_ext [idx_val t]
  rw [e, ref_zg_at, k0_pay8, pay2_at]
  refine tile_eq m c b _ _ _ _ y1 y2 _ (fun k => ?_) (fun k => ?_) (fun k => ?_) (fun k => ?_)
  · first | exact blk_0 m c t b hb y1 k | (pointwise; exact blk_0 m c t b hb y1 k)
  · pointwise; exact blk_1 m c t b hb 0 k
  · pointwise; exact blk_1 m c t b hb 1 k
  · pointwise; exact blk_2 m c t _ k

/-- Output 4 holds columns 3072 to 3087 of the product. -/
theorem final_7 : (dats m 0 c).arrAt 7 (cfgs 0).N = ref_ba (Y m c) := by
  refine (dats m 0 c).arrAt_eq_of_covers 7 _ (by decide +kernel) fun t hf y => ?_
  blk_simp; rw [after0_7]; frame_out
  idx_vars y
  obtain ⟨b, hb⟩ : ∃ b : Fin 2, b.val = t.val := ⟨⟨t.val, t.isLt⟩, rfl⟩
  have e : ((View.whole main_v0_4).slice (win0_7.rect t)).emb (ix3 y0 y1 y2) = (ix3 b y1 y2 : S2x256x16.Idx) := by
    blk_ext [idx_val t]
  rw [e, ref_ba_at, k0_pay8, pay3_at]
  refine tile_eq m c b _ _ _ _ y1 y2 _ (fun k => ?_) (fun k => ?_) (fun k => ?_) (fun k => ?_)
  · first | exact blk_0 m c t b hb y1 k | (pointwise; exact blk_0 m c t b hb y1 k)
  · pointwise; exact blk_1 m c t b hb 0 k
  · pointwise; exact blk_1 m c t b hb 1 k
  · pointwise; exact blk_2 m c t _ k

end Cert.InProjFC

end
-- ==== Proof.FwdCtxRun.lean ====
/- The runs of the two programs of the context tokens' projection and their equality.  Hand-written, untrusted. -/
module

public import proofs.«01_k».proof.Defs
public import proofs.«01_k».proof.Proof.FwdCtx

@[expose] public section

set_option maxRecDepth 16384

noncomputable section

namespace Cert.InProjFC

open Idealize.ShloMosaic Idealize.SL.Sem
open Cert.Reference5Ideal Cert.Reference5Ideal.Gen

/-- The projection over the reference's arguments. -/
abbrev rY (m : (ℓ : Loc nD τ sig) → Buf (Elt Ideal) ℓ) (c : Dev nD) :=
  refY (m (c.tc.loc main_arg0)) (m (c.tc.loc main_arg1)) (m (c.tc.loc main_arg2))

/-- The reference's run, its five results named as columns of the projection. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v9) = ref_u (rY m c)
      ∧ r.2.mem (c.tc.loc main_v10) = ref_z (rY m c)
      ∧ r.2.mem (c.tc.loc main_v11) = ref_qkv (rY m c)
      ∧ r.2.mem (c.tc.loc main_v12) = ref_zg (rY m c)
      ∧ r.2.mem (c.tc.loc main_v13) = ref_ba (rY m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => h c) (Cert.Reference5Ideal.Value.run m ρ)

/-- The reference runs from every starting memory, keeps its arguments, and declares no semaphore. -/
theorem ref_frame : Cert.quiescent_Reference5Ideal := by
  intro m ρ _
  exact (θ_run defs _ _).mono (fun r h => ⟨fun c => (h c).2.2.2.2.2, Idealize.ShloMosaic.sem_eq_zero_of_no_sems (by decide) r.2⟩) (ref_run m ρ)

/-- The projection's kernel for the context tokens computes exactly the projection's five pieces. -/
theorem value : Cert.algebraic_Kernel5Ideal_Reference5Ideal := by
  intro m g m' g' _ hagree
  refine ⟨fun c => (Cert.Kernel5Ideal.Gen.dats m 0 c).arrAt 3 (Cert.Kernel5Ideal.cfgs 0).N, fun c => (Cert.Kernel5Ideal.Gen.dats m 0 c).arrAt 4 (Cert.Kernel5Ideal.cfgs 0).N, fun c => (Cert.Kernel5Ideal.Gen.dats m 0 c).arrAt 5 (Cert.Kernel5Ideal.cfgs 0).N, fun c => (Cert.Kernel5Ideal.Gen.dats m 0 c).arrAt 6 (Cert.Kernel5Ideal.cfgs 0).N, fun c => (Cert.Kernel5Ideal.Gen.dats m 0 c).arrAt 7 (Cert.Kernel5Ideal.cfgs 0).N,
    Cert.Kernel5Ideal.Value.run_blocks m g, ?_⟩
  refine (θ_run Cert.Reference5Ideal.defs _ _).mono (fun r h c => ?_) (ref_run m' g')
  obtain ⟨e0, e1, e2, e3, e4, hargs⟩ := h c
  obtain ⟨a0, a1, a2⟩ := hagree c
  refine ⟨e0.trans ?_, e1.trans ?_, e2.trans ?_, e3.trans ?_, e4.trans ?_, hargs⟩
  · refine Eq.trans ?_ (Cert.InProjFC.final_3 m c).symm; simp only [rY, a0, a1, a2]
  · refine Eq.trans ?_ (Cert.InProjFC.final_4 m c).symm; simp only [rY, a0, a1, a2]
  · refine Eq.trans ?_ (Cert.InProjFC.final_5 m c).symm; simp only [rY, a0, a1, a2]
  · refine Eq.trans ?_ (Cert.InProjFC.final_6 m c).symm; simp only [rY, a0, a1, a2]
  · refine Eq.trans ?_ (Cert.InProjFC.final_7 m c).symm; simp only [rY, a0, a1, a2]

end Cert.InProjFC

end
-- ==== Proof.Adam.lean ====
/- One step of AdamW on one number: the change of the weight and the two moments.  Hand-written, untrusted. -/
module

public import Idealize.ShloMosaic.Lib.Pointwise
public import Idealize.ShloMosaic.Lib.Pipeline.ValueKit

@[expose] public section

noncomputable section

namespace Cert.Adam

open Idealize.ShloMosaic

/-- The new first moment from the gradient and the old one. -/
def newM (g m : EReal) : EReal :=
  Ideal.ofBits .f32 0x3F666666#32 * m + Ideal.ofBits .f32 0x3DCCCCCD#32 * g

/-- The new second moment from the gradient and the old one. -/
def newV (g v : EReal) : EReal :=
  Ideal.ofBits .f32 0x3F7FBE77#32 * v + Ideal.ofBits .f32 0x3A83126F#32 * (g * g)

/-- The change of the weight `w`, from the new moments corrected for the step's number, and from the decay. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adam

end
-- ==== Proof.AdamAda.lean ====
/- AdamW on the ada layer's weight.  Hand-written, untrusted. -/
module

public import proofs.«01_k».proof.Proof.Adam
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamAda

open Cert.Kernel6Ideal Cert.Kernel6Ideal.Gen

variable (m : (ℓ : Loc nD τ sig) → Buf (Elt Ideal) ℓ) (c : Dev nD)

/-- The weight, its gradient and the two moments. -/
abbrev A0 : FVec Ideal S1x1024x768 .f32 := m ((c : Thread nD τ).loc main_arg0)
abbrev A1 : FVec Ideal S1x1024x768 .f32 := m ((c : Thread nD τ).loc main_arg1)
abbrev A2 : FVec Ideal S1x1024x768 .f32 := m ((c : Thread nD τ).loc main_arg2)
abbrev A3 : FVec Ideal S1x1024x768 .f32 := m ((c : Thread nD τ).loc main_arg3)

section
variable (v0 v2 v4 v6 : Vec Ideal S1x512x768 .f32) (q : Fin 1) (r : Fin 512) (k : Fin 768)

/-- What the three stores write, element by element. -/
theorem delta_at : k0_pay6 (F := Ideal) v0 v2 v4 v6 (ix3 q r k)
    = Adam.delta (v0 (ix3 0 r k)) (v2 (ix3 0 r k)) (v4 (ix3 0 r k)) (v6 (ix3 0 r k)) := by
  pointwise [k0_pay6, k0_pay5, k0_pay4, k0_pay3, Adam.newM, Adam.newV, Adam.delta]
theorem newM_at : k0_pay1 (F := Ideal) (k0_pay4 v2 v4) (ix3 q r k) = Adam.newM (v2 (ix3 0 r k)) (v4 (ix3 0 r k)) := by
  pointwise [k0_pay1, k0_pay4, k0_pay3, Adam.newM]
theorem newV_at : k0_pay2 (F := Ideal) (k0_pay5 v2 v6) (ix3 q r k) = Adam.newV (v2 (ix3 0 r k)) (v6 (ix3 0 r k)) := by
  pointwise [k0_pay2, k0_pay5, k0_pay3, Adam.newV]
end

/-- Every window is at the same rows at a grid point. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

section
variable (t : Fin cfg0.N) (p : Fin 1024) (r : Fin 512) (k : Fin 768) (hp : p.val = 512 * t.val + r.val)
include hp

/-- The blocks of the four arguments at a grid point are their rows there. -/
theorem blk_0 : (iblk m c 0 t : Vec Ideal S1x512x768 .f32) (ix3 0 r k) = A0 m c (ix3 0 p k) := by
  blk_ext [iblk, V, idx_val t]
theorem blk_1 : (iblk m c 1 t : Vec Ideal S1x512x768 .f32) (ix3 0 r k) = A1 m c (ix3 0 p k) := by
  blk_ext [iblk, V, idx_val t]
theorem blk_2 : (iblk m c 2 t : Vec Ideal S1x512x768 .f32) (ix3 0 r k) = A2 m c (ix3 0 p k) := by
  blk_ext [iblk, V, idx_val t]
theorem blk_3 : (iblk m c 3 t : Vec Ideal S1x512x768 .f32) (ix3 0 r k) = A3 m c (ix3 0 p k) := by
  blk_ext [iblk, V, idx_val t]
end

/-- The row of the array under a row of a grid point's block. -/
theorem row (t : Fin cfg0.N) (r : Fin 512) : ∃ p : Fin 1024, p.val = 512 * t.val + r.val :=
  ⟨⟨512 * t.val + r.val, by have := t.isLt; have h : cfg0.N = 2 := by decide
                            omega⟩, rfl⟩

/-- The first result is the weight's change. -/
theorem final_4 : (dats m 0 c).arrAt 4 (cfgs 0).N
    = (fun i => Adam.delta (A0 m c i) (A1 m c i) (A2 m c i) (A3 m c i) : FVec Ideal S1x1024x768 .f32) := by
  refine (dats m 0 c).arrAt_eq_of_covers 4 _ (by decide +kernel) fun t hf y => ?_
  blk_simp; rw [after0_4]; frame_out
  idx_vars y
  obtain ⟨p, hp⟩ := row t y1
  have e : ((View.whole main_v0_0).slice (win0_4.rect t)).emb (ix3 y0 y1 y2) = (ix3 0 p y2 : S1x1024x768.Idx) := by
    blk_ext [idx_val t]
  rw [e, delta_at, blk_0 m c t p y1 y2 hp, blk_1 m c t p y1 y2 hp, blk_2 m c t p y1 y2 hp, blk_3 m c t p y1 y2 hp]

/-- The second is the new first moment. -/
theorem final_5 : (dats m 0 c).arrAt 5 (cfgs 0).N = (fun i => Adam.newM (A1 m c i) (A2 m c i) : FVec Ideal S1x1024x768 .f32) := by
  refine (dats m 0 c).arrAt_eq_of_covers 5 _ (by decide +kernel) fun t hf y => ?_
  blk_simp; rw [after0_5]; frame_out
  idx_vars y
  obtain ⟨p, hp⟩ := row t y1
  have e : ((View.whole main_v0_1).slice (win0_5.rect t)).emb (ix3 y0 y1 y2) = (ix3 0 p y2 : S1x1024x768.Idx) := by
    blk_ext [idx_val t]
  rw [e, newM_at, blk_1 m c t p y1 y2 hp, blk_2 m c t p y1 y2 hp]

/-- The third is the new second moment. -/
theorem final_6 : (dats m 0 c).arrAt 6 (cfgs 0).N = (fun i => Adam.newV (A1 m c i) (A3 m c i) : FVec Ideal S1x1024x768 .f32) := by
  refine (dats m 0 c).arrAt_eq_of_covers 6 _ (by decide +kernel) fun t hf y => ?_
  blk_simp; rw [after0_6]; frame_out
  idx_vars y
  obtain ⟨p, hp⟩ := row t y1
  have e : ((View.whole main_v0_2).slice (win0_6.rect t)).emb (ix3 y0 y1 y2) = (ix3 0 p y2 : S1x1024x768.Idx) := by
    blk_ext [idx_val t]
  rw [e, newV_at, blk_1 m c t p y1 y2 hp, blk_3 m c t p y1 y2 hp]

end Cert.AdamAda

end
-- ==== Proof.AdamAdaRun.lean ====
/- The runs of the two programs of the ada weight's optimiser step and their equality.  Hand-written, untrusted. -/
module

public import proofs.«01_k».proof.Defs
public import proofs.«01_k».proof.Proof.AdamAda
public import proofs.«01_k».proof.Proof.Gen.Reference6Ideal
public import proofs.«01_k».proof.Proof.Gen.Reference6Ideal.Run

@[expose] public section

set_option maxRecDepth 16384

noncomputable section

namespace Cert.AdamAda

open Idealize.ShloMosaic Idealize.SL.Sem
open Cert.Reference6Ideal Cert.Reference6Ideal.Gen

/-- The reference's run, its three results element by element. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v23) = (fun i => Adam.delta (m (c.tc.loc main_arg0) i) (m (c.tc.loc main_arg1) i)
        (m (c.tc.loc main_arg2) i) (m (c.tc.loc main_arg3) i) : FVec Ideal S1x1024x768 .f32)
      ∧ r.2.mem (c.tc.loc main_v4) = (fun i => Adam.newM (m (c.tc.loc main_arg1) i) (m (c.tc.loc main_arg2) i) : FVec Ideal S1x1024x768 .f32)
      ∧ r.2.mem (c.tc.loc main_v10) = (fun i => Adam.newV (m (c.tc.loc main_arg1) i) (m (c.tc.loc main_arg3) i) : FVec Ideal S1x1024x768 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => h c) (Cert.Reference6Ideal.Value.run m ρ)

/-- The reference runs from every starting memory, keeps its arguments, and declares no semaphore. -/
theorem ref_frame : Cert.quiescent_Reference6Ideal := by
  intro m ρ _
  exact (θ_run defs _ _).mono (fun r h => ⟨fun c => (h c).2.2.2, Idealize.ShloMosaic.sem_eq_zero_of_no_sems (by decide) r.2⟩) (ref_run m ρ)

/-- The kernel's three results are the reference's. -/
theorem value : Cert.algebraic_Kernel6Ideal_Reference6Ideal := by
  intro m g m' g' _ hagree
  refine ⟨fun c => (Cert.Kernel6Ideal.Gen.dats m 0 c).arrAt 4 (Cert.Kernel6Ideal.cfgs 0).N, fun c => (Cert.Kernel6Ideal.Gen.dats m 0 c).arrAt 5 (Cert.Kernel6Ideal.cfgs 0).N, fun c => (Cert.Kernel6Ideal.Gen.dats m 0 c).arrAt 6 (Cert.Kernel6Ideal.cfgs 0).N,
    Cert.Kernel6Ideal.Value.run_blocks m g, ?_⟩
  refine (θ_run Cert.Reference6Ideal.defs _ _).mono (fun r h c => ?_) (ref_run m' g')
  obtain ⟨e0, e1, e2, hargs⟩ := h c
  obtain ⟨a0, a1, a2, a3⟩ := hagree c
  refine ⟨e0.trans ?_, e1.trans ?_, e2.trans ?_, hargs⟩
  · refine Eq.trans ?_ (Cert.AdamAda.final_4 m c).symm; simp only [a0, a1, a2, a3]
  · refine Eq.trans ?_ (Cert.AdamAda.final_5 m c).symm; simp only [a1, a2]
  · refine Eq.trans ?_ (Cert.AdamAda.final_6 m c).symm; simp only [a1, a3]

end Cert.AdamAda

end
-- ==== Proof.AdamIn.lean ====
/- AdamW on the input projection's weight.  Hand-written, untrusted. -/
module

public import proofs.«01_k».proof.Proof.Adam
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamIn

open Cert.Kernel7Ideal Cert.Kernel7Ideal.Gen

variable (m : (ℓ : Loc nD τ sig) → Buf (Elt Ideal) ℓ) (c : Dev nD)

/-- The weight, its gradient and the two moments, laid out by output column as the call takes them. -/
abbrev A0 : FVec Ideal S772x1x1024 .f32 :=
  transpose S772x1x1024 [2, 0, 1] (m ((c : Thread nD τ).loc main_arg0) : FVec Ideal S1x1024x772 .f32) transposes_S1x1024x772_S772x1x1024_2_0_1
abbrev A1 : FVec Ideal S772x1x1024 .f32 :=
  transpose S772x1x1024 [1, 0, 2] (m ((c : Thread nD τ).loc main_arg1) : FVec Ideal S1x772x1024 .f32) transposes_S1x772x1024_S772x1x1024_1_0_2
abbrev A2 : FVec Ideal S772x1x1024 .f32 :=
  transpose S772x1x1024 [2, 0, 1] (m ((c : Thread nD τ).loc main_arg2) : FVec Ideal S1x1024x772 .f32) transposes_S1x1024x772_S772x1x1024_2_0_1
abbrev A3 : FVec Ideal S772x1x1024 .f32 :=
  transpose S772x1x1024 [2, 0, 1] (m ((c : Thread nD τ).loc main_arg3) : FVec Ideal S1x1024x772 .f32) transposes_S1x1024x772_S772x1x1024_2_0_1

/-- The arrays at the call's entry are these. -/
theorem V_v0 : (V m c main_v0 : FVec Ideal S772x1x1024 .f32) = A0 m c := rfl
theorem V_v1 : (V m c main_v1 : FVec Ideal S772x1x1024 .f32) = A1 m c := rfl
theorem V_v2 : (V m c main_v2 : FVec Ideal S772x1x1024 .f32) = A2 m c := rfl
theorem V_v3 : (V m c main_v3 : FVec Ideal S772x1x1024 .f32) = A3 m c := rfl

section
variable (v0 v2 v4 v6 : Vec Ideal S193x1x1024 .f32) (r : Fin 193) (q : Fin 1) (k : Fin 1024)

/-- What the three stores write, element by element. -/
theorem delta_at : k0_pay4 (F := Ideal) v0 v2 v4 v6 (ix3 r q k)
    = Adam.delta (v0 (ix3 r 0 k)) (v2 (ix3 r 0 k)) (v4 (ix3 r 0 k)) (v6 (ix3 r 0 k)) := by
  obtain rfl : q = 0 := Subsingleton.elim _ _
  pointwise [k0_pay4, k0_pay3, k0_pay2, k0_pay1, Adam.newM, Adam.newV, Adam.delta]
theorem newM_at : k0_pay2 (F := Ideal) v2 v4 (ix3 r q k) = Adam.newM (v2 (ix3 r 0 k)) (v4 (ix3 r 0 k)) := by
  obtain rfl : q = 0 := Subsingleton.elim _ _
  pointwise [k0_pay2, k0_pay1, Adam.newM]
theorem newV_at : k0_pay3 (F := Ideal) v2 v6 (ix3 r q k) = Adam.newV (v2 (ix3 r 0 k)) (v6 (ix3 r 0 k)) := by
  obtain rfl : q = 0 := Subsingleton.elim _ _
  pointwise [k0_pay3, k0_pay1, Adam.newV]
end

/-- Every window is at the same rows at a grid point. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

section
variable (t : Fin cfg0.N) (p : Fin 772) (r : Fin 193) (k : Fin 1024) (hp : p.val = 193 * t.val + r.val)
include hp

/-- The blocks of the four arguments at a grid point are their rows there. -/
theorem blk_0 : (iblk m c 0 t : Vec Ideal S193x1x1024 .f32) (ix3 r 0 k) = A0 m c (ix3 p 0 k) := by
  rw [← V_v0]; blk_ext [iblk, idx_val t]
theorem blk_1 : (iblk m c 1 t : Vec Ideal S193x1x1024 .f32) (ix3 r 0 k) = A1 m c (ix3 p 0 k) := by
  rw [← V_v1]; blk_ext [iblk, idx_val t]
theorem blk_2 : (iblk m c 2 t : Vec Ideal S193x1x1024 .f32) (ix3 r 0 k) = A2 m c (ix3 p 0 k) := by
  rw [← V_v2]; blk_ext [iblk, idx_val t]
theorem blk_3 : (iblk m c 3 t : Vec Ideal S193x1x1024 .f32) (ix3 r 0 k) = A3 m c (ix3 p 0 k) := by
  rw [← V_v3]; blk_ext [iblk, idx_val t]
end

/-- The row of the array under a row of a grid point's block. -/
theorem row (t : Fin cfg0.N) (r : Fin 193) : ∃ p : Fin 772, p.val = 193 * t.val + r.val :=
  ⟨⟨193 * t.val + r.val, by have := t.isLt; have h : cfg0.N = 4 := by decide
                            omega⟩, rfl⟩

/-- The first result is the weight's change. -/
theorem final_4 : (dats m 0 c).arrAt 4 (cfgs 0).N
    = (fun i => Adam.delta (A0 m c i) (A1 m c i) (A2 m c i) (A3 m c i) : FVec Ideal S772x1x1024 .f32) := by
  refine (dats m 0 c).arrAt_eq_of_covers 4 _ (by decide +kernel) fun t hf y => ?_
  blk_simp; rw [after0_4]; frame_out
  idx_vars y
  obtain ⟨p, hp⟩ := row t y0
  have e : ((View.whole main_v4_0).slice (win0_4.rect t)).emb (ix3 y0 y1 y2) = (ix3 p 0 y2 : S772x1x1024.Idx) := by
    blk_ext [idx_val t]
  rw [e, delta_at, blk_0 m c t p y0 y2 hp, blk_1 m c t p y0 y2 hp, blk_2 m c t p y0 y2 hp, blk_3 m c t p y0 y2 hp]

/-- The second is the new first moment. -/
theorem final_5 : (dats m 0 c).arrAt 5 (cfgs 0).N = (fun i => Adam.newM (A1 m c i) (A2 m c i) : FVec Ideal S772x1x1024 .f32) := by
  refine (dats m 0 c).arrAt_eq_of_covers 5 _ (by decide +kernel) fun t hf y => ?_
  blk_simp; rw [after0_5]; frame_out
  idx_vars y
  obtain ⟨p, hp⟩ := row t y0
  have e : ((View.whole main_v4_1).slice (win0_5.rect t)).emb (ix3 y0 y1 y2) = (ix3 p 0 y2 : S772x1x1024.Idx) := by
    blk_ext [idx_val t]
  rw [e, newM_at, blk_1 m c t p y0 y2 hp, blk_2 m c t p y0 y2 hp]

/-- The third is the new second moment. -/
theorem final_6 : (dats m 0 c).arrAt 6 (cfgs 0).N = (fun i => Adam.newV (A1 m c i) (A3 m c i) : FVec Ideal S772x1x1024 .f32) := by
  refine (dats m 0 c).arrAt_eq_of_covers 6 _ (by decide +kernel) fun t hf y => ?_
  blk_simp; rw [after0_6]; frame_out
  idx_vars y
  obtain ⟨p, hp⟩ := row t y0
  have e : ((View.whole main_v4_2).slice (win0_6.rect t)).emb (ix3 y0 y1 y2) = (ix3 p 0 y2 : S772x1x1024.Idx) := by
    blk_ext [idx_val t]
  rw [e, newV_at, blk_1 m c t p y0 y2 hp, blk_3 m c t p y0 y2 hp]

end Cert.AdamIn

end
-- ==== Proof.AdamInRun.lean ====
/- The runs of the two programs of the input projection's optimiser step and their equality.  Hand-written, untrusted. -/
module

public import proofs.«01_k».proof.Defs
public import proofs.«01_k».proof.Proof.AdamIn
public import proofs.«01_k».proof.Proof.Gen.Reference7Ideal
public import proofs.«01_k».proof.Proof.Gen.Reference7Ideal.Run

@[expose] public section

set_option maxRecDepth 16384

noncomputable section

namespace Cert.AdamIn

open Idealize.ShloMosaic Idealize.SL.Sem
open Cert.Reference7Ideal Cert.Reference7Ideal.Gen

variable (m : (ℓ : Loc nD τ sig) → Buf (Elt Ideal) ℓ) (c : Dev nD)

/-- The reference's weight, gradient and moments, laid out by output column. -/
abbrev rA0 : FVec Ideal S772x1x1024 .f32 :=
  transpose S772x1x1024 [2, 0, 1] (m (c.tc.loc main_arg0) : FVec Ideal S1x1024x772 .f32) transposes_S1x1024x772_S772x1x1024_2_0_1
abbrev rA1 : FVec Ideal S772x1x1024 .f32 :=
  transpose S772x1x1024 [2, 0, 1] (transpose S1x1024x772 [0, 2, 1] (m (c.tc.loc main_arg1) : FVec Ideal S1x772x1024 .f32)
    transposes_S1x772x1024_S1x1024x772_0_2_1) transposes_S1x1024x772_S772x1x1024_2_0_1
abbrev rA2 : FVec Ideal S772x1x1024 .f32 :=
  transpose S772x1x1024 [2, 0, 1] (m (c.tc.loc main_arg2) : FVec Ideal S1x1024x772 .f32) transposes_S1x1024x772_S772x1x1024_2_0_1
abbrev rA3 : FVec Ideal S772x1x1024 .f32 :=
  transpose S772x1x1024 [2, 0, 1] (m (c.tc.loc main_arg3) : FVec Ideal S1x1024x772 .f32) transposes_S1x1024x772_S772x1x1024_2_0_1

/-- The gradient's two transposes are the kernel's one. -/
theorem grad_eq (g : FVec Ideal S1x772x1024 .f32) (h : S1x772x1024.Transposes [1, 0, 2] S772x1x1024) :
    transpose S772x1x1024 [2, 0, 1] (transpose S1x1024x772 [0, 2, 1] g transposes_S1x772x1024_S1x1024x772_0_2_1)
      transposes_S1x1024x772_S772x1x1024_2_0_1
    = (transpose S772x1x1024 [1, 0, 2] g h : FVec Ideal S772x1x1024 .f32) := by
  funext i
  idx_vars i
  pointwise

/-- The reference's run, its three results element by element. -/
theorem ref_run (ρ : Dev nD → PrngReg) :
    θ_run defs (onTc (τ := τ) (main (F := Ideal))) ⟨m, fun _ => 0, ρ⟩ fun r => ∀ c : Dev nD,
      r.2.mem (c.tc.loc main_v25) = (fun i => Adam.delta (rA0 m c i) (rA1 m c i) (rA2 m c i) (rA3 m c i) : FVec Ideal S772x1x1024 .f32)
      ∧ r.2.mem (c.tc.loc main_v26) = (fun i => Adam.newM (rA1 m c i) (rA2 m c i) : FVec Ideal S772x1x1024 .f32)
      ∧ r.2.mem (c.tc.loc main_v27) = (fun i => Adam.newV (rA1 m c i) (rA3 m c i) : FVec Ideal S772x1x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => h c) (Cert.Reference7Ideal.Value.run m ρ)

/-- The reference runs from every starting memory, keeps its arguments, and declares no semaphore. -/
theorem ref_frame : Cert.quiescent_Reference7Ideal := by
  intro m ρ _
  exact (θ_run defs _ _).mono (fun r h => ⟨fun c => (h c).2.2.2, Idealize.ShloMosaic.sem_eq_zero_of_no_sems (by decide) r.2⟩) (ref_run m ρ)

/-- The kernel's three results are the reference's. -/
theorem value : Cert.algebraic_Kernel7Ideal_Reference7Ideal := by
  intro m g m' g' _ hagree
  refine ⟨fun c => (Cert.Kernel7Ideal.Gen.dats m 0 c).arrAt 4 (Cert.Kernel7Ideal.cfgs 0).N, fun c => (Cert.Kernel7Ideal.Gen.dats m 0 c).arrAt 5 (Cert.Kernel7Ideal.cfgs 0).N, fun c => (Cert.Kernel7Ideal.Gen.dats m 0 c).arrAt 6 (Cert.Kernel7Ideal.cfgs 0).N,
    Cert.Kernel7Ideal.Value.run_blocks m g, ?_⟩
  refine (θ_run Cert.Reference7Ideal.defs _ _).mono (fun r h c => ?_) (ref_run m' g')
  obtain ⟨e0, e1, e2, hargs⟩ := h c
  obtain ⟨a0, a1, a2, a3⟩ := hagree c
  have g0 : rA0 m' c = Cert.AdamIn.A0 m c := by simp only [rA0, a0]
  have g1 : rA1 m' c = Cert.AdamIn.A1 m c := by simp only [rA1, a1]; exact grad_eq _ _
  have g2 : rA2 m' c = Cert.AdamIn.A2 m c := by simp only [rA2, a2]
  have g3 : rA3 m' c = Cert.AdamIn.A3 m c := by simp only [rA3, a3]
  rw [g0, g1, g2, g3] at e0
  rw [g1, g2] at e1
  rw [g1, g3] at e2
  exact ⟨e0.trans (Cert.AdamIn.final_4 m c).symm, e1.trans (Cert.AdamIn.final_5 m c).symm, e2.trans (Cert.AdamIn.final_6 m c).symm, hargs⟩

end Cert.AdamIn

end
-- ==== Proof.AdamConv.lean ====
/- AdamW on the convolution's weight.  Hand-written, untrusted. -/
module

public import proofs.«01_k».proof.Proof.Adam
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamConv

open Cert.Kernel9Ideal Cert.Kernel9Ideal.Gen

variable (m : (ℓ : Loc nD τ sig) → Buf (Elt Ideal) ℓ) (c : Dev nD)

/-- The weight, its gradient and the two moments. -/
abbrev A0 : FVec Ideal S1x16x384 .f32 := m ((c : Thread nD τ).loc main_arg0)
abbrev A1 : FVec Ideal S1x16x384 .f32 := m ((c : Thread nD τ).loc main_arg1)
abbrev A2 : FVec Ideal S1x16x384 .f32 := m ((c : Thread nD τ).loc main_arg2)
abbrev A3 : FVec Ideal S1x16x384 .f32 := m ((c : Thread nD τ).loc main_arg3)

section
variable (v0 v2 v4 v6 : Vec Ideal S1x16x384 .f32) (q : Fin 1) (r : Fin 16) (k : Fin 384)

/-- What the three stores write, element by element. -/
theorem delta_at : k0_pay6 (F := Ideal) v0 v2 v4 v6 (ix3 q r k)
    = Adam.delta (v0 (ix3 0 r k)) (v2 (ix3 0 r k)) (v4 (ix3 0 r k)) (v6 (ix3 0 r k)) := by
  pointwise [k0_pay6, k0_pay5, k0_pay4, k0_pay3, Adam.newM, Adam.newV, Adam.delta]
theorem newM_at : k0_pay1 (F := Ideal) (k0_pay4 v2 v4) (ix3 q r k) = Adam.newM (v2 (ix3 0 r k)) (v4 (ix3 0 r k)) := by
  pointwise [k0_pay1, k0_pay4, k0_pay3, Adam.newM]
theorem newV_at : k0_pay2 (F := Ideal) (k0_pay5 v2 v6) (ix3 q r k) = Adam.newV (v2 (ix3 0 r k)) (v6 (ix3 0 r k)) := by
  pointwise [k0_pay2, k0_pay5, k0_pay3, Adam.newV]
end

/-- Every window is at the same rows at a grid point. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

section
variable (t : Fin cfg0.N) (p : Fin 16) (r : Fin 16) (k : Fin 384) (hp : p.val = 16 * t.val + r.val)
include hp

/-- The blocks of the four arguments at a grid point are their rows there. -/
theorem blk_0 : (iblk m c 0 t : Vec Ideal S1x16x384 .f32) (ix3 0 r k) = A0 m c (ix3 0 p k) := by
  blk_ext [iblk, V, idx_val t]
theorem blk_1 : (iblk m c 1 t : Vec Ideal S1x16x384 .f32) (ix3 0 r k) = A1 m c (ix3 0 p k) := by
  blk_ext [iblk, V, idx_val t]
theorem blk_2 : (iblk m c 2 t : Vec Ideal S1x16x384 .f32) (ix3 0 r k) = A2 m c (ix3 0 p k) := by
  blk_ext [iblk, V, idx_val t]
theorem blk_3 : (iblk m c 3 t : Vec Ideal S1x16x384 .f32) (ix3 0 r k) = A3 m c (ix3 0 p k) := by
  blk_ext [iblk, V, idx_val t]
end

/-- The row of the array under a row of a grid point's block. -/
theorem row (t : Fin cfg0.N) (r : Fin 16) : ∃ p : Fin 16, p.val = 16 * t.val + r.val :=
  ⟨⟨16 * t.val + r.val, by have := t.isLt; have h : cfg0.N = 1 := (by decide); omega⟩, rfl⟩

/-- The first result is the weight's change. -/
theorem final_4 : (dats m 0 c).arrAt 4 (cfgs 0).N
    = (fun i => Adam.delta (A0 m c i) (A1 m c i) (A2 m c i) (A3 m c i) : FVec Ideal S1x16x384 .f32) := by
  refine (dats m 0 c).arrAt_eq_of_covers 4 _ (by decide +kernel) fun t hf y => ?_
  blk_simp; rw [after0_4]; frame_out
  idx_vars y
  obtain ⟨p, hp⟩ := row t y1
  have e : ((View.whole main_v0_0).slice (win0_4.rect t)).emb (ix3 y0 y1 y2) = (ix3 0 p y2 : S1x16x384.Idx) := by
    blk_ext [idx_val t]
  rw [e, delta_at, blk_0 m c t p y1 y2 hp, blk_1 m c t p y1 y2 hp, blk_2 m c t p y1 y2 hp, blk_3 m c t p y1 y2 hp]

/-- The second is the new first moment. -/
theorem final_5 : (dats m 0 c).arrAt 5 (cfgs 0).N = (fun i => Adam.newM (A1 m c i) (A2 m c i) : FVec Ideal S1x16x384 .f32) := by
  refine (dats m 0 c).arrAt_eq_of_covers 5 _ (by decide +kernel) fun t hf y => ?_
  blk_simp; rw [after0_5]; frame_out
  idx_vars y
  obtain ⟨p, hp⟩ := row t y1
  have e : ((View.whole main_v0_1).slice (win0_5.rect t)).emb (ix3 y0 y1 y2) = (ix3 0 p y2 : S1x16x384.Idx) := by
    blk_ext [idx_val t]
  rw [e, newM_at, blk_1 m c t p y1 y2 hp, blk_2 m c t p y1 y2 hp]

/-- The third is the new second moment. -/
theorem final_6 : (dats m 0 c).arrAt 6 (cfgs 0).N = (fun i => Adam.newV (A1 m c i) (A3 m c i) : FVec Ideal S1x16x384 .f32) := by
  refine (dats m 0 c).arrAt_eq_of_covers 6 _ (by decide +kernel) fun t hf y => ?_
  blk_simp; rw [after0_6]; frame_out
  idx_vars y
  obtain ⟨p, hp⟩ := row t y1
  have e : ((View.whole main_v0_2).slice (win0_6.rect t)).emb (ix3 y0 y1 y2) = (ix3 0 p y2 : S1x16x384.Idx) := by
    blk_ext [idx_val t]
  rw [e, newV_at, blk_1 m c t p y1 y2 hp, blk_3 m c t p y1 y2 hp]

end Cert.AdamConv

end
-- ==== Proof.AdamConvRun.lean ====
/- The runs of the two programs of the convolution's optimiser step and their equality.  Hand-written, untrusted. -/
module

public import proofs.«01_k».proof.Defs
public import proofs.«01_k».proof.Proof.AdamConv
public import proofs.«01_k».proof.Proof.Gen.Reference9Ideal
public import proofs.«01_k».proof.Proof.Gen.Reference9Ideal.Run

@[expose] public section

set_option maxRecDepth 16384

noncomputable section

namespace Cert.AdamConv

open Idealize.ShloMosaic Idealize.SL.Sem
open Cert.Reference9Ideal Cert.Reference9Ideal.Gen

/-- The reference's run, its three results element by element. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v23) = (fun i => Adam.delta (m (c.tc.loc main_arg0) i) (m (c.tc.loc main_arg1) i)
        (m (c.tc.loc main_arg2) i) (m (c.tc.loc main_arg3) i) : FVec Ideal S1x16x384 .f32)
      ∧ r.2.mem (c.tc.loc main_v4) = (fun i => Adam.newM (m (c.tc.loc main_arg1) i) (m (c.tc.loc main_arg2) i) : FVec Ideal S1x16x384 .f32)
      ∧ r.2.mem (c.tc.loc main_v10) = (fun i => Adam.newV (m (c.tc.loc main_arg1) i) (m (c.tc.loc main_arg3) i) : FVec Ideal S1x16x384 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => h c) (Cert.Reference9Ideal.Value.run m ρ)

/-- The reference runs from every starting memory, keeps its arguments, and declares no semaphore. -/
theorem ref_frame : Cert.quiescent_Reference9Ideal := by
  intro m ρ _
  exact (θ_run defs _ _).mono (fun r h => ⟨fun c => (h c).2.2.2, Idealize.ShloMosaic.sem_eq_zero_of_no_sems (by decide) r.2⟩) (ref_run m ρ)

/-- The kernel's three results are the reference's. -/
theorem value : Cert.algebraic_Kernel9Ideal_Reference9Ideal := by
  intro m g m' g' _ hagree
  refine ⟨fun c => (Cert.Kernel9Ideal.Gen.dats m 0 c).arrAt 4 (Cert.Kernel9Ideal.cfgs 0).N, fun c => (Cert.Kernel9Ideal.Gen.dats m 0 c).arrAt 5 (Cert.Kernel9Ideal.cfgs 0).N, fun c => (Cert.Kernel9Ideal.Gen.dats m 0 c).arrAt 6 (Cert.Kernel9Ideal.cfgs 0).N,
    Cert.Kernel9Ideal.Value.run_blocks m g, ?_⟩
  refine (θ_run Cert.Reference9Ideal.defs _ _).mono (fun r h c => ?_) (ref_run m' g')
  obtain ⟨e0, e1, e2, hargs⟩ := h c
  obtain ⟨a0, a1, a2, a3⟩ := hagree c
  refine ⟨e0.trans ?_, e1.trans ?_, e2.trans ?_, hargs⟩
  · refine Eq.trans ?_ (Cert.AdamConv.final_4 m c).symm; simp only [a0, a1, a2, a3]
  · refine Eq.trans ?_ (Cert.AdamConv.final_5 m c).symm; simp only [a1, a2]
  · refine Eq.trans ?_ (Cert.AdamConv.final_6 m c).symm; simp only [a1, a3]

end Cert.AdamConv

end
-- ==== Proof.AdaBwdPay.lean ====
/- The ada layer's backward pass: what one device's rows add to each sum.  Hand-written, untrusted. -/
module

public import proofs.«01_k».proof.Proof.Gen.Kernel8Ideal
public import proofs.«01_k».proof.Proof.Gen.Kernel8Ideal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.AdaBwd

open Cert.Kernel8Ideal Cert.Kernel8Ideal.Gen

/-- The activation in front of the ada layer. -/
def act (x : EReal) : EReal := x * Ideal.logistic x

section
variable (x x' x'' : Vec Ideal S1x8x1024 .f32) (y y' y'' : Vec Ideal S1x8x768 .f32) (w w' : Vec Ideal S1024x768 .bf16)

/-- What eight rows of inputs and of the outputs' gradients add to the weight's gradient. -/
def dwT (a : Fin 1024) (j : Fin 768) : EReal := ∑ r : Fin 8, act (x (ix3 0 r a)) * y (ix3 0 r j)
/-- One row's gradient of the layer's input. -/
def ctxT (r : Fin 8) (a : Fin 1024) : EReal := ∑ p : Fin 768, y (ix3 0 r p) * w (ix2 a p)
/-- What eight rows add to the bias's gradient. -/
def dbT (j : Fin 768) : EReal := ∑ r : Fin 8, y (ix3 0 r j)

/-! The weight's gradient. -/

section
variable (s : FVec Ideal S1024x768 .f32) (a : Fin 1024) (j : Fin 768)

/-- The first device's rows. -/
theorem dw_0 : k0_pay5 x y (ix2 a j) = dwT x y a j := by
  pointwise [k0_pay5, dwT, act]
/-- The second and the third device's. -/
theorem dw_12 : k0_pay11 s (k0_pay8 x) (k0_pay9 y) (constant S1024x768 .f32 0x00000000#32) x' y' (ix2 a j)
    = s (ix2 a j) + dwT x y a j + dwT x' y' a j := by
  pointwise [k0_pay11, k0_pay8, k0_pay9, dwT, act]
/-- The fourth and the fifth device's. -/
theorem dw_34 : k0_pay16 s x y x' y' (ix2 a j) = s (ix2 a j) + dwT x y a j + dwT x' y' a j := by
  pointwise [k0_pay16, dwT, act]
/-- The sixth device's. -/
theorem dw_5 : k0_pay17 s x y (ix2 a j) = s (ix2 a j) + dwT x y a j := by
  pointwise [k0_pay17, dwT, act]
/-- The seventh and the eighth device's. -/
theorem dw_67 : k0_pay22 s x y x' y' (ix2 a j) = s (ix2 a j) + dwT x y a j + dwT x' y' a j := by
  pointwise [k0_pay22, dwT, act]
/-- The store keeps the entries. -/
theorem dw_out (q : Fin 1) : k0_pay2 s (ix3 q a j) = s (ix2 a j) := by
  pointwise [k0_pay2]
end

/-! The gradient of the layer's input. -/

section
variable (s : FVec Ideal S8x1024 .f32) (r : Fin 8) (a : Fin 1024)

/-- The first device's rows. -/
theorem ctx_0 : k0_pay6 y w (ix2 r a) = ctxT y w r a := by
  pointwise [k0_pay6, ctxT]
/-- The second and the third device's. -/
theorem ctx_12 : k0_pay12 s y w y' w' (ix2 r a) = s (ix2 r a) + ctxT y w r a + ctxT y' w' r a := by
  pointwise [k0_pay12, ctxT]
/-- The fourth device's. -/
theorem ctx_3 : k0_pay14 s y w (ix2 r a) = s (ix2 r a) + ctxT y w r a := by
  pointwise [k0_pay14, ctxT]
/-- The fifth and the sixth device's. -/
theorem ctx_45 : k0_pay18 s y w y' w' (ix2 r a) = s (ix2 r a) + ctxT y w r a + ctxT y' w' r a := by
  pointwise [k0_pay18, ctxT]
/-- The seventh device's. -/
theorem ctx_6 : k0_pay20 s y w (ix2 r a) = s (ix2 r a) + ctxT y w r a := by
  pointwise [k0_pay20, ctxT]
/-- The eighth device's, and of all the third row. -/
theorem ctx_7 (q : Fin 1) : k0_pay4 s y w (ix2 q a) = s (ix2 2 a) + ctxT y w 2 a := by
  pointwise [k0_pay4, ctxT]
end

/-! The bias's gradient. -/

section
variable (s : FVec Ideal S1x768 .f32) (q : Fin 1) (j : Fin 768)

/-- The first device's rows. -/
theorem db_0 : k0_pay7 y (ix2 q j) = dbT y j := by
  pointwise [k0_pay7, dbT]
/-- The second device's. -/
theorem db_1 : k0_pay10 s y (ix2 q j) = s (ix2 q j) + dbT y j := by
  pointwise [k0_pay10, dbT]
/-- The third and the fourth device's. -/
theorem db_23 : k0_pay15 s (k0_pay13 y) y' (ix2 q j) = s (ix2 q j) + dbT y j + dbT y' j := by
  pointwise [k0_pay15, k0_pay13, dbT]
/-- The fifth and the sixth device's. -/
theorem db_45 : k0_pay19 s y y' (ix2 q j) = s (ix2 q j) + dbT y j + dbT y' j := by
  pointwise [k0_pay19, dbT]
/-- The seventh device's. -/
theorem db_6 : k0_pay21 s y (ix2 q j) = s (ix2 q j) + dbT y j := by
  pointwise [k0_pay21, dbT]
/-- The eighth device's. -/
theorem db_7 : k0_pay1 s y (ix2 q j) = s (ix2 q j) + dbT y j := by
  pointwise [k0_pay1, dbT]
end
end

end Cert.AdaBwd

end
-- ==== Proof.TailSpec.lean ====
/- The tail of the step at one token: every quantity from the scans' outputs to the gradients, as plain formulas over
   one token's rows.  Hand-written, untrusted. -/
module

public import Idealize.ShloMosaic.Lib.Pointwise
public import Idealize.ShloMosaic.Lib.Pipeline.ValueKit

@[expose] public section

noncomputable section

open Idealize.ShloMosaic Idealize.ShloMosaic.TcCoe Idealize.SL.Sem
open scoped BigOperators

namespace Cert.Tail

/-- What the tail reads for one token: the token's rows, and the parameters. -/
@[ext] structure In where
  (u y0 y1 z : Fin 512 → EReal)
  (o0 o1 zg : Fin 4 → Fin 128 → EReal)
  (x tgt gate lng lnb : Fin 1024 → EReal)
  (ws wg : Fin 512 → Fin 1024 → EReal)
  (dsk : Fin 512 → EReal)
  (wglu : Fin 512 → Fin 512 → EReal)
  (bglu : Fin 512 → EReal)
  (nw : Fin 128 → EReal)

namespace In

/-- The single-precision number with the given bits. -/
abbrev c (n : BitVec 32) : EReal := Ideal.ofBits .f32 n

variable (i : In)

/-! ### The gated half -/
/-- The unit's input. -/
def pre (k : Fin 512) : EReal := i.dsk k * i.u k + i.y0 k + i.y1 k
/-- Half of it. -/
def hp (k : Fin 512) : EReal := c 0x3F000000#32 * i.pre k
/-- It over the square root of two. -/
def sc (k : Fin 512) : EReal := i.pre k * c 0x3F3504F3#32
/-- The error function's derivative, without its constant. -/
def ex (k : Fin 512) : EReal := Ideal.exp (-(i.sc k * i.sc k))
/-- One plus the error function. -/
def ep (k : Fin 512) : EReal := 1 + Ideal.erf (i.sc k)
/-- The Gaussian error linear unit. -/
def g (k : Fin 512) : EReal := i.hp k * i.ep k
/-- The linear unit's gate. -/
def gl (k : Fin 512) : EReal := Ideal.logistic ((∑ q : Fin 512, i.g q * i.wglu q k) + i.bglu k)
/-- The gated unit. -/
def gg (k : Fin 512) : EReal := i.g k * i.gl k
/-- The output gate's logistic. -/
def zl (k : Fin 512) : EReal := Ideal.logistic (i.z k)
/-- The output gate. -/
def zs (k : Fin 512) : EReal := i.z k * i.zl k
/-- The first half's output. -/
def s5 (k : Fin 512) : EReal := i.gg k * i.zs k

/-! ### The normed half, by heads -/
/-- The two scans' sum. -/
def o (h : Fin 4) (d : Fin 128) : EReal := i.o0 h d + i.o1 h d
/-- The mean square of a head. -/
def vr (h : Fin 4) : EReal := Ideal.div (∑ d : Fin 128, i.o h d * i.o h d) (c 0x43000000#32) + c 0x358637BD#32
/-- Its reciprocal root. -/
def rs (h : Fin 4) : EReal := Ideal.rsqrt (i.vr h)
/-- The derivative of the reciprocal root. -/
def rh (h : Fin 4) : EReal := c 0xBF000000#32 * Ideal.div (i.rs h) (i.vr h)
/-- The normed head. -/
def on (h : Fin 4) (d : Fin 128) : EReal := i.o h d * i.rs h
/-- The normed head times its weight. -/
def ow (h : Fin 4) (d : Fin 128) : EReal := i.on h d * i.nw d
/-- The head gate's logistic. -/
def zgl (h : Fin 4) (d : Fin 128) : EReal := Ideal.logistic (i.zg h d)
/-- The head gate. -/
def zgs (h : Fin 4) (d : Fin 128) : EReal := i.zg h d * i.zgl h d
/-- The second half's output. -/
def gn (h : Fin 4) (d : Fin 128) : EReal := i.ow h d * i.zgs h d
/-- The second half's output, by columns. -/
def gnk (k : Fin 512) : EReal := i.gn ⟨k.val / 128, by omega⟩ ⟨k.val % 128, by omega⟩

/-! ### Projection, residual and layer norm -/
/-- The projection. -/
def y (j : Fin 1024) : EReal := (∑ k : Fin 512, i.s5 k * i.ws k j) + ∑ k : Fin 512, i.gnk k * i.wg k j
/-- The residual sum. -/
def r (j : Fin 1024) : EReal := c 0x3F9837F0#32 * i.x j + i.gate j * i.y j
/-- The centred residual sum. -/
def rc (j : Fin 1024) : EReal := i.r j - Ideal.div (∑ q : Fin 1024, i.r q) (c 0x44800000#32)
/-- Its mean square. -/
def lv : EReal := Ideal.div (∑ q : Fin 1024, i.rc q * i.rc q) (c 0x44800000#32) + c 0x3727C5AC#32
/-- The reciprocal root. -/
def ls : EReal := Ideal.rsqrt i.lv
/-- The derivative of the reciprocal root. -/
def lh : EReal := c 0xBF000000#32 * Ideal.div i.ls i.lv
/-- The normed row. -/
def ln (j : Fin 1024) : EReal := i.rc j * i.ls
/-- The difference from the target. -/
def err (j : Fin 1024) : EReal := i.ln j * i.lng j + i.lnb j - i.tgt j
/-- The row's squared differences, added up. -/
def sq : EReal := ∑ q : Fin 1024, i.err q * i.err q

/-! ### Back through the layer norm -/
/-- The gradient of the layer norm's output. -/
def dl (j : Fin 1024) : EReal := i.err j * c 0x3A000000#32 + c 0x3A000000#32 * i.err j
/-- The gradient of the normed row. -/
def dn (j : Fin 1024) : EReal := i.dl j * i.lng j
/-- The factor of the mean square's gradient. -/
def lb : EReal := Ideal.div ((∑ q : Fin 1024, i.rc q * i.dn q) * i.lh) (c 0x44800000#32)
/-- The gradient of the centred row. -/
def dc (j : Fin 1024) : EReal := i.dn j * i.ls + i.rc j * i.lb + i.lb * i.rc j
/-- The gradient of the residual sum. -/
def dr (j : Fin 1024) : EReal := i.dc j + Ideal.div (∑ q : Fin 1024, -(i.dc q)) (c 0x44800000#32)
/-- The gradient of the projection. -/
def dy (j : Fin 1024) : EReal := i.gate j * i.dr j
/-- The gradient of the residual input. -/
def gx (j : Fin 1024) : EReal := c 0x3F9837F0#32 * i.dr j

/-! ### Back through the gated half -/
/-- The gradient of the first half's output. -/
def ds (k : Fin 512) : EReal := ∑ j : Fin 1024, i.dy j * i.ws k j
/-- The gradient of the gated unit. -/
def dgg (k : Fin 512) : EReal := i.ds k * i.zs k
/-- The gradient of the output gate's input. -/
def dz (k : Fin 512) : EReal := (i.gg k * i.ds k) * i.zl k + (i.z k * (i.gg k * i.ds k)) * (i.zl k * (1 - i.zl k))
/-- The gradient of the gate's input. -/
def dp (k : Fin 512) : EReal := (i.g k * i.dgg k) * (i.gl k * (1 - i.gl k))
/-- The gradient of the unit. -/
def dg (k : Fin 512) : EReal := i.dgg k * i.gl k + ∑ q : Fin 512, i.dp q * i.wglu k q
/-- The gradient of the unit's input. -/
def dys (k : Fin 512) : EReal :=
  ((c 0x3F906EBB#32 * (i.hp k * i.dg k)) * i.ex k) * c 0x3F3504F3#32 + c 0x3F000000#32 * (i.dg k * i.ep k)
/-- The gradient of the skip's input. -/
def du (k : Fin 512) : EReal := i.dsk k * i.dys k

/-! ### Back through the normed half -/
/-- The gradient of the second half's output. -/
def dG (h : Fin 4) (d : Fin 128) : EReal := ∑ j : Fin 1024, i.dy j * i.wg ⟨h.val * 128 + d.val, by omega⟩ j
/-- The gradient of the weighted head. -/
def dow (h : Fin 4) (d : Fin 128) : EReal := i.dG h d * i.zgs h d
/-- The gradient of the head gate's input. -/
def dzg (h : Fin 4) (d : Fin 128) : EReal :=
  (i.ow h d * i.dG h d) * i.zgl h d + (i.zg h d * (i.ow h d * i.dG h d)) * (i.zgl h d * (1 - i.zgl h d))
/-- The gradient of the normed head. -/
def don (h : Fin 4) (d : Fin 128) : EReal := i.dow h d * i.nw d
/-- The factor of the mean square's gradient. -/
def ob (h : Fin 4) : EReal := Ideal.div ((∑ d : Fin 128, i.o h d * i.don h d) * i.rh h) (c 0x43000000#32)
/-- The gradient of the scans' sum. -/
def dO (h : Fin 4) (d : Fin 128) : EReal := i.don h d * i.rs h + i.o h d * i.ob h + i.ob h * i.o h d

end In

end Cert.Tail

end
-- ==== Proof.TailRef.lean ====
/- The tail's reference: its stages, each read at an entry as a formula over one token.  Hand-written, untrusted. -/
module

public import proofs.«01_k».proof.Proof.TailSpec
public import proofs.«01_k».proof.Proof.Gen.Reference4Ideal
public import proofs.«01_k».proof.Proof.Gen.Reference4Ideal.Run

@[expose] public section

set_option maxRecDepth 16384

noncomputable section

open Idealize.ShloMosaic Idealize.ShloMosaic.TcCoe Idealize.SL.Sem
open scoped BigOperators

namespace Cert.Tail

open Cert.Reference4Ideal Cert.Reference4Ideal.Gen Cert.Reference4Ideal.Value

/-- One token of the reference's arguments. -/
def rtok (V : Valuation τ sig (Elt Ideal)) (b : Fin 2) (l : Fin 2048) : In where
  u k := (V (Proc.devRef .tc main_arg0) : FVec Ideal S2x2048x512 .f32) (ix3 b l k)
  y0 k := (V (Proc.devRef .tc main_arg1) : FVec Ideal S2x2048x512 .f32) (ix3 b l k)
  y1 k := (V (Proc.devRef .tc main_arg2) : FVec Ideal S2x2048x512 .f32) (ix3 b l k)
  z k := (V (Proc.devRef .tc main_arg3) : FVec Ideal S2x2048x512 .f32) (ix3 b l k)
  o0 h d := (V (Proc.devRef .tc main_arg4) : FVec Ideal S2x2048x512 .f32) (ix3 b l ⟨h.val * 128 + d.val, by omega⟩)
  o1 h d := (V (Proc.devRef .tc main_arg5) : FVec Ideal S2x2048x512 .f32) (ix3 b l ⟨h.val * 128 + d.val, by omega⟩)
  zg h d := (V (Proc.devRef .tc main_arg6) : FVec Ideal S2x2048x512 .f32) (ix3 b l ⟨h.val * 128 + d.val, by omega⟩)
  x j := (V (Proc.devRef .tc main_arg7) : FVec Ideal S2x2048x1024 .f32) (ix3 b l j)
  tgt j := (V (Proc.devRef .tc main_arg8) : FVec Ideal S2x2048x1024 .f32) (ix3 b l j)
  gate j := (V (Proc.devRef .tc main_arg9) : FVec Ideal S2x1x1024 .f32) (ix3 b 0 j)
  lng j := (V (Proc.devRef .tc main_arg10) : FVec Ideal S1x1024 .f32) (ix2 0 j)
  lnb j := (V (Proc.devRef .tc main_arg11) : FVec Ideal S1x1024 .f32) (ix2 0 j)
  ws k j := (V (Proc.devRef .tc main_arg12) : FVec Ideal S1024x1024 .f32) (ix2 ⟨k.val, by omega⟩ j)
  wg k j := (V (Proc.devRef .tc main_arg12) : FVec Ideal S1024x1024 .f32) (ix2 ⟨512 + k.val, by omega⟩ j)
  dsk k := (V (Proc.devRef .tc main_arg13) : FVec Ideal S1x512 .f32) (ix2 0 k)
  wglu k q := (V (Proc.devRef .tc main_arg14) : FVec Ideal S512x512 .f32) (ix2 k q)
  bglu k := (V (Proc.devRef .tc main_arg15) : FVec Ideal S1x512 .f32) (ix2 0 k)
  nw d := (V (Proc.devRef .tc main_arg16) : FVec Ideal S1x128 .f32) (ix2 0 d)

variable (V : Valuation τ sig (Elt Ideal)) (b : Fin 2) (l : Fin 2048)

/-- The unit's input. -/
theorem r4 (k : Fin 512) : res_main_v4 V (ix3 b l k) = (rtok V b l).pre k := by
  pointwise [res_main_v4, res_main_v0]
  rfl

/-- Half of it. -/
theorem r6 (k : Fin 512) : res_main_v6 V (ix3 b l k) = (rtok V b l).hp k := by
  pointwise [res_main_v6, r4]
  rfl

/-- It, negated, over the square root of two. -/
theorem r9 (k : Fin 512) : res_main_v9 V (ix3 b l k) = -(rtok V b l).sc k := by
  pointwise [res_main_v9, r4]
  exact neg_mul (α := EReal) _ _

/-- One plus the error function. -/
theorem r10 (k : Fin 512) : res_main_v10 V (ix3 b l k) = (rtok V b l).ep k := by
  pointwise [res_main_v10, r9]
  exact Ideal.erfc_neg _

/-- The linear unit. -/
theorem r14 (k : Fin 512) : res_main_v14 V (ix3 b l k) = (rtok V b l).g k := by
  pointwise [res_main_v14, r6, r10]
  rfl

/-- The linear unit's gate. -/
theorem r24 (k : Fin 512) : res_main_v24 V (ix3 b l k) = (rtok V b l).gl k := by
  pointwise [res_main_v24, r14]
  rfl

/-- The gated unit. -/
theorem r28 (k : Fin 512) : res_main_v28 V (ix3 b l k) = (rtok V b l).gg k := by
  pointwise [res_main_v28, r14, r24]
  rfl

/-- The output gate's logistic. -/
theorem r29_2 (k : Fin 512) : res_main_v29_2 V (ix3 b l k) = (rtok V b l).zl k := by
  pointwise [res_main_v29_2]
  rfl

/-- The output gate. -/
theorem r29_0 (k : Fin 512) : res_main_v29_0 V (ix3 b l k) = (rtok V b l).zs k := by
  pointwise [res_main_v29_0, r29_2]
  rfl

/-- The scans' sum, by heads. -/
theorem r32 (h : Fin 4) (d : Fin 128) : res_main_v32 V (ix4 b l h d) = (rtok V b l).o h d := by
  pointwise [res_main_v32]
  rfl

/-- A head's mean square. -/
theorem r41 (h : Fin 4) (d : Fin 1) : res_main_v41 V (ix4 b l h d) = (rtok V b l).vr h := by
  pointwise [res_main_v41, r32]
  rfl

/-- Its reciprocal root. -/
theorem r42 (h : Fin 4) (d : Fin 1) : res_main_v42 V (ix4 b l h d) = (rtok V b l).rs h := by
  pointwise [res_main_v42, r41]
  rfl

/-- The normed head. -/
theorem r47 (h : Fin 4) (d : Fin 128) : res_main_v47 V (ix4 b l h d) = (rtok V b l).on h d := by
  pointwise [res_main_v47, r32, r42]
  rfl

/-- The weighted head, by columns. -/
theorem r51 (k : Fin 512) : res_main_v51 V (ix3 b l k) = (rtok V b l).ow ⟨k.val / 128, by omega⟩ ⟨k.val % 128, by omega⟩ := by
  pointwise [res_main_v51, res_main_v48, r47]
  rfl

/-- The head gate's logistic, by columns. -/
theorem r52_2 (k : Fin 512) :
    res_main_v52_2 V (ix3 b l k) = (rtok V b l).zgl ⟨k.val / 128, by omega⟩ ⟨k.val % 128, by omega⟩ := by
  pointwise [res_main_v52_2]
  simp only [In.zgl, rtok, Nat.div_add_mod']
  rfl

/-- The head gate, by columns. -/
theorem r52_0 (k : Fin 512) :
    res_main_v52_0 V (ix3 b l k) = (rtok V b l).zgs ⟨k.val / 128, by omega⟩ ⟨k.val % 128, by omega⟩ := by
  pointwise [res_main_v52_0, r52_2]
  simp only [In.zgs, rtok, Nat.div_add_mod']

/-- The two halves side by side. -/
theorem r54 (k : Fin 1024) :
    res_main_v54 V (ix3 b l k)
      = if h : k.val < 512 then (rtok V b l).s5 ⟨k.val, h⟩ else (rtok V b l).gnk ⟨k.val - 512, by omega⟩ := by
  pointwise [res_main_v54, r28, r29_0, r51, r52_0]
  rfl

/-- The projection. -/
theorem r55 (j : Fin 1024) : res_main_v55 V (ix3 b l j) = (rtok V b l).y j := by
  pointwise [res_main_v55, r54]
  rfl

/-- The residual sum. -/
theorem r60 (j : Fin 1024) : res_main_v60 V (ix3 b l j) = (rtok V b l).r j := by
  pointwise [res_main_v60, r55]
  rfl

/-- The centred residual sum. -/
theorem r66 (j : Fin 1024) : res_main_v66 V (ix3 b l j) = (rtok V b l).rc j := by
  pointwise [res_main_v66, r60]
  rfl

/-- Its mean square. -/
theorem r75 (d : Fin 1) : res_main_v75 V (ix3 b l d) = (rtok V b l).lv := by
  pointwise [res_main_v75, r66]
  rfl

/-- The reciprocal root. -/
theorem r76 (d : Fin 1) : res_main_v76 V (ix3 b l d) = (rtok V b l).ls := by
  pointwise [res_main_v76, r75]
  rfl

/-- The normed row. -/
theorem r81 (j : Fin 1024) : res_main_v81 V (ix3 b l j) = (rtok V b l).ln j := by
  pointwise [res_main_v81, r66, r76]
  rfl

/-- The difference from the target. -/
theorem r88 (j : Fin 1024) : res_main_v88 V (ix3 b l j) = (rtok V b l).err j := by
  pointwise [res_main_v88, res_main_v82, r81]
  rfl

/-- Half of one over the row's length. -/
theorem half_mean : Ideal.div (In.c 0x3F000000#32) (In.c 0x44800000#32) = In.c 0x3A000000#32 := by
  have h1 : In.c 0x3F000000#32 = (((1 : ℝ) / 2 : ℝ) : EReal) := by simp [Ideal.ofBits, Ideal.ieee, -EReal.coe_mul]; norm_num
  have h2 : In.c 0x44800000#32 = ((1024 : ℝ) : EReal) := by simp [Ideal.ofBits, Ideal.ieee, -EReal.coe_mul]; norm_num
  have h3 : In.c 0x3A000000#32 = (((1 : ℝ) / 2048 : ℝ) : EReal) := by simp [Ideal.ofBits, Ideal.ieee, -EReal.coe_mul]; norm_num
  rw [h1, h2, h3, Ideal.div, if_neg (by norm_num), ← EReal.coe_inv, ← EReal.coe_mul]
  norm_num

/-- The constant two. -/
theorem two_eq : In.c 0x40000000#32 = 2 := by
  rw [show (2 : EReal) = ((2 : ℝ) : EReal) by norm_cast]
  simp [Ideal.ofBits, Ideal.ieee, -EReal.coe_mul]; norm_num

/-- Twice a number, times another, is the two products' sum. -/
theorem two_mul_add (a x : EReal) : a * (In.c 0x40000000#32 * x) = x * a + a * x := by
  rw [two_eq, mul_left_comm, ← one_add_one_eq_two, EReal.right_distrib_of_nonneg zero_le_one zero_le_one, one_mul, mul_comm x a]

/-- The error function's derivative's constant, of either sign. -/
theorem neg_const : In.c 0xBF906EBB#32 = -In.c 0x3F906EBB#32 := by
  simp [Ideal.ofBits, Ideal.ieee, -EReal.coe_mul, -EReal.coe_neg]
  exact EReal.coe_neg _

/-- The gradient of the layer norm's output. -/
theorem r106 (j : Fin 1024) : res_main_v106 V (ix3 b l j) = (rtok V b l).dl j := by
  pointwise [res_main_v106, r88]
  unfold In.dl
  rw [← two_mul_add, ← half_mean]

/-- The gradient of the normed row. -/
theorem r115 (j : Fin 1024) : res_main_v115 V (ix3 b l j) = (rtok V b l).dn j := by
  pointwise [res_main_v115, res_main_v82, r106]
  rfl

/-- The gradient of the centred row. -/
theorem r129 (j : Fin 1024) : res_main_v129 V (ix3 b l j) = (rtok V b l).dc j := by
  pointwise [res_main_v129, r115, r66, r76, r75, Fin.sum_univ_one]
  unfold In.dc
  rw [two_mul_add, ← add_assoc]
  rfl

/-- The gradient of the residual sum. -/
theorem r137 (j : Fin 1024) : res_main_v137 V (ix3 b l j) = (rtok V b l).dr j := by
  pointwise [res_main_v137, r129, Fin.sum_univ_one]
  rfl

/-- The gradient of the projection. -/
theorem r139 (j : Fin 1024) : res_main_v139 V (ix3 b l j) = (rtok V b l).dy j := by
  pointwise [res_main_v139, r137]
  rfl

/-- The gradient of the two halves. -/
theorem r147 (k : Fin 1024) :
    res_main_v147 V (ix3 b l k) = ∑ j : Fin 1024, (rtok V b l).dy j * (V (Proc.devRef .tc main_arg12) : FVec Ideal S1024x1024 .f32) (ix2 k j) := by
  pointwise [res_main_v147, r139]

/-- The first half's gradient. -/
theorem r148 (k : Fin 512) : res_main_v148 V (ix3 b l k) = (rtok V b l).ds k := by
  pointwise [res_main_v148, r147]
  simp [In.ds, rtok]

/-- The second half's gradient, by columns. -/
theorem r149 (k : Fin 512) : res_main_v149 V (ix3 b l k) = (rtok V b l).dG ⟨k.val / 128, by omega⟩ ⟨k.val % 128, by omega⟩ := by
  pointwise [res_main_v149, r147]
  simp only [In.dG, rtok, Nat.div_add_mod']

/-- The second half's gradient, by heads. -/
theorem r149h (h : Fin 4) (d : Fin 128) : res_main_v149 V (ix3 b l ⟨h.val * 128 + d.val, by omega⟩) = (rtok V b l).dG h d := by
  pointwise [res_main_v149, r147]
  rfl

/-- The gradient of the gate's input. -/
theorem r175 (k : Fin 512) : res_main_v175 V (ix3 b l k) = (rtok V b l).dgg k := by
  pointwise [res_main_v175, r148, r29_0]
  rfl

/-- The first half's gradient times the gated unit. -/
theorem r174 (k : Fin 512) : res_main_v174 V (ix3 b l k) = (rtok V b l).gg k * (rtok V b l).ds k := by
  pointwise [res_main_v174, r148, r28]

/-- The gradient of the gate's input. -/
theorem r179 (k : Fin 512) : res_main_v179 V (ix3 b l k) = (rtok V b l).dp k := by
  pointwise [res_main_v179, r14, r175, r24]
  rfl

/-- The gradient of the unit. -/
theorem r187 (k : Fin 512) : res_main_v187 V (ix3 b l k) = (rtok V b l).dg k := by
  pointwise [res_main_v187, r179, r175, r24]
  rfl

/-- The gradient of the unit's input. -/
theorem r198 (k : Fin 512) : res_main_v198 V (ix3 b l k) = (rtok V b l).dys k := by
  pointwise [res_main_v198, r187, r6, r9, r10]
  rw [neg_mul_neg, show Ideal.ofBits FTy.f32 0xBF906EBB#32 = _ from neg_const, neg_mul, neg_mul, neg_mul, neg_neg]
  rfl

/-- The gradient of the weighted head. -/
theorem r153 (h : Fin 4) (d : Fin 128) : res_main_v153 V (ix4 b l h d) = (rtok V b l).dow h d := by
  pointwise [res_main_v153, res_main_v52_0, res_main_v52_2, r149h]
  rfl

/-- The gradient of the normed head. -/
theorem r158 (h : Fin 4) (d : Fin 128) : res_main_v158 V (ix4 b l h d) = (rtok V b l).don h d := by
  pointwise [res_main_v158, res_main_v48, r153]
  rfl

/-- The second half's gradient times the weighted head, by columns. -/
theorem r150 (k : Fin 512) :
    res_main_v150 V (ix3 b l k)
      = (rtok V b l).ow ⟨k.val / 128, by omega⟩ ⟨k.val % 128, by omega⟩ * (rtok V b l).dG ⟨k.val / 128, by omega⟩ ⟨k.val % 128, by omega⟩ := by
  pointwise [res_main_v150, r51, r149]

/-- The projection's weights' gradient. -/
theorem r146 (k j : Fin 1024) :
    res_main_v146 V (ix2 k j)
      = ∑ b : Fin 2, ∑ l : Fin 2048, (rtok V b l).dy j * (if h : k.val < 512 then (rtok V b l).s5 ⟨k.val, h⟩ else (rtok V b l).gnk ⟨k.val - 512, by omega⟩) := by
  pointwise [res_main_v146, r139, r54]

/-- Adding up the two leading axes of three, at an entry. -/
theorem reduce_r3_a01 {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- Adding up the three leading axes of four, at an entry. -/
theorem reduce_r4_a012 {n0 n1 n2 n3 : Nat} (h : (⟨4, ![n0, n1, n2, n3]⟩ : Shape).ReducesTo [0, 1, 2] ⟨1, ![n3]⟩)
    (v : (⟨4, ![n0, n1, n2, n3]⟩ : Shape).Idx → EReal) (init : EReal) (j : Fin n3) :
    Ideal.hostReduceAdd h v init (ix1 j) = init + ∑ a : Fin n0, ∑ b : Fin n1, ∑ c : Fin n2, v (ix4 a b c j) := by
  refine congrArg (init + ·) ((Finset.sum_filter_eq_sum_of_fiber _ (fun k : Fin n0 × Fin n1 × Fin n2 => ix4 k.1 k.2.1 k.2.2 j)
    (fun _ _ e => Prod.ext (congrFun e 0) (Prod.ext (congrFun e 1) (congrFun e 2))) (fun i => ?_) v).trans ?_)
  · constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext b
      apply Fin.ext
      match b with
      | ⟨0, _⟩ => rfl
  · simp only [Fintype.sum_prod_type]

/-! ### The results as arrays -/

/-- The loss, once for every lane. -/
def F_loss (T : Fin 2 → Fin 2048 → In) : FVec Ideal S2x8x128 .f32 := fun i => In.c 0x3F000000#32 * ∑ l : Fin 2048, Ideal.div (T (i 0) l).sq (In.c 0x44800000#32)

/-- The reference's. -/
theorem ref_loss : (broadcastInDim S2x8x128 ![0, 1, 2] bcast_S2x1x1_S2x8x128_0_1_2 (broadcastInDim S2x1x1 ![0] bcast_S2_S2x1x1_0 (res_main_v97 V)) : FVec Ideal S2x8x128 .f32) = F_loss (rtok V) := by
  funext i
  idx_vars i
  pointwise [res_main_v97, r88]
  rfl

/-- The gradient of `u`. -/
def F_du (T : Fin 2 → Fin 2048 → In) : FVec Ideal S2x2048x512 .f32 := fun i => (T (i 0) (i 1)).du (i 2)

/-- The reference's. -/
theorem ref_du : (mulf (broadcastInDim S2x2048x512 ![0, 1, 2] bcast_S1x1x512_S2x2048x512_0_1_2 (res_main_v0 V)) (res_main_v198 V) : FVec Ideal S2x2048x512 .f32) = F_du (rtok V) := by
  funext i
  idx_vars i
  pointwise [res_main_v0, r198]
  rfl

/-- The gradient of the first scan's outputs. -/
def F_dys (T : Fin 2 → Fin 2048 → In) : FVec Ideal S2x2048x512 .f32 := fun i => (T (i 0) (i 1)).dys (i 2)

/-- The reference's. -/
theorem ref_dys : (res_main_v198 V : FVec Ideal S2x2048x512 .f32) = F_dys (rtok V) := by
  funext i
  idx_vars i
  pointwise [r198]
  rfl

/-- The gradient of `z`. -/
def F_dz (T : Fin 2 → Fin 2048 → In) : FVec Ideal S2x2048x512 .f32 := fun i => (T (i 0) (i 1)).dz (i 2)

/-- The reference's. -/
theorem ref_dz : (addf (mulf (res_main_v174 V) (res_main_v29_2 V)) (mulf (mulf (V (Proc.devRef .tc main_arg3)) (res_main_v174 V)) (mulf (res_main_v29_2 V) (subf (broadcastInDim S2x2048x512 ![] bcast_S_S2x2048x512 (constant S_ .f32 0x3F800000#32)) (res_main_v29_2 V)))) : FVec Ideal S2x2048x512 .f32) = F_dz (rtok V) := by
  funext i
  idx_vars i
  pointwise [r174, r29_2]
  rfl

/-- The gradient of the second scan's outputs. -/
def F_do (T : Fin 2 → Fin 2048 → In) : FVec Ideal S2x2048x512 .f32 := fun i => (T (i 0) (i 1)).dO ⟨(i 2).val / 128, by have := (i 2).isLt; change _ < 512 at this; omega⟩ ⟨(i 2).val % 128, by omega⟩

/-- The reference's. -/
theorem ref_do : (shapeCast _ (addf (mulf (res_main_v158 V) (broadcastInDim S2x2048x4x128 ![0, 1, 2, 3] bcast_S2x2048x4x1_S2x2048x4x128_0_1_2_3 (res_main_v42 V))) (mulf (broadcastInDim S2x2048x4x128 ![0, 1, 2] bcast_S2x2048x4_S2x2048x4x128_0_1_2 (Host.reduceAdd (Host.divf (mulf (shapeCast _ (Host.reduceAdd (mulf (res_main_v32 V) (res_main_v158 V)) (constant S_ .f32 0x00000000#32) reducesTo_S2x2048x4x128_S2x2048x4_d3 h_S_) shapeCasts_S2x2048x4_S2x2048x4x1) (mulf (broadcastInDim S2x2048x4x1 ![] bcast_S_S2x2048x4x1 (constant S_ .f32 0xBF000000#32)) (Host.divf (res_main_v42 V) (res_main_v41 V)))) (broadcastInDim S2x2048x4x1 ![] bcast_S_S2x2048x4x1 (constant S_ .f32 0x43000000#32))) (constant S_ .f32 0x00000000#32) reducesTo_S2x2048x4x1_S2x2048x4_d3 h_S_)) (mulf (broadcastInDim S2x2048x4x128 ![] bcast_S_S2x2048x4x128 (constant S_ .f32 0x40000000#32)) (res_main_v32 V)))) shapeCasts_S2x2048x4x128_S2x2048x512 : FVec Ideal S2x2048x512 .f32) = F_do (rtok V) := by
  funext i
  idx_vars i
  pointwise [r153, r158, r42, r41, r32, Fin.sum_univ_one]
  unfold F_do In.dO
  rw [two_mul_add, ← add_assoc]
  rfl

/-- The gradient of the head gate. -/
def F_dzg (T : Fin 2 → Fin 2048 → In) : FVec Ideal S2x2048x512 .f32 := fun i => (T (i 0) (i 1)).dzg ⟨(i 2).val / 128, by have := (i 2).isLt; change _ < 512 at this; omega⟩ ⟨(i 2).val % 128, by omega⟩

/-- The reference's. -/
theorem ref_dzg : (addf (mulf (res_main_v150 V) (res_main_v52_2 V)) (mulf (mulf (V (Proc.devRef .tc main_arg6)) (res_main_v150 V)) (mulf (res_main_v52_2 V) (subf (broadcastInDim S2x2048x512 ![] bcast_S_S2x2048x512 (constant S_ .f32 0x3F800000#32)) (res_main_v52_2 V)))) : FVec Ideal S2x2048x512 .f32) = F_dzg (rtok V) := by
  funext i
  idx_vars i
  pointwise [r150, r52_2]
  have e : (V (Proc.devRef .tc main_arg6) : FVec Ideal S2x2048x512 .f32) (ix3 i0 i1 i2)
      = (rtok V i0 i1).zg ⟨i2.val / 128, by omega⟩ ⟨i2.val % 128, by omega⟩ := by simp only [rtok, Nat.div_add_mod']
  rw [e]
  rfl

/-- The gradient of the residual input. -/
def F_gx (T : Fin 2 → Fin 2048 → In) : FVec Ideal S2x2048x1024 .f32 := fun i => (T (i 0) (i 1)).gx (i 2)

/-- The reference's. -/
theorem ref_gx : (mulf (broadcastInDim S2x2048x1024 ![] bcast_S_S2x2048x1024 (constant S_ .f32 0x3F9837F0#32)) (res_main_v137 V) : FVec Ideal S2x2048x1024 .f32) = F_gx (rtok V) := by
  funext i
  idx_vars i
  pointwise [r137]
  rfl

/-- The gradient of the projection's first rows. -/
def F_dws (T : Fin 2 → Fin 2048 → In) : FVec Ideal S512x1024 .f32 := fun i => ∑ b : Fin 2, ∑ l : Fin 2048, (T b l).s5 (i 0) * (T b l).dy (i 1)

/-- The reference's. -/
theorem ref_dws : (extractStridedSlice S512x1024 ![0, 0] (res_main_v146 V) slices_S1024x1024_S512x1024_0_0 : FVec Ideal S512x1024 .f32) = F_dws (rtok V) := by
  funext i
  idx_vars i
  pointwise [r146]
  simp only [mul_comm ((rtok V _ _).dy _)]
  rfl

/-- The gradient of the projection's last rows. -/
def F_dwg (T : Fin 2 → Fin 2048 → In) : FVec Ideal S512x1024 .f32 := fun i => ∑ b : Fin 2, ∑ l : Fin 2048, (T b l).gnk (i 0) * (T b l).dy (i 1)

/-- The reference's. -/
theorem ref_dwg : (extractStridedSlice S512x1024 ![512, 0] (res_main_v146 V) slices_S1024x1024_S512x1024_512_0 : FVec Ideal S512x1024 .f32) = F_dwg (rtok V) := by
  funext i
  idx_vars i
  pointwise [r146]
  simp only [mul_comm ((rtok V _ _).dy _)]
  rfl

/-- The gradient of the residual's gate. -/
def F_dgate (T : Fin 2 → Fin 2048 → In) : FVec Ideal S2x1x1024 .f32 := fun i => ∑ l : Fin 2048, (T (i 0) l).dr (i 2) * (T (i 0) l).y (i 2)

/-- The reference's. -/
theorem ref_dgate : (shapeCast _ (Host.reduceAdd (mulf (res_main_v137 V) (res_main_v55 V)) (constant S_ .f32 0x00000000#32) reducesTo_S2x2048x1024_S2x1024_d1 h_S_) shapeCasts_S2x1024_S2x1x1024 : FVec Ideal S2x1x1024 .f32) = F_dgate (rtok V) := by
  funext i
  idx_vars i
  pointwise [r137, r55]
  rfl

/-- The gradient of the layer norm's scale. -/
def F_dlng (T : Fin 2 → Fin 2048 → In) : FVec Ideal S1x1024 .f32 := fun i => ∑ b : Fin 2, ∑ l : Fin 2048, (T b l).ln (i 1) * (T b l).dl (i 1)

/-- The reference's. -/
theorem ref_dlng : (broadcastInDim S1x1024 ![1] bcast_S1024_S1x1024_1 (Host.reduceAdd (shapeCast _ (Host.reduceAdd (mulf (res_main_v81 V) (res_main_v106 V)) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) = F_dlng (rtok V) := by
  funext i
  idx_vars i
  pointwise [reduce_r3_a01, r81, r106, Fin.sum_univ_one]
  rfl

/-- The gradient of the layer norm's shift. -/
def F_dlnb (T : Fin 2 → Fin 2048 → In) : FVec Ideal S1x1024 .f32 := fun i => ∑ b : Fin 2, ∑ l : Fin 2048, (T b l).dl (i 1)

/-- The reference's. -/
theorem ref_dlnb : (broadcastInDim S1x1024 ![1] bcast_S1024_S1x1024_1 (Host.reduceAdd (shapeCast _ (Host.reduceAdd (res_main_v106 V) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) = F_dlnb (rtok V) := by
  funext i
  idx_vars i
  pointwise [reduce_r3_a01, r106, Fin.sum_univ_one]
  rfl

/-- The gradient of the skip. -/
def F_ddsk (T : Fin 2 → Fin 2048 → In) : FVec Ideal S1x512 .f32 := fun i => ∑ b : Fin 2, ∑ l : Fin 2048, (T b l).dys (i 1) * (T b l).u (i 1)

/-- The reference's. -/
theorem ref_ddsk : (broadcastInDim S1x512 ![1] bcast_S512_S1x512_1 (Host.reduceAdd (shapeCast _ (Host.reduceAdd (mulf (res_main_v198 V) (V (Proc.devRef .tc main_arg0))) (constant S_ .f32 0x00000000#32) reducesTo_S2x2048x512_S512_d0_1 h_S_) shapeCasts_S512_S1x1x512) (constant S_ .f32 0x00000000#32) reducesTo_S1x1x512_S512_d0_1 h_S_) : FVec Ideal S1x512 .f32) = F_ddsk (rtok V) := by
  funext i
  idx_vars i
  pointwise [reduce_r3_a01, r198, Fin.sum_univ_one]
  rfl

/-- The gradient of the linear unit's weights. -/
def F_dwglu (T : Fin 2 → Fin 2048 → In) : FVec Ideal S512x512 .f32 := fun i => ∑ b : Fin 2, ∑ l : Fin 2048, (T b l).g (i 0) * (T b l).dp (i 1)

/-- The reference's. -/
theorem ref_dwglu : (transpose S512x512 [1, 0] (Host.dotGeneral (φ₁ := .f32) (φ₂ := .f32) dot_S2x2048x512_S2x2048x512_S512x512_01_01_2_2_n_n none (res_main_v179 V) (res_main_v14 V)) transposes_S512x512_S512x512_1_0 : FVec Ideal S512x512 .f32) = F_dwglu (rtok V) := by
  funext i
  idx_vars i
  pointwise [r179, r14]
  simp only [mul_comm ((rtok V _ _).dp _)]
  rfl

/-- The gradient of the linear unit's bias. -/
def F_dbglu (T : Fin 2 → Fin 2048 → In) : FVec Ideal S1x512 .f32 := fun i => ∑ b : Fin 2, ∑ l : Fin 2048, (T b l).dp (i 1)

/-- The reference's. -/
theorem ref_dbglu : (broadcastInDim S1x512 ![1] bcast_S512_S1x512_1 (Host.reduceAdd (shapeCast _ (Host.reduceAdd (res_main_v179 V) (constant S_ .f32 0x00000000#32) reducesTo_S2x2048x512_S512_d0_1 h_S_) shapeCasts_S512_S1x1x512) (constant S_ .f32 0x00000000#32) reducesTo_S1x1x512_S512_d0_1 h_S_) : FVec Ideal S1x512 .f32) = F_dbglu (rtok V) := by
  funext i
  idx_vars i
  pointwise [reduce_r3_a01, r179, Fin.sum_univ_one]
  rfl

/-- The gradient of the head norm's weight. -/
def F_dnw (T : Fin 2 → Fin 2048 → In) : FVec Ideal S1x128 .f32 := fun i => ∑ b : Fin 2, ∑ l : Fin 2048, ∑ h : Fin 4, (T b l).on h (i 1) * (T b l).dow h (i 1)

/-- The reference's. -/
theorem ref_dnw : (broadcastInDim S1x128 ![1] bcast_S128_S1x128_1 (Host.reduceAdd (shapeCast _ (Host.reduceAdd (mulf (res_main_v47 V) (res_main_v153 V)) (constant S_ .f32 0x00000000#32) reducesTo_S2x2048x4x128_S128_d0_1_2 h_S_) shapeCasts_S128_S1x1x1x128) (constant S_ .f32 0x00000000#32) reducesTo_S1x1x1x128_S128_d0_1_2 h_S_) : FVec Ideal S1x128 .f32) = F_dnw (rtok V) := by
  funext i
  idx_vars i
  pointwise [reduce_r4_a012, r47, r153, Fin.sum_univ_one]
  rfl

end Cert.Tail

end
-- ==== Proof.AdaBwdRef.lean ====
/- The ada layer's backward pass: the reference's two results, each read at an entry.  Hand-written, untrusted. -/
module

public import proofs.«01_k».proof.Proof.AdaBwdPay
public import proofs.«01_k».proof.Proof.TailRef
public import proofs.«01_k».proof.Proof.Gen.Reference8Ideal
public import proofs.«01_k».proof.Proof.Gen.Reference8Ideal.Run
public import Idealize.ShloMosaic.Lib.KernelVsHost

@[expose] public section

set_option maxRecDepth 16384

noncomputable section

open Idealize.ShloMosaic Idealize.ShloMosaic.TcCoe Idealize.SL.Sem
open scoped BigOperators

namespace Cert.AdaBwd

open Cert.Reference8Ideal Cert.Reference8Ideal.Gen

variable (a0 : FVec Ideal S8x8x1024 .f32) (a1 : FVec Ideal S1x1024x768 .f32) (a2 : FVec Ideal S8x8x768 .f32)

/-- The weight's gradient. -/
def refDW : FVec Ideal S1x1024x768 .f32 :=
  broadcastInDim S1x1024x768 ![1, 2] bcast_S1024x768_S1x1024x768_1_2 (transpose S1024x768 [1, 0] (Host.dotGeneral dot_S8x8x768_S8x8x1024_S768x1024_01_01_2_2_n_n none (shapeCast _ a2 shapeCasts_S8x8x768_S8x8x768) (mulf a0 (Host.divf (broadcastInDim S8x8x1024 ![] bcast_S_S8x8x1024 (constant S_ .f32 0x3F800000#32)) (addf (broadcastInDim S8x8x1024 ![] bcast_S_S8x8x1024 (constant S_ .f32 0x3F800000#32)) (Host.exp (Host.negf a0)))))) transposes_S768x1024_S1024x768_1_0)

/-- The third rows' gradient of the layer's input, summed over the devices. -/
def refCtx : FVec Ideal S1x1024 .f32 :=
  broadcastInDim S1x1024 ![1] bcast_S1024_S1x1024_1 (Host.reduceAdd (shapeCast _ (extractStridedSlice S8x1x1024 ![0, 2, 0] (Host.dotGeneral dot_S8x8x768_S1024x768_S8x8x1024_2_1_01_0_n_n none (shapeCast _ a2 shapeCasts_S8x8x768_S8x8x768) (shapeCast _ a1 shapeCasts_S1x1024x768_S1024x768)) slices_S8x8x1024_S8x1x1024_0_2_0) shapeCasts_S8x1x1024_S8x1024) (constant S_ .f32 0x00000000#32) reducesTo_S8x1024_S1024_d0 h_S_)

/-- The bias's gradient, filled up with zeros. -/
def refDb : FVec Ideal S1x1024 .f32 :=
  pad S1x1024 ![0, 0] ![0, 256] ![0, 0] (broadcastInDim S1x768 ![1] bcast_S768_S1x768_1 (Host.reduceAdd (shapeCast _ (Host.reduceAdd a2 (constant S_ .f32 0x00000000#32) reducesTo_S8x8x768_S768_d0_1 h_S_) shapeCasts_S768_S1x1x768) (constant S_ .f32 0x00000000#32) reducesTo_S1x1x768_S768_d0_1 h_S_)) (sitofp .f32 (constantI S_ 32 0#32)) pads_S1x768_S1x1024_000_02560 h_S_

/-- The two rows packed above six rows of zeros. -/
def refPb : FVec Ideal S8x1024 .f32 :=
  concatenate S8x1024 0 [⟨S1x1024, refCtx a1 a2⟩, ⟨S1x1024, refDb a2⟩, ⟨S6x1024, broadcastInDim S6x1024 ![] bcast_S_S6x1024 (constant S_ .f32 0x00000000#32)⟩] concatenates_S1x1024_S1x1024_S6x1024_S8x1024_d0

/-- The weight's gradient at an entry. -/
theorem refDW_at (q : Fin 1) (a : Fin 1024) (j : Fin 768) :
    refDW a0 a2 (ix3 q a j) = ∑ k : Fin 8, ∑ r : Fin 8, act (a0 (ix3 k r a)) * a2 (ix3 k r j) := by
  pointwise [refDW]
  refine Fin.sum_fin_congr fun k => Fin.sum_fin_congr fun r => ?_
  exact mul_comm _ _

/-- The packed array's first row. -/
theorem refPb_0 (a : Fin 1024) : refPb a1 a2 (ix2 0 a) = ∑ k : Fin 8, ∑ p : Fin 768, a2 (ix3 k 2 p) * a1 (ix3 0 a p) := by
  pointwise [refPb, refCtx]

/-- Its second row, in the bias's columns. -/
theorem refPb_1 (j : Fin 768) (h) : refPb a1 a2 (ix2 1 ⟨j.val, h⟩) = ∑ k : Fin 8, ∑ r : Fin 8, a2 (ix3 k r j) := by
  have hj := j.isLt
  pointwise [refPb, refDb, Tail.reduce_r3_a01, Fin.sum_univ_one]

/-- Its second row behind them. -/
theorem refPb_1' (a : Fin 1024) (h : 768 ≤ a.val) : refPb a1 a2 (ix2 1 a) = 0 := by
  pointwise [refPb, refDb]
  rw [dif_neg (by omega)]
  exact sitofp_zero

/-- Its other rows. -/
theorem refPb_2 (r : Fin 8) (a : Fin 1024) (h : 2 ≤ r.val) : refPb a1 a2 (ix2 r a) = 0 := by
  pointwise [refPb]
  rw [dif_neg (by omega), dif_neg (by omega)]

end Cert.AdaBwd

end
-- ==== Proof.AdaBwd.lean ====
/- The ada layer's backward pass: the kernel's two outputs.  Hand-written, untrusted. -/
module

public import proofs.«01_k».proof.Proof.AdaBwdPay
public import proofs.«01_k».proof.Proof.AdaBwdRef
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.AdaBwd

open Cert.Kernel8Ideal Cert.Kernel8Ideal.Gen

variable (m : (ℓ : Loc nD τ sig) → Buf (Elt Ideal) ℓ) (c : Dev nD)

/-- The conditioning vectors, the weight's shard and the outputs' gradients. -/
abbrev A0 : FVec Ideal S8x8x1024 .f32 := m ((c : Thread nD τ).loc main_arg0)
abbrev A1 : FVec Ideal S1x1024x768 .f32 := m ((c : Thread nD τ).loc main_arg1)
abbrev A2 : FVec Ideal S8x8x768 .f32 := m ((c : Thread nD τ).loc main_arg2)

/-- The call takes the weight's matrix in the narrower format. -/
theorem V_v1 : (V m c main_v1 : FVec Ideal S1024x768 .bf16)
    = truncf .bf16 (shapeCast S1024x768 (A1 m c) shapeCasts_S1x1024x768_S1024x768) bitsLt_bf16_f32 := rfl

/-- The one point's windows are whole arrays. -/
theorem idx_val : ∀ t : Fin cfg0.N, win0_0.index t = ![0, 0, 0]
    ∧ win0_1.index t = ![0, 0]
    ∧ win0_2.index t = ![0, 0, 0]
    ∧ win0_3.index t = ![0, 0, 0]
    ∧ win0_4.index t = ![0, 0] :=
  (by decide +kernel : ∀ t : Fin grid0.N, _)

section
variable (t : Fin cfg0.N)

/-- The three inputs' blocks are the arguments. -/
theorem blk_0 (k r : Fin 8) (a : Fin 1024) : (iblk m c 0 t : Vec Ideal S8x8x1024 .f32) (ix3 k r a) = A0 m c (ix3 k r a) := by
  blk_ext [iblk, V, idx_val t]
theorem blk_1 (a : Fin 1024) (j : Fin 768) : (iblk m c 1 t : Vec Ideal S1024x768 .bf16) (ix2 a j) = A1 m c (ix3 0 a j) := by
  have h : (iblk m c 1 t : Vec Ideal S1024x768 .bf16) (ix2 a j) = (V m c main_v1 : FVec Ideal S1024x768 .bf16) (ix2 a j) := by
    blk_ext [iblk, idx_val t]
  rw [h, V_v1]; pointwise
theorem blk_2 (k r : Fin 8) (j : Fin 768) : (iblk m c 2 t : Vec Ideal S8x8x768 .f32) (ix3 k r j) = A2 m c (ix3 k r j) := by
  blk_ext [iblk, V, idx_val t]
end

/-- What device `k`'s rows add to the three sums, over the arguments. -/
theorem dwT_eq (k : Fin 8) (x : Vec Ideal S1x8x1024 .f32) (y : Vec Ideal S1x8x768 .f32) (hx : ∀ r a, x (ix3 0 r a) = A0 m c (ix3 k r a))
    (hy : ∀ r j, y (ix3 0 r j) = A2 m c (ix3 k r j)) (a : Fin 1024) (j : Fin 768) :
    dwT x y a j = ∑ r : Fin 8, act (A0 m c (ix3 k r a)) * A2 m c (ix3 k r j) :=
  Fin.sum_fin_congr fun r => by rw [hx, hy]
theorem ctxT_eq (k : Fin 8) (y : Vec Ideal S1x8x768 .f32) (w : Vec Ideal S1024x768 .bf16) (hy : ∀ r j, y (ix3 0 r j) = A2 m c (ix3 k r j))
    (hw : ∀ a j, w (ix2 a j) = A1 m c (ix3 0 a j)) (r : Fin 8) (a : Fin 1024) :
    ctxT y w r a = ∑ p : Fin 768, A2 m c (ix3 k r p) * A1 m c (ix3 0 a p) :=
  Fin.sum_fin_congr fun p => by rw [hy, hw]
theorem dbT_eq (k : Fin 8) (y : Vec Ideal S1x8x768 .f32) (hy : ∀ r j, y (ix3 0 r j) = A2 m c (ix3 k r j)) (j : Fin 768) :
    dbT y j = ∑ r : Fin 8, A2 m c (ix3 k r j) :=
  Fin.sum_fin_congr fun r => hy r j

/-- The first output is the weight's gradient. -/
theorem final_3 : (dats m 0 c).arrAt 3 (cfgs 0).N = refDW (A0 m c) (A2 m c) := by
  refine (dats m 0 c).arrAt_eq_of_covers 3 _ (by decide +kernel) fun t hf y => ?_
  blk_simp; rw [after0_3]; unfold outsAt0; dsimp only; frame_open; frame_out
  simp only [read_unread_whole]
  idx_vars y
  have e : ((View.whole main_v2_0).slice (win0_3.rect t)).emb (ix3 y0 y1 y2) = (ix3 y0 y1 y2 : S1x1024x768.Idx) := by
    blk_ext [idx_val t]
  rw [e, refDW_at, dw_out, dw_67, dw_5, dw_34, dw_12, dw_0, Fin.sum_univ_eight]
  refine Ideal.add_congr (Ideal.add_congr (Ideal.add_congr (Ideal.add_congr (Ideal.add_congr (Ideal.add_congr (Ideal.add_congr
    ?_ ?_) ?_) ?_) ?_) ?_) ?_) ?_
  all_goals refine dwT_eq m c _ _ _ (fun r a => ?_) (fun r j => ?_) y1 y2
  all_goals pointwise
  all_goals first | exact blk_0 m c t _ _ _ | exact blk_2 m c t _ _ _

section
variable (z : FVec Ideal S8x1024 .f32) (u : FVec Ideal S1x1024 .f32) (v : FVec Ideal S1x768 .f32)

/-- The packed block: a fill, then its first row, then the first columns of its second. -/
abbrev packed : Vec Ideal S8x1024 .f32 := View.canon (Val := Elt Ideal)
  [⟨Rect.unit ![1, 0] ![1, 768] inb_S8x1024_S1x768_1_0, v⟩, ⟨Rect.unit ![0, 0] ![1, 1024] inb_S8x1024_S1x1024_0_0, u⟩,
    ⟨Rect.unit ![0, 0] ![8, 1024] inb_S8x1024_S8x1024_0_0, z⟩]

/-- Its second row's first columns are the last store. -/
theorem packed_1 (j : Fin 768) (h) : packed z u v (ix2 1 ⟨j.val, h⟩) = v (ix2 0 j) := by
  have e : (ix2 1 ⟨j.val, h⟩ : S8x1024.Idx) = (Rect.unit ![1, 0] ![1, 768] inb_S8x1024_S1x768_1_0 : Rect S8x1024).emb (ix2 0 j : S1x768.Idx) := by
    blk_ext
  exact (congrArg _ e).trans (View.canon_cons_emb _ _ _ _)

/-- Its first row is the store before. -/
theorem packed_0 (a : Fin 1024) : packed z u v (ix2 0 a) = u (ix2 0 a) := by
  have e : (ix2 0 a : S8x1024.Idx) = (Rect.unit ![0, 0] ![1, 1024] inb_S8x1024_S1x1024_0_0 : Rect S8x1024).emb (ix2 0 a : S1x1024.Idx) := by
    blk_ext
  refine (View.canon_cons_of_not_mem _ _ (Rect.not_mem_set_of_axis _ _ 0 1 1 rfl rfl rfl (by simp))).trans ?_
  exact (congrArg _ e).trans (View.canon_cons_emb _ _ _ _)

/-- Elsewhere it is the fill. -/
theorem packed_2 (r : Fin 8) (a : Fin 1024) (h : 2 ≤ r.val ∨ r.val = 1 ∧ 768 ≤ a.val) : packed z u v (ix2 r a) = z (ix2 r a) := by
  have e : (ix2 r a : S8x1024.Idx) = (Rect.unit ![0, 0] ![8, 1024] inb_S8x1024_S8x1024_0_0 : Rect S8x1024).emb (ix2 r a : S8x1024.Idx) := by
    blk_ext
  refine (View.canon_cons_of_not_mem _ _ ?_).trans ((View.canon_cons_of_not_mem _ _ ?_).trans ?_)
  · intro hm
    have h0 := (Rect.mem_set_unit (inb := inb_S8x1024_S1x768_1_0)).mp hm 0
    have h1 := (Rect.mem_set_unit (inb := inb_S8x1024_S1x768_1_0)).mp hm 1
    simp at h0 h1
    omega
  · intro hm
    have h0 := (Rect.mem_set_unit (inb := inb_S8x1024_S1x1024_0_0)).mp hm 0
    simp at h0
    omega
  · exact (congrArg _ e).trans (View.canon_cons_emb _ _ _ _)
end

/-- The second output packs the gradients of the conditioning vector and of the bias. -/
theorem final_4 : (dats m 0 c).arrAt 4 (cfgs 0).N = refPb (A1 m c) (A2 m c) := by
  refine (dats m 0 c).arrAt_eq_of_covers 4 _ (by decide +kernel) fun t hf y => ?_
  blk_simp; rw [after0_4]; unfold outsAt0; dsimp only; frame_open; frame_out
  simp only [read_unread_whole]
  idx_vars y
  have e : ((View.whole main_v2_1).slice (win0_4.rect t)).emb (ix2 y0 y1) = (ix2 y0 y1 : S8x1024.Idx) := by
    blk_ext [idx_val t]
  rw [e]
  rcases (by omega : y0.val = 0 ∨ (y0.val = 1 ∧ y1.val < 768) ∨ (2 ≤ y0.val ∨ y0.val = 1 ∧ 768 ≤ y1.val)) with h | ⟨h, hj⟩ | h
  · obtain rfl : y0 = 0 := Fin.ext h
    refine (packed_0 _ _ _ y1).trans ?_
    rw [refPb_0, ctx_7, ctx_6, ctx_45, ctx_3, ctx_12, ctx_0, Fin.sum_univ_eight]
    refine Ideal.add_congr (Ideal.add_congr (Ideal.add_congr (Ideal.add_congr (Ideal.add_congr (Ideal.add_congr (Ideal.add_congr
      ?_ ?_) ?_) ?_) ?_) ?_) ?_) ?_
    all_goals refine ctxT_eq m c _ _ _ (fun r j => ?_) (fun a j => ?_) 2 y1
    all_goals pointwise
    all_goals first | exact blk_2 m c t _ _ _ | exact blk_1 m c t _ _
  · obtain rfl : y0 = 1 := Fin.ext h
    obtain ⟨y1, hy⟩ := y1
    refine (packed_1 _ _ _ ⟨y1, hj⟩ hy).trans ?_
    rw [refPb_1 _ _ ⟨y1, hj⟩ hy, db_7, db_6, db_45, db_23, db_1, db_0, Fin.sum_univ_eight]
    refine Ideal.add_congr (Ideal.add_congr (Ideal.add_congr (Ideal.add_congr (Ideal.add_congr (Ideal.add_congr (Ideal.add_congr
      ?_ ?_) ?_) ?_) ?_) ?_) ?_) ?_
    all_goals refine dbT_eq m c _ _ (fun r j => ?_) ⟨y1, hj⟩
    all_goals pointwise
    all_goals exact blk_2 m c t _ _ _
  · refine (packed_2 _ _ _ y0 y1 h).trans ?_
    have hz : refPb (A1 m c) (A2 m c) (ix2 y0 y1) = 0 := by
      rcases h with h | ⟨h, hj⟩
      · exact refPb_2 _ _ y0 y1 h
      · obtain rfl : y0 = 1 := Fin.ext h
        exact refPb_1' _ _ y1 hj
    rw [hz]; pointwise [k0_pay3]

end Cert.AdaBwd

end
-- ==== Proof.AdaBwdRun.lean ====
/- The runs of the two programs of the ada layer's backward pass and their equality.  Hand-written, untrusted. -/
module

public import proofs.«01_k».proof.Defs
public import proofs.«01_k».proof.Proof.AdaBwd
public import proofs.«01_k».proof.Proof.Gen.Reference8Ideal
public import proofs.«01_k».proof.Proof.Gen.Reference8Ideal.Run

@[expose] public section

set_option maxRecDepth 16384

noncomputable section

namespace Cert.AdaBwd

open Idealize.ShloMosaic Idealize.SL.Sem
open Cert.Reference8Ideal Cert.Reference8Ideal.Gen

/-- The reference's run: the weight's gradient and the packed rows, the arguments kept. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v28) = refDW (m (c.tc.loc main_arg0)) (m (c.tc.loc main_arg2))
      ∧ r.2.mem (c.tc.loc main_v27) = refPb (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => h c) (Cert.Reference8Ideal.Value.run m ρ)

/-- The reference runs from every starting memory, keeps its arguments, and declares no semaphore. -/
theorem ref_frame : Cert.quiescent_Reference8Ideal := by
  intro m ρ _
  exact (θ_run defs _ _).mono (fun r h => ⟨fun c => (h c).2.2, Idealize.ShloMosaic.sem_eq_zero_of_no_sems (by decide) r.2⟩) (ref_run m ρ)

/-- The kernel's two results are the reference's. -/
theorem value : Cert.algebraic_Kernel8Ideal_Reference8Ideal := by
  intro m g m' g' _ hagree
  refine ⟨fun c => (Cert.Kernel8Ideal.Gen.dats m 0 c).arrAt 3 (Cert.Kernel8Ideal.cfgs 0).N, fun c => (Cert.Kernel8Ideal.Gen.dats m 0 c).arrAt 4 (Cert.Kernel8Ideal.cfgs 0).N,
    Cert.Kernel8Ideal.Value.run_blocks m g, ?_⟩
  refine (θ_run Cert.Reference8Ideal.defs _ _).mono (fun r h c => ?_) (ref_run m' g')
  obtain ⟨e0, e1, hargs⟩ := h c
  obtain ⟨a0, a1, a2⟩ := hagree c
  refine ⟨e0.trans ?_, e1.trans ?_, hargs⟩
  · refine Eq.trans ?_ (Cert.AdaBwd.final_3 m c).symm; rw [a0, a2]
  · refine Eq.trans ?_ (Cert.AdaBwd.final_4 m c).symm; rw [a1, a2]

end Cert.AdaBwd

end
-- ==== Proof.AdaFwd.lean ====
/- The ada layer's forward pass: the kernel's output and the reference's, entry by entry.  Hand-written, untrusted. -/
module

public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdaFwd

section
open Cert.Reference10Ideal Cert.Reference10Ideal.Gen
variable (a0 : FVec Ideal S8x8x1024 .f32) (a1 : FVec Ideal S1x1024x768 .f32) (a2 : FVec Ideal S1x768 .f32)

/-- The reference's result. -/
def ref : FVec Ideal S8x8x768 .f32 :=
  addf (Host.dotGeneral dot_S8x8x1024_S1024x768_S8x8x768_2_0_01_1_n_n none (mulf a0 (Host.divf (broadcastInDim S8x8x1024 ![] bcast_S_S8x8x1024 (constant S_ .f32 0x3F800000#32)) (addf (broadcastInDim S8x8x1024 ![] bcast_S_S8x8x1024 (constant S_ .f32 0x3F800000#32)) (Host.exp (Host.negf a0))))) (shapeCast _ a1 shapeCasts_S1x1024x768_S1024x768)) (broadcastInDim S8x8x768 ![0, 1, 2] bcast_S1x1x768_S8x8x768_0_1_2 (broadcastInDim S1x1x768 ![2] bcast_S768_S1x1x768_2 (shapeCast _ a2 shapeCasts_S1x768_S768)))

/-- One entry of it: the activated vector times the weight's column, plus the bias. -/
theorem ref_at (k r : Fin 8) (j : Fin 768) :
    ref a0 a1 a2 (ix3 k r j) = (∑ a : Fin 1024, a0 (ix3 k r a) * Ideal.logistic (a0 (ix3 k r a)) * a1 (ix3 0 a j)) + a2 (ix2 0 j) := by
  pointwise [ref]
  rfl
end

open Cert.Kernel10Ideal Cert.Kernel10Ideal.Gen

section
variable (x : Vec Ideal S1x8x1024 .f32) (w : Vec Ideal S1024x768 .bf16) (b : Vec Ideal S1x768 .f32) (q : Fin 1) (r : Fin 8) (j : Fin 768)

/-- What the kernel stores for one device's rows. -/
def fwdT : EReal := (∑ a : Fin 1024, x (ix3 0 r a) * Ideal.logistic (x (ix3 0 r a)) * w (ix2 a j)) + b (ix2 0 j)

/-- Each of the eight stores writes such entries. -/
theorem pay_0 : k0_pay3 x w b (ix3 q r j) = fwdT x w b r j := by
  pointwise [k0_pay3, fwdT]
theorem pay_1 : k0_pay4 x w b (ix3 q r j) = fwdT x w b r j := by
  pointwise [k0_pay4, fwdT]
theorem pay_2 : k0_pay6 (k0_pay5 x) w b (ix3 q r j) = fwdT x w b r j := by
  pointwise [k0_pay6, k0_pay5, fwdT]
theorem pay_3 : k0_pay7 x w b (ix3 q r j) = fwdT x w b r j := by
  pointwise [k0_pay7, fwdT]
theorem pay_4 : k0_pay9 (k0_pay8 x w) b (ix3 q r j) = fwdT x w b r j := by
  pointwise [k0_pay9, k0_pay8, fwdT]
theorem pay_5 : k0_pay10 x w b (ix3 q r j) = fwdT x w b r j := by
  pointwise [k0_pay10, fwdT]
theorem pay_6 : k0_pay1 (k0_pay11 x w b) (ix3 q r j) = fwdT x w b r j := by
  pointwise [k0_pay1, k0_pay11, fwdT]
theorem pay_7 : k0_pay2 x w b (ix3 q r j) = fwdT x w b r j := by
  pointwise [k0_pay2, fwdT]
end

variable (m : (ℓ : Loc nD τ sig) → Buf (Elt Ideal) ℓ) (c : Dev nD)

/-- The conditioning vectors, the weight's shard and the bias's. -/
abbrev A0 : FVec Ideal S8x8x1024 .f32 := m ((c : Thread nD τ).loc main_arg0)
abbrev A1 : FVec Ideal S1x1024x768 .f32 := m ((c : Thread nD τ).loc main_arg1)
abbrev A2 : FVec Ideal S1x768 .f32 := m ((c : Thread nD τ).loc main_arg2)

/-- The call takes the weight's matrix in the narrower format. -/
theorem V_v1 : (V m c main_v1 : FVec Ideal S1024x768 .bf16)
    = truncf .bf16 (shapeCast S1024x768 (A1 m c) shapeCasts_S1x1024x768_S1024x768) bitsLt_bf16_f32 := rfl

/-- The one point's windows are whole arrays. -/
theorem idx_val : ∀ t : Fin cfg0.N, win0_0.index t = ![0, 0, 0]
    ∧ win0_1.index t = ![0, 0]
    ∧ win0_2.index t = ![0, 0]
    ∧ win0_3.index t = ![0, 0, 0] :=
  (by decide +kernel : ∀ t : Fin grid0.N, _)

section
variable (t : Fin cfg0.N)

/-- The three inputs' blocks are the arguments. -/
theorem blk_0 (k r : Fin 8) (a : Fin 1024) : (iblk m c 0 t : Vec Ideal S8x8x1024 .f32) (ix3 k r a) = A0 m c (ix3 k r a) := by
  blk_ext [iblk, V, idx_val t]
theorem blk_1 (a : Fin 1024) (j : Fin 768) : (iblk m c 1 t : Vec Ideal S1024x768 .bf16) (ix2 a j) = A1 m c (ix3 0 a j) := by
  have h : (iblk m c 1 t : Vec Ideal S1024x768 .bf16) (ix2 a j) = (V m c main_v1 : FVec Ideal S1024x768 .bf16) (ix2 a j) := by
    blk_ext [iblk, idx_val t]
  rw [h, V_v1]; pointwise
theorem blk_2 (j : Fin 768) : (iblk m c 2 t : Vec Ideal S1x768 .f32) (ix2 0 j) = A2 m c (ix2 0 j) := by
  blk_ext [iblk, V, idx_val t]
end

/-- An entry over blocks that hold device `k`'s rows of the arguments is the reference's. -/
theorem fwdT_eq (k : Fin 8) (x : Vec Ideal S1x8x1024 .f32) (w : Vec Ideal S1024x768 .bf16) (b : Vec Ideal S1x768 .f32)
    (hx : ∀ r a, x (ix3 0 r a) = A0 m c (ix3 k r a)) (hw : ∀ a j, w (ix2 a j) = A1 m c (ix3 0 a j))
    (hb : ∀ j, b (ix2 0 j) = A2 m c (ix2 0 j)) (r : Fin 8) (j : Fin 768) :
    fwdT x w b r j = ref (A0 m c) (A1 m c) (A2 m c) (ix3 k r j) := by
  rw [ref_at]
  exact Ideal.add_congr (Fin.sum_fin_congr fun a => by rw [hx, hw]) (hb j)

/-- The output is the reference's result. -/
theorem final_3 : (dats m 0 c).arrAt 3 (cfgs 0).N = ref (A0 m c) (A1 m c) (A2 m c) := by
  refine (dats m 0 c).arrAt_eq_of_covers 3 _ (by decide +kernel) fun t hf y => ?_
  blk_simp; rw [after0_3]; frame_out
  have e : ((View.whole main_v2).slice (win0_3.rect t)).emb y = (y : S8x8x768.Idx) := by
    idx_vars y; blk_ext [idx_val t]
  rw [e]
  canon_tiles x h
  all_goals idx_vars x
  all_goals idx_vars y
  all_goals obtain rfl : y1 = x1 := Fin.ext h1
  all_goals obtain rfl : y2 = x2 := Fin.ext h2
  · obtain rfl : y0 = 7 := Fin.ext (by simpa using h0)
    rw [pay_7]
    exact fwdT_eq m c 7 _ _ _ (fun r a => by pointwise; exact blk_0 m c t _ _ _) (blk_1 m c t) (blk_2 m c t) y1 y2
  · obtain rfl : y0 = 6 := Fin.ext (by simpa using h0)
    rw [pay_6]
    exact fwdT_eq m c 6 _ _ _ (fun r a => by pointwise; exact blk_0 m c t _ _ _) (blk_1 m c t) (blk_2 m c t) y1 y2
  · obtain rfl : y0 = 5 := Fin.ext (by simpa using h0)
    rw [pay_5]
    exact fwdT_eq m c 5 _ _ _ (fun r a => by pointwise; exact blk_0 m c t _ _ _) (blk_1 m c t) (blk_2 m c t) y1 y2
  · obtain rfl : y0 = 4 := Fin.ext (by simpa using h0)
    rw [pay_4]
    exact fwdT_eq m c 4 _ _ _ (fun r a => by pointwise; exact blk_0 m c t _ _ _) (blk_1 m c t) (blk_2 m c t) y1 y2
  · obtain rfl : y0 = 3 := Fin.ext (by simpa using h0)
    rw [pay_3]
    exact fwdT_eq m c 3 _ _ _ (fun r a => by pointwise; exact blk_0 m c t _ _ _) (blk_1 m c t) (blk_2 m c t) y1 y2
  · obtain rfl : y0 = 2 := Fin.ext (by simpa using h0)
    rw [pay_2]
    exact fwdT_eq m c 2 _ _ _ (fun r a => by pointwise; exact blk_0 m c t _ _ _) (blk_1 m c t) (blk_2 m c t) y1 y2
  · obtain rfl : y0 = 1 := Fin.ext (by simpa using h0)
    rw [pay_1]
    exact fwdT_eq m c 1 _ _ _ (fun r a => by pointwise; exact blk_0 m c t _ _ _) (blk_1 m c t) (blk_2 m c t) y1 y2
  · obtain rfl : y0 = 0 := Fin.ext (by simpa using h0)
    rw [pay_0]
    exact fwdT_eq m c 0 _ _ _ (fun r a => by pointwise; exact blk_0 m c t _ _ _) (blk_1 m c t) (blk_2 m c t) y1 y2

end Cert.AdaFwd

end
-- ==== Proof.AdaFwdRun.lean ====
/- The runs of the two programs of the ada layer's forward pass and their equality.  Hand-written, untrusted. -/
module

public import proofs.«01_k».proof.Defs
public import proofs.«01_k».proof.Proof.AdaFwd
public import proofs.«01_k».proof.Proof.Gen.Reference10Ideal
public import proofs.«01_k».proof.Proof.Gen.Reference10Ideal.Run

@[expose] public section

set_option maxRecDepth 16384

noncomputable section

namespace Cert.AdaFwd

open Idealize.ShloMosaic Idealize.SL.Sem
open Cert.Reference10Ideal Cert.Reference10Ideal.Gen

/-- The reference's run: the layer's outputs, the arguments kept. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v12) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => h c) (Cert.Reference10Ideal.Value.run m ρ)

/-- The reference runs from every starting memory, keeps its arguments, and declares no semaphore. -/
theorem ref_frame : Cert.quiescent_Reference10Ideal := by
  intro m ρ _
  exact (θ_run defs _ _).mono (fun r h => ⟨fun c => (h c).2, Idealize.ShloMosaic.sem_eq_zero_of_no_sems (by decide) r.2⟩) (ref_run m ρ)

/-- The kernel's result is the reference's. -/
theorem value : Cert.algebraic_Kernel10Ideal_Reference10Ideal := by
  intro m g m' g' _ hagree
  refine ⟨fun c => (Cert.Kernel10Ideal.Gen.dats m 0 c).arrAt 3 (Cert.Kernel10Ideal.cfgs 0).N, Cert.Kernel10Ideal.Value.run_blocks m g, ?_⟩
  refine (θ_run Cert.Reference10Ideal.defs _ _).mono (fun r h c => ?_) (ref_run m' g')
  obtain ⟨e0, hargs⟩ := h c
  obtain ⟨a0, a1, a2⟩ := hagree c
  refine ⟨e0.trans ?_, hargs⟩
  refine Eq.trans ?_ (Cert.AdaFwd.final_3 m c).symm; rw [a0, a1, a2]

end Cert.AdaFwd

end
-- ==== Proof.CtxBwd.lean ====
/- The context vector's gradient: the kernel's output and the reference's, entry by entry.  Hand-written, untrusted. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.CtxBwd

/-- The gradient of `c·σ(c)` times `d`. -/
def grad (d c : EReal) : EReal := d * Ideal.logistic c + c * d * (Ideal.logistic c * (1 - Ideal.logistic c))

section
open Cert.Reference11Ideal Cert.Reference11Ideal.Gen
variable (a0 : FVec Ideal S8x8x1024 .f32) (a1 : FVec Ideal S1024 .f32)

/-- The reference's result. -/
def ref : FVec Ideal S1x1024 .f32 :=
  broadcastInDim S1x1024 ![1] bcast_S1024_S1x1024_1 (addf (mulf (Host.reduceAdd (shapeCast _ (Host.slice S4x1x1024 ![0, 0, 0] ![2, 1, 1] a0 slicesBy_S8x8x1024_S4x1x1024_0s2_0s1_0s1) shapeCasts_S4x1x1024_S4x1024) (constant S_ .f32 0x00000000#32) reducesTo_S4x1024_S1024_d0 h_S_) (Host.divf (broadcastInDim S1024 ![] bcast_S_S1024 (constant S_ .f32 0x3F800000#32)) (addf (broadcastInDim S1024 ![] bcast_S_S1024 (constant S_ .f32 0x3F800000#32)) (Host.exp (Host.negf a1))))) (mulf (mulf a1 (Host.reduceAdd (shapeCast _ (Host.slice S4x1x1024 ![0, 0, 0] ![2, 1, 1] a0 slicesBy_S8x8x1024_S4x1x1024_0s2_0s1_0s1) shapeCasts_S4x1x1024_S4x1024) (constant S_ .f32 0x00000000#32) reducesTo_S4x1024_S1024_d0 h_S_)) (mulf (Host.divf (broadcastInDim S1024 ![] bcast_S_S1024 (constant S_ .f32 0x3F800000#32)) (addf (broadcastInDim S1024 ![] bcast_S_S1024 (constant S_ .f32 0x3F800000#32)) (Host.exp (Host.negf a1)))) (subf (broadcastInDim S1024 ![] bcast_S_S1024 (constant S_ .f32 0x3F800000#32)) (Host.divf (broadcastInDim S1024 ![] bcast_S_S1024 (constant S_ .f32 0x3F800000#32)) (addf (broadcastInDim S1024 ![] bcast_S_S1024 (constant S_ .f32 0x3F800000#32)) (Host.exp (Host.negf a1))))))))

/-- One entry of it. -/
theorem ref_at (q : Fin 1) (a : Fin 1024) :
    ref a0 a1 (ix2 q a) = grad (a0 (ix3 0 0 a) + a0 (ix3 2 0 a) + a0 (ix3 4 0 a) + a0 (ix3 6 0 a)) (a1 (ix1 a)) := by
  pointwise [ref, grad, Fin.sum_univ_four]
  rfl
end

open Cert.Kernel11Ideal Cert.Kernel11Ideal.Gen

/-- What the store writes, element by element. -/
theorem pay_at (x0 x1 x2 x3 : Vec Ideal S1x1x1024 .f32) (v : Vec Ideal S1x1024 .f32) (q : Fin 1) (a : Fin 1024) :
    k0_pay1 x0 x1 x2 x3 v (ix2 q a) = grad (x0 (ix3 0 0 a) + x1 (ix3 0 0 a) + x2 (ix3 0 0 a) + x3 (ix3 0 0 a)) (v (ix2 0 a)) := by
  obtain rfl : q = 0 := Subsingleton.elim _ _
  pointwise [k0_pay1, grad]

variable (m : (ℓ : Loc nD τ sig) → Buf (Elt Ideal) ℓ) (c : Dev nD)

/-- The gathered packed arrays and the context vector. -/
abbrev A0 : FVec Ideal S8x8x1024 .f32 := m ((c : Thread nD τ).loc main_arg0)
abbrev A1 : FVec Ideal S1024 .f32 := m ((c : Thread nD τ).loc main_arg1)

/-- The call takes the context vector as one row. -/
theorem V_v0 : (V m c main_v0 : FVec Ideal S1x1024 .f32) = broadcastInDim S1x1024 ![1] bcast_S1024_S1x1024_1 (A1 m c) := rfl

/-- The one point's windows are whole arrays. -/
theorem idx_val : ∀ t : Fin cfg0.N, win0_0.index t = ![0, 0, 0]
    ∧ win0_1.index t = ![0, 0]
    ∧ win0_2.index t = ![0, 0] :=
  (by decide +kernel : ∀ t : Fin grid0.N, _)

section
variable (t : Fin cfg0.N)

/-- The two inputs' blocks are the arguments. -/
theorem blk_0 (k r : Fin 8) (a : Fin 1024) : (iblk m c 0 t : Vec Ideal S8x8x1024 .f32) (ix3 k r a) = A0 m c (ix3 k r a) := by
  blk_ext [iblk, V, idx_val t]
theorem blk_1 (a : Fin 1024) : (iblk m c 1 t : Vec Ideal S1x1024 .f32) (ix2 0 a) = A1 m c (ix1 a) := by
  have h : (iblk m c 1 t : Vec Ideal S1x1024 .f32) (ix2 0 a) = (V m c main_v0 : FVec Ideal S1x1024 .f32) (ix2 0 a) := by
    blk_ext [iblk, idx_val t]
  rw [h, V_v0]; pointwise
end

/-- The output is the reference's result. -/
theorem final_2 : (dats m 0 c).arrAt 2 (cfgs 0).N = ref (A0 m c) (A1 m c) := by
  refine (dats m 0 c).arrAt_eq_of_covers 2 _ (by decide +kernel) fun t hf y => ?_
  blk_simp; rw [after0_2]; frame_out
  idx_vars y
  have e : ((View.whole main_v1).slice (win0_2.rect t)).emb (ix2 y0 y1) = (ix2 y0 y1 : S1x1024.Idx) := by
    blk_ext [idx_val t]
  rw [e, pay_at, ref_at]
  refine congrArg₂ grad (Ideal.add_congr (Ideal.add_congr (Ideal.add_congr ?_ ?_) ?_) ?_) (blk_1 m c t y1)
  all_goals pointwise
  all_goals exact blk_0 m c t _ _ _

end Cert.CtxBwd

end
-- ==== Proof.CtxBwdRun.lean ====
/- The runs of the two programs of the context vector's gradient and their equality.  Hand-written, untrusted. -/
module

public import proofs.«01_k».proof.Defs
public import proofs.«01_k».proof.Proof.CtxBwd
public import proofs.«01_k».proof.Proof.Gen.Reference11Ideal
public import proofs.«01_k».proof.Proof.Gen.Reference11Ideal.Run

@[expose] public section

set_option maxRecDepth 16384

noncomputable section

namespace Cert.CtxBwd

open Idealize.ShloMosaic Idealize.SL.Sem
open Cert.Reference11Ideal Cert.Reference11Ideal.Gen

/-- The reference's run: the gradient, the arguments kept. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v17) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => h c) (Cert.Reference11Ideal.Value.run m ρ)

/-- The reference runs from every starting memory, keeps its arguments, and declares no semaphore. -/
theorem ref_frame : Cert.quiescent_Reference11Ideal := by
  intro m ρ _
  exact (θ_run defs _ _).mono (fun r h => ⟨fun c => (h c).2, Idealize.ShloMosaic.sem_eq_zero_of_no_sems (by decide) r.2⟩) (ref_run m ρ)

/-- The kernel's result is the reference's. -/
theorem value : Cert.algebraic_Kernel11Ideal_Reference11Ideal := by
  intro m g m' g' _ hagree
  refine ⟨fun c => (Cert.Kernel11Ideal.Gen.dats m 0 c).arrAt 2 (Cert.Kernel11Ideal.cfgs 0).N, Cert.Kernel11Ideal.Value.run_blocks m g, ?_⟩
  refine (θ_run Cert.Reference11Ideal.defs _ _).mono (fun r h c => ?_) (ref_run m' g')
  obtain ⟨e0, hargs⟩ := h c
  obtain ⟨a0, a1⟩ := hagree c
  refine ⟨e0.trans ?_, hargs⟩
  refine Eq.trans ?_ (Cert.CtxBwd.final_2 m c).symm; rw [a0, a1]

end Cert.CtxBwd

end
-- ==== Proof.TailRunA.lean ====
/- The body of the step's tail, run at the first tile of all.  Hand-written, untrusted. -/
module

public import proofs.«01_k».proof.Proof.Gen.Kernel4Ideal.Frame.Runs

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The body's run over its thirty-four buffers is one long term: the limit is raised for this declaration alone.
set_option maxHeartbeats 6000000 in
/-- The run of the body at the first tile of all: from its input blocks at `x·` and its output blocks at anything,
    it ends with the inputs as they were and each output's block with the listed pieces written to it. -/
def kernelRun_A (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x512 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x256x512 .f32) (harg21 : arg21.IsWhole) (arg22 : Memref sig .tc .vmem S1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S1x256x512 .f32) (harg25 : arg25.IsWhole) (arg26 : Memref sig .tc .vmem S1x256x1024 .f32) (harg26 : arg26.IsWhole) (arg27 : Memref sig .tc .vmem S512x1024 .f32) (harg27 : arg27.IsWhole) (arg28 : Memref sig .tc .vmem S512x1024 .f32) (harg28 : arg28.IsWhole) (arg29 : Memref sig .tc .vmem S1x1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x512 .f32) (harg32 : arg32.IsWhole) (arg33 : Memref sig .tc .vmem S512x512 .f32) (harg33 : arg33.IsWhole) (arg34 : Memref sig .tc .vmem S1x512 .f32) (harg34 : arg34.IsWhole) (arg35 : Memref sig .tc .vmem S1x128 .f32) (harg35 : arg35.IsWhole) (hc0 : cond0_0 i) (hc1 : cond0_1 i)
    (x0 : Vec F S1x256x512 .f32) (x1 : Vec F S1x256x512 .f32) (x2 : Vec F S1x256x512 .f32) (x3 : Vec F S1x256x512 .f32) (x4 : Vec F S1x256x512 .f32) (x5 : Vec F S1x256x512 .f32) (x6 : Vec F S1x256x512 .f32) (x7 : Vec F S1x256x1024 .f32) (x8 : Vec F S1x256x1024 .f32) (x9 : Vec F S1x1x1024 .f32) (x10 : Vec F S1x1024 .f32) (x11 : Vec F S1x1024 .f32) (x12 : Vec F S512x1024 .bf16) (x13 : Vec F S512x1024 .bf16) (x14 : Vec F S1x512 .f32) (x15 : Vec F S512x512 .bf16) (x16 : Vec F S1x512 .f32) (x17 : Vec F S1x128 .f32) :
    Σ' (L18 : List (View.Piece (Elt F) S1x8x128 .f32)), Σ' (L19 : List (View.Piece (Elt F) S1x256x512 .f32)), Σ' (L20 : List (View.Piece (Elt F) S1x256x512 .f32)), Σ' (L21 : List (View.Piece (Elt F) S1x256x512 .f32)), Σ' (L22 : List (View.Piece (Elt F) S1x256x512 .f32)), Σ' (L23 : List (View.Piece (Elt F) S1x256x512 .f32)), Σ' (L24 : List (View.Piece (Elt F) S1x256x1024 .f32)), Σ' (L25 : List (View.Piece (Elt F) S512x1024 .f32)), Σ' (L26 : List (View.Piece (Elt F) S512x1024 .f32)), Σ' (L27 : List (View.Piece (Elt F) S1x1x1024 .f32)), Σ' (L28 : List (View.Piece (Elt F) S1x1024 .f32)), Σ' (L29 : List (View.Piece (Elt F) S1x1024 .f32)), Σ' (L30 : List (View.Piece (Elt F) S1x512 .f32)), Σ' (L31 : List (View.Piece (Elt F) S512x512 .f32)), Σ' (L32 : List (View.Piece (Elt F) S1x512 .f32)), { L33 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33)) -∗ K ⟨⟩))
          ⊢ wp frame (wpE (defs₀ (F := F)) Variants.none c none) E (cc0_tail_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, ?_, ?_, ?_, ?_, ?_, ?_, ?_, ?_, ?_, ?_, fun E K => ?run⟩
  case run =>
    simp only [cc0_tail_fwd_bwd_eq_skeleton]; unfold cc0_tail_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.Tail

end
-- ==== Proof.TailRunB.lean ====
/- The body of the step's tail, run at a tile inside a batch row.  Hand-written, untrusted. -/
module

public import proofs.«01_k».proof.Proof.Gen.Kernel4Ideal.Frame.Runs

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The body's run over its thirty-four buffers is one long term: the limit is raised for this declaration alone.
set_option maxHeartbeats 6000000 in
/-- The run of the body at a tile inside a batch row: from its input blocks at `x·` and its output blocks at anything, those it adds to at `xo·`,
    it ends with the inputs as they were and each output's block with the listed pieces written to it. -/
def kernelRun_B (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x512 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x256x512 .f32) (harg21 : arg21.IsWhole) (arg22 : Memref sig .tc .vmem S1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S1x256x512 .f32) (harg25 : arg25.IsWhole) (arg26 : Memref sig .tc .vmem S1x256x1024 .f32) (harg26 : arg26.IsWhole) (arg27 : Memref sig .tc .vmem S512x1024 .f32) (harg27 : arg27.IsWhole) (arg28 : Memref sig .tc .vmem S512x1024 .f32) (harg28 : arg28.IsWhole) (arg29 : Memref sig .tc .vmem S1x1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x512 .f32) (harg32 : arg32.IsWhole) (arg33 : Memref sig .tc .vmem S512x512 .f32) (harg33 : arg33.IsWhole) (arg34 : Memref sig .tc .vmem S1x512 .f32) (harg34 : arg34.IsWhole) (arg35 : Memref sig .tc .vmem S1x128 .f32) (harg35 : arg35.IsWhole) (hc0 : ¬cond0_0 i) (hc1 : ¬cond0_1 i)
    (x0 : Vec F S1x256x512 .f32) (x1 : Vec F S1x256x512 .f32) (x2 : Vec F S1x256x512 .f32) (x3 : Vec F S1x256x512 .f32) (x4 : Vec F S1x256x512 .f32) (x5 : Vec F S1x256x512 .f32) (x6 : Vec F S1x256x512 .f32) (x7 : Vec F S1x256x1024 .f32) (x8 : Vec F S1x256x1024 .f32) (x9 : Vec F S1x1x1024 .f32) (x10 : Vec F S1x1024 .f32) (x11 : Vec F S1x1024 .f32) (x12 : Vec F S512x1024 .bf16) (x13 : Vec F S512x1024 .bf16) (x14 : Vec F S1x512 .f32) (x15 : Vec F S512x512 .bf16) (x16 : Vec F S1x512 .f32) (x17 : Vec F S1x128 .f32) (xo18 : Vec F S1x8x128 .f32) (xo25 : Vec F S512x1024 .f32) (xo26 : Vec F S512x1024 .f32) (xo27 : Vec F S1x1x1024 .f32) (xo28 : Vec F S1x1024 .f32) (xo29 : Vec F S1x1024 .f32) (xo30 : Vec F S1x512 .f32) (xo31 : Vec F S512x512 .f32) (xo32 : Vec F S1x512 .f32) (xo33 : Vec F S1x128 .f32) :
    Σ' (L18 : List (View.Piece (Elt F) S1x8x128 .f32)), Σ' (L19 : List (View.Piece (Elt F) S1x256x512 .f32)), Σ' (L20 : List (View.Piece (Elt F) S1x256x512 .f32)), Σ' (L21 : List (View.Piece (Elt F) S1x256x512 .f32)), Σ' (L22 : List (View.Piece (Elt F) S1x256x512 .f32)), Σ' (L23 : List (View.Piece (Elt F) S1x256x512 .f32)), Σ' (L24 : List (View.Piece (Elt F) S1x256x1024 .f32)), Σ' (L25 : List (View.Piece (Elt F) S512x1024 .f32)), Σ' (L26 : List (View.Piece (Elt F) S512x1024 .f32)), Σ' (L27 : List (View.Piece (Elt F) S1x1x1024 .f32)), Σ' (L28 : List (View.Piece (Elt F) S1x1024 .f32)), Σ' (L29 : List (View.Piece (Elt F) S1x1024 .f32)), Σ' (L30 : List (View.Piece (Elt F) S1x512 .f32)), Σ' (L31 : List (View.Piece (Elt F) S512x512 .f32)), Σ' (L32 : List (View.Piece (Elt F) S1x512 .f32)), { L33 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xo18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xo25 ∗ owns (c : Thread nD τ) arg28 fullShare xo26 ∗ owns (c : Thread nD τ) arg29 fullShare xo27 ∗ owns (c : Thread nD τ) arg30 fullShare xo28 ∗ owns (c : Thread nD τ) arg31 fullShare xo29 ∗ owns (c : Thread nD τ) arg32 fullShare xo30 ∗ owns (c : Thread nD τ) arg33 fullShare xo31 ∗ owns (c : Thread nD τ) arg34 fullShare xo32 ∗ owns (c : Thread nD τ) arg35 fullShare xo33
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33)) -∗ K ⟨⟩))
          ⊢ wp frame (wpE (defs₀ (F := F)) Variants.none c none) E (cc0_tail_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, ?_, ?_, ?_, ?_, ?_, ?_, ?_, ?_, ?_, ?_, fun E K => ?run⟩
  case run =>
    simp only [cc0_tail_fwd_bwd_eq_skeleton]; unfold cc0_tail_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.Tail

end
-- ==== Proof.TailRunC.lean ====
/- The body of the step's tail, run at the first tile of a later batch row.  Hand-written, untrusted. -/
module

public import proofs.«01_k».proof.Proof.Gen.Kernel4Ideal.Frame.Runs

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The body's run over its thirty-four buffers is one long term: the limit is raised for this declaration alone.
set_option maxHeartbeats 6000000 in
/-- The run of the body at the first tile of a later batch row: from its input blocks at `x·` and its output blocks at anything, those it adds to at `xo·`,
    it ends with the inputs as they were and each output's block with the listed pieces written to it. -/
def kernelRun_C (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x512 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x256x512 .f32) (harg21 : arg21.IsWhole) (arg22 : Memref sig .tc .vmem S1x256x512 .f32) (harg22 : arg22.IsWhole) (arg23 : Memref sig .tc .vmem S1x256x512 .f32) (harg23 : arg23.IsWhole) (arg24 : Memref sig .tc .vmem S1x256x512 .f32) (harg24 : arg24.IsWhole) (arg25 : Memref sig .tc .vmem S1x256x512 .f32) (harg25 : arg25.IsWhole) (arg26 : Memref sig .tc .vmem S1x256x1024 .f32) (harg26 : arg26.IsWhole) (arg27 : Memref sig .tc .vmem S512x1024 .f32) (harg27 : arg27.IsWhole) (arg28 : Memref sig .tc .vmem S512x1024 .f32) (harg28 : arg28.IsWhole) (arg29 : Memref sig .tc .vmem S1x1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x512 .f32) (harg32 : arg32.IsWhole) (arg33 : Memref sig .tc .vmem S512x512 .f32) (harg33 : arg33.IsWhole) (arg34 : Memref sig .tc .vmem S1x512 .f32) (harg34 : arg34.IsWhole) (arg35 : Memref sig .tc .vmem S1x128 .f32) (harg35 : arg35.IsWhole) (hc0 : ¬cond0_0 i) (hc1 : cond0_1 i)
    (x0 : Vec F S1x256x512 .f32) (x1 : Vec F S1x256x512 .f32) (x2 : Vec F S1x256x512 .f32) (x3 : Vec F S1x256x512 .f32) (x4 : Vec F S1x256x512 .f32) (x5 : Vec F S1x256x512 .f32) (x6 : Vec F S1x256x512 .f32) (x7 : Vec F S1x256x1024 .f32) (x8 : Vec F S1x256x1024 .f32) (x9 : Vec F S1x1x1024 .f32) (x10 : Vec F S1x1024 .f32) (x11 : Vec F S1x1024 .f32) (x12 : Vec F S512x1024 .bf16) (x13 : Vec F S512x1024 .bf16) (x14 : Vec F S1x512 .f32) (x15 : Vec F S512x512 .bf16) (x16 : Vec F S1x512 .f32) (x17 : Vec F S1x128 .f32) (xo25 : Vec F S512x1024 .f32) (xo26 : Vec F S512x1024 .f32) (xo28 : Vec F S1x1024 .f32) (xo29 : Vec F S1x1024 .f32) (xo30 : Vec F S1x512 .f32) (xo31 : Vec F S512x512 .f32) (xo32 : Vec F S1x512 .f32) (xo33 : Vec F S1x128 .f32) :
    Σ' (L18 : List (View.Piece (Elt F) S1x8x128 .f32)), Σ' (L19 : List (View.Piece (Elt F) S1x256x512 .f32)), Σ' (L20 : List (View.Piece (Elt F) S1x256x512 .f32)), Σ' (L21 : List (View.Piece (Elt F) S1x256x512 .f32)), Σ' (L22 : List (View.Piece (Elt F) S1x256x512 .f32)), Σ' (L23 : List (View.Piece (Elt F) S1x256x512 .f32)), Σ' (L24 : List (View.Piece (Elt F) S1x256x1024 .f32)), Σ' (L25 : List (View.Piece (Elt F) S512x1024 .f32)), Σ' (L26 : List (View.Piece (Elt F) S512x1024 .f32)), Σ' (L27 : List (View.Piece (Elt F) S1x1x1024 .f32)), Σ' (L28 : List (View.Piece (Elt F) S1x1024 .f32)), Σ' (L29 : List (View.Piece (Elt F) S1x1024 .f32)), Σ' (L30 : List (View.Piece (Elt F) S1x512 .f32)), Σ' (L31 : List (View.Piece (Elt F) S512x512 .f32)), Σ' (L32 : List (View.Piece (Elt F) S1x512 .f32)), { L33 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xo25 ∗ owns (c : Thread nD τ) arg28 fullShare xo26 ∗ (∃ d, owns (c : Thread nD τ) arg29 fullShare d) ∗ owns (c : Thread nD τ) arg30 fullShare xo28 ∗ owns (c : Thread nD τ) arg31 fullShare xo29 ∗ owns (c : Thread nD τ) arg32 fullShare xo30 ∗ owns (c : Thread nD τ) arg33 fullShare xo31 ∗ owns (c : Thread nD τ) arg34 fullShare xo32 ∗ owns (c : Thread nD τ) arg35 fullShare xo33
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33)) -∗ K ⟨⟩))
          ⊢ wp frame (wpE (defs₀ (F := F)) Variants.none c none) E (cc0_tail_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, ?_, ?_, ?_, ?_, ?_, ?_, ?_, ?_, ?_, ?_, fun E K => ?run⟩
  case run =>
    simp only [cc0_tail_fwd_bwd_eq_skeleton]; unfold cc0_tail_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%f26, %hf26, H26⟩, ⟨%d27, %f27, -, H27⟩, ⟨%f28, %hf28, H28⟩, ⟨%f29, %hf29, H29⟩, ⟨%f30, %hf30, H30⟩, ⟨%f31, %hf31, H31⟩, ⟨%f32, %hf32, H32⟩, ⟨%f33, %hf33, H33⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg27.eq_unread hf25; obtain rfl := harg28.eq_unread hf26; obtain rfl := harg30.eq_unread hf28; obtain rfl := harg31.eq_unread hf29; obtain rfl := harg32.eq_unread hf30; obtain rfl := harg33.eq_unread hf31; obtain rfl := harg34.eq_unread hf32; obtain rfl := harg35.eq_unread hf33
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.Tail

end
-- ==== Proof.TailDefs.lean ====
/- The tail's outputs point by point, and the proof data of its pipeline.  Hand-written, untrusted. -/
module

public import proofs.«01_k».proof.Proof.TailRunA
public import proofs.«01_k».proof.Proof.TailRunB
public import proofs.«01_k».proof.Proof.TailRunC
public import Idealize.ShloMosaic.Lib.Claim
public import Idealize.ShloMosaic.Lib.Pipeline.Value

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen output blocks of one tile. -/
abbrev Outs (F : FTy → Type) [FloatOps F] : Type := Vec F S1x8x128 .f32 × Vec F S1x256x512 .f32 × Vec F S1x256x512 .f32 × Vec F S1x256x512 .f32 × Vec F S1x256x512 .f32 × Vec F S1x256x512 .f32 × Vec F S1x256x1024 .f32 × Vec F S512x1024 .f32 × Vec F S512x1024 .f32 × Vec F S1x1x1024 .f32 × Vec F S1x1024 .f32 × Vec F S1x1024 .f32 × Vec F S1x512 .f32 × Vec F S512x512 .f32 × Vec F S1x512 .f32 × Vec F S1x128 .f32

/-- The body's run at the first tile of all, at the tile's buffers and input blocks. -/
def runAt_A (c : Dev nD) (t : Fin cfg0.N) (h0 : t.val % 16 = 0) (h1 : t.val % 8 = 0) :=
  kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) ((hcond0_0 t).mpr h0) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- What the first tile of all leaves in the sixteen output blocks. -/
def out_A (c : Dev nD) (t : Fin cfg0.N) (h0 : t.val % 16 = 0) (h1 : t.val % 8 = 0) : Outs F :=
  (VO0_18.read (Elt F) (VO0_18.writes (Elt F) VO0_18.junk (runAt_A m c t h0 h1).1),
   VO0_19.read (Elt F) (VO0_19.writes (Elt F) VO0_19.junk (runAt_A m c t h0 h1).2.1),
   VO0_20.read (Elt F) (VO0_20.writes (Elt F) VO0_20.junk (runAt_A m c t h0 h1).2.2.1),
   VO0_21.read (Elt F) (VO0_21.writes (Elt F) VO0_21.junk (runAt_A m c t h0 h1).2.2.2.1),
   VO0_22.read (Elt F) (VO0_22.writes (Elt F) VO0_22.junk (runAt_A m c t h0 h1).2.2.2.2.1),
   VO0_23.read (Elt F) (VO0_23.writes (Elt F) VO0_23.junk (runAt_A m c t h0 h1).2.2.2.2.2.1),
   VO0_24.read (Elt F) (VO0_24.writes (Elt F) VO0_24.junk (runAt_A m c t h0 h1).2.2.2.2.2.2.1),
   VO0_25.read (Elt F) (VO0_25.writes (Elt F) VO0_25.junk (runAt_A m c t h0 h1).2.2.2.2.2.2.2.1),
   VO0_26.read (Elt F) (VO0_26.writes (Elt F) VO0_26.junk (runAt_A m c t h0 h1).2.2.2.2.2.2.2.2.1),
   VO0_27.read (Elt F) (VO0_27.writes (Elt F) VO0_27.junk (runAt_A m c t h0 h1).2.2.2.2.2.2.2.2.2.1),
   VO0_28.read (Elt F) (VO0_28.writes (Elt F) VO0_28.junk (runAt_A m c t h0 h1).2.2.2.2.2.2.2.2.2.2.1),
   VO0_29.read (Elt F) (VO0_29.writes (Elt F) VO0_29.junk (runAt_A m c t h0 h1).2.2.2.2.2.2.2.2.2.2.2.1),
   VO0_30.read (Elt F) (VO0_30.writes (Elt F) VO0_30.junk (runAt_A m c t h0 h1).2.2.2.2.2.2.2.2.2.2.2.2.1),
   VO0_31.read (Elt F) (VO0_31.writes (Elt F) VO0_31.junk (runAt_A m c t h0 h1).2.2.2.2.2.2.2.2.2.2.2.2.2.1),
   VO0_32.read (Elt F) (VO0_32.writes (Elt F) VO0_32.junk (runAt_A m c t h0 h1).2.2.2.2.2.2.2.2.2.2.2.2.2.2.1),
   VO0_33.read (Elt F) (VO0_33.writes (Elt F) VO0_33.junk (runAt_A m c t h0 h1).2.2.2.2.2.2.2.2.2.2.2.2.2.2.2.1))

/-- At the first tile of all the pieces written to output 0 cover its block. -/
theorem cover_A_18 (c : Dev nD) (t : Fin cfg0.N) (h0 : t.val % 16 = 0) (h1 : t.val % 8 = 0) (y : S1x8x128.Idx) :
    ∃ pc ∈ (runAt_A m c t h0 h1).1, y ∈ pc.1.set :=
  View.cover_of_tiledL _ S1x8x128.size (by sl_kernel_rfl) y

/-- At the first tile of all the pieces written to output 1 cover its block. -/
theorem cover_A_19 (c : Dev nD) (t : Fin cfg0.N) (h0 : t.val % 16 = 0) (h1 : t.val % 8 = 0) (y : S1x256x512.Idx) :
    ∃ pc ∈ (runAt_A m c t h0 h1).2.1, y ∈ pc.1.set :=
  View.cover_of_tiledL _ S1x256x512.size (by sl_kernel_rfl) y

/-- At the first tile of all the pieces written to output 2 cover its block. -/
theorem cover_A_20 (c : Dev nD) (t : Fin cfg0.N) (h0 : t.val % 16 = 0) (h1 : t.val % 8 = 0) (y : S1x256x512.Idx) :
    ∃ pc ∈ (runAt_A m c t h0 h1).2.2.1, y ∈ pc.1.set :=
  View.cover_of_tiledL _ S1x256x512.size (by sl_kernel_rfl) y

/-- At the first tile of all the pieces written to output 3 cover its block. -/
theorem cover_A_21 (c : Dev nD) (t : Fin cfg0.N) (h0 : t.val % 16 = 0) (h1 : t.val % 8 = 0) (y : S1x256x512.Idx) :
    ∃ pc ∈ (runAt_A m c t h0 h1).2.2.2.1, y ∈ pc.1.set :=
  View.cover_of_tiledL _ S1x256x512.size (by sl_kernel_rfl) y

/-- At the first tile of all the pieces written to output 4 cover its block. -/
theorem cover_A_22 (c : Dev nD) (t : Fin cfg0.N) (h0 : t.val % 16 = 0) (h1 : t.val % 8 = 0) (y : S1x256x512.Idx) :
    ∃ pc ∈ (runAt_A m c t h0 h1).2.2.2.2.1, y ∈ pc.1.set :=
  View.cover_of_tiledL (runAt_A m c t h0 h1).2.2.2.2.1 ![1, 256, 128] (by sl_kernel_rfl) y

/-- At the first tile of all the pieces written to output 5 cover its block. -/
theorem cover_A_23 (c : Dev nD) (t : Fin cfg0.N) (h0 : t.val % 16 = 0) (h1 : t.val % 8 = 0) (y : S1x256x512.Idx) :
    ∃ pc ∈ (runAt_A m c t h0 h1).2.2.2.2.2.1, y ∈ pc.1.set :=
  View.cover_of_tiledL (runAt_A m c t h0 h1).2.2.2.2.2.1 ![1, 256, 128] (by sl_kernel_rfl) y

/-- At the first tile of all the pieces written to output 6 cover its block. -/
theorem cover_A_24 (c : Dev nD) (t : Fin cfg0.N) (h0 : t.val % 16 = 0) (h1 : t.val % 8 = 0) (y : S1x256x1024.Idx) :
    ∃ pc ∈ (runAt_A m c t h0 h1).2.2.2.2.2.2.1, y ∈ pc.1.set :=
  View.cover_of_tiledL _ S1x256x1024.size (by sl_kernel_rfl) y

/-- At the first tile of all the pieces written to output 7 cover its block. -/
theorem cover_A_25 (c : Dev nD) (t : Fin cfg0.N) (h0 : t.val % 16 = 0) (h1 : t.val % 8 = 0) (y : S512x1024.Idx) :
    ∃ pc ∈ (runAt_A m c t h0 h1).2.2.2.2.2.2.2.1, y ∈ pc.1.set :=
  View.cover_of_tiledL _ S512x1024.size (by sl_kernel_rfl) y

/-- At the first tile of all the pieces written to output 8 cover its block. -/
theorem cover_A_26 (c : Dev nD) (t : Fin cfg0.N) (h0 : t.val % 16 = 0) (h1 : t.val % 8 = 0) (y : S512x1024.Idx) :
    ∃ pc ∈ (runAt_A m c t h0 h1).2.2.2.2.2.2.2.2.1, y ∈ pc.1.set :=
  View.cover_of_tiledL _ S512x1024.size (by sl_kernel_rfl) y

/-- At the first tile of all the pieces written to output 9 cover its block. -/
theorem cover_A_27 (c : Dev nD) (t : Fin cfg0.N) (h0 : t.val % 16 = 0) (h1 : t.val % 8 = 0) (y : S1x1x1024.Idx) :
    ∃ pc ∈ (runAt_A m c t h0 h1).2.2.2.2.2.2.2.2.2.1, y ∈ pc.1.set :=
  View.cover_of_tiledL _ S1x1x1024.size (by sl_kernel_rfl) y

/-- At the first tile of all the pieces written to output 10 cover its block. -/
theorem cover_A_28 (c : Dev nD) (t : Fin cfg0.N) (h0 : t.val % 16 = 0) (h1 : t.val % 8 = 0) (y : S1x1024.Idx) :
    ∃ pc ∈ (runAt_A m c t h0 h1).2.2.2.2.2.2.2.2.2.2.1, y ∈ pc.1.set :=
  View.cover_of_tiledL _ S1x1024.size (by sl_kernel_rfl) y

/-- At the first tile of all the pieces written to output 11 cover its block. -/
theorem cover_A_29 (c : Dev nD) (t : Fin cfg0.N) (h0 : t.val % 16 = 0) (h1 : t.val % 8 = 0) (y : S1x1024.Idx) :
    ∃ pc ∈ (runAt_A m c t h0 h1).2.2.2.2.2.2.2.2.2.2.2.1, y ∈ pc.1.set :=
  View.cover_of_tiledL _ S1x1024.size (by sl_kernel_rfl) y

/-- At the first tile of all the pieces written to output 12 cover its block. -/
theorem cover_A_30 (c : Dev nD) (t : Fin cfg0.N) (h0 : t.val % 16 = 0) (h1 : t.val % 8 = 0) (y : S1x512.Idx) :
    ∃ pc ∈ (runAt_A m c t h0 h1).2.2.2.2.2.2.2.2.2.2.2.2.1, y ∈ pc.1.set :=
  View.cover_of_tiledL _ S1x512.size (by sl_kernel_rfl) y

/-- At the first tile of all the pieces written to output 13 cover its block. -/
theorem cover_A_31 (c : Dev nD) (t : Fin cfg0.N) (h0 : t.val % 16 = 0) (h1 : t.val % 8 = 0) (y : S512x512.Idx) :
    ∃ pc ∈ (runAt_A m c t h0 h1).2.2.2.2.2.2.2.2.2.2.2.2.2.1, y ∈ pc.1.set :=
  View.cover_of_tiledL _ S512x512.size (by sl_kernel_rfl) y

/-- At the first tile of all the pieces written to output 14 cover its block. -/
theorem cover_A_32 (c : Dev nD) (t : Fin cfg0.N) (h0 : t.val % 16 = 0) (h1 : t.val % 8 = 0) (y : S1x512.Idx) :
    ∃ pc ∈ (runAt_A m c t h0 h1).2.2.2.2.2.2.2.2.2.2.2.2.2.2.1, y ∈ pc.1.set :=
  View.cover_of_tiledL _ S1x512.size (by sl_kernel_rfl) y

/-- At the first tile of all the pieces written to output 15 cover its block. -/
theorem cover_A_33 (c : Dev nD) (t : Fin cfg0.N) (h0 : t.val % 16 = 0) (h1 : t.val % 8 = 0) (y : S1x128.Idx) :
    ∃ pc ∈ (runAt_A m c t h0 h1).2.2.2.2.2.2.2.2.2.2.2.2.2.2.2.1, y ∈ pc.1.set :=
  View.cover_of_tiledL _ S1x128.size (by sl_kernel_rfl) y

/-- The body's run at a tile inside a batch row, at the tile's buffers and input blocks, over what the tile before left. -/
def runAt_B (c : Dev nD) (t : Fin cfg0.N) (h0 : ¬t.val % 16 = 0) (h1 : ¬t.val % 8 = 0) (p : Outs F) :=
  kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2

/-- What a tile inside a batch row leaves in the sixteen output blocks. -/
def out_B (c : Dev nD) (t : Fin cfg0.N) (h0 : ¬t.val % 16 = 0) (h1 : ¬t.val % 8 = 0) (p : Outs F) : Outs F :=
  (VO0_18.read (Elt F) (VO0_18.writes (Elt F) VO0_18.junk (runAt_B m c t h0 h1 p).1),
   VO0_19.read (Elt F) (VO0_19.writes (Elt F) VO0_19.junk (runAt_B m c t h0 h1 p).2.1),
   VO0_20.read (Elt F) (VO0_20.writes (Elt F) VO0_20.junk (runAt_B m c t h0 h1 p).2.2.1),
   VO0_21.read (Elt F) (VO0_21.writes (Elt F) VO0_21.junk (runAt_B m c t h0 h1 p).2.2.2.1),
   VO0_22.read (Elt F) (VO0_22.writes (Elt F) VO0_22.junk (runAt_B m c t h0 h1 p).2.2.2.2.1),
   VO0_23.read (Elt F) (VO0_23.writes (Elt F) VO0_23.junk (runAt_B m c t h0 h1 p).2.2.2.2.2.1),
   VO0_24.read (Elt F) (VO0_24.writes (Elt F) VO0_24.junk (runAt_B m c t h0 h1 p).2.2.2.2.2.2.1),
   VO0_25.read (Elt F) (VO0_25.writes (Elt F) VO0_25.junk (runAt_B m c t h0 h1 p).2.2.2.2.2.2.2.1),
   VO0_26.read (Elt F) (VO0_26.writes (Elt F) VO0_26.junk (runAt_B m c t h0 h1 p).2.2.2.2.2.2.2.2.1),
   VO0_27.read (Elt F) (VO0_27.writes (Elt F) VO0_27.junk (runAt_B m c t h0 h1 p).2.2.2.2.2.2.2.2.2.1),
   VO0_28.read (Elt F) (VO0_28.writes (Elt F) VO0_28.junk (runAt_B m c t h0 h1 p).2.2.2.2.2.2.2.2.2.2.1),
   VO0_29.read (Elt F) (VO0_29.writes (Elt F) VO0_29.junk (runAt_B m c t h0 h1 p).2.2.2.2.2.2.2.2.2.2.2.1),
   VO0_30.read (Elt F) (VO0_30.writes (Elt F) VO0_30.junk (runAt_B m c t h0 h1 p).2.2.2.2.2.2.2.2.2.2.2.2.1),
   VO0_31.read (Elt F) (VO0_31.writes (Elt F) VO0_31.junk (runAt_B m c t h0 h1 p).2.2.2.2.2.2.2.2.2.2.2.2.2.1),
   VO0_32.read (Elt F) (VO0_32.writes (Elt F) VO0_32.junk (runAt_B m c t h0 h1 p).2.2.2.2.2.2.2.2.2.2.2.2.2.2.1),
   VO0_33.read (Elt F) (VO0_33.writes (Elt F) VO0_33.junk (runAt_B m c t h0 h1 p).2.2.2.2.2.2.2.2.2.2.2.2.2.2.2.1))

/-- At a tile inside a batch row the pieces written to output 0 cover its block. -/
theorem cover_B_18 (c : Dev nD) (t : Fin cfg0.N) (h0 : ¬t.val % 16 = 0) (h1 : ¬t.val % 8 = 0) (p : Outs F) (y : S1x8x128.Idx) :
    ∃ pc ∈ (runAt_B m c t h0 h1 p).1, y ∈ pc.1.set :=
  View.cover_of_tiledL _ S1x8x128.size (by sl_kernel_rfl) y

/-- At a tile inside a batch row the pieces written to output 1 cover its block. -/
theorem cover_B_19 (c : Dev nD) (t : Fin cfg0.N) (h0 : ¬t.val % 16 = 0) (h1 : ¬t.val % 8 = 0) (p : Outs F) (y : S1x256x512.Idx) :
    ∃ pc ∈ (runAt_B m c t h0 h1 p).2.1, y ∈ pc.1.set :=
  View.cover_of_tiledL _ S1x256x512.size (by sl_kernel_rfl) y

/-- At a tile inside a batch row the pieces written to output 2 cover its block. -/
theorem cover_B_20 (c : Dev nD) (t : Fin cfg0.N) (h0 : ¬t.val % 16 = 0) (h1 : ¬t.val % 8 = 0) (p : Outs F) (y : S1x256x512.Idx) :
    ∃ pc ∈ (runAt_B m c t h0 h1 p).2.2.1, y ∈ pc.1.set :=
  View.cover_of_tiledL _ S1x256x512.size (by sl_kernel_rfl) y

/-- At a tile inside a batch row the pieces written to output 3 cover its block. -/
theorem cover_B_21 (c : Dev nD) (t : Fin cfg0.N) (h0 : ¬t.val % 16 = 0) (h1 : ¬t.val % 8 = 0) (p : Outs F) (y : S1x256x512.Idx) :
    ∃ pc ∈ (runAt_B m c t h0 h1 p).2.2.2.1, y ∈ pc.1.set :=
  View.cover_of_tiledL _ S1x256x512.size (by sl_kernel_rfl) y

/-- At a tile inside a batch row the pieces written to output 4 cover its block. -/
theorem cover_B_22 (c : Dev nD) (t : Fin cfg0.N) (h0 : ¬t.val % 16 = 0) (h1 : ¬t.val % 8 = 0) (p : Outs F) (y : S1x256x512.Idx) :
    ∃ pc ∈ (runAt_B m c t h0 h1 p).2.2.2.2.1, y ∈ pc.1.set :=
  View.cover_of_tiledL (runAt_B m c t h0 h1 p).2.2.2.2.1 ![1, 256, 128] (by sl_kernel_rfl) y

/-- At a tile inside a batch row the pieces written to output 5 cover its block. -/
theorem cover_B_23 (c : Dev nD) (t : Fin cfg0.N) (h0 : ¬t.val % 16 = 0) (h1 : ¬t.val % 8 = 0) (p : Outs F) (y : S1x256x512.Idx) :
    ∃ pc ∈ (runAt_B m c t h0 h1 p).2.2.2.2.2.1, y ∈ pc.1.set :=
  View.cover_of_tiledL (runAt_B m c t h0 h1 p).2.2.2.2.2.1 ![1, 256, 128] (by sl_kernel_rfl) y

/-- At a tile inside a batch row the pieces written to output 6 cover its block. -/
theorem cover_B_24 (c : Dev nD) (t : Fin cfg0.N) (h0 : ¬t.val % 16 = 0) (h1 : ¬t.val % 8 = 0) (p : Outs F) (y : S1x256x1024.Idx) :
    ∃ pc ∈ (runAt_B m c t h0 h1 p).2.2.2.2.2.2.1, y ∈ pc.1.set :=
  View.cover_of_tiledL _ S1x256x1024.size (by sl_kernel_rfl) y

/-- At a tile inside a batch row the pieces written to output 7 cover its block. -/
theorem cover_B_25 (c : Dev nD) (t : Fin cfg0.N) (h0 : ¬t.val % 16 = 0) (h1 : ¬t.val % 8 = 0) (p : Outs F) (y : S512x1024.Idx) :
    ∃ pc ∈ (runAt_B m c t h0 h1 p).2.2.2.2.2.2.2.1, y ∈ pc.1.set :=
  View.cover_of_tiledL _ S512x1024.size (by sl_kernel_rfl) y

/-- At a tile inside a batch row the pieces written to output 8 cover its block. -/
theorem cover_B_26 (c : Dev nD) (t : Fin cfg0.N) (h0 : ¬t.val % 16 = 0) (h1 : ¬t.val % 8 = 0) (p : Outs F) (y : S512x1024.Idx) :
    ∃ pc ∈ (runAt_B m c t h0 h1 p).2.2.2.2.2.2.2.2.1, y ∈ pc.1.set :=
  View.cover_of_tiledL _ S512x1024.size (by sl_kernel_rfl) y

/-- At a tile inside a batch row the pieces written to output 9 cover its block. -/
theorem cover_B_27 (c : Dev nD) (t : Fin cfg0.N) (h0 : ¬t.val % 16 = 0) (h1 : ¬t.val % 8 = 0) (p : Outs F) (y : S1x1x1024.Idx) :
    ∃ pc ∈ (runAt_B m c t h0 h1 p).2.2.2.2.2.2.2.2.2.1, y ∈ pc.1.set :=
  View.cover_of_tiledL _ S1x1x1024.size (by sl_kernel_rfl) y

/-- At a tile inside a batch row the pieces written to output 10 cover its block. -/
theorem cover_B_28 (c : Dev nD) (t : Fin cfg0.N) (h0 : ¬t.val % 16 = 0) (h1 : ¬t.val % 8 = 0) (p : Outs F) (y : S1x1024.Idx) :
    ∃ pc ∈ (runAt_B m c t h0 h1 p).2.2.2.2.2.2.2.2.2.2.1, y ∈ pc.1.set :=
  View.cover_of_tiledL _ S1x1024.size (by sl_kernel_rfl) y

/-- At a tile inside a batch row the pieces written to output 11 cover its block. -/
theorem cover_B_29 (c : Dev nD) (t : Fin cfg0.N) (h0 : ¬t.val % 16 = 0) (h1 : ¬t.val % 8 = 0) (p : Outs F) (y : S1x1024.Idx) :
    ∃ pc ∈ (runAt_B m c t h0 h1 p).2.2.2.2.2.2.2.2.2.2.2.1, y ∈ pc.1.set :=
  View.cover_of_tiledL _ S1x1024.size (by sl_kernel_rfl) y

/-- At a tile inside a batch row the pieces written to output 12 cover its block. -/
theorem cover_B_30 (c : Dev nD) (t : Fin cfg0.N) (h0 : ¬t.val % 16 = 0) (h1 : ¬t.val % 8 = 0) (p : Outs F) (y : S1x512.Idx) :
    ∃ pc ∈ (runAt_B m c t h0 h1 p).2.2.2.2.2.2.2.2.2.2.2.2.1, y ∈ pc.1.set :=
  View.cover_of_tiledL _ S1x512.size (by sl_kernel_rfl) y

/-- At a tile inside a batch row the pieces written to output 13 cover its block. -/
theorem cover_B_31 (c : Dev nD) (t : Fin cfg0.N) (h0 : ¬t.val % 16 = 0) (h1 : ¬t.val % 8 = 0) (p : Outs F) (y : S512x512.Idx) :
    ∃ pc ∈ (runAt_B m c t h0 h1 p).2.2.2.2.2.2.2.2.2.2.2.2.2.1, y ∈ pc.1.set :=
  View.cover_of_tiledL _ S512x512.size (by sl_kernel_rfl) y

/-- At a tile inside a batch row the pieces written to output 14 cover its block. -/
theorem cover_B_32 (c : Dev nD) (t : Fin cfg0.N) (h0 : ¬t.val % 16 = 0) (h1 : ¬t.val % 8 = 0) (p : Outs F) (y : S1x512.Idx) :
    ∃ pc ∈ (runAt_B m c t h0 h1 p).2.2.2.2.2.2.2.2.2.2.2.2.2.2.1, y ∈ pc.1.set :=
  View.cover_of_tiledL _ S1x512.size (by sl_kernel_rfl) y

/-- At a tile inside a batch row the pieces written to output 15 cover its block. -/
theorem cover_B_33 (c : Dev nD) (t : Fin cfg0.N) (h0 : ¬t.val % 16 = 0) (h1 : ¬t.val % 8 = 0) (p : Outs F) (y : S1x128.Idx) :
    ∃ pc ∈ (runAt_B m c t h0 h1 p).2.2.2.2.2.2.2.2.2.2.2.2.2.2.2.1, y ∈ pc.1.set :=
  View.cover_of_tiledL _ S1x128.size (by sl_kernel_rfl) y

/-- The body's run at the first tile of a later batch row, at the tile's buffers and input blocks, over what the tile before left. -/
def runAt_C (c : Dev nD) (t : Fin cfg0.N) (h0 : ¬t.val % 16 = 0) (h1 : t.val % 8 = 0) (p : Outs F) :=
  kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p.2.2.2.2.2.2.2.1 p.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2

/-- What the first tile of a later batch row leaves in the sixteen output blocks. -/
def out_C (c : Dev nD) (t : Fin cfg0.N) (h0 : ¬t.val % 16 = 0) (h1 : t.val % 8 = 0) (p : Outs F) : Outs F :=
  (VO0_18.read (Elt F) (VO0_18.writes (Elt F) VO0_18.junk (runAt_C m c t h0 h1 p).1),
   VO0_19.read (Elt F) (VO0_19.writes (Elt F) VO0_19.junk (runAt_C m c t h0 h1 p).2.1),
   VO0_20.read (Elt F) (VO0_20.writes (Elt F) VO0_20.junk (runAt_C m c t h0 h1 p).2.2.1),
   VO0_21.read (Elt F) (VO0_21.writes (Elt F) VO0_21.junk (runAt_C m c t h0 h1 p).2.2.2.1),
   VO0_22.read (Elt F) (VO0_22.writes (Elt F) VO0_22.junk (runAt_C m c t h0 h1 p).2.2.2.2.1),
   VO0_23.read (Elt F) (VO0_23.writes (Elt F) VO0_23.junk (runAt_C m c t h0 h1 p).2.2.2.2.2.1),
   VO0_24.read (Elt F) (VO0_24.writes (Elt F) VO0_24.junk (runAt_C m c t h0 h1 p).2.2.2.2.2.2.1),
   VO0_25.read (Elt F) (VO0_25.writes (Elt F) VO0_25.junk (runAt_C m c t h0 h1 p).2.2.2.2.2.2.2.1),
   VO0_26.read (Elt F) (VO0_26.writes (Elt F) VO0_26.junk (runAt_C m c t h0 h1 p).2.2.2.2.2.2.2.2.1),
   VO0_27.read (Elt F) (VO0_27.writes (Elt F) VO0_27.junk (runAt_C m c t h0 h1 p).2.2.2.2.2.2.2.2.2.1),
   VO0_28.read (Elt F) (VO0_28.writes (Elt F) VO0_28.junk (runAt_C m c t h0 h1 p).2.2.2.2.2.2.2.2.2.2.1),
   VO0_29.read (Elt F) (VO0_29.writes (Elt F) VO0_29.junk (runAt_C m c t h0 h1 p).2.2.2.2.2.2.2.2.2.2.2.1),
   VO0_30.read (Elt F) (VO0_30.writes (Elt F) VO0_30.junk (runAt_C m c t h0 h1 p).2.2.2.2.2.2.2.2.2.2.2.2.1),
   VO0_31.read (Elt F) (VO0_31.writes (Elt F) VO0_31.junk (runAt_C m c t h0 h1 p).2.2.2.2.2.2.2.2.2.2.2.2.2.1),
   VO0_32.read (Elt F) (VO0_32.writes (Elt F) VO0_32.junk (runAt_C m c t h0 h1 p).2.2.2.2.2.2.2.2.2.2.2.2.2.2.1),
   VO0_33.read (Elt F) (VO0_33.writes (Elt F) VO0_33.junk (runAt_C m c t h0 h1 p).2.2.2.2.2.2.2.2.2.2.2.2.2.2.2.1))

/-- At the first tile of a later batch row the pieces written to output 0 cover its block. -/
theorem cover_C_18 (c : Dev nD) (t : Fin cfg0.N) (h0 : ¬t.val % 16 = 0) (h1 : t.val % 8 = 0) (p : Outs F) (y : S1x8x128.Idx) :
    ∃ pc ∈ (runAt_C m c t h0 h1 p).1, y ∈ pc.1.set :=
  View.cover_of_tiledL _ S1x8x128.size (by sl_kernel_rfl) y

/-- At the first tile of a later batch row the pieces written to output 1 cover its block. -/
theorem cover_C_19 (c : Dev nD) (t : Fin cfg0.N) (h0 : ¬t.val % 16 = 0) (h1 : t.val % 8 = 0) (p : Outs F) (y : S1x256x512.Idx) :
    ∃ pc ∈ (runAt_C m c t h0 h1 p).2.1, y ∈ pc.1.set :=
  View.cover_of_tiledL _ S1x256x512.size (by sl_kernel_rfl) y

/-- At the first tile of a later batch row the pieces written to output 2 cover its block. -/
theorem cover_C_20 (c : Dev nD) (t : Fin cfg0.N) (h0 : ¬t.val % 16 = 0) (h1 : t.val % 8 = 0) (p : Outs F) (y : S1x256x512.Idx) :
    ∃ pc ∈ (runAt_C m c t h0 h1 p).2.2.1, y ∈ pc.1.set :=
  View.cover_of_tiledL _ S1x256x512.size (by sl_kernel_rfl) y

/-- At the first tile of a later batch row the pieces written to output 3 cover its block. -/
theorem cover_C_21 (c : Dev nD) (t : Fin cfg0.N) (h0 : ¬t.val % 16 = 0) (h1 : t.val % 8 = 0) (p : Outs F) (y : S1x256x512.Idx) :
    ∃ pc ∈ (runAt_C m c t h0 h1 p).2.2.2.1, y ∈ pc.1.set :=
  View.cover_of_tiledL _ S1x256x512.size (by sl_kernel_rfl) y

/-- At the first tile of a later batch row the pieces written to output 4 cover its block. -/
theorem cover_C_22 (c : Dev nD) (t : Fin cfg0.N) (h0 : ¬t.val % 16 = 0) (h1 : t.val % 8 = 0) (p : Outs F) (y : S1x256x512.Idx) :
    ∃ pc ∈ (runAt_C m c t h0 h1 p).2.2.2.2.1, y ∈ pc.1.set :=
  View.cover_of_tiledL (runAt_C m c t h0 h1 p).2.2.2.2.1 ![1, 256, 128] (by sl_kernel_rfl) y

/-- At the first tile of a later batch row the pieces written to output 5 cover its block. -/
theorem cover_C_23 (c : Dev nD) (t : Fin cfg0.N) (h0 : ¬t.val % 16 = 0) (h1 : t.val % 8 = 0) (p : Outs F) (y : S1x256x512.Idx) :
    ∃ pc ∈ (runAt_C m c t h0 h1 p).2.2.2.2.2.1, y ∈ pc.1.set :=
  View.cover_of_tiledL (runAt_C m c t h0 h1 p).2.2.2.2.2.1 ![1, 256, 128] (by sl_kernel_rfl) y

/-- At the first tile of a later batch row the pieces written to output 6 cover its block. -/
theorem cover_C_24 (c : Dev nD) (t : Fin cfg0.N) (h0 : ¬t.val % 16 = 0) (h1 : t.val % 8 = 0) (p : Outs F) (y : S1x256x1024.Idx) :
    ∃ pc ∈ (runAt_C m c t h0 h1 p).2.2.2.2.2.2.1, y ∈ pc.1.set :=
  View.cover_of_tiledL _ S1x256x1024.size (by sl_kernel_rfl) y

/-- At the first tile of a later batch row the pieces written to output 7 cover its block. -/
theorem cover_C_25 (c : Dev nD) (t : Fin cfg0.N) (h0 : ¬t.val % 16 = 0) (h1 : t.val % 8 = 0) (p : Outs F) (y : S512x1024.Idx) :
    ∃ pc ∈ (runAt_C m c t h0 h1 p).2.2.2.2.2.2.2.1, y ∈ pc.1.set :=
  View.cover_of_tiledL _ S512x1024.size (by sl_kernel_rfl) y

/-- At the first tile of a later batch row the pieces written to output 8 cover its block. -/
theorem cover_C_26 (c : Dev nD) (t : Fin cfg0.N) (h0 : ¬t.val % 16 = 0) (h1 : t.val % 8 = 0) (p : Outs F) (y : S512x1024.Idx) :
    ∃ pc ∈ (runAt_C m c t h0 h1 p).2.2.2.2.2.2.2.2.1, y ∈ pc.1.set :=
  View.cover_of_tiledL _ S512x1024.size (by sl_kernel_rfl) y

/-- At the first tile of a later batch row the pieces written to output 9 cover its block. -/
theorem cover_C_27 (c : Dev nD) (t : Fin cfg0.N) (h0 : ¬t.val % 16 = 0) (h1 : t.val % 8 = 0) (p : Outs F) (y : S1x1x1024.Idx) :
    ∃ pc ∈ (runAt_C m c t h0 h1 p).2.2.2.2.2.2.2.2.2.1, y ∈ pc.1.set :=
  View.cover_of_tiledL _ S1x1x1024.size (by sl_kernel_rfl) y

/-- At the first tile of a later batch row the pieces written to output 10 cover its block. -/
theorem cover_C_28 (c : Dev nD) (t : Fin cfg0.N) (h0 : ¬t.val % 16 = 0) (h1 : t.val % 8 = 0) (p : Outs F) (y : S1x1024.Idx) :
    ∃ pc ∈ (runAt_C m c t h0 h1 p).2.2.2.2.2.2.2.2.2.2.1, y ∈ pc.1.set :=
  View.cover_of_tiledL _ S1x1024.size (by sl_kernel_rfl) y

/-- At the first tile of a later batch row the pieces written to output 11 cover its block. -/
theorem cover_C_29 (c : Dev nD) (t : Fin cfg0.N) (h0 : ¬t.val % 16 = 0) (h1 : t.val % 8 = 0) (p : Outs F) (y : S1x1024.Idx) :
    ∃ pc ∈ (runAt_C m c t h0 h1 p).2.2.2.2.2.2.2.2.2.2.2.1, y ∈ pc.1.set :=
  View.cover_of_tiledL _ S1x1024.size (by sl_kernel_rfl) y

/-- At the first tile of a later batch row the pieces written to output 12 cover its block. -/
theorem cover_C_30 (c : Dev nD) (t : Fin cfg0.N) (h0 : ¬t.val % 16 = 0) (h1 : t.val % 8 = 0) (p : Outs F) (y : S1x512.Idx) :
    ∃ pc ∈ (runAt_C m c t h0 h1 p).2.2.2.2.2.2.2.2.2.2.2.2.1, y ∈ pc.1.set :=
  View.cover_of_tiledL _ S1x512.size (by sl_kernel_rfl) y

/-- At the first tile of a later batch row the pieces written to output 13 cover its block. -/
theorem cover_C_31 (c : Dev nD) (t : Fin cfg0.N) (h0 : ¬t.val % 16 = 0) (h1 : t.val % 8 = 0) (p : Outs F) (y : S512x512.Idx) :
    ∃ pc ∈ (runAt_C m c t h0 h1 p).2.2.2.2.2.2.2.2.2.2.2.2.2.1, y ∈ pc.1.set :=
  View.cover_of_tiledL _ S512x512.size (by sl_kernel_rfl) y

/-- At the first tile of a later batch row the pieces written to output 14 cover its block. -/
theorem cover_C_32 (c : Dev nD) (t : Fin cfg0.N) (h0 : ¬t.val % 16 = 0) (h1 : t.val % 8 = 0) (p : Outs F) (y : S1x512.Idx) :
    ∃ pc ∈ (runAt_C m c t h0 h1 p).2.2.2.2.2.2.2.2.2.2.2.2.2.2.1, y ∈ pc.1.set :=
  View.cover_of_tiledL _ S1x512.size (by sl_kernel_rfl) y

/-- At the first tile of a later batch row the pieces written to output 15 cover its block. -/
theorem cover_C_33 (c : Dev nD) (t : Fin cfg0.N) (h0 : ¬t.val % 16 = 0) (h1 : t.val % 8 = 0) (p : Outs F) (y : S1x128.Idx) :
    ∃ pc ∈ (runAt_C m c t h0 h1 p).2.2.2.2.2.2.2.2.2.2.2.2.2.2.2.1, y ∈ pc.1.set :=
  View.cover_of_tiledL _ S1x128.size (by sl_kernel_rfl) y

/-- What the output blocks hold after the tile at position `n`. -/
def outsAt (c : Dev nD) : (n : ℕ) → n < cfg0.N → Outs F
  | 0, hn => out_A m c ⟨0, hn⟩ (Nat.zero_mod _) (Nat.zero_mod _)
  | n + 1, hn =>
    if h0 : (n + 1) % 16 = 0 then out_A m c ⟨n + 1, hn⟩ h0 (by show (n + 1) % 8 = 0; omega)
    else if h1 : (n + 1) % 8 = 0 then out_C m c ⟨n + 1, hn⟩ h0 h1 (outsAt c n (Nat.lt_of_succ_lt hn))
    else out_B m c ⟨n + 1, hn⟩ h0 h1 (outsAt c n (Nat.lt_of_succ_lt hn))

/-- After the first tile. -/
theorem outsAt_A (c : Dev nD) (t : Fin cfg0.N) (h0 : t.val % 16 = 0) (h1 : t.val % 8 = 0) :
    outsAt m c t.val t.isLt = out_A m c t h0 h1 := by
  obtain ⟨n, hn⟩ := t
  cases n with
  | zero => exact rfl
  | succ n => exact dif_pos h0

/-- After a tile inside a batch row. -/
theorem outsAt_B (c : Dev nD) (t : Fin cfg0.N) (h0 : ¬t.val % 16 = 0) (h1 : ¬t.val % 8 = 0) :
    outsAt m c t.val t.isLt = out_B m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

/-- After the first tile of a later batch row. -/
theorem outsAt_C (c : Dev nD) (t : Fin cfg0.N) (h0 : ¬t.val % 16 = 0) (h1 : t.val % 8 = 0) :
    outsAt m c t.val t.isLt = out_C m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The run's data: the input windows keep their blocks, the output windows hold what the tiles left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).1
    | ⟨19, _⟩ => (outsAt m c t.val t.isLt).2.1
    | ⟨20, _⟩ => (outsAt m c t.val t.isLt).2.2.1
    | ⟨21, _⟩ => (outsAt m c t.val t.isLt).2.2.2.1
    | ⟨22, _⟩ => (outsAt m c t.val t.isLt).2.2.2.2.1
    | ⟨23, _⟩ => (outsAt m c t.val t.isLt).2.2.2.2.2.1
    | ⟨24, _⟩ => (outsAt m c t.val t.isLt).2.2.2.2.2.2.1
    | ⟨25, _⟩ => (outsAt m c t.val t.isLt).2.2.2.2.2.2.2.1
    | ⟨26, _⟩ => (outsAt m c t.val t.isLt).2.2.2.2.2.2.2.2.1
    | ⟨27, _⟩ => (outsAt m c t.val t.isLt).2.2.2.2.2.2.2.2.2.1
    | ⟨28, _⟩ => (outsAt m c t.val t.isLt).2.2.2.2.2.2.2.2.2.2.1
    | ⟨29, _⟩ => (outsAt m c t.val t.isLt).2.2.2.2.2.2.2.2.2.2.2.1
    | ⟨30, _⟩ => (outsAt m c t.val t.isLt).2.2.2.2.2.2.2.2.2.2.2.2.1
    | ⟨31, _⟩ => (outsAt m c t.val t.isLt).2.2.2.2.2.2.2.2.2.2.2.2.2.1
    | ⟨32, _⟩ => (outsAt m c t.val t.isLt).2.2.2.2.2.2.2.2.2.2.2.2.2.2.1
    | ⟨33, _⟩ => (outsAt m c t.val t.isLt).2.2.2.2.2.2.2.2.2.2.2.2.2.2.2
    | ⟨_ + 34, h⟩ => absurd h (Nat.not_lt.2 (Nat.le_add_left _ _))
  Φ _ := Pipeline.ΦA spec0 c
  q _ := fullShare
  owed _ := 0

/-- The arrays at entry. -/
theorem A_eq (c : Dev nD) (w : Fin cfg0.W) : (dats m 0 c).A w = V m c (Pipeline.arrRef spec0 w) := by
  dsimp only [dats]

/-- What a tile leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt m c t.val t.isLt).1 := by dsimp only [dats]
theorem after0_19 (c : Dev nD) (t : Fin cfg0.N) : (dats m 0 c).after 19 t = (outsAt m c t.val t.isLt).2.1 := by dsimp only [dats]
theorem after0_20 (c : Dev nD) (t : Fin cfg0.N) : (dats m 0 c).after 20 t = (outsAt m c t.val t.isLt).2.2.1 := by dsimp only [dats]
theorem after0_21 (c : Dev nD) (t : Fin cfg0.N) : (dats m 0 c).after 21 t = (outsAt m c t.val t.isLt).2.2.2.1 := by dsimp only [dats]
theorem after0_22 (c : Dev nD) (t : Fin cfg0.N) : (dats m 0 c).after 22 t = (outsAt m c t.val t.isLt).2.2.2.2.1 := by dsimp only [dats]
theorem after0_23 (c : Dev nD) (t : Fin cfg0.N) : (dats m 0 c).after 23 t = (outsAt m c t.val t.isLt).2.2.2.2.2.1 := by dsimp only [dats]
theorem after0_24 (c : Dev nD) (t : Fin cfg0.N) : (dats m 0 c).after 24 t = (outsAt m c t.val t.isLt).2.2.2.2.2.2.1 := by dsimp only [dats]
theorem after0_25 (c : Dev nD) (t : Fin cfg0.N) : (dats m 0 c).after 25 t = (outsAt m c t.val t.isLt).2.2.2.2.2.2.2.1 := by dsimp only [dats]
theorem after0_26 (c : Dev nD) (t : Fin cfg0.N) : (dats m 0 c).after 26 t = (outsAt m c t.val t.isLt).2.2.2.2.2.2.2.2.1 := by dsimp only [dats]
theorem after0_27 (c : Dev nD) (t : Fin cfg0.N) : (dats m 0 c).after 27 t = (outsAt m c t.val t.isLt).2.2.2.2.2.2.2.2.2.1 := by dsimp only [dats]
theorem after0_28 (c : Dev nD) (t : Fin cfg0.N) : (dats m 0 c).after 28 t = (outsAt m c t.val t.isLt).2.2.2.2.2.2.2.2.2.2.1 := by dsimp only [dats]
theorem after0_29 (c : Dev nD) (t : Fin cfg0.N) : (dats m 0 c).after 29 t = (outsAt m c t.val t.isLt).2.2.2.2.2.2.2.2.2.2.2.1 := by dsimp only [dats]
theorem after0_30 (c : Dev nD) (t : Fin cfg0.N) : (dats m 0 c).after 30 t = (outsAt m c t.val t.isLt).2.2.2.2.2.2.2.2.2.2.2.2.1 := by dsimp only [dats]
theorem after0_31 (c : Dev nD) (t : Fin cfg0.N) : (dats m 0 c).after 31 t = (outsAt m c t.val t.isLt).2.2.2.2.2.2.2.2.2.2.2.2.2.1 := by dsimp only [dats]
theorem after0_32 (c : Dev nD) (t : Fin cfg0.N) : (dats m 0 c).after 32 t = (outsAt m c t.val t.isLt).2.2.2.2.2.2.2.2.2.2.2.2.2.2.1 := by dsimp only [dats]
theorem after0_33 (c : Dev nD) (t : Fin cfg0.N) : (dats m 0 c).after 33 t = (outsAt m c t.val t.isLt).2.2.2.2.2.2.2.2.2.2.2.2.2.2.2 := by dsimp only [dats]

/-- Each input window holds its block at every tile. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-- An accumulated output's block holds what the tile before left. -/
theorem before0_18_B (c : Dev nD) (t : Fin cfg0.N) (h0 : ¬t.val % 16 = 0) (h1 : ¬t.val % 8 = 0) (d) :
    (dats m 0 c).before 18 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]

/-- An accumulated output's block holds what the tile before left. -/
theorem before0_25_B (c : Dev nD) (t : Fin cfg0.N) (h0 : ¬t.val % 16 = 0) (h1 : ¬t.val % 8 = 0) (d) :
    (dats m 0 c).before 25 t d = (outsAt m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 25 rfl t (by omega) (Bool.eq_false_iff.mpr fun h => by have := (flush0_25 _).mp h; dsimp only at this; omega)
    (fun _ => rfl) (fun _ _ => rfl)]
  dsimp only [dats]

/-- An accumulated output's block holds what the tile before left. -/
theorem before0_26_B (c : Dev nD) (t : Fin cfg0.N) (h0 : ¬t.val % 16 = 0) (h1 : ¬t.val % 8 = 0) (d) :
    (dats m 0 c).before 26 t d = (outsAt m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 26 rfl t (by omega) (Bool.eq_false_iff.mpr fun h => by have := (flush0_26 _).mp h; dsimp only at this; omega)
    (fun _ => rfl) (fun _ _ => rfl)]
  dsimp only [dats]

/-- An accumulated output's block holds what the tile before left. -/
theorem before0_27_B (c : Dev nD) (t : Fin cfg0.N) (h0 : ¬t.val % 16 = 0) (h1 : ¬t.val % 8 = 0) (d) :
    (dats m 0 c).before 27 t d = (outsAt m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 27 rfl t (by omega) (Bool.eq_false_iff.mpr fun h => by have := (flush0_27 _).mp h; dsimp only at this; omega)
    (fun _ => rfl) (fun _ _ => rfl)]
  dsimp only [dats]

/-- An accumulated output's block holds what the tile before left. -/
theorem before0_28_B (c : Dev nD) (t : Fin cfg0.N) (h0 : ¬t.val % 16 = 0) (h1 : ¬t.val % 8 = 0) (d) :
    (dats m 0 c).before 28 t d = (outsAt m c (t.val - 1) (Nat.lt_of_le_of_lt (Nat.sub_le _ _) t.isLt)).2.2.2.2.2.2.2.2.2.2.1 := by
  have hN : t.val < 16 := lt_of_lt_of_eq t.isLt (show cfg0.N = 16 from N_0)
  rw [Dat.before_out_kept _ 28 rfl t (by omega) (Bool.eq_false_iff.mpr fun h => by have := (flush0_28 _).mp h; dsimp only at this; omega)
    (fun _ => rfl) (fun _ _ => rfl)]
  dsimp only [dats]

/-- An accumulated output's block holds what the tile before left. -/
theorem before0_29_B (c : Dev nD) (t : Fin cfg0.N) (h0 : ¬t.val % 16 = 0) (h1 : ¬t.val % 8 = 0) (d) :
    (dats m 0 c).before 29 t d = (outsAt m c (t.val - 1) (Nat.lt_of_le_of_lt (Nat.sub_le _ _) t.isLt)).2.2.2.2.2.2.2.2.2.2.2.1 := by
  have hN : t.val < 16 := lt_of_lt_of_eq t.isLt (show cfg0.N = 16 from N_0)
  rw [Dat.before_out_kept _ 29 rfl t (by omega) (Bool.eq_false_iff.mpr fun h => by have := (flush0_29 _).mp h; dsimp only at this; omega)
    (fun _ => rfl) (fun _ _ => rfl)]
  dsimp only [dats]

/-- An accumulated output's block holds what the tile before left. -/
theorem before0_30_B (c : Dev nD) (t : Fin cfg0.N) (h0 : ¬t.val % 16 = 0) (h1 : ¬t.val % 8 = 0) (d) :
    (dats m 0 c).before 30 t d = (outsAt m c (t.val - 1) (Nat.lt_of_le_of_lt (Nat.sub_le _ _) t.isLt)).2.2.2.2.2.2.2.2.2.2.2.2.1 := by
  have hN : t.val < 16 := lt_of_lt_of_eq t.isLt (show cfg0.N = 16 from N_0)
  rw [Dat.before_out_kept _ 30 rfl t (by omega) (Bool.eq_false_iff.mpr fun h => by have := (flush0_30 _).mp h; dsimp only at this; omega)
    (fun _ => rfl) (fun _ _ => rfl)]
  dsimp only [dats]

/-- An accumulated output's block holds what the tile before left. -/
theorem before0_31_B (c : Dev nD) (t : Fin cfg0.N) (h0 : ¬t.val % 16 = 0) (h1 : ¬t.val % 8 = 0) (d) :
    (dats m 0 c).before 31 t d = (outsAt m c (t.val - 1) (Nat.lt_of_le_of_lt (Nat.sub_le _ _) t.isLt)).2.2.2.2.2.2.2.2.2.2.2.2.2.1 := by
  have hN : t.val < 16 := lt_of_lt_of_eq t.isLt (show cfg0.N = 16 from N_0)
  rw [Dat.before_out_kept _ 31 rfl t (by omega) (Bool.eq_false_iff.mpr fun h => by have := (flush0_31 _).mp h; dsimp only at this; omega)
    (fun _ => rfl) (fun _ _ => rfl)]
  dsimp only [dats]

/-- An accumulated output's block holds what the tile before left. -/
theorem before0_32_B (c : Dev nD) (t : Fin cfg0.N) (h0 : ¬t.val % 16 = 0) (h1 : ¬t.val % 8 = 0) (d) :
    (dats m 0 c).before 32 t d = (outsAt m c (t.val - 1) (Nat.lt_of_le_of_lt (Nat.sub_le _ _) t.isLt)).2.2.2.2.2.2.2.2.2.2.2.2.2.2.1 := by
  have hN : t.val < 16 := lt_of_lt_of_eq t.isLt (show cfg0.N = 16 from N_0)
  rw [Dat.before_out_kept _ 32 rfl t (by omega) (Bool.eq_false_iff.mpr fun h => by have := (flush0_32 _).mp h; dsimp only at this; omega)
    (fun _ => rfl) (fun _ _ => rfl)]
  dsimp only [dats]

/-- An accumulated output's block holds what the tile before left. -/
theorem before0_33_B (c : Dev nD) (t : Fin cfg0.N) (h0 : ¬t.val % 16 = 0) (h1 : ¬t.val % 8 = 0) (d) :
    (dats m 0 c).before 33 t d = (outsAt m c (t.val - 1) (Nat.lt_of_le_of_lt (Nat.sub_le _ _) t.isLt)).2.2.2.2.2.2.2.2.2.2.2.2.2.2.2 := by
  have hN : t.val < 16 := lt_of_lt_of_eq t.isLt (show cfg0.N = 16 from N_0)
  rw [Dat.before_out_kept _ 33 rfl t (by omega) (Bool.eq_false_iff.mpr fun h => by have := (flush0_33 _).mp h; dsimp only at this; omega)
    (fun _ => rfl) (fun _ _ => rfl)]
  dsimp only [dats]

/-- An accumulated output's block holds what the tile before left. -/
theorem before0_25_C (c : Dev nD) (t : Fin cfg0.N) (h0 : ¬t.val % 16 = 0) (h1 : t.val % 8 = 0) (d) :
    (dats m 0 c).before 25 t d = (outsAt m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 25 rfl t (by omega) (Bool.eq_false_iff.mpr fun h => by have := (flush0_25 _).mp h; dsimp only at this; omega)
    (fun _ => rfl) (fun _ _ => rfl)]
  dsimp only [dats]

/-- An accumulated output's block holds what the tile before left. -/
theorem before0_26_C (c : Dev nD) (t : Fin cfg0.N) (h0 : ¬t.val % 16 = 0) (h1 : t.val % 8 = 0) (d) :
    (dats m 0 c).before 26 t d = (outsAt m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 26 rfl t (by omega) (Bool.eq_false_iff.mpr fun h => by have := (flush0_26 _).mp h; dsimp only at this; omega)
    (fun _ => rfl) (fun _ _ => rfl)]
  dsimp only [dats]

/-- An accumulated output's block holds what the tile before left. -/
theorem before0_28_C (c : Dev nD) (t : Fin cfg0.N) (h0 : ¬t.val % 16 = 0) (h1 : t.val % 8 = 0) (d) :
    (dats m 0 c).before 28 t d = (outsAt m c (t.val - 1) (Nat.lt_of_le_of_lt (Nat.sub_le _ _) t.isLt)).2.2.2.2.2.2.2.2.2.2.1 := by
  have hN : t.val < 16 := lt_of_lt_of_eq t.isLt (show cfg0.N = 16 from N_0)
  rw [Dat.before_out_kept _ 28 rfl t (by omega) (Bool.eq_false_iff.mpr fun h => by have := (flush0_28 _).mp h; dsimp only at this; omega)
    (fun _ => rfl) (fun _ _ => rfl)]
  dsimp only [dats]

/-- An accumulated output's block holds what the tile before left. -/
theorem before0_29_C (c : Dev nD) (t : Fin cfg0.N) (h0 : ¬t.val % 16 = 0) (h1 : t.val % 8 = 0) (d) :
    (dats m 0 c).before 29 t d = (outsAt m c (t.val - 1) (Nat.lt_of_le_of_lt (Nat.sub_le _ _) t.isLt)).2.2.2.2.2.2.2.2.2.2.2.1 := by
  have hN : t.val < 16 := lt_of_lt_of_eq t.isLt (show cfg0.N = 16 from N_0)
  rw [Dat.before_out_kept _ 29 rfl t (by omega) (Bool.eq_false_iff.mpr fun h => by have := (flush0_29 _).mp h; dsimp only at this; omega)
    (fun _ => rfl) (fun _ _ => rfl)]
  dsimp only [dats]

/-- An accumulated output's block holds what the tile before left. -/
theorem before0_30_C (c : Dev nD) (t : Fin cfg0.N) (h0 : ¬t.val % 16 = 0) (h1 : t.val % 8 = 0) (d) :
    (dats m 0 c).before 30 t d = (outsAt m c (t.val - 1) (Nat.lt_of_le_of_lt (Nat.sub_le _ _) t.isLt)).2.2.2.2.2.2.2.2.2.2.2.2.1 := by
  have hN : t.val < 16 := lt_of_lt_of_eq t.isLt (show cfg0.N = 16 from N_0)
  rw [Dat.before_out_kept _ 30 rfl t (by omega) (Bool.eq_false_iff.mpr fun h => by have := (flush0_30 _).mp h; dsimp only at this; omega)
    (fun _ => rfl) (fun _ _ => rfl)]
  dsimp only [dats]

/-- An accumulated output's block holds what the tile before left. -/
theorem before0_31_C (c : Dev nD) (t : Fin cfg0.N) (h0 : ¬t.val % 16 = 0) (h1 : t.val % 8 = 0) (d) :
    (dats m 0 c).before 31 t d = (outsAt m c (t.val - 1) (Nat.lt_of_le_of_lt (Nat.sub_le _ _) t.isLt)).2.2.2.2.2.2.2.2.2.2.2.2.2.1 := by
  have hN : t.val < 16 := lt_of_lt_of_eq t.isLt (show cfg0.N = 16 from N_0)
  rw [Dat.before_out_kept _ 31 rfl t (by omega) (Bool.eq_false_iff.mpr fun h => by have := (flush0_31 _).mp h; dsimp only at this; omega)
    (fun _ => rfl) (fun _ _ => rfl)]
  dsimp only [dats]

/-- An accumulated output's block holds what the tile before left. -/
theorem before0_32_C (c : Dev nD) (t : Fin cfg0.N) (h0 : ¬t.val % 16 = 0) (h1 : t.val % 8 = 0) (d) :
    (dats m 0 c).before 32 t d = (outsAt m c (t.val - 1) (Nat.lt_of_le_of_lt (Nat.sub_le _ _) t.isLt)).2.2.2.2.2.2.2.2.2.2.2.2.2.2.1 := by
  have hN : t.val < 16 := lt_of_lt_of_eq t.isLt (show cfg0.N = 16 from N_0)
  rw [Dat.before_out_kept _ 32 rfl t (by omega) (Bool.eq_false_iff.mpr fun h => by have := (flush0_32 _).mp h; dsimp only at this; omega)
    (fun _ => rfl) (fun _ _ => rfl)]
  dsimp only [dats]

/-- An accumulated output's block holds what the tile before left. -/
theorem before0_33_C (c : Dev nD) (t : Fin cfg0.N) (h0 : ¬t.val % 16 = 0) (h1 : t.val % 8 = 0) (d) :
    (dats m 0 c).before 33 t d = (outsAt m c (t.val - 1) (Nat.lt_of_le_of_lt (Nat.sub_le _ _) t.isLt)).2.2.2.2.2.2.2.2.2.2.2.2.2.2.2 := by
  have hN : t.val < 16 := lt_of_lt_of_eq t.isLt (show cfg0.N = 16 from N_0)
  rw [Dat.before_out_kept _ 33 rfl t (by omega) (Bool.eq_false_iff.mpr fun h => by have := (flush0_33 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t))

end Cert.Tail

end
-- ==== Proof.TailSndA.lean ====
/- The tail's body at the first tile of all.  Hand-written, untrusted. -/
module

public import proofs.«01_k».proof.Proof.TailDefs

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- thirty-four windows, each handed over and taken back in turn
set_option maxHeartbeats 4000000 in
/-- The body at the first tile of all. -/
theorem sound_A (c : Dev nD) (t : Fin cfg0.N) (h0 : t.val % 16 = 0) (h1 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  have hN : t.val < 16 := lt_of_lt_of_eq t.isLt (show cfg0.N = 16 from N_0)
  rw [outsAt_A m c t h0 h1]
  unfold out_A; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply ((runAt_A m c t h0 h1).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover_A_18 m c t h0 h1)
  isplitl [H19]
  · unfold owns; iexists _; isplitr
    swap; · iexact H19
    ipureintro; exact View.read_writes_of_cover _ _ _ _ _ (cover_A_19 m c t h0 h1)
  isplitl [H20]
  · unfold owns; iexists _; isplitr
    swap; · iexact H20
    ipureintro; exact View.read_writes_of_cover _ _ _ _ _ (cover_A_20 m c t h0 h1)
  isplitl [H21]
  · unfold owns; iexists _; isplitr
    swap; · iexact H21
    ipureintro; exact View.read_writes_of_cover _ _ _ _ _ (cover_A_21 m c t h0 h1)
  isplitl [H22]
  · unfold owns; iexists _; isplitr
    swap; · iexact H22
    ipureintro; exact View.read_writes_of_cover _ _ _ _ _ (cover_A_22 m c t h0 h1)
  isplitl [H23]
  · unfold owns; iexists _; isplitr
    swap; · iexact H23
    ipureintro; exact View.read_writes_of_cover _ _ _ _ _ (cover_A_23 m c t h0 h1)
  isplitl [H24]
  · unfold owns; iexists _; isplitr
    swap; · iexact H24
    ipureintro; exact View.read_writes_of_cover _ _ _ _ _ (cover_A_24 m c t h0 h1)
  isplitl [H25]
  · unfold owns; iexists _; isplitr
    swap; · iexact H25
    ipureintro; exact View.read_writes_of_cover _ _ _ _ _ (cover_A_25 m c t h0 h1)
  isplitl [H26]
  · unfold owns; iexists _; isplitr
    swap; · iexact H26
    ipureintro; exact View.read_writes_of_cover _ _ _ _ _ (cover_A_26 m c t h0 h1)
  isplitl [H27]
  · unfold owns; iexists _; isplitr
    swap; · iexact H27
    ipureintro; exact View.read_writes_of_cover _ _ _ _ _ (cover_A_27 m c t h0 h1)
  isplitl [H28]
  · unfold owns; iexists _; isplitr
    swap; · iexact H28
    ipureintro; exact View.read_writes_of_cover _ _ _ _ _ (cover_A_28 m c t h0 h1)
  isplitl [H29]
  · unfold owns; iexists _; isplitr
    swap; · iexact H29
    ipureintro; exact View.read_writes_of_cover _ _ _ _ _ (cover_A_29 m c t h0 h1)
  isplitl [H30]
  · unfold owns; iexists _; isplitr
    swap; · iexact H30
    ipureintro; exact View.read_writes_of_cover _ _ _ _ _ (cover_A_30 m c t h0 h1)
  isplitl [H31]
  · unfold owns; iexists _; isplitr
    swap; · iexact H31
    ipureintro; exact View.read_writes_of_cover _ _ _ _ _ (cover_A_31 m c t h0 h1)
  isplitl [H32]
  · unfold owns; iexists _; isplitr
    swap; · iexact H32
    ipureintro; exact View.read_writes_of_cover _ _ _ _ _ (cover_A_32 m c t h0 h1)
  unfold owns; iexists _; isplitr
  swap; · iexact H33
  ipureintro; exact View.read_writes_of_cover _ _ _ _ _ (cover_A_33 m c t h0 h1)

end Cert.Tail

end
-- ==== Proof.TailSndB.lean ====
/- The tail's body at a tile inside a batch row.  Hand-written, untrusted. -/
module

public import proofs.«01_k».proof.Proof.TailDefs

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- thirty-four windows, each handed over and taken back in turn
set_option maxHeartbeats 4000000 in
/-- The body at a tile inside a batch row. -/
theorem sound_B (c : Dev nD) (t : Fin cfg0.N) (h0 : ¬t.val % 16 = 0) (h1 : ¬t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  have hN : t.val < 16 := lt_of_lt_of_eq t.isLt (show cfg0.N = 16 from N_0)
  rw [outsAt_B m c t h0 h1]
  simp only [before0_18_B m c t h0 h1, before0_25_B m c t h0 h1, before0_26_B m c t h0 h1, before0_27_B m c t h0 h1, before0_28_B m c t h0 h1, before0_29_B m c t h0 h1, before0_30_B m c t h0 h1, before0_31_B m c t h0 h1, before0_32_B m c t h0 h1, before0_33_B m c t h0 h1]
  unfold out_B; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply ((runAt_B m c t h0 h1 (outsAt m c (t.val - 1) (Nat.lt_of_le_of_lt (Nat.sub_le _ _) t.isLt))).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover_B_18 m c t h0 h1 (outsAt m c (t.val - 1) (Nat.lt_of_le_of_lt (Nat.sub_le _ _) t.isLt)))
  isplitl [H19]
  · unfold owns; iexists _; isplitr
    swap; · iexact H19
    ipureintro; exact View.read_writes_of_cover _ _ _ _ _ (cover_B_19 m c t h0 h1 (outsAt m c (t.val - 1) (Nat.lt_of_le_of_lt (Nat.sub_le _ _) t.isLt)))
  isplitl [H20]
  · unfold owns; iexists _; isplitr
    swap; · iexact H20
    ipureintro; exact View.read_writes_of_cover _ _ _ _ _ (cover_B_20 m c t h0 h1 (outsAt m c (t.val - 1) (Nat.lt_of_le_of_lt (Nat.sub_le _ _) t.isLt)))
  isplitl [H21]
  · unfold owns; iexists _; isplitr
    swap; · iexact H21
    ipureintro; exact View.read_writes_of_cover _ _ _ _ _ (cover_B_21 m c t h0 h1 (outsAt m c (t.val - 1) (Nat.lt_of_le_of_lt (Nat.sub_le _ _) t.isLt)))
  isplitl [H22]
  · unfold owns; iexists _; isplitr
    swap; · iexact H22
    ipureintro; exact View.read_writes_of_cover _ _ _ _ _ (cover_B_22 m c t h0 h1 (outsAt m c (t.val - 1) (Nat.lt_of_le_of_lt (Nat.sub_le _ _) t.isLt)))
  isplitl [H23]
  · unfold owns; iexists _; isplitr
    swap; · iexact H23
    ipureintro; exact View.read_writes_of_cover _ _ _ _ _ (cover_B_23 m c t h0 h1 (outsAt m c (t.val - 1) (Nat.lt_of_le_of_lt (Nat.sub_le _ _) t.isLt)))
  isplitl [H24]
  · unfold owns; iexists _; isplitr
    swap; · iexact H24
    ipureintro; exact View.read_writes_of_cover _ _ _ _ _ (cover_B_24 m c t h0 h1 (outsAt m c (t.val - 1) (Nat.lt_of_le_of_lt (Nat.sub_le _ _) t.isLt)))
  isplitl [H25]
  · unfold owns; iexists _; isplitr
    swap; · iexact H25
    ipureintro; exact View.read_writes_of_cover _ _ _ _ _ (cover_B_25 m c t h0 h1 (outsAt m c (t.val - 1) (Nat.lt_of_le_of_lt (Nat.sub_le _ _) t.isLt)))
  isplitl [H26]
  · unfold owns; iexists _; isplitr
    swap; · iexact H26
    ipureintro; exact View.read_writes_of_cover _ _ _ _ _ (cover_B_26 m c t h0 h1 (outsAt m c (t.val - 1) (Nat.lt_of_le_of_lt (Nat.sub_le _ _) t.isLt)))
  isplitl [H27]
  · unfold owns; iexists _; isplitr
    swap; · iexact H27
    ipureintro; exact View.read_writes_of_cover _ _ _ _ _ (cover_B_27 m c t h0 h1 (outsAt m c (t.val - 1) (Nat.lt_of_le_of_lt (Nat.sub_le _ _) t.isLt)))
  isplitl [H28]
  · unfold owns; iexists _; isplitr
    swap; · iexact H28
    ipureintro; exact View.read_writes_of_cover _ _ _ _ _ (cover_B_28 m c t h0 h1 (outsAt m c (t.val - 1) (Nat.lt_of_le_of_lt (Nat.sub_le _ _) t.isLt)))
  isplitl [H29]
  · unfold owns; iexists _; isplitr
    swap; · iexact H29
    ipureintro; exact View.read_writes_of_cover _ _ _ _ _ (cover_B_29 m c t h0 h1 (outsAt m c (t.val - 1) (Nat.lt_of_le_of_lt (Nat.sub_le _ _) t.isLt)))
  isplitl [H30]
  · unfold owns; iexists _; isplitr
    swap; · iexact H30
    ipureintro; exact View.read_writes_of_cover _ _ _ _ _ (cover_B_30 m c t h0 h1 (outsAt m c (t.val - 1) (Nat.lt_of_le_of_lt (Nat.sub_le _ _) t.isLt)))
  isplitl [H31]
  · unfold owns; iexists _; isplitr
    swap; · iexact H31
    ipureintro; exact View.read_writes_of_cover _ _ _ _ _ (cover_B_31 m c t h0 h1 (outsAt m c (t.val - 1) (Nat.lt_of_le_of_lt (Nat.sub_le _ _) t.isLt)))
  isplitl [H32]
  · unfold owns; iexists _; isplitr
    swap; · iexact H32
    ipureintro; exact View.read_writes_of_cover _ _ _ _ _ (cover_B_32 m c t h0 h1 (outsAt m c (t.val - 1) (Nat.lt_of_le_of_lt (Nat.sub_le _ _) t.isLt)))
  unfold owns; iexists _; isplitr
  swap; · iexact H33
  ipureintro; exact View.read_writes_of_cover _ _ _ _ _ (cover_B_33 m c t h0 h1 (outsAt m c (t.val - 1) (Nat.lt_of_le_of_lt (Nat.sub_le _ _) t.isLt)))

end Cert.Tail

end
-- ==== Proof.TailSndC.lean ====
/- The tail's body at the first tile of a later batch row.  Hand-written, untrusted. -/
module

public import proofs.«01_k».proof.Proof.TailDefs

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- thirty-four windows, each handed over and taken back in turn
set_option maxHeartbeats 4000000 in
/-- The body at the first tile of a later batch row. -/
theorem sound_C (c : Dev nD) (t : Fin cfg0.N) (h0 : ¬t.val % 16 = 0) (h1 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  have hN : t.val < 16 := lt_of_lt_of_eq t.isLt (show cfg0.N = 16 from N_0)
  rw [outsAt_C m c t h0 h1]
  simp only [before0_25_C m c t h0 h1, before0_26_C m c t h0 h1, before0_28_C m c t h0 h1, before0_29_C m c t h0 h1, before0_30_C m c t h0 h1, before0_31_C m c t h0 h1, before0_32_C m c t h0 h1, before0_33_C m c t h0 h1]
  unfold out_C; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply ((runAt_C m c t h0 h1 (outsAt m c (t.val - 1) (Nat.lt_of_le_of_lt (Nat.sub_le _ _) t.isLt))).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexact H26
  isplitl [H27]; · iexists _; iexact H27
  isplitl [H28]; · iexact H28
  isplitl [H29]; · iexact H29
  isplitl [H30]; · iexact H30
  isplitl [H31]; · iexact H31
  isplitl [H32]; · iexact H32
  isplitl [H33]; · iexact H33
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover_C_18 m c t h0 h1 (outsAt m c (t.val - 1) (Nat.lt_of_le_of_lt (Nat.sub_le _ _) t.isLt)))
  isplitl [H19]
  · unfold owns; iexists _; isplitr
    swap; · iexact H19
    ipureintro; exact View.read_writes_of_cover _ _ _ _ _ (cover_C_19 m c t h0 h1 (outsAt m c (t.val - 1) (Nat.lt_of_le_of_lt (Nat.sub_le _ _) t.isLt)))
  isplitl [H20]
  · unfold owns; iexists _; isplitr
    swap; · iexact H20
    ipureintro; exact View.read_writes_of_cover _ _ _ _ _ (cover_C_20 m c t h0 h1 (outsAt m c (t.val - 1) (Nat.lt_of_le_of_lt (Nat.sub_le _ _) t.isLt)))
  isplitl [H21]
  · unfold owns; iexists _; isplitr
    swap; · iexact H21
    ipureintro; exact View.read_writes_of_cover _ _ _ _ _ (cover_C_21 m c t h0 h1 (outsAt m c (t.val - 1) (Nat.lt_of_le_of_lt (Nat.sub_le _ _) t.isLt)))
  isplitl [H22]
  · unfold owns; iexists _; isplitr
    swap; · iexact H22
    ipureintro; exact View.read_writes_of_cover _ _ _ _ _ (cover_C_22 m c t h0 h1 (outsAt m c (t.val - 1) (Nat.lt_of_le_of_lt (Nat.sub_le _ _) t.isLt)))
  isplitl [H23]
  · unfold owns; iexists _; isplitr
    swap; · iexact H23
    ipureintro; exact View.read_writes_of_cover _ _ _ _ _ (cover_C_23 m c t h0 h1 (outsAt m c (t.val - 1) (Nat.lt_of_le_of_lt (Nat.sub_le _ _) t.isLt)))
  isplitl [H24]
  · unfold owns; iexists _; isplitr
    swap; · iexact H24
    ipureintro; exact View.read_writes_of_cover _ _ _ _ _ (cover_C_24 m c t h0 h1 (outsAt m c (t.val - 1) (Nat.lt_of_le_of_lt (Nat.sub_le _ _) t.isLt)))
  isplitl [H25]
  · unfold owns; iexists _; isplitr
    swap; · iexact H25
    ipureintro; exact View.read_writes_of_cover _ _ _ _ _ (cover_C_25 m c t h0 h1 (outsAt m c (t.val - 1) (Nat.lt_of_le_of_lt (Nat.sub_le _ _) t.isLt)))
  isplitl [H26]
  · unfold owns; iexists _; isplitr
    swap; · iexact H26
    ipureintro; exact View.read_writes_of_cover _ _ _ _ _ (cover_C_26 m c t h0 h1 (outsAt m c (t.val - 1) (Nat.lt_of_le_of_lt (Nat.sub_le _ _) t.isLt)))
  isplitl [H27]
  · unfold owns; iexists _; isplitr
    swap; · iexact H27
    ipureintro; exact View.read_writes_of_cover _ _ _ _ _ (cover_C_27 m c t h0 h1 (outsAt m c (t.val - 1) (Nat.lt_of_le_of_lt (Nat.sub_le _ _) t.isLt)))
  isplitl [H28]
  · unfold owns; iexists _; isplitr
    swap; · iexact H28
    ipureintro; exact View.read_writes_of_cover _ _ _ _ _ (cover_C_28 m c t h0 h1 (outsAt m c (t.val - 1) (Nat.lt_of_le_of_lt (Nat.sub_le _ _) t.isLt)))
  isplitl [H29]
  · unfold owns; iexists _; isplitr
    swap; · iexact H29
    ipureintro; exact View.read_writes_of_cover _ _ _ _ _ (cover_C_29 m c t h0 h1 (outsAt m c (t.val - 1) (Nat.lt_of_le_of_lt (Nat.sub_le _ _) t.isLt)))
  isplitl [H30]
  · unfold owns; iexists _; isplitr
    swap; · iexact H30
    ipureintro; exact View.read_writes_of_cover _ _ _ _ _ (cover_C_30 m c t h0 h1 (outsAt m c (t.val - 1) (Nat.lt_of_le_of_lt (Nat.sub_le _ _) t.isLt)))
  isplitl [H31]
  · unfold owns; iexists _; isplitr
    swap; · iexact H31
    ipureintro; exact View.read_writes_of_cover _ _ _ _ _ (cover_C_31 m c t h0 h1 (outsAt m c (t.val - 1) (Nat.lt_of_le_of_lt (Nat.sub_le _ _) t.isLt)))
  isplitl [H32]
  · unfold owns; iexists _; isplitr
    swap; · iexact H32
    ipureintro; exact View.read_writes_of_cover _ _ _ _ _ (cover_C_32 m c t h0 h1 (outsAt m c (t.val - 1) (Nat.lt_of_le_of_lt (Nat.sub_le _ _) t.isLt)))
  unfold owns; iexists _; isplitr
  swap; · iexact H33
  ipureintro; exact View.read_writes_of_cover _ _ _ _ _ (cover_C_33 m c t h0 h1 (outsAt m c (t.val - 1) (Nat.lt_of_le_of_lt (Nat.sub_le _ _) t.isLt)))

end Cert.Tail

end
-- ==== Proof.TailLaunch.lean ====
/- The tail's run: its arrays and its frame.  Hand-written, untrusted. -/
module

public import proofs.«01_k».proof.Proof.TailSndA
public import proofs.«01_k».proof.Proof.TailSndB
public import proofs.«01_k».proof.Proof.TailSndC

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at every tile. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_A m c t h0 (by omega)
  · by_cases h1 : t.val % 8 = 0
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

-- the two sides are conjunctions of thirty-four windows each, compared term by term
set_option maxHeartbeats 2000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's arguments are read off this statement, through plain definitions
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v4_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v4_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v4_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v4_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v4_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v4_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v4_6) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v4_7) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v4_8) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v4_9) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v4_10) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v4_11) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v4_12) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v4_13) = (dats m 0 c).arrAt 31 cfg0.N :=
  (h c).1 31

/-- After the frame run, output window 32's array is `(dats m 0 c).arrAt 32 N`. -/
theorem post32 (r : PUnit × MemSt nD τ sig (Elt F)) (h : Pipeline.FramePost cfgs (dats m) 0 (V m) r) (c : Dev nD) :
    r.2.mem ((c : Thread nD τ).loc main_v4_14) = (dats m 0 c).arrAt 32 cfg0.N :=
  (h c).1 32

/-- After the frame run, output window 33's array is `(dats m 0 c).arrAt 33 N`. -/
theorem post33 (r : PUnit × MemSt nD τ sig (Elt F)) (h : Pipeline.FramePost cfgs (dats m) 0 (V m) r) (c : Dev nD) :
    r.2.mem ((c : Thread nD τ).loc main_v4_15) = (dats m 0 c).arrAt 33 cfg0.N :=
  (h c).1 33

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: input window 14 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 14).trans (((dats m 0 c).arrAt_in 14 rfl _).trans ((A_eq m c 14).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: input window 16 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 16).trans (((dats m 0 c).arrAt_in 16 rfl _).trans ((A_eq m c 16).trans (V_main_arg15 m c)))

/-- After the frame run, argument `main_arg16` is as launched: input window 17 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 17).trans (((dats m 0 c).arrAt_in 17 rfl _).trans ((A_eq m c 17).trans (V_main_arg16 m c)))

-- thirty-three equations of arrays
set_option maxHeartbeats 400000 in
/-- The run with each output array named, the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 18 cfg0.N
      ∧ r.2.mem ((c : Thread nD τ).loc main_v4_1) = (dats m 0 c).arrAt 19 cfg0.N
      ∧ r.2.mem ((c : Thread nD τ).loc main_v4_2) = (dats m 0 c).arrAt 20 cfg0.N
      ∧ r.2.mem ((c : Thread nD τ).loc main_v4_3) = (dats m 0 c).arrAt 21 cfg0.N
      ∧ r.2.mem ((c : Thread nD τ).loc main_v4_4) = (dats m 0 c).arrAt 22 cfg0.N
      ∧ r.2.mem ((c : Thread nD τ).loc main_v4_5) = (dats m 0 c).arrAt 23 cfg0.N
      ∧ r.2.mem ((c : Thread nD τ).loc main_v4_6) = (dats m 0 c).arrAt 24 cfg0.N
      ∧ r.2.mem ((c : Thread nD τ).loc main_v4_7) = (dats m 0 c).arrAt 25 cfg0.N
      ∧ r.2.mem ((c : Thread nD τ).loc main_v4_8) = (dats m 0 c).arrAt 26 cfg0.N
      ∧ r.2.mem ((c : Thread nD τ).loc main_v4_9) = (dats m 0 c).arrAt 27 cfg0.N
      ∧ r.2.mem ((c : Thread nD τ).loc main_v4_10) = (dats m 0 c).arrAt 28 cfg0.N
      ∧ r.2.mem ((c : Thread nD τ).loc main_v4_11) = (dats m 0 c).arrAt 29 cfg0.N
      ∧ r.2.mem ((c : Thread nD τ).loc main_v4_12) = (dats m 0 c).arrAt 30 cfg0.N
      ∧ r.2.mem ((c : Thread nD τ).loc main_v4_13) = (dats m 0 c).arrAt 31 cfg0.N
      ∧ r.2.mem ((c : Thread nD τ).loc main_v4_14) = (dats m 0 c).arrAt 32 cfg0.N
      ∧ r.2.mem ((c : Thread nD τ).loc main_v4_15) = (dats m 0 c).arrAt 33 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post18 m r h c,
      post19 m r h c,
      post20 m r h c,
      post21 m r h c,
      post22 m r h c,
      post23 m r h c,
      post24 m r h c,
      post25 m r h c,
      post26 m r h c,
      post27 m r h c,
      post28 m r h c,
      post29 m r h c,
      post30 m r h c,
      post31 m r h c,
      post32 m r h c,
      post33 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.Tail

end
-- ==== Proof.TailBits.lean ====
/- The tail's frame at the machine's floats: the one run of its program, read at them.  Hand-written, untrusted. -/
module

public import proofs.«01_k».proof.Defs
public import proofs.«01_k».proof.Proof.Gen.Kernel4
public import proofs.«01_k».proof.Proof.TailLaunch

@[expose] public section

set_option maxRecDepth 16384

noncomputable section

namespace Cert.Tail

open Idealize.ShloMosaic Idealize.SL.Sem Cert.Kernel4.Gen

/-- The tail runs from every starting memory and keeps its arguments. -/
theorem bits_frame : Cert.quiescent_Kernel4 :=
  Eq.mp (by sl_kernel_rfl) fun (m : (ℓ : Loc Cert.Kernel4Ideal.nD Cert.Kernel4Ideal.τ Cert.Kernel4Ideal.sig) → Buf (Elt Bits) ℓ)
    (ρ : Dev Cert.Kernel4Ideal.nD → PrngReg) (_ : True) => frame (F := Bits) m ρ

end Cert.Tail

end
-- ==== Proof.TailBody.lean ====
/- The vectors the tail's body computes from the blocks it loads, by name.  Hand-written, untrusted. -/
module

public import proofs.«01_k».proof.Proof.TailSpec
public import proofs.«01_k».proof.Proof.Gen.Kernel4Ideal
public import proofs.«01_k».proof.Proof.Gen.Kernel4Ideal.Skeleton

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen

/-- What the body loads of its inputs. -/
structure Loads (F : FTy → Type) [FloatOps F] where
  v8 : Vec F S1x256x512 .f32
  v10 : Vec F S1x256x512 .f32
  v12 : Vec F S1x256x512 .f32
  v14 : Vec F S1x256x512 .f32
  v16 : Vec F S1x512 .f32
  v17 : Vec F S512x512 .bf16
  v20 : Vec F S1x512 .f32
  v53 : Vec F S1x256x128 .f32
  v55 : Vec F S1x256x128 .f32
  v57 : Vec F S1x256x128 .f32
  v59 : Vec F S1x128 .f32
  v82 : Vec F S1x256x128 .f32
  v84 : Vec F S1x256x128 .f32
  v86 : Vec F S1x256x128 .f32
  v111 : Vec F S1x256x128 .f32
  v113 : Vec F S1x256x128 .f32
  v115 : Vec F S1x256x128 .f32
  v140 : Vec F S1x256x128 .f32
  v142 : Vec F S1x256x128 .f32
  v144 : Vec F S1x256x128 .f32
  v172 : Vec F S512x1024 .bf16
  v175 : Vec F S512x1024 .bf16
  v179 : Vec F S1x256x1024 .f32
  v181 : Vec F S1x1x1024 .f32
  v183 : Vec F S1x1024 .f32
  v184 : Vec F S1x1024 .f32
  v185 : Vec F S1x256x1024 .f32

section

variable {F : FTy → Type} [FloatOps F]

/-- The body's `v9`. -/
def v9 (x : Loads F) : FVec F S256x512 .f32 := k0_pay14 x.v8
/-- The body's `v15`. -/
def v15 (x : Loads F) : FVec F S256x512 .f32 := k0_pay15 x.v14
/-- The body's `v19`. -/
def v19 (x : Loads F) : FVec F S512x512 .f32 := k0_pay16 x.v17
/-- The body's `v26`. -/
def v26 (x : Loads F) : FVec F S256x512 .f32 := k0_pay18 x.v8 x.v10 x.v12 x.v16
/-- The body's `v29`. -/
def v29 (x : Loads F) : FVec F S256x512 .f32 := k0_pay20 x.v8 x.v10 x.v12 x.v16
/-- The body's `v30`. -/
def v30 (x : Loads F) : FVec F S256x512 .f32 := k0_pay21 x.v8 x.v10 x.v12 x.v16
/-- The body's `v33`. -/
def v33 (x : Loads F) : FVec F S256x512 .f32 := k0_pay22 (v30 x)
/-- The body's `v35`. -/
def v35 (x : Loads F) : FVec F S256x512 .f32 := k0_pay23 (v29 x)
/-- The body's `v36`. -/
def v36 (x : Loads F) : FVec F S256x512 .f32 := k0_pay24 (v26 x) (v29 x)
/-- The body's `v42`. -/
def v42 (x : Loads F) : FVec F S256x512 .f32 := k0_pay25 (v19 x) x.v20 (v26 x) (v29 x)
/-- The body's `v45`. -/
def v45 (x : Loads F) : FVec F S256x512 .f32 := k0_pay26 (v19 x) x.v20 (v26 x) (v29 x)
/-- The body's `v46`. -/
def v46 (x : Loads F) : FVec F S256x512 .f32 := k0_pay27 (v19 x) x.v20 (v26 x) (v29 x)
/-- The body's `v47`. -/
def v47 (x : Loads F) : FVec F S256x512 .f32 := k0_pay28 (v15 x)
/-- The body's `v50`. -/
def v50 (x : Loads F) : FVec F S256x512 .f32 := k0_pay29 (v15 x)
/-- The body's `v51`. -/
def v51 (x : Loads F) : FVec F S256x512 .f32 := k0_pay30 (v15 x)
/-- The body's `v52`. -/
def v52 (x : Loads F) : FVec F S256x512 .f32 := k0_pay31 (v15 x) (v19 x) x.v20 (v26 x) (v29 x)
/-- The body's `v58`. -/
def v58 (x : Loads F) : FVec F S256x128 .f32 := k0_pay32 x.v57
/-- The body's `v60`. -/
def v60 (x : Loads F) : FVec F S256x128 .f32 := k0_pay33 x.v53 x.v55
/-- The body's `v68`. -/
def v68 (x : Loads F) : FVec F S256x1 .f32 := k0_pay35 x.v53 x.v55
/-- The body's `v69`. -/
def v69 (x : Loads F) : FVec F S256x1 .f32 := k0_pay36 x.v53 x.v55
/-- The body's `v70`. -/
def v70 (x : Loads F) : FVec F S256x1 .f32 := k0_pay37 (F := F)
/-- The body's `v71`. -/
def v71 (x : Loads F) : FVec F S256x1 .f32 := k0_pay38 (v69 x) (v70 x)
/-- The body's `v73`. -/
def v73 (x : Loads F) : FVec F S256x128 .f32 := k0_pay39 (v60 x) (v68 x)
/-- The body's `v75`. -/
def v75 (x : Loads F) : FVec F S256x128 .f32 := k0_pay40 x.v59 (v60 x) (v68 x)
/-- The body's `v76`. -/
def v76 (x : Loads F) : FVec F S256x128 .f32 := k0_pay41 (v58 x)
/-- The body's `v79`. -/
def v79 (x : Loads F) : FVec F S256x128 .f32 := k0_pay42 (v58 x)
/-- The body's `v80`. -/
def v80 (x : Loads F) : FVec F S256x128 .f32 := k0_pay43 (v58 x)
/-- The body's `v81`. -/
def v81 (x : Loads F) : FVec F S256x128 .f32 := k0_pay44 (v58 x) x.v59 (v60 x) (v68 x)
/-- The body's `v87`. -/
def v87 (x : Loads F) : FVec F S256x128 .f32 := k0_pay45 x.v86
/-- The body's `v89`. -/
def v89 (x : Loads F) : FVec F S256x128 .f32 := k0_pay46 x.v82 x.v84
/-- The body's `v97`. -/
def v97 (x : Loads F) : FVec F S256x1 .f32 := k0_pay48 x.v82 x.v84
/-- The body's `v100`. -/
def v100 (x : Loads F) : FVec F S256x1 .f32 := k0_pay49 x.v82 x.v84
/-- The body's `v102`. -/
def v102 (x : Loads F) : FVec F S256x128 .f32 := k0_pay50 x.v82 x.v84
/-- The body's `v104`. -/
def v104 (x : Loads F) : FVec F S256x128 .f32 := k0_pay51 x.v82 x.v84 x.v59
/-- The body's `v105`. -/
def v105 (x : Loads F) : FVec F S256x128 .f32 := k0_pay52 x.v86
/-- The body's `v108`. -/
def v108 (x : Loads F) : FVec F S256x128 .f32 := k0_pay53 x.v86
/-- The body's `v109`. -/
def v109 (x : Loads F) : FVec F S256x128 .f32 := k0_pay54 x.v86
/-- The body's `v110`. -/
def v110 (x : Loads F) : FVec F S256x128 .f32 := k0_pay55 x.v82 x.v84 x.v86 x.v59
/-- The body's `v116`. -/
def v116 (x : Loads F) : FVec F S256x128 .f32 := k0_pay56 x.v115
/-- The body's `v118`. -/
def v118 (x : Loads F) : FVec F S256x128 .f32 := k0_pay57 x.v111 x.v113
/-- The body's `v126`. -/
def v126 (x : Loads F) : FVec F S256x1 .f32 := k0_pay59 x.v111 x.v113
/-- The body's `v129`. -/
def v129 (x : Loads F) : FVec F S256x1 .f32 := k0_pay60 x.v111 x.v113
/-- The body's `v131`. -/
def v131 (x : Loads F) : FVec F S256x128 .f32 := k0_pay61 x.v111 x.v113
/-- The body's `v133`. -/
def v133 (x : Loads F) : FVec F S256x128 .f32 := k0_pay62 x.v111 x.v113 x.v59
/-- The body's `v134`. -/
def v134 (x : Loads F) : FVec F S256x128 .f32 := k0_pay63 x.v115
/-- The body's `v137`. -/
def v137 (x : Loads F) : FVec F S256x128 .f32 := k0_pay64 x.v115
/-- The body's `v138`. -/
def v138 (x : Loads F) : FVec F S256x128 .f32 := k0_pay65 x.v115
/-- The body's `v139`. -/
def v139 (x : Loads F) : FVec F S256x128 .f32 := k0_pay66 x.v111 x.v113 x.v115 x.v59
/-- The body's `v141`. -/
def v141 (x : Loads F) : FVec F S256x128 .f32 := k0_pay67 x.v140
/-- The body's `v143`. -/
def v143 (x : Loads F) : FVec F S256x128 .f32 := k0_pay68 x.v142
/-- The body's `v145`. -/
def v145 (x : Loads F) : FVec F S256x128 .f32 := k0_pay69 x.v144
/-- The body's `v147`. -/
def v147 (x : Loads F) : FVec F S256x128 .f32 := k0_pay70 (v141 x) (v143 x)
/-- The body's `v155`. -/
def v155 (x : Loads F) : FVec F S256x1 .f32 := k0_pay72 (v141 x) (v143 x)
/-- The body's `v158`. -/
def v158 (x : Loads F) : FVec F S256x1 .f32 := k0_pay73 (v141 x) (v143 x)
/-- The body's `v160`. -/
def v160 (x : Loads F) : FVec F S256x128 .f32 := k0_pay74 (v141 x) (v143 x)
/-- The body's `v162`. -/
def v162 (x : Loads F) : FVec F S256x128 .f32 := k0_pay75 (v141 x) (v143 x) x.v59
/-- The body's `v163`. -/
def v163 (x : Loads F) : FVec F S256x128 .f32 := k0_pay76 (v145 x)
/-- The body's `v166`. -/
def v166 (x : Loads F) : FVec F S256x128 .f32 := k0_pay77 (v145 x)
/-- The body's `v167`. -/
def v167 (x : Loads F) : FVec F S256x128 .f32 := k0_pay78 (v145 x)
/-- The body's `v169`. -/
def v169 (x : Loads F) : FVec F S256x512 .bf16 := k0_pay79 (v52 x)
/-- The body's `v171`. -/
def v171 (x : Loads F) : FVec F S256x512 .bf16 := k0_pay80 (v81 x) (v110 x) (v139 x) (v141 x) (v143 x) (v145 x) x.v59
/-- The body's `v178`. -/
def v178 (x : Loads F) : FVec F S256x1024 .f32 := k0_pay81 (v52 x) (v81 x) (v110 x) (v139 x) (v141 x) (v143 x) (v145 x) x.v59 x.v172 x.v175
/-- The body's `v180`. -/
def v180 (x : Loads F) : FVec F S256x1024 .f32 := k0_pay82 x.v179
/-- The body's `v182`. -/
def v182 (x : Loads F) : FVec F S1x1024 .f32 := k0_pay83 x.v181
/-- The body's `v197`. -/
def v197 (x : Loads F) : FVec F S256x1024 .f32 := k0_pay84 (v178 x) (v180 x) (v182 x)
/-- The body's `v205`. -/
def v205 (x : Loads F) : FVec F S256x1 .f32 := k0_pay86 (v178 x) (v180 x) (v182 x)
/-- The body's `v208`. -/
def v208 (x : Loads F) : FVec F S256x1 .f32 := k0_pay87 (v178 x) (v180 x) (v182 x)
/-- The body's `v210`. -/
def v210 (x : Loads F) : FVec F S256x1024 .f32 := k0_pay88 (v178 x) (v180 x) (v182 x)
/-- The body's `v215`. -/
def v215 (x : Loads F) : FVec F S256x1024 .f32 := k0_pay89 (v178 x) (v180 x) (v182 x) x.v183 x.v184 x.v185
/-- The body's `v222`. -/
def v222 (x : Loads F) : FVec F S1x1 .f32 := k0_pay90 (v178 x) (v180 x) (v182 x) x.v183 x.v184 x.v185
/-- The body's `v229`. -/
def v229 (x : Loads F) : F .f32 := k0_pay91 (F := F)
/-- The body's `v240`. -/
def v240 (x : Loads F) : FVec F S1x1024 .f32 := k0_pay93 (v215 x) (v229 x)
/-- The body's `v243`. -/
def v243 (x : Loads F) : FVec F S1x1024 .f32 := k0_pay94 (v210 x) (v215 x) (v229 x)
/-- The body's `v272`. -/
def v272 (x : Loads F) : FVec F S256x1024 .f32 := k0_pay96 (v182 x) x.v183 (v197 x) (v205 x) (v208 x) (v215 x) (v229 x)
/-- The body's `v275`. -/
def v275 (x : Loads F) : FVec F S1x1024 .f32 := k0_pay97 (v178 x) x.v183 (v197 x) (v205 x) (v208 x) (v215 x) (v229 x)
/-- The body's `v277`. -/
def v277 (x : Loads F) : FVec F S256x1024 .f32 := k0_pay98 x.v183 (v197 x) (v205 x) (v208 x) (v215 x) (v229 x)
/-- The body's `v286`. -/
def v286 (x : Loads F) : FVec F S256x1024 .bf16 := k0_pay100 (v272 x)
/-- The body's `v322`. -/
def v322 (x : Loads F) : FVec F S256x512 .f32 := k0_pay109 (v15 x) (v46 x) (v47 x) (v50 x) (v286 x) x.v172
/-- The body's `v327`. -/
def v327 (x : Loads F) : FVec F S1x512 .f32 := k0_pay111 (v36 x) (v45 x) (v51 x) (v286 x) x.v172
/-- The body's `v333`. -/
def v333 (x : Loads F) : FVec F S512x512 .f32 := k0_pay112 (v36 x) (v45 x) (v51 x) (v286 x) x.v172
/-- The body's `v344`. -/
def v344 (x : Loads F) : FVec F S256x512 .f32 := k0_pay113 (v19 x) (v26 x) (v33 x) (v35 x) (v36 x) (v42 x) (v45 x) (v51 x) (v286 x) x.v172
/-- The body's `v346`. -/
def v346 (x : Loads F) : FVec F S256x512 .f32 := k0_pay114 x.v16 (v19 x) (v26 x) (v33 x) (v35 x) (v36 x) (v42 x) (v45 x) (v51 x) (v286 x) x.v172
/-- The body's `v347`. -/
def v347 (x : Loads F) : FVec F S256x512 .f32 := k0_pay115 (v9 x) (v19 x) (v26 x) (v33 x) (v35 x) (v36 x) (v42 x) (v45 x) (v51 x) (v286 x) x.v172
/-- The body's `v373`. -/
def v373 (x : Loads F) : FVec F S256x512 .f32 := k0_pay122 (v286 x) x.v175
/-- The body's `v375`. -/
def v375 (x : Loads F) : FVec F S256x128 .f32 := k0_pay124 (v75 x) (v286 x) x.v175
/-- The body's `v376`. -/
def v376 (x : Loads F) : FVec F S256x128 .f32 := k0_pay125 (v80 x) (v286 x) x.v175
/-- The body's `v377`. -/
def v377 (x : Loads F) : FVec F S256x128 .f32 := k0_pay126 (v58 x) (v75 x) (v286 x) x.v175
/-- The body's `v413`. -/
def v413 (x : Loads F) : FVec F S256x128 .f32 := k0_pay131 (v109 x) (v373 x)
/-- The body's `v417`. -/
def v417 (x : Loads F) : FVec F S256x128 .f32 := k0_pay132 (v87 x) (v104 x) (v105 x) (v108 x) (v373 x)
/-- The body's `v419`. -/
def v419 (x : Loads F) : FVec F S128 .f32 := k0_pay133 (v102 x) (v109 x) (v373 x)
/-- The body's `v454`. -/
def v454 (x : Loads F) : FVec F S256x128 .f32 := k0_pay139 (v116 x) (v133 x) (v134 x) (v137 x) (v373 x)
/-- The body's `v457`. -/
def v457 (x : Loads F) : FVec F S1x128 .f32 := k0_pay140 (v131 x) (v138 x) (v373 x)
/-- The body's `v459`. -/
def v459 (x : Loads F) : FVec F S256x128 .f32 := k0_pay141 x.v59 (v138 x) (v373 x)
/-- The body's `v461`. -/
def v461 (x : Loads F) : FVec F S256 .f32 := k0_pay142 x.v59 (v118 x) (v138 x) (v373 x)
/-- The body's `v491`. -/
def v491 (x : Loads F) : FVec F S256x128 .f32 := k0_pay148 (v145 x) (v162 x) (v163 x) (v166 x) (v373 x)
/-- The body's `v494`. -/
def v494 (x : Loads F) : FVec F S1x128 .f32 := k0_pay149 (v160 x) (v167 x) (v373 x)
/-- The body's `v501`. -/
def v501 (x : Loads F) : FVec F S256x128 .f32 := k0_pay151 x.v59 (v155 x) (v167 x) (v373 x)
/-- The body's `v502`. -/
def v502 (x : Loads F) : FVec F S256x1 .f32 := k0_pay152 x.v59 (v147 x) (v158 x) (v167 x) (v373 x)
/-- The body's `v503`. -/
def v503 (x : Loads F) : FVec F S256x1 .f32 := k0_pay153 (F := F)

end

/-- One token of the blocks loaded. -/
def tok (x : Loads Ideal) (r : Fin 256) : In where
  u k := x.v8 (ix3 0 r k)
  y0 k := x.v10 (ix3 0 r k)
  y1 k := x.v12 (ix3 0 r k)
  z k := x.v14 (ix3 0 r k)
  o0 h d := (![x.v53, x.v82, x.v111, x.v140] h) (ix3 0 r d)
  o1 h d := (![x.v55, x.v84, x.v113, x.v142] h) (ix3 0 r d)
  zg h d := (![x.v57, x.v86, x.v115, x.v144] h) (ix3 0 r d)
  x j := x.v179 (ix3 0 r j)
  tgt j := x.v185 (ix3 0 r j)
  gate j := x.v181 (ix3 0 0 j)
  lng j := x.v183 (ix2 0 j)
  lnb j := x.v184 (ix2 0 j)
  ws k j := x.v172 (ix2 k j)
  wg k j := x.v175 (ix2 k j)
  dsk k := x.v16 (ix2 0 k)
  wglu k q := x.v17 (ix2 k q)
  bglu k := x.v20 (ix2 0 k)
  nw d := x.v59 (ix2 0 d)

end Cert.Tail

end
-- ==== Proof.TailPayA.lean ====
/- The forward vectors of the tail's body, read at an entry.  Hand-written, untrusted. -/
module

public import proofs.«01_k».proof.Proof.TailBody

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen

variable (x : Loads Ideal)

/-- The skip's input. -/
theorem p14_at (r : Fin 256) (k : Fin 512) :
    k0_pay14 x.v8 (ix2 r k) = (tok x r).u k := by
  pointwise [k0_pay14] <;> rfl

/-- The skip's input. -/
theorem v9_at (r : Fin 256) (k : Fin 512) : v9 x (ix2 r k) = (tok x r).u k := p14_at x r k

/-- The output gate's input. -/
theorem p15_at (r : Fin 256) (k : Fin 512) :
    k0_pay15 x.v14 (ix2 r k) = (tok x r).z k := by
  pointwise [k0_pay15] <;> rfl

/-- The output gate's input. -/
theorem v15_at (r : Fin 256) (k : Fin 512) : v15 x (ix2 r k) = (tok x r).z k := p15_at x r k

/-- The linear unit's weights. -/
theorem p16_at (k : Fin 512) (q : Fin 512) :
    k0_pay16 x.v17 (ix2 k q) = x.v17 (ix2 k q) := by
  pointwise [k0_pay16] <;> rfl

/-- The linear unit's weights. -/
theorem v19_at (k : Fin 512) (q : Fin 512) : v19 x (ix2 k q) = x.v17 (ix2 k q) := p16_at x k q

/-- The unit's input. -/
theorem p17_at (r : Fin 256) (k : Fin 512) :
    k0_pay17 x.v8 x.v10 x.v12 x.v16 (ix2 r k) = (tok x r).pre k := by
  pointwise [k0_pay17, p14_at] <;> rfl

/-- Half the unit's input. -/
theorem p18_at (r : Fin 256) (k : Fin 512) :
    k0_pay18 x.v8 x.v10 x.v12 x.v16 (ix2 r k) = (tok x r).hp k := by
  pointwise [k0_pay18, p17_at] <;> rfl

/-- Half the unit's input. -/
theorem v26_at (r : Fin 256) (k : Fin 512) : v26 x (ix2 r k) = (tok x r).hp k := p18_at x r k

/-- The unit's input over the root of two. -/
theorem p19_at (r : Fin 256) (k : Fin 512) :
    k0_pay19 x.v8 x.v10 x.v12 x.v16 (ix2 r k) = (tok x r).sc k := by
  pointwise [k0_pay19, p17_at] <;> rfl

/-- The error function. -/
theorem p20_at (r : Fin 256) (k : Fin 512) :
    k0_pay20 x.v8 x.v10 x.v12 x.v16 (ix2 r k) = Ideal.erf ((tok x r).sc k) := by
  pointwise [k0_pay20, p19_at] <;> rfl

/-- The error function. -/
theorem v29_at (r : Fin 256) (k : Fin 512) : v29 x (ix2 r k) = Ideal.erf ((tok x r).sc k) := p20_at x r k

/-- Its argument's square. -/
theorem p21_at (r : Fin 256) (k : Fin 512) :
    k0_pay21 x.v8 x.v10 x.v12 x.v16 (ix2 r k) = (tok x r).sc k * (tok x r).sc k := by
  pointwise [k0_pay21, p19_at] <;> rfl

/-- Its argument's square. -/
theorem v30_at (r : Fin 256) (k : Fin 512) : v30 x (ix2 r k) = (tok x r).sc k * (tok x r).sc k := p21_at x r k

/-- The error function's derivative. -/
theorem p22_at (r : Fin 256) (k : Fin 512) :
    k0_pay22 (v30 x) (ix2 r k) = (tok x r).ex k := by
  pointwise [k0_pay22, v30_at]
  exact congrArg Ideal.exp (zero_sub _)

/-- The error function's derivative. -/
theorem v33_at (r : Fin 256) (k : Fin 512) : v33 x (ix2 r k) = (tok x r).ex k := p22_at x r k

/-- One plus the error function. -/
theorem p23_at (r : Fin 256) (k : Fin 512) :
    k0_pay23 (v29 x) (ix2 r k) = (tok x r).ep k := by
  pointwise [k0_pay23, v29_at] <;> rfl

/-- One plus the error function. -/
theorem v35_at (r : Fin 256) (k : Fin 512) : v35 x (ix2 r k) = (tok x r).ep k := p23_at x r k

/-- The unit. -/
theorem p24_at (r : Fin 256) (k : Fin 512) :
    k0_pay24 (v26 x) (v29 x) (ix2 r k) = (tok x r).g k := by
  pointwise [k0_pay24, p23_at, v26_at, v29_at] <;> rfl

/-- The unit. -/
theorem v36_at (r : Fin 256) (k : Fin 512) : v36 x (ix2 r k) = (tok x r).g k := p24_at x r k

/-- The unit's gate. -/
theorem p25_at (r : Fin 256) (k : Fin 512) :
    k0_pay25 (v19 x) x.v20 (v26 x) (v29 x) (ix2 r k) = (tok x r).gl k := by
  pointwise [k0_pay25, p24_at, v19_at, v26_at, v29_at] <;> rfl

/-- The unit's gate. -/
theorem v42_at (r : Fin 256) (k : Fin 512) : v42 x (ix2 r k) = (tok x r).gl k := p25_at x r k

/-- The gate's derivative. -/
theorem p26_at (r : Fin 256) (k : Fin 512) :
    k0_pay26 (v19 x) x.v20 (v26 x) (v29 x) (ix2 r k) = (tok x r).gl k * (1 - (tok x r).gl k) := by
  pointwise [k0_pay26, p25_at, v19_at, v26_at, v29_at] <;> rfl

/-- The gate's derivative. -/
theorem v45_at (r : Fin 256) (k : Fin 512) : v45 x (ix2 r k) = (tok x r).gl k * (1 - (tok x r).gl k) := p26_at x r k

/-- The gated unit. -/
theorem p27_at (r : Fin 256) (k : Fin 512) :
    k0_pay27 (v19 x) x.v20 (v26 x) (v29 x) (ix2 r k) = (tok x r).gg k := by
  pointwise [k0_pay27, p24_at, p25_at, v19_at, v26_at, v29_at] <;> rfl

/-- The gated unit. -/
theorem v46_at (r : Fin 256) (k : Fin 512) : v46 x (ix2 r k) = (tok x r).gg k := p27_at x r k

/-- The output gate's logistic. -/
theorem p28_at (r : Fin 256) (k : Fin 512) :
    k0_pay28 (v15 x) (ix2 r k) = (tok x r).zl k := by
  pointwise [k0_pay28, v15_at] <;> rfl

/-- The output gate's logistic. -/
theorem v47_at (r : Fin 256) (k : Fin 512) : v47 x (ix2 r k) = (tok x r).zl k := p28_at x r k

/-- The logistic's derivative. -/
theorem p29_at (r : Fin 256) (k : Fin 512) :
    k0_pay29 (v15 x) (ix2 r k) = (tok x r).zl k * (1 - (tok x r).zl k) := by
  pointwise [k0_pay29, p28_at, v15_at] <;> rfl

/-- The logistic's derivative. -/
theorem v50_at (r : Fin 256) (k : Fin 512) : v50 x (ix2 r k) = (tok x r).zl k * (1 - (tok x r).zl k) := p29_at x r k

/-- The output gate. -/
theorem p30_at (r : Fin 256) (k : Fin 512) :
    k0_pay30 (v15 x) (ix2 r k) = (tok x r).zs k := by
  pointwise [k0_pay30, p28_at, v15_at] <;> rfl

/-- The output gate. -/
theorem v51_at (r : Fin 256) (k : Fin 512) : v51 x (ix2 r k) = (tok x r).zs k := p30_at x r k

/-- The first half's output. -/
theorem p31_at (r : Fin 256) (k : Fin 512) :
    k0_pay31 (v15 x) (v19 x) x.v20 (v26 x) (v29 x) (ix2 r k) = (tok x r).s5 k := by
  pointwise [k0_pay31, p27_at, p30_at, v15_at, v19_at, v26_at, v29_at] <;> rfl

/-- The first half's output. -/
theorem v52_at (r : Fin 256) (k : Fin 512) : v52 x (ix2 r k) = (tok x r).s5 k := p31_at x r k

/-- The first head's gate input. -/
theorem p32_at (r : Fin 256) (d : Fin 128) :
    k0_pay32 x.v57 (ix2 r d) = (tok x r).zg 0 d := by
  pointwise [k0_pay32] <;> rfl

/-- The first head's gate input. -/
theorem v58_at (r : Fin 256) (d : Fin 128) : v58 x (ix2 r d) = (tok x r).zg 0 d := p32_at x r d

/-- The first head's sum of the scans. -/
theorem p33_at (r : Fin 256) (d : Fin 128) :
    k0_pay33 x.v53 x.v55 (ix2 r d) = (tok x r).o 0 d := by
  pointwise [k0_pay33] <;> rfl

/-- The first head's sum of the scans. -/
theorem v60_at (r : Fin 256) (d : Fin 128) : v60 x (ix2 r d) = (tok x r).o 0 d := p33_at x r d

/-- The first head's mean square. -/
theorem p34_at (r : Fin 256) (p1 : Fin 1) :
    k0_pay34 x.v53 x.v55 (ix2 r p1) = (tok x r).vr 0 := by
  pointwise [k0_pay34, p33_at] <;> rfl

/-- The first head's reciprocal root. -/
theorem p35_at (r : Fin 256) (p1 : Fin 1) :
    k0_pay35 x.v53 x.v55 (ix2 r p1) = (tok x r).rs 0 := by
  pointwise [k0_pay35, p34_at] <;> rfl

/-- The first head's reciprocal root. -/
theorem v68_at (r : Fin 256) (p1 : Fin 1) : v68 x (ix2 r p1) = (tok x r).rs 0 := p35_at x r p1

/-- The first head's root over its mean square. -/
theorem p36_at (r : Fin 256) (p1 : Fin 1) :
    k0_pay36 x.v53 x.v55 (ix2 r p1) = Ideal.div ((tok x r).rs 0) ((tok x r).vr 0) := by
  pointwise [k0_pay36, p34_at, p35_at] <;> rfl

/-- The first head's root over its mean square. -/
theorem v69_at (r : Fin 256) (p1 : Fin 1) : v69 x (ix2 r p1) = Ideal.div ((tok x r).rs 0) ((tok x r).vr 0) := p36_at x r p1

/-- Minus one half. -/
theorem p37_at (r : Fin 256) (p1 : Fin 1) :
    k0_pay37 (F := Ideal) (ix2 r p1) = In.c 0xBF000000#32 := by
  pointwise [k0_pay37] <;> rfl

/-- Minus one half. -/
theorem v70_at (r : Fin 256) (p1 : Fin 1) : v70 x (ix2 r p1) = In.c 0xBF000000#32 := p37_at r p1

/-- The first head's root's derivative. -/
theorem p38_at (r : Fin 256) (p1 : Fin 1) :
    k0_pay38 (v69 x) (v70 x) (ix2 r p1) = (tok x r).rh 0 := by
  pointwise [k0_pay38, v69_at, v70_at] <;> rfl

/-- The first head's root's derivative. -/
theorem v71_at (r : Fin 256) (p1 : Fin 1) : v71 x (ix2 r p1) = (tok x r).rh 0 := p38_at x r p1

/-- The first head's normed values. -/
theorem p39_at (r : Fin 256) (d : Fin 128) :
    k0_pay39 (v60 x) (v68 x) (ix2 r d) = (tok x r).on 0 d := by
  pointwise [k0_pay39, v60_at, v68_at] <;> rfl

/-- The first head's normed values. -/
theorem v73_at (r : Fin 256) (d : Fin 128) : v73 x (ix2 r d) = (tok x r).on 0 d := p39_at x r d

/-- The first head's weighted values. -/
theorem p40_at (r : Fin 256) (d : Fin 128) :
    k0_pay40 x.v59 (v60 x) (v68 x) (ix2 r d) = (tok x r).ow 0 d := by
  pointwise [k0_pay40, p39_at, v60_at, v68_at] <;> rfl

/-- The first head's weighted values. -/
theorem v75_at (r : Fin 256) (d : Fin 128) : v75 x (ix2 r d) = (tok x r).ow 0 d := p40_at x r d

/-- The first head's gate's logistic. -/
theorem p41_at (r : Fin 256) (d : Fin 128) :
    k0_pay41 (v58 x) (ix2 r d) = (tok x r).zgl 0 d := by
  pointwise [k0_pay41, v58_at] <;> rfl

/-- The first head's gate's logistic. -/
theorem v76_at (r : Fin 256) (d : Fin 128) : v76 x (ix2 r d) = (tok x r).zgl 0 d := p41_at x r d

/-- The first head's logistic's derivative. -/
theorem p42_at (r : Fin 256) (d : Fin 128) :
    k0_pay42 (v58 x) (ix2 r d) = (tok x r).zgl 0 d * (1 - (tok x r).zgl 0 d) := by
  pointwise [k0_pay42, p41_at, v58_at] <;> rfl

/-- The first head's logistic's derivative. -/
theorem v79_at (r : Fin 256) (d : Fin 128) : v79 x (ix2 r d) = (tok x r).zgl 0 d * (1 - (tok x r).zgl 0 d) := p42_at x r d

/-- The first head's gate. -/
theorem p43_at (r : Fin 256) (d : Fin 128) :
    k0_pay43 (v58 x) (ix2 r d) = (tok x r).zgs 0 d := by
  pointwise [k0_pay43, p41_at, v58_at] <;> rfl

/-- The first head's gate. -/
theorem v80_at (r : Fin 256) (d : Fin 128) : v80 x (ix2 r d) = (tok x r).zgs 0 d := p43_at x r d

/-- The first head's output. -/
theorem p44_at (r : Fin 256) (d : Fin 128) :
    k0_pay44 (v58 x) x.v59 (v60 x) (v68 x) (ix2 r d) = (tok x r).gn 0 d := by
  pointwise [k0_pay44, p40_at, p43_at, v58_at, v60_at, v68_at] <;> rfl

/-- The first head's output. -/
theorem v81_at (r : Fin 256) (d : Fin 128) : v81 x (ix2 r d) = (tok x r).gn 0 d := p44_at x r d

/-- The second head's gate input. -/
theorem p45_at (r : Fin 256) (d : Fin 128) :
    k0_pay45 x.v86 (ix2 r d) = (tok x r).zg 1 d := by
  pointwise [k0_pay45] <;> rfl

/-- The second head's gate input. -/
theorem v87_at (r : Fin 256) (d : Fin 128) : v87 x (ix2 r d) = (tok x r).zg 1 d := p45_at x r d

/-- The second head's sum of the scans. -/
theorem p46_at (r : Fin 256) (d : Fin 128) :
    k0_pay46 x.v82 x.v84 (ix2 r d) = (tok x r).o 1 d := by
  pointwise [k0_pay46] <;> rfl

/-- The second head's sum of the scans. -/
theorem v89_at (r : Fin 256) (d : Fin 128) : v89 x (ix2 r d) = (tok x r).o 1 d := p46_at x r d

/-- The second head's mean square. -/
theorem p47_at (r : Fin 256) (p1 : Fin 1) :
    k0_pay47 x.v82 x.v84 (ix2 r p1) = (tok x r).vr 1 := by
  pointwise [k0_pay47, p46_at] <;> rfl

/-- The second head's reciprocal root. -/
theorem p48_at (r : Fin 256) (p1 : Fin 1) :
    k0_pay48 x.v82 x.v84 (ix2 r p1) = (tok x r).rs 1 := by
  pointwise [k0_pay48, p47_at] <;> rfl

/-- The second head's reciprocal root. -/
theorem v97_at (r : Fin 256) (p1 : Fin 1) : v97 x (ix2 r p1) = (tok x r).rs 1 := p48_at x r p1

/-- The second head's root's derivative. -/
theorem p49_at (r : Fin 256) (p1 : Fin 1) :
    k0_pay49 x.v82 x.v84 (ix2 r p1) = (tok x r).rh 1 := by
  pointwise [k0_pay49, p47_at, p48_at] <;> rfl

/-- The second head's root's derivative. -/
theorem v100_at (r : Fin 256) (p1 : Fin 1) : v100 x (ix2 r p1) = (tok x r).rh 1 := p49_at x r p1

/-- The second head's normed values. -/
theorem p50_at (r : Fin 256) (d : Fin 128) :
    k0_pay50 x.v82 x.v84 (ix2 r d) = (tok x r).on 1 d := by
  pointwise [k0_pay50, p46_at, p48_at] <;> rfl

/-- The second head's normed values. -/
theorem v102_at (r : Fin 256) (d : Fin 128) : v102 x (ix2 r d) = (tok x r).on 1 d := p50_at x r d

/-- The second head's weighted values. -/
theorem p51_at (r : Fin 256) (d : Fin 128) :
    k0_pay51 x.v82 x.v84 x.v59 (ix2 r d) = (tok x r).ow 1 d := by
  pointwise [k0_pay51, p50_at] <;> rfl

/-- The second head's weighted values. -/
theorem v104_at (r : Fin 256) (d : Fin 128) : v104 x (ix2 r d) = (tok x r).ow 1 d := p51_at x r d

/-- The second head's gate's logistic. -/
theorem p52_at (r : Fin 256) (d : Fin 128) :
    k0_pay52 x.v86 (ix2 r d) = (tok x r).zgl 1 d := by
  pointwise [k0_pay52, p45_at] <;> rfl

/-- The second head's gate's logistic. -/
theorem v105_at (r : Fin 256) (d : Fin 128) : v105 x (ix2 r d) = (tok x r).zgl 1 d := p52_at x r d

/-- The second head's logistic's derivative. -/
theorem p53_at (r : Fin 256) (d : Fin 128) :
    k0_pay53 x.v86 (ix2 r d) = (tok x r).zgl 1 d * (1 - (tok x r).zgl 1 d) := by
  pointwise [k0_pay53, p52_at] <;> rfl

/-- The second head's logistic's derivative. -/
theorem v108_at (r : Fin 256) (d : Fin 128) : v108 x (ix2 r d) = (tok x r).zgl 1 d * (1 - (tok x r).zgl 1 d) := p53_at x r d

/-- The second head's gate. -/
theorem p54_at (r : Fin 256) (d : Fin 128) :
    k0_pay54 x.v86 (ix2 r d) = (tok x r).zgs 1 d := by
  pointwise [k0_pay54, p45_at, p52_at] <;> rfl

/-- The second head's gate. -/
theorem v109_at (r : Fin 256) (d : Fin 128) : v109 x (ix2 r d) = (tok x r).zgs 1 d := p54_at x r d

/-- The second head's output. -/
theorem p55_at (r : Fin 256) (d : Fin 128) :
    k0_pay55 x.v82 x.v84 x.v86 x.v59 (ix2 r d) = (tok x r).gn 1 d := by
  pointwise [k0_pay55, p51_at, p54_at] <;> rfl

/-- The second head's output. -/
theorem v110_at (r : Fin 256) (d : Fin 128) : v110 x (ix2 r d) = (tok x r).gn 1 d := p55_at x r d

/-- The third head's gate input. -/
theorem p56_at (r : Fin 256) (d : Fin 128) :
    k0_pay56 x.v115 (ix2 r d) = (tok x r).zg 2 d := by
  pointwise [k0_pay56] <;> rfl

/-- The third head's gate input. -/
theorem v116_at (r : Fin 256) (d : Fin 128) : v116 x (ix2 r d) = (tok x r).zg 2 d := p56_at x r d

/-- The third head's sum of the scans. -/
theorem p57_at (r : Fin 256) (d : Fin 128) :
    k0_pay57 x.v111 x.v113 (ix2 r d) = (tok x r).o 2 d := by
  pointwise [k0_pay57] <;> rfl

/-- The third head's sum of the scans. -/
theorem v118_at (r : Fin 256) (d : Fin 128) : v118 x (ix2 r d) = (tok x r).o 2 d := p57_at x r d

/-- The third head's mean square. -/
theorem p58_at (r : Fin 256) (p1 : Fin 1) :
    k0_pay58 x.v111 x.v113 (ix2 r p1) = (tok x r).vr 2 := by
  pointwise [k0_pay58, p57_at] <;> rfl

/-- The third head's reciprocal root. -/
theorem p59_at (r : Fin 256) (p1 : Fin 1) :
    k0_pay59 x.v111 x.v113 (ix2 r p1) = (tok x r).rs 2 := by
  pointwise [k0_pay59, p58_at] <;> rfl

/-- The third head's reciprocal root. -/
theorem v126_at (r : Fin 256) (p1 : Fin 1) : v126 x (ix2 r p1) = (tok x r).rs 2 := p59_at x r p1

/-- The third head's root's derivative. -/
theorem p60_at (r : Fin 256) (p1 : Fin 1) :
    k0_pay60 x.v111 x.v113 (ix2 r p1) = (tok x r).rh 2 := by
  pointwise [k0_pay60, p58_at, p59_at] <;> rfl

/-- The third head's root's derivative. -/
theorem v129_at (r : Fin 256) (p1 : Fin 1) : v129 x (ix2 r p1) = (tok x r).rh 2 := p60_at x r p1

/-- The third head's normed values. -/
theorem p61_at (r : Fin 256) (d : Fin 128) :
    k0_pay61 x.v111 x.v113 (ix2 r d) = (tok x r).on 2 d := by
  pointwise [k0_pay61, p57_at, p59_at] <;> rfl

/-- The third head's normed values. -/
theorem v131_at (r : Fin 256) (d : Fin 128) : v131 x (ix2 r d) = (tok x r).on 2 d := p61_at x r d

/-- The third head's weighted values. -/
theorem p62_at (r : Fin 256) (d : Fin 128) :
    k0_pay62 x.v111 x.v113 x.v59 (ix2 r d) = (tok x r).ow 2 d := by
  pointwise [k0_pay62, p61_at] <;> rfl

/-- The third head's weighted values. -/
theorem v133_at (r : Fin 256) (d : Fin 128) : v133 x (ix2 r d) = (tok x r).ow 2 d := p62_at x r d

/-- The third head's gate's logistic. -/
theorem p63_at (r : Fin 256) (d : Fin 128) :
    k0_pay63 x.v115 (ix2 r d) = (tok x r).zgl 2 d := by
  pointwise [k0_pay63, p56_at] <;> rfl

/-- The third head's gate's logistic. -/
theorem v134_at (r : Fin 256) (d : Fin 128) : v134 x (ix2 r d) = (tok x r).zgl 2 d := p63_at x r d

/-- The third head's logistic's derivative. -/
theorem p64_at (r : Fin 256) (d : Fin 128) :
    k0_pay64 x.v115 (ix2 r d) = (tok x r).zgl 2 d * (1 - (tok x r).zgl 2 d) := by
  pointwise [k0_pay64, p63_at] <;> rfl

/-- The third head's logistic's derivative. -/
theorem v137_at (r : Fin 256) (d : Fin 128) : v137 x (ix2 r d) = (tok x r).zgl 2 d * (1 - (tok x r).zgl 2 d) := p64_at x r d

/-- The third head's gate. -/
theorem p65_at (r : Fin 256) (d : Fin 128) :
    k0_pay65 x.v115 (ix2 r d) = (tok x r).zgs 2 d := by
  pointwise [k0_pay65, p56_at, p63_at] <;> rfl

/-- The third head's gate. -/
theorem v138_at (r : Fin 256) (d : Fin 128) : v138 x (ix2 r d) = (tok x r).zgs 2 d := p65_at x r d

/-- The third head's output. -/
theorem p66_at (r : Fin 256) (d : Fin 128) :
    k0_pay66 x.v111 x.v113 x.v115 x.v59 (ix2 r d) = (tok x r).gn 2 d := by
  pointwise [k0_pay66, p62_at, p65_at] <;> rfl

/-- The third head's output. -/
theorem v139_at (r : Fin 256) (d : Fin 128) : v139 x (ix2 r d) = (tok x r).gn 2 d := p66_at x r d

/-- The fourth head of the first scan. -/
theorem p67_at (r : Fin 256) (d : Fin 128) :
    k0_pay67 x.v140 (ix2 r d) = (tok x r).o0 3 d := by
  pointwise [k0_pay67] <;> rfl

/-- The fourth head of the first scan. -/
theorem v141_at (r : Fin 256) (d : Fin 128) : v141 x (ix2 r d) = (tok x r).o0 3 d := p67_at x r d

/-- The fourth head of the second scan. -/
theorem p68_at (r : Fin 256) (d : Fin 128) :
    k0_pay68 x.v142 (ix2 r d) = (tok x r).o1 3 d := by
  pointwise [k0_pay68] <;> rfl

/-- The fourth head of the second scan. -/
theorem v143_at (r : Fin 256) (d : Fin 128) : v143 x (ix2 r d) = (tok x r).o1 3 d := p68_at x r d

/-- The fourth head's gate input. -/
theorem p69_at (r : Fin 256) (d : Fin 128) :
    k0_pay69 x.v144 (ix2 r d) = (tok x r).zg 3 d := by
  pointwise [k0_pay69] <;> rfl

/-- The fourth head's gate input. -/
theorem v145_at (r : Fin 256) (d : Fin 128) : v145 x (ix2 r d) = (tok x r).zg 3 d := p69_at x r d

/-- The fourth head's sum of the scans. -/
theorem p70_at (r : Fin 256) (d : Fin 128) :
    k0_pay70 (v141 x) (v143 x) (ix2 r d) = (tok x r).o 3 d := by
  pointwise [k0_pay70, v141_at, v143_at] <;> rfl

/-- The fourth head's sum of the scans. -/
theorem v147_at (r : Fin 256) (d : Fin 128) : v147 x (ix2 r d) = (tok x r).o 3 d := p70_at x r d

/-- The fourth head's mean square. -/
theorem p71_at (r : Fin 256) (p1 : Fin 1) :
    k0_pay71 (v141 x) (v143 x) (ix2 r p1) = (tok x r).vr 3 := by
  pointwise [k0_pay71, p70_at, v141_at, v143_at] <;> rfl

/-- The fourth head's reciprocal root. -/
theorem p72_at (r : Fin 256) (p1 : Fin 1) :
    k0_pay72 (v141 x) (v143 x) (ix2 r p1) = (tok x r).rs 3 := by
  pointwise [k0_pay72, p71_at, v141_at, v143_at] <;> rfl

/-- The fourth head's reciprocal root. -/
theorem v155_at (r : Fin 256) (p1 : Fin 1) : v155 x (ix2 r p1) = (tok x r).rs 3 := p72_at x r p1

/-- The fourth head's root's derivative. -/
theorem p73_at (r : Fin 256) (p1 : Fin 1) :
    k0_pay73 (v141 x) (v143 x) (ix2 r p1) = (tok x r).rh 3 := by
  pointwise [k0_pay73, p71_at, p72_at, v141_at, v143_at] <;> rfl

/-- The fourth head's root's derivative. -/
theorem v158_at (r : Fin 256) (p1 : Fin 1) : v158 x (ix2 r p1) = (tok x r).rh 3 := p73_at x r p1

/-- The fourth head's normed values. -/
theorem p74_at (r : Fin 256) (d : Fin 128) :
    k0_pay74 (v141 x) (v143 x) (ix2 r d) = (tok x r).on 3 d := by
  pointwise [k0_pay74, p70_at, p72_at, v141_at, v143_at] <;> rfl

/-- The fourth head's normed values. -/
theorem v160_at (r : Fin 256) (d : Fin 128) : v160 x (ix2 r d) = (tok x r).on 3 d := p74_at x r d

/-- The fourth head's weighted values. -/
theorem p75_at (r : Fin 256) (d : Fin 128) :
    k0_pay75 (v141 x) (v143 x) x.v59 (ix2 r d) = (tok x r).ow 3 d := by
  pointwise [k0_pay75, p74_at, v141_at, v143_at] <;> rfl

/-- The fourth head's weighted values. -/
theorem v162_at (r : Fin 256) (d : Fin 128) : v162 x (ix2 r d) = (tok x r).ow 3 d := p75_at x r d

/-- The fourth head's gate's logistic. -/
theorem p76_at (r : Fin 256) (d : Fin 128) :
    k0_pay76 (v145 x) (ix2 r d) = (tok x r).zgl 3 d := by
  pointwise [k0_pay76, v145_at] <;> rfl

/-- The fourth head's gate's logistic. -/
theorem v163_at (r : Fin 256) (d : Fin 128) : v163 x (ix2 r d) = (tok x r).zgl 3 d := p76_at x r d

/-- The fourth head's logistic's derivative. -/
theorem p77_at (r : Fin 256) (d : Fin 128) :
    k0_pay77 (v145 x) (ix2 r d) = (tok x r).zgl 3 d * (1 - (tok x r).zgl 3 d) := by
  pointwise [k0_pay77, p76_at, v145_at] <;> rfl

/-- The fourth head's logistic's derivative. -/
theorem v166_at (r : Fin 256) (d : Fin 128) : v166 x (ix2 r d) = (tok x r).zgl 3 d * (1 - (tok x r).zgl 3 d) := p77_at x r d

/-- The fourth head's gate. -/
theorem p78_at (r : Fin 256) (d : Fin 128) :
    k0_pay78 (v145 x) (ix2 r d) = (tok x r).zgs 3 d := by
  pointwise [k0_pay78, p76_at, v145_at] <;> rfl

/-- The fourth head's gate. -/
theorem v167_at (r : Fin 256) (d : Fin 128) : v167 x (ix2 r d) = (tok x r).zgs 3 d := p78_at x r d

/-- The first half's output. -/
theorem p79_at (r : Fin 256) (k : Fin 512) :
    k0_pay79 (v52 x) (ix2 r k) = (tok x r).s5 k := by
  pointwise [k0_pay79, v52_at] <;> rfl

/-- The first half's output. -/
theorem v169_at (r : Fin 256) (k : Fin 512) : v169 x (ix2 r k) = (tok x r).s5 k := p79_at x r k

/-- The second half's output. -/
theorem p80_at (r : Fin 256) (k : Fin 512) :
    k0_pay80 (v81 x) (v110 x) (v139 x) (v141 x) (v143 x) (v145 x) x.v59 (ix2 r k) = (tok x r).gnk k := by
  pointwise [k0_pay80, p75_at, p78_at, v81_at, v110_at, v139_at]
  unfold In.gnk
  have := k.isLt
  split_ifs <;> refine congrArg₂ (In.gn (tok x r)) (Fin.ext ?_) (Fin.ext ?_) <;> (dsimp; omega)

/-- The second half's output. -/
theorem v171_at (r : Fin 256) (k : Fin 512) : v171 x (ix2 r k) = (tok x r).gnk k := p80_at x r k

/-- The projection. -/
theorem p81_at (r : Fin 256) (j : Fin 1024) :
    k0_pay81 (v52 x) (v81 x) (v110 x) (v139 x) (v141 x) (v143 x) (v145 x) x.v59 x.v172 x.v175 (ix2 r j) = (tok x r).y j := by
  pointwise [k0_pay81, p79_at, p80_at, v52_at, v81_at, v110_at, v139_at, v141_at, v143_at, v145_at] <;> rfl

/-- The projection. -/
theorem v178_at (r : Fin 256) (j : Fin 1024) : v178 x (ix2 r j) = (tok x r).y j := p81_at x r j

/-- The residual input. -/
theorem p82_at (r : Fin 256) (j : Fin 1024) :
    k0_pay82 x.v179 (ix2 r j) = (tok x r).x j := by
  pointwise [k0_pay82] <;> rfl

/-- The residual input. -/
theorem v180_at (r : Fin 256) (j : Fin 1024) : v180 x (ix2 r j) = (tok x r).x j := p82_at x r j

/-- The residual's gate. -/
theorem p83_at (p0 : Fin 1) (j : Fin 1024) :
    k0_pay83 x.v181 (ix2 p0 j) = x.v181 (ix3 0 0 j) := by
  pointwise [k0_pay83] <;> rfl

/-- The residual's gate. -/
theorem v182_at (p0 : Fin 1) (j : Fin 1024) : v182 x (ix2 p0 j) = x.v181 (ix3 0 0 j) := p83_at x p0 j

/-- The centred residual sum. -/
theorem p84_at (r : Fin 256) (j : Fin 1024) :
    k0_pay84 (v178 x) (v180 x) (v182 x) (ix2 r j) = (tok x r).rc j := by
  pointwise [k0_pay84, v178_at, v180_at, v182_at] <;> rfl

/-- The centred residual sum. -/
theorem v197_at (r : Fin 256) (j : Fin 1024) : v197 x (ix2 r j) = (tok x r).rc j := p84_at x r j

/-- Its mean square. -/
theorem p85_at (r : Fin 256) (p1 : Fin 1) :
    k0_pay85 (v178 x) (v180 x) (v182 x) (ix2 r p1) = (tok x r).lv := by
  pointwise [k0_pay85, p84_at, v178_at, v180_at, v182_at] <;> rfl

/-- The reciprocal root. -/
theorem p86_at (r : Fin 256) (p1 : Fin 1) :
    k0_pay86 (v178 x) (v180 x) (v182 x) (ix2 r p1) = (tok x r).ls := by
  pointwise [k0_pay86, p85_at, v178_at, v180_at, v182_at] <;> rfl

/-- The reciprocal root. -/
theorem v205_at (r : Fin 256) (p1 : Fin 1) : v205 x (ix2 r p1) = (tok x r).ls := p86_at x r p1

/-- The root's derivative. -/
theorem p87_at (r : Fin 256) (p1 : Fin 1) :
    k0_pay87 (v178 x) (v180 x) (v182 x) (ix2 r p1) = (tok x r).lh := by
  pointwise [k0_pay87, p85_at, p86_at, v178_at, v180_at, v182_at] <;> rfl

/-- The root's derivative. -/
theorem v208_at (r : Fin 256) (p1 : Fin 1) : v208 x (ix2 r p1) = (tok x r).lh := p87_at x r p1

/-- The normed row. -/
theorem p88_at (r : Fin 256) (j : Fin 1024) :
    k0_pay88 (v178 x) (v180 x) (v182 x) (ix2 r j) = (tok x r).ln j := by
  pointwise [k0_pay88, p84_at, p86_at, v178_at, v180_at, v182_at] <;> rfl

/-- The normed row. -/
theorem v210_at (r : Fin 256) (j : Fin 1024) : v210 x (ix2 r j) = (tok x r).ln j := p88_at x r j

/-- The difference from the target. -/
theorem p89_at (r : Fin 256) (j : Fin 1024) :
    k0_pay89 (v178 x) (v180 x) (v182 x) x.v183 x.v184 x.v185 (ix2 r j) = (tok x r).err j := by
  pointwise [k0_pay89, p88_at, v178_at, v180_at, v182_at] <;> rfl

/-- The difference from the target. -/
theorem v215_at (r : Fin 256) (j : Fin 1024) : v215 x (ix2 r j) = (tok x r).err j := p89_at x r j

/-- The tile's loss. -/
theorem p90_at (p0 : Fin 1) (p1 : Fin 1) :
    k0_pay90 (v178 x) (v180 x) (v182 x) x.v183 x.v184 x.v185 (ix2 p0 p1) = In.c 0x3A000000#32 * ∑ r : Fin 256, (tok x r).sq := by
  pointwise [k0_pay90, p89_at, Fin.sum_univ_one] <;> rfl

/-- The tile's loss. -/
theorem v222_at (p0 : Fin 1) (p1 : Fin 1) : v222 x (ix2 p0 p1) = In.c 0x3A000000#32 * ∑ r : Fin 256, (tok x r).sq := p90_at x p0 p1

/-- One over twice the row's length. -/
theorem p91_at  :
    k0_pay91 (F := Ideal) = In.c 0x3A000000#32 := by
  pointwise [k0_pay91, Fin.sum_univ_one, mul_one] <;> rfl

/-- One over twice the row's length. -/
theorem v229_at  : v229 x = In.c 0x3A000000#32 := p91_at

end Cert.Tail

end
-- ==== Proof.TailPayB.lean ====
/- The backward vectors of the tail's body, and its stores, read at an entry.  Hand-written, untrusted. -/
module

public import proofs.«01_k».proof.Proof.TailPayA

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen

variable (x : Loads Ideal)

/-- The gradient of the layer norm's output. -/
theorem p92_at (r : Fin 256) (j : Fin 1024) :
    k0_pay92 (v215 x) (v229 x) (ix2 r j) = (tok x r).dl j := by
  pointwise [Fin.sum_univ_one, k0_pay92, v215_at, v229_at] <;> rfl

/-- Its sum over the tile. -/
theorem p93_at (p0 : Fin 1) (j : Fin 1024) :
    k0_pay93 (v215 x) (v229 x) (ix2 p0 j) = ∑ r : Fin 256, (tok x r).dl j := by
  pointwise [Fin.sum_univ_one, k0_pay93, p92_at, v215_at] <;> rfl

/-- Its sum over the tile. -/
theorem v240_at (p0 : Fin 1) (j : Fin 1024) : v240 x (ix2 p0 j) = ∑ r : Fin 256, (tok x r).dl j := p93_at x p0 j

/-- Its sum over the tile, times the normed row. -/
theorem p94_at (p0 : Fin 1) (j : Fin 1024) :
    k0_pay94 (v210 x) (v215 x) (v229 x) (ix2 p0 j) = ∑ r : Fin 256, (tok x r).ln j * (tok x r).dl j := by
  pointwise [Fin.sum_univ_one, k0_pay94, p92_at, v210_at, v215_at] <;> rfl

/-- Its sum over the tile, times the normed row. -/
theorem v243_at (p0 : Fin 1) (j : Fin 1024) : v243 x (ix2 p0 j) = ∑ r : Fin 256, (tok x r).ln j * (tok x r).dl j := p94_at x p0 j

/-- The gradient of the residual sum. -/
theorem p95_at (r : Fin 256) (j : Fin 1024) :
    k0_pay95 x.v183 (v197 x) (v205 x) (v208 x) (v215 x) (v229 x) (ix2 r j) = (tok x r).dr j := by
  pointwise [Fin.sum_univ_one, zero_sub, k0_pay95, p92_at, v197_at, v205_at, v208_at, v215_at] <;> rfl

/-- The gradient of the projection. -/
theorem p96_at (r : Fin 256) (j : Fin 1024) :
    k0_pay96 (v182 x) x.v183 (v197 x) (v205 x) (v208 x) (v215 x) (v229 x) (ix2 r j) = (tok x r).dy j := by
  pointwise [Fin.sum_univ_one, k0_pay96, p95_at, v182_at, v197_at, v205_at, v208_at, v215_at] <;> rfl

/-- The gradient of the projection. -/
theorem v272_at (r : Fin 256) (j : Fin 1024) : v272 x (ix2 r j) = (tok x r).dy j := p96_at x r j

/-- The gate's gradient over the tile. -/
theorem p97_at (p0 : Fin 1) (j : Fin 1024) :
    k0_pay97 (v178 x) x.v183 (v197 x) (v205 x) (v208 x) (v215 x) (v229 x) (ix2 p0 j) = ∑ r : Fin 256, (tok x r).dr j * (tok x r).y j := by
  pointwise [Fin.sum_univ_one, k0_pay97, p95_at, v178_at, v197_at, v205_at, v208_at, v215_at] <;> rfl

/-- The gate's gradient over the tile. -/
theorem v275_at (p0 : Fin 1) (j : Fin 1024) : v275 x (ix2 p0 j) = ∑ r : Fin 256, (tok x r).dr j * (tok x r).y j := p97_at x p0 j

/-- The gradient of the residual input. -/
theorem p98_at (r : Fin 256) (j : Fin 1024) :
    k0_pay98 x.v183 (v197 x) (v205 x) (v208 x) (v215 x) (v229 x) (ix2 r j) = (tok x r).gx j := by
  pointwise [Fin.sum_univ_one, k0_pay98, p95_at, v197_at, v205_at, v208_at, v215_at] <;> rfl

/-- The gradient of the residual input. -/
theorem v277_at (r : Fin 256) (j : Fin 1024) : v277 x (ix2 r j) = (tok x r).gx j := p98_at x r j

/-- What the body stores. -/
theorem p99_at (acc : Vec Ideal S1x8x128 .f32) (p0 : Fin 1) (a : Fin 8) (b : Fin 128) :
    k0_pay99 (v222 x) acc (ix3 p0 a b) = acc (ix3 0 a b) + In.c 0x3A000000#32 * ∑ r : Fin 256, (tok x r).sq := by
  obtain rfl : p0 = 0 := Subsingleton.elim _ _
  pointwise [Fin.sum_univ_one, k0_pay99, v222_at] <;> rfl

/-- The gradient of the projection. -/
theorem p100_at (r : Fin 256) (j : Fin 1024) :
    k0_pay100 (v272 x) (ix2 r j) = (tok x r).dy j := by
  pointwise [Fin.sum_univ_one, k0_pay100, v272_at] <;> rfl

/-- The gradient of the projection. -/
theorem v286_at (r : Fin 256) (j : Fin 1024) : v286 x (ix2 r j) = (tok x r).dy j := p100_at x r j

/-- What the body stores. -/
theorem p101_at (p0 : Fin 1) (r : Fin 256) (j : Fin 1024) :
    k0_pay101 (v277 x) (ix3 p0 r j) = (tok x r).gx j := by
  pointwise [Fin.sum_univ_one, k0_pay101, v277_at] <;> rfl

/-- What the body stores. -/
theorem p102_at (acc : Vec Ideal S512x1024 .f32) (k : Fin 512) (j : Fin 1024) :
    k0_pay102 (v169 x) (v272 x) acc (ix2 k j) = acc (ix2 k j) + ∑ r : Fin 256, (tok x r).s5 k * (tok x r).dy j := by
  pointwise [Fin.sum_univ_one, k0_pay102, p100_at, v169_at, v272_at] <;> rfl

/-- What the body stores. -/
theorem p103_at (acc : Vec Ideal S512x1024 .f32) (k : Fin 512) (j : Fin 1024) :
    k0_pay103 (v171 x) (v272 x) acc (ix2 k j) = acc (ix2 k j) + ∑ r : Fin 256, (tok x r).gnk k * (tok x r).dy j := by
  pointwise [Fin.sum_univ_one, k0_pay103, p100_at, v171_at, v272_at] <;> rfl

/-- What the body stores. -/
theorem p104_at (acc : Vec Ideal S1x1x1024 .f32) (p0 : Fin 1) (p1 : Fin 1) (j : Fin 1024) :
    k0_pay104 (v275 x) acc (ix3 p0 p1 j) = acc (ix3 0 0 j) + ∑ r : Fin 256, (tok x r).dr j * (tok x r).y j := by
  obtain rfl : p0 = 0 := Subsingleton.elim _ _
  obtain rfl : p1 = 0 := Subsingleton.elim _ _
  pointwise [Fin.sum_univ_one, k0_pay104, v275_at] <;> rfl

/-- What the body stores. -/
theorem p105_at (acc : Vec Ideal S1x1024 .f32) (p0 : Fin 1) (j : Fin 1024) :
    k0_pay105 (v243 x) acc (ix2 p0 j) = acc (ix2 0 j) + ∑ r : Fin 256, (tok x r).ln j * (tok x r).dl j := by
  obtain rfl : p0 = 0 := Subsingleton.elim _ _
  pointwise [Fin.sum_univ_one, k0_pay105, v243_at] <;> rfl

/-- What the body stores. -/
theorem p106_at (acc : Vec Ideal S1x1024 .f32) (p0 : Fin 1) (j : Fin 1024) :
    k0_pay106 (v240 x) acc (ix2 p0 j) = acc (ix2 0 j) + ∑ r : Fin 256, (tok x r).dl j := by
  obtain rfl : p0 = 0 := Subsingleton.elim _ _
  pointwise [Fin.sum_univ_one, k0_pay106, v240_at] <;> rfl

/-- The gradient of the first half's output. -/
theorem p107_at (r : Fin 256) (k : Fin 512) :
    k0_pay107 (v286 x) x.v172 (ix2 r k) = (tok x r).ds k := by
  pointwise [Fin.sum_univ_one, k0_pay107, v286_at] <;> rfl

/-- The gradient of the gated unit. -/
theorem p108_at (r : Fin 256) (k : Fin 512) :
    k0_pay108 (v51 x) (v286 x) x.v172 (ix2 r k) = (tok x r).dgg k := by
  pointwise [Fin.sum_univ_one, k0_pay108, p107_at, v51_at, v286_at] <;> rfl

/-- The gradient of the output gate's input. -/
theorem p109_at (r : Fin 256) (k : Fin 512) :
    k0_pay109 (v15 x) (v46 x) (v47 x) (v50 x) (v286 x) x.v172 (ix2 r k) = (tok x r).dz k := by
  pointwise [Fin.sum_univ_one, k0_pay109, p107_at, v15_at, v46_at, v47_at, v50_at, v286_at] <;> rfl

/-- The gradient of the output gate's input. -/
theorem v322_at (r : Fin 256) (k : Fin 512) : v322 x (ix2 r k) = (tok x r).dz k := p109_at x r k

/-- The gradient of the gate's input. -/
theorem p110_at (r : Fin 256) (k : Fin 512) :
    k0_pay110 (v36 x) (v45 x) (v51 x) (v286 x) x.v172 (ix2 r k) = (tok x r).dp k := by
  pointwise [Fin.sum_univ_one, k0_pay110, p108_at, v36_at, v45_at, v51_at, v286_at] <;> rfl

/-- Its sum over the tile. -/
theorem p111_at (p0 : Fin 1) (k : Fin 512) :
    k0_pay111 (v36 x) (v45 x) (v51 x) (v286 x) x.v172 (ix2 p0 k) = ∑ r : Fin 256, (tok x r).dp k := by
  pointwise [Fin.sum_univ_one, k0_pay111, p110_at, v36_at, v45_at, v51_at, v286_at] <;> rfl

/-- Its sum over the tile. -/
theorem v327_at (p0 : Fin 1) (k : Fin 512) : v327 x (ix2 p0 k) = ∑ r : Fin 256, (tok x r).dp k := p111_at x p0 k

/-- The linear unit's weights' gradient over the tile. -/
theorem p112_at (k : Fin 512) (q : Fin 512) :
    k0_pay112 (v36 x) (v45 x) (v51 x) (v286 x) x.v172 (ix2 k q) = ∑ r : Fin 256, (tok x r).g k * (tok x r).dp q := by
  pointwise [Fin.sum_univ_one, k0_pay112, p110_at, v36_at, v45_at, v51_at, v286_at] <;> rfl

/-- The linear unit's weights' gradient over the tile. -/
theorem v333_at (k : Fin 512) (q : Fin 512) : v333 x (ix2 k q) = ∑ r : Fin 256, (tok x r).g k * (tok x r).dp q := p112_at x k q

/-- The gradient of the unit's input. -/
theorem p113_at (r : Fin 256) (k : Fin 512) :
    k0_pay113 (v19 x) (v26 x) (v33 x) (v35 x) (v36 x) (v42 x) (v45 x) (v51 x) (v286 x) x.v172 (ix2 r k) = (tok x r).dys k := by
  pointwise [Fin.sum_univ_one, k0_pay113, p108_at, p110_at, v19_at, v26_at, v33_at, v35_at, v36_at, v42_at, v45_at, v51_at, v286_at] <;> rfl

/-- The gradient of the unit's input. -/
theorem v344_at (r : Fin 256) (k : Fin 512) : v344 x (ix2 r k) = (tok x r).dys k := p113_at x r k

/-- The gradient of the skip's input. -/
theorem p114_at (r : Fin 256) (k : Fin 512) :
    k0_pay114 x.v16 (v19 x) (v26 x) (v33 x) (v35 x) (v36 x) (v42 x) (v45 x) (v51 x) (v286 x) x.v172 (ix2 r k) = (tok x r).du k := by
  pointwise [Fin.sum_univ_one, k0_pay114, p113_at, v19_at, v26_at, v33_at, v35_at, v36_at, v42_at, v45_at, v51_at, v286_at] <;> rfl

/-- The gradient of the skip's input. -/
theorem v346_at (r : Fin 256) (k : Fin 512) : v346 x (ix2 r k) = (tok x r).du k := p114_at x r k

/-- The gradient of the unit's input, times the skip's input. -/
theorem p115_at (r : Fin 256) (k : Fin 512) :
    k0_pay115 (v9 x) (v19 x) (v26 x) (v33 x) (v35 x) (v36 x) (v42 x) (v45 x) (v51 x) (v286 x) x.v172 (ix2 r k) = (tok x r).dys k * (tok x r).u k := by
  pointwise [Fin.sum_univ_one, k0_pay115, p113_at, v9_at, v19_at, v26_at, v33_at, v35_at, v36_at, v42_at, v45_at, v51_at, v286_at] <;> rfl

/-- The gradient of the unit's input, times the skip's input. -/
theorem v347_at (r : Fin 256) (k : Fin 512) : v347 x (ix2 r k) = (tok x r).dys k * (tok x r).u k := p115_at x r k

/-- What the body stores. -/
theorem p116_at (p0 : Fin 1) (r : Fin 256) (k : Fin 512) :
    k0_pay116 (v346 x) (ix3 p0 r k) = (tok x r).du k := by
  pointwise [Fin.sum_univ_one, k0_pay116, v346_at] <;> rfl

/-- What the body stores. -/
theorem p117_at (p0 : Fin 1) (r : Fin 256) (k : Fin 512) :
    k0_pay117 (v344 x) (ix3 p0 r k) = (tok x r).dys k := by
  pointwise [Fin.sum_univ_one, k0_pay117, v344_at] <;> rfl

/-- What the body stores. -/
theorem p118_at (p0 : Fin 1) (r : Fin 256) (k : Fin 512) :
    k0_pay118 (v322 x) (ix3 p0 r k) = (tok x r).dz k := by
  pointwise [Fin.sum_univ_one, k0_pay118, v322_at] <;> rfl

/-- What the body stores. -/
theorem p119_at (acc : Vec Ideal S1x512 .f32) (p0 : Fin 1) (k : Fin 512) :
    k0_pay119 (v347 x) acc (ix2 p0 k) = acc (ix2 0 k) + ∑ r : Fin 256, (tok x r).dys k * (tok x r).u k := by
  obtain rfl : p0 = 0 := Subsingleton.elim _ _
  pointwise [Fin.sum_univ_one, k0_pay119, v347_at] <;> rfl

/-- What the body stores. -/
theorem p120_at (acc : Vec Ideal S512x512 .f32) (k : Fin 512) (q : Fin 512) :
    k0_pay120 (v333 x) acc (ix2 k q) = acc (ix2 k q) + ∑ r : Fin 256, (tok x r).g k * (tok x r).dp q := by
  pointwise [Fin.sum_univ_one, k0_pay120, v333_at] <;> rfl

/-- What the body stores. -/
theorem p121_at (acc : Vec Ideal S1x512 .f32) (p0 : Fin 1) (k : Fin 512) :
    k0_pay121 (v327 x) acc (ix2 p0 k) = acc (ix2 0 k) + ∑ r : Fin 256, (tok x r).dp k := by
  obtain rfl : p0 = 0 := Subsingleton.elim _ _
  pointwise [Fin.sum_univ_one, k0_pay121, v327_at] <;> rfl

/-- The gradient of the second half's output. -/
theorem p122_at (r : Fin 256) (k : Fin 512) :
    k0_pay122 (v286 x) x.v175 (ix2 r k) = ∑ j : Fin 1024, (tok x r).dy j * x.v175 (ix2 k j) := by
  pointwise [Fin.sum_univ_one, k0_pay122, v286_at] <;> rfl

/-- The gradient of the second half's output. -/
theorem v373_at (r : Fin 256) (k : Fin 512) : v373 x (ix2 r k) = ∑ j : Fin 1024, (tok x r).dy j * x.v175 (ix2 k j) := p122_at x r k

/-- The first head's gradient. -/
theorem p123_at (r : Fin 256) (d : Fin 128) :
    k0_pay123 (v286 x) x.v175 (ix2 r d) = (tok x r).dG 0 d := by
  pointwise [k0_pay123, p122_at, v373_at, v286_at]
  exact Finset.sum_congr rfl fun j _ => congrArg (fun q => (tok x r).dy j * x.v175 (ix2 q j)) (Fin.ext (by dsimp <;> omega))

/-- The first head's gradient times its weighted values. -/
theorem p124_at (r : Fin 256) (d : Fin 128) :
    k0_pay124 (v75 x) (v286 x) x.v175 (ix2 r d) = (tok x r).ow 0 d * (tok x r).dG 0 d := by
  pointwise [Fin.sum_univ_one, k0_pay124, p123_at, v75_at, v286_at] <;> rfl

/-- The first head's gradient times its weighted values. -/
theorem v375_at (r : Fin 256) (d : Fin 128) : v375 x (ix2 r d) = (tok x r).ow 0 d * (tok x r).dG 0 d := p124_at x r d

/-- The first head's gradient times its gate. -/
theorem p125_at (r : Fin 256) (d : Fin 128) :
    k0_pay125 (v80 x) (v286 x) x.v175 (ix2 r d) = (tok x r).dow 0 d := by
  pointwise [Fin.sum_univ_one, k0_pay125, p123_at, v80_at, v286_at] <;> rfl

/-- The first head's gradient times its gate. -/
theorem v376_at (r : Fin 256) (d : Fin 128) : v376 x (ix2 r d) = (tok x r).dow 0 d := p125_at x r d

/-- The first head's gradient times its weighted values and gate input. -/
theorem p126_at (r : Fin 256) (d : Fin 128) :
    k0_pay126 (v58 x) (v75 x) (v286 x) x.v175 (ix2 r d) = (tok x r).zg 0 d * ((tok x r).ow 0 d * (tok x r).dG 0 d) := by
  pointwise [Fin.sum_univ_one, k0_pay126, p124_at, v58_at, v75_at, v286_at] <;> rfl

/-- The first head's gradient times its weighted values and gate input. -/
theorem v377_at (r : Fin 256) (d : Fin 128) : v377 x (ix2 r d) = (tok x r).zg 0 d * ((tok x r).ow 0 d * (tok x r).dG 0 d) := p126_at x r d

/-- What the body stores. -/
theorem p127_at (p0 : Fin 1) (r : Fin 256) (d : Fin 128) :
    k0_pay127 x.v59 (v60 x) (v68 x) (v71 x) (v376 x) (ix3 p0 r d) = (tok x r).dO 0 d := by
  pointwise [Fin.sum_univ_one, k0_pay127, v60_at, v68_at, v71_at, v376_at] <;> rfl

/-- What the body stores. -/
theorem p128_at (p0 : Fin 1) (r : Fin 256) (d : Fin 128) :
    k0_pay128 (v76 x) (v79 x) (v375 x) (v377 x) (ix3 p0 r d) = (tok x r).dzg 0 d := by
  pointwise [Fin.sum_univ_one, k0_pay128, v76_at, v79_at, v375_at, v377_at] <;> rfl

/-- What the body stores. -/
theorem p129_at (acc : Vec Ideal S1x128 .f32) (p0 : Fin 1) (d : Fin 128) :
    k0_pay129 (v73 x) (v376 x) acc (ix2 p0 d) = acc (ix2 0 d) + ∑ r : Fin 256, (tok x r).on 0 d * (tok x r).dow 0 d := by
  obtain rfl : p0 = 0 := Subsingleton.elim _ _
  pointwise [k0_pay129, v73_at, v376_at] <;> rfl

/-- The second head's gradient. -/
theorem p130_at (r : Fin 256) (d : Fin 128) :
    k0_pay130 (v373 x) (ix2 r d) = (tok x r).dG 1 d := by
  pointwise [k0_pay130, p122_at, v373_at, v286_at]
  exact Finset.sum_congr rfl fun j _ => congrArg (fun q => (tok x r).dy j * x.v175 (ix2 q j)) (Fin.ext (by dsimp <;> omega))

/-- The second head's gradient times its gate. -/
theorem p131_at (r : Fin 256) (d : Fin 128) :
    k0_pay131 (v109 x) (v373 x) (ix2 r d) = (tok x r).dow 1 d := by
  pointwise [Fin.sum_univ_one, k0_pay131, p130_at, v109_at, v373_at] <;> rfl

/-- The second head's gradient times its gate. -/
theorem v413_at (r : Fin 256) (d : Fin 128) : v413 x (ix2 r d) = (tok x r).dow 1 d := p131_at x r d

/-- The second head's gate input's gradient. -/
theorem p132_at (r : Fin 256) (d : Fin 128) :
    k0_pay132 (v87 x) (v104 x) (v105 x) (v108 x) (v373 x) (ix2 r d) = (tok x r).dzg 1 d := by
  pointwise [Fin.sum_univ_one, k0_pay132, p130_at, v87_at, v104_at, v105_at, v108_at, v373_at] <;> rfl

/-- The second head's gate input's gradient. -/
theorem v417_at (r : Fin 256) (d : Fin 128) : v417 x (ix2 r d) = (tok x r).dzg 1 d := p132_at x r d

/-- The second head's part of its weight's gradient. -/
theorem p133_at (d : Fin 128) :
    k0_pay133 (v102 x) (v109 x) (v373 x) (ix1 d) = ∑ r : Fin 256, (tok x r).on 1 d * (tok x r).dow 1 d := by
  pointwise [Fin.sum_univ_one, k0_pay133, p131_at, v102_at, v109_at, v373_at] <;> rfl

/-- The second head's part of its weight's gradient. -/
theorem v419_at (d : Fin 128) : v419 x (ix1 d) = ∑ r : Fin 256, (tok x r).on 1 d * (tok x r).dow 1 d := p133_at x d

/-- What the body stores. -/
theorem p134_at (p0 : Fin 1) (r : Fin 256) (d : Fin 128) :
    k0_pay134 x.v59 (v89 x) (v97 x) (v100 x) (v413 x) (ix3 p0 r d) = (tok x r).dO 1 d := by
  pointwise [Fin.sum_univ_one, k0_pay134, v89_at, v97_at, v100_at, v413_at] <;> rfl

/-- What the body stores. -/
theorem p135_at (p0 : Fin 1) (r : Fin 256) (d : Fin 128) :
    k0_pay135 (v417 x) (ix3 p0 r d) = (tok x r).dzg 1 d := by
  pointwise [Fin.sum_univ_one, k0_pay135, v417_at] <;> rfl

/-- What the body stores. -/
theorem p136_at (acc : Vec Ideal S1x128 .f32) (p0 : Fin 1) (d : Fin 128) :
    k0_pay136 (v419 x) acc (ix2 p0 d) = acc (ix2 0 d) + ∑ r : Fin 256, (tok x r).on 1 d * (tok x r).dow 1 d := by
  obtain rfl : p0 = 0 := Subsingleton.elim _ _
  pointwise [k0_pay136, v419_at] <;> rfl

/-- The third head's gradient. -/
theorem p137_at (r : Fin 256) (d : Fin 128) :
    k0_pay137 (v373 x) (ix2 r d) = (tok x r).dG 2 d := by
  pointwise [k0_pay137, p122_at, v373_at, v286_at]
  exact Finset.sum_congr rfl fun j _ => congrArg (fun q => (tok x r).dy j * x.v175 (ix2 q j)) (Fin.ext (by dsimp <;> omega))

/-- The third head's gradient times its gate. -/
theorem p138_at (r : Fin 256) (d : Fin 128) :
    k0_pay138 (v138 x) (v373 x) (ix2 r d) = (tok x r).dow 2 d := by
  pointwise [Fin.sum_univ_one, k0_pay138, p137_at, v138_at, v373_at] <;> rfl

/-- The third head's gate input's gradient. -/
theorem p139_at (r : Fin 256) (d : Fin 128) :
    k0_pay139 (v116 x) (v133 x) (v134 x) (v137 x) (v373 x) (ix2 r d) = (tok x r).dzg 2 d := by
  pointwise [Fin.sum_univ_one, k0_pay139, p137_at, v116_at, v133_at, v134_at, v137_at, v373_at] <;> rfl

/-- The third head's gate input's gradient. -/
theorem v454_at (r : Fin 256) (d : Fin 128) : v454 x (ix2 r d) = (tok x r).dzg 2 d := p139_at x r d

/-- The third head's part of its weight's gradient. -/
theorem p140_at (p0 : Fin 1) (d : Fin 128) :
    k0_pay140 (v131 x) (v138 x) (v373 x) (ix2 p0 d) = ∑ r : Fin 256, (tok x r).on 2 d * (tok x r).dow 2 d := by
  pointwise [Fin.sum_univ_one, k0_pay140, p138_at, v131_at, v138_at, v373_at] <;> rfl

/-- The third head's part of its weight's gradient. -/
theorem v457_at (p0 : Fin 1) (d : Fin 128) : v457 x (ix2 p0 d) = ∑ r : Fin 256, (tok x r).on 2 d * (tok x r).dow 2 d := p140_at x p0 d

/-- The third head's normed values' gradient. -/
theorem p141_at (r : Fin 256) (d : Fin 128) :
    k0_pay141 x.v59 (v138 x) (v373 x) (ix2 r d) = (tok x r).don 2 d := by
  pointwise [Fin.sum_univ_one, k0_pay141, p138_at, v138_at, v373_at] <;> rfl

/-- The third head's normed values' gradient. -/
theorem v459_at (r : Fin 256) (d : Fin 128) : v459 x (ix2 r d) = (tok x r).don 2 d := p141_at x r d

/-- The third head's product with its gradient. -/
theorem p142_at (r : Fin 256) :
    k0_pay142 x.v59 (v118 x) (v138 x) (v373 x) (ix1 r) = ∑ d : Fin 128, (tok x r).o 2 d * (tok x r).don 2 d := by
  pointwise [Fin.sum_univ_one, k0_pay142, p141_at, v118_at, v138_at, v373_at] <;> rfl

/-- The third head's product with its gradient. -/
theorem v461_at (r : Fin 256) : v461 x (ix1 r) = ∑ d : Fin 128, (tok x r).o 2 d * (tok x r).don 2 d := p142_at x r

/-- What the body stores. -/
theorem p143_at (p0 : Fin 1) (r : Fin 256) (d : Fin 128) :
    k0_pay143 (v118 x) (v126 x) (v129 x) (v459 x) (v461 x) (ix3 p0 r d) = (tok x r).dO 2 d := by
  pointwise [Fin.sum_univ_one, k0_pay143, v118_at, v126_at, v129_at, v459_at, v461_at] <;> rfl

/-- What the body stores. -/
theorem p144_at (p0 : Fin 1) (r : Fin 256) (d : Fin 128) :
    k0_pay144 (v454 x) (ix3 p0 r d) = (tok x r).dzg 2 d := by
  pointwise [Fin.sum_univ_one, k0_pay144, v454_at] <;> rfl

/-- What the body stores. -/
theorem p145_at (acc : Vec Ideal S1x128 .f32) (p0 : Fin 1) (d : Fin 128) :
    k0_pay145 (v457 x) acc (ix2 p0 d) = acc (ix2 0 d) + ∑ r : Fin 256, (tok x r).on 2 d * (tok x r).dow 2 d := by
  obtain rfl : p0 = 0 := Subsingleton.elim _ _
  pointwise [k0_pay145, v457_at] <;> rfl

/-- The fourth head's gradient. -/
theorem p146_at (r : Fin 256) (d : Fin 128) :
    k0_pay146 (v373 x) (ix2 r d) = (tok x r).dG 3 d := by
  pointwise [k0_pay146, p122_at, v373_at, v286_at]
  exact Finset.sum_congr rfl fun j _ => congrArg (fun q => (tok x r).dy j * x.v175 (ix2 q j)) (Fin.ext (by dsimp <;> omega))

/-- The fourth head's gradient times its gate. -/
theorem p147_at (r : Fin 256) (d : Fin 128) :
    k0_pay147 (v167 x) (v373 x) (ix2 r d) = (tok x r).dow 3 d := by
  pointwise [Fin.sum_univ_one, k0_pay147, p146_at, v167_at, v373_at] <;> rfl

/-- The fourth head's gate input's gradient. -/
theorem p148_at (r : Fin 256) (d : Fin 128) :
    k0_pay148 (v145 x) (v162 x) (v163 x) (v166 x) (v373 x) (ix2 r d) = (tok x r).dzg 3 d := by
  pointwise [Fin.sum_univ_one, k0_pay148, p146_at, v145_at, v162_at, v163_at, v166_at, v373_at] <;> rfl

/-- The fourth head's gate input's gradient. -/
theorem v491_at (r : Fin 256) (d : Fin 128) : v491 x (ix2 r d) = (tok x r).dzg 3 d := p148_at x r d

/-- The fourth head's part of its weight's gradient. -/
theorem p149_at (p0 : Fin 1) (d : Fin 128) :
    k0_pay149 (v160 x) (v167 x) (v373 x) (ix2 p0 d) = ∑ r : Fin 256, (tok x r).on 3 d * (tok x r).dow 3 d := by
  pointwise [Fin.sum_univ_one, k0_pay149, p147_at, v160_at, v167_at, v373_at] <;> rfl

/-- The fourth head's part of its weight's gradient. -/
theorem v494_at (p0 : Fin 1) (d : Fin 128) : v494 x (ix2 p0 d) = ∑ r : Fin 256, (tok x r).on 3 d * (tok x r).dow 3 d := p149_at x p0 d

/-- The fourth head's normed values' gradient. -/
theorem p150_at (r : Fin 256) (d : Fin 128) :
    k0_pay150 x.v59 (v167 x) (v373 x) (ix2 r d) = (tok x r).don 3 d := by
  pointwise [Fin.sum_univ_one, k0_pay150, p147_at, v167_at, v373_at] <;> rfl

/-- The fourth head's gradient, scaled. -/
theorem p151_at (r : Fin 256) (d : Fin 128) :
    k0_pay151 x.v59 (v155 x) (v167 x) (v373 x) (ix2 r d) = (tok x r).don 3 d * (tok x r).rs 3 := by
  pointwise [Fin.sum_univ_one, k0_pay151, p150_at, v155_at, v167_at, v373_at] <;> rfl

/-- The fourth head's gradient, scaled. -/
theorem v501_at (r : Fin 256) (d : Fin 128) : v501 x (ix2 r d) = (tok x r).don 3 d * (tok x r).rs 3 := p151_at x r d

/-- The fourth head's product with its gradient, scaled. -/
theorem p152_at (r : Fin 256) (p1 : Fin 1) :
    k0_pay152 x.v59 (v147 x) (v158 x) (v167 x) (v373 x) (ix2 r p1) = (∑ d : Fin 128, (tok x r).o 3 d * (tok x r).don 3 d) * (tok x r).rh 3 := by
  pointwise [Fin.sum_univ_one, k0_pay152, p150_at, v147_at, v158_at, v167_at, v373_at] <;> rfl

/-- The fourth head's product with its gradient, scaled. -/
theorem v502_at (r : Fin 256) (p1 : Fin 1) : v502 x (ix2 r p1) = (∑ d : Fin 128, (tok x r).o 3 d * (tok x r).don 3 d) * (tok x r).rh 3 := p152_at x r p1

/-- The length of a head. -/
theorem p153_at (r : Fin 256) (p1 : Fin 1) :
    k0_pay153 (F := Ideal) (ix2 r p1) = In.c 0x43000000#32 := by
  pointwise [Fin.sum_univ_one, k0_pay153] <;> rfl

/-- The length of a head. -/
theorem v503_at (r : Fin 256) (p1 : Fin 1) : v503 x (ix2 r p1) = In.c 0x43000000#32 := p153_at r p1

/-- What the body stores. -/
theorem p1_at (p0 : Fin 1) (r : Fin 256) (d : Fin 128) :
    k0_pay1 (v147 x) (v501 x) (v502 x) (v503 x) (ix3 p0 r d) = (tok x r).dO 3 d := by
  pointwise [Fin.sum_univ_one, k0_pay1, v147_at, v501_at, v502_at, v503_at] <;> rfl

/-- What the body stores. -/
theorem p2_at (p0 : Fin 1) (r : Fin 256) (d : Fin 128) :
    k0_pay2 (v491 x) (ix3 p0 r d) = (tok x r).dzg 3 d := by
  pointwise [Fin.sum_univ_one, k0_pay2, v491_at] <;> rfl

/-- What the body stores. -/
theorem p3_at (acc : Vec Ideal S1x128 .f32) (p0 : Fin 1) (d : Fin 128) :
    k0_pay3 (v494 x) acc (ix2 p0 d) = acc (ix2 0 d) + ∑ r : Fin 256, (tok x r).on 3 d * (tok x r).dow 3 d := by
  obtain rfl : p0 = 0 := Subsingleton.elim _ _
  pointwise [k0_pay3, v494_at] <;> rfl

end Cert.Tail

end
-- ==== Proof.TailBlocks.lean ====
/- The tail's blocks as entries of its arguments.  Hand-written, untrusted. -/
module

public import proofs.«01_k».proof.Proof.TailBody
public import proofs.«01_k».proof.Proof.Gen.Kernel4Ideal.Launch
public import proofs.«01_k».proof.Proof.Gen.Kernel4Ideal.Points
public import proofs.«01_k».proof.Proof.Gen.Kernel4Ideal.Frame.Runs
public import Idealize.ShloMosaic.Lib.Pipeline.ValueKit

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen
open Idealize.ShloMosaic.Pipeline (Dat)

section

variable {F : FTy → Type} [FloatOps F] (m : (ℓ : Loc nD τ sig) → Buf (Elt F) ℓ)

/-- What the body loads at tile `t`, from the tile's buffers holding its input blocks. -/
def rawAt (c : Dev nD) (t : Fin cfg0.N) : Loads F where
  v8 := View.readAt (Elt F) (ms0_0 t).view (Rect.unit (s := S1x256x512) ![0, 0, 0] S1x256x512.size inb_S1x256x512_S1x256x512_0_0_0).toLoadRect ((hs0_0 t).unread (iblk m c 0 t))
  v10 := View.readAt (Elt F) (ms0_1 t).view (Rect.unit (s := S1x256x512) ![0, 0, 0] S1x256x512.size inb_S1x256x512_S1x256x512_0_0_0).toLoadRect ((hs0_1 t).unread (iblk m c 1 t))
  v12 := View.readAt (Elt F) (ms0_2 t).view (Rect.unit (s := S1x256x512) ![0, 0, 0] S1x256x512.size inb_S1x256x512_S1x256x512_0_0_0).toLoadRect ((hs0_2 t).unread (iblk m c 2 t))
  v14 := View.readAt (Elt F) (ms0_3 t).view (Rect.unit (s := S1x256x512) ![0, 0, 0] S1x256x512.size inb_S1x256x512_S1x256x512_0_0_0).toLoadRect ((hs0_3 t).unread (iblk m c 3 t))
  v16 := View.readAt (Elt F) (ms0_14 t).view (Rect.unit (s := S1x512) ![0, 0] S1x512.size inb_S1x512_S1x512_0_0).toLoadRect ((hs0_14 t).unread (iblk m c 14 t))
  v17 := View.readAt (Elt F) (ms0_15 t).view (Rect.unit (s := S512x512) ![0, 0] S512x512.size inb_S512x512_S512x512_0_0).toLoadRect ((hs0_15 t).unread (iblk m c 15 t))
  v20 := View.readAt (Elt F) (ms0_16 t).view (Rect.unit (s := S1x512) ![0, 0] S1x512.size inb_S1x512_S1x512_0_0).toLoadRect ((hs0_16 t).unread (iblk m c 16 t))
  v53 := View.readAt (Elt F) (ms0_4 t).view (Rect.unit (s := S1x256x512) ![0, 0, 0] S1x256x128.size inb_S1x256x512_S1x256x128_0_0_0).toLoadRect ((hs0_4 t).unread (iblk m c 4 t))
  v55 := View.readAt (Elt F) (ms0_5 t).view (Rect.unit (s := S1x256x512) ![0, 0, 0] S1x256x128.size inb_S1x256x512_S1x256x128_0_0_0).toLoadRect ((hs0_5 t).unread (iblk m c 5 t))
  v57 := View.readAt (Elt F) (ms0_6 t).view (Rect.unit (s := S1x256x512) ![0, 0, 0] S1x256x128.size inb_S1x256x512_S1x256x128_0_0_0).toLoadRect ((hs0_6 t).unread (iblk m c 6 t))
  v59 := View.readAt (Elt F) (ms0_17 t).view (Rect.unit (s := S1x128) ![0, 0] S1x128.size inb_S1x128_S1x128_0_0).toLoadRect ((hs0_17 t).unread (iblk m c 17 t))
  v82 := View.readAt (Elt F) (ms0_4 t).view (Rect.unit (s := S1x256x512) ![0, 0, 128] S1x256x128.size inb_S1x256x512_S1x256x128_0_0_128).toLoadRect ((hs0_4 t).unread (iblk m c 4 t))
  v84 := View.readAt (Elt F) (ms0_5 t).view (Rect.unit (s := S1x256x512) ![0, 0, 128] S1x256x128.size inb_S1x256x512_S1x256x128_0_0_128).toLoadRect ((hs0_5 t).unread (iblk m c 5 t))
  v86 := View.readAt (Elt F) (ms0_6 t).view (Rect.unit (s := S1x256x512) ![0, 0, 128] S1x256x128.size inb_S1x256x512_S1x256x128_0_0_128).toLoadRect ((hs0_6 t).unread (iblk m c 6 t))
  v111 := View.readAt (Elt F) (ms0_4 t).view (Rect.unit (s := S1x256x512) ![0, 0, 256] S1x256x128.size inb_S1x256x512_S1x256x128_0_0_256).toLoadRect ((hs0_4 t).unread (iblk m c 4 t))
  v113 := View.readAt (Elt F) (ms0_5 t).view (Rect.unit (s := S1x256x512) ![0, 0, 256] S1x256x128.size inb_S1x256x512_S1x256x128_0_0_256).toLoadRect ((hs0_5 t).unread (iblk m c 5 t))
  v115 := View.readAt (Elt F) (ms0_6 t).view (Rect.unit (s := S1x256x512) ![0, 0, 256] S1x256x128.size inb_S1x256x512_S1x256x128_0_0_256).toLoadRect ((hs0_6 t).unread (iblk m c 6 t))
  v140 := View.readAt (Elt F) (ms0_4 t).view (Rect.unit (s := S1x256x512) ![0, 0, 384] S1x256x128.size inb_S1x256x512_S1x256x128_0_0_384).toLoadRect ((hs0_4 t).unread (iblk m c 4 t))
  v142 := View.readAt (Elt F) (ms0_5 t).view (Rect.unit (s := S1x256x512) ![0, 0, 384] S1x256x128.size inb_S1x256x512_S1x256x128_0_0_384).toLoadRect ((hs0_5 t).unread (iblk m c 5 t))
  v144 := View.readAt (Elt F) (ms0_6 t).view (Rect.unit (s := S1x256x512) ![0, 0, 384] S1x256x128.size inb_S1x256x512_S1x256x128_0_0_384).toLoadRect ((hs0_6 t).unread (iblk m c 6 t))
  v172 := View.readAt (Elt F) (ms0_12 t).view (Rect.unit (s := S512x1024) ![0, 0] S512x1024.size inb_S512x1024_S512x1024_0_0).toLoadRect ((hs0_12 t).unread (iblk m c 12 t))
  v175 := View.readAt (Elt F) (ms0_13 t).view (Rect.unit (s := S512x1024) ![0, 0] S512x1024.size inb_S512x1024_S512x1024_0_0).toLoadRect ((hs0_13 t).unread (iblk m c 13 t))
  v179 := View.readAt (Elt F) (ms0_7 t).view (Rect.unit (s := S1x256x1024) ![0, 0, 0] S1x256x1024.size inb_S1x256x1024_S1x256x1024_0_0_0).toLoadRect ((hs0_7 t).unread (iblk m c 7 t))
  v181 := View.readAt (Elt F) (ms0_9 t).view (Rect.unit (s := S1x1x1024) ![0, 0, 0] S1x1x1024.size inb_S1x1x1024_S1x1x1024_0_0_0).toLoadRect ((hs0_9 t).unread (iblk m c 9 t))
  v183 := View.readAt (Elt F) (ms0_10 t).view (Rect.unit (s := S1x1024) ![0, 0] S1x1024.size inb_S1x1024_S1x1024_0_0).toLoadRect ((hs0_10 t).unread (iblk m c 10 t))
  v184 := View.readAt (Elt F) (ms0_11 t).view (Rect.unit (s := S1x1024) ![0, 0] S1x1024.size inb_S1x1024_S1x1024_0_0).toLoadRect ((hs0_11 t).unread (iblk m c 11 t))
  v185 := View.readAt (Elt F) (ms0_8 t).view (Rect.unit (s := S1x256x1024) ![0, 0, 0] S1x256x1024.size inb_S1x256x1024_S1x256x1024_0_0_0).toLoadRect ((hs0_8 t).unread (iblk m c 8 t))

end

variable (m : (ℓ : Loc nD τ sig) → Buf (Elt Ideal) ℓ) (c : Dev nD)

/-- The arguments, by name. -/
abbrev A0 : FVec Ideal S2x2048x512 .f32 := m ((c : Thread nD τ).loc main_arg0)
abbrev A1 : FVec Ideal S2x2048x512 .f32 := m ((c : Thread nD τ).loc main_arg1)
abbrev A2 : FVec Ideal S2x2048x512 .f32 := m ((c : Thread nD τ).loc main_arg2)
abbrev A3 : FVec Ideal S2x2048x512 .f32 := m ((c : Thread nD τ).loc main_arg3)
abbrev A4 : FVec Ideal S2x2048x512 .f32 := m ((c : Thread nD τ).loc main_arg4)
abbrev A5 : FVec Ideal S2x2048x512 .f32 := m ((c : Thread nD τ).loc main_arg5)
abbrev A6 : FVec Ideal S2x2048x512 .f32 := m ((c : Thread nD τ).loc main_arg6)
abbrev A7 : FVec Ideal S2x2048x1024 .f32 := m ((c : Thread nD τ).loc main_arg7)
abbrev A8 : FVec Ideal S2x2048x1024 .f32 := m ((c : Thread nD τ).loc main_arg8)
abbrev A9 : FVec Ideal S2x1x1024 .f32 := m ((c : Thread nD τ).loc main_arg9)
abbrev A10 : FVec Ideal S1x1024 .f32 := m ((c : Thread nD τ).loc main_arg10)
abbrev A11 : FVec Ideal S1x1024 .f32 := m ((c : Thread nD τ).loc main_arg11)
abbrev A12 : FVec Ideal S1024x1024 .f32 := m ((c : Thread nD τ).loc main_arg12)
abbrev A13 : FVec Ideal S1x512 .f32 := m ((c : Thread nD τ).loc main_arg13)
abbrev A14 : FVec Ideal S512x512 .f32 := m ((c : Thread nD τ).loc main_arg14)
abbrev A15 : FVec Ideal S1x512 .f32 := m ((c : Thread nD τ).loc main_arg15)
abbrev A16 : FVec Ideal S1x128 .f32 := m ((c : Thread nD τ).loc main_arg16)

/-- The first rows of the projection's weights, as the program's first statements leave them. -/
theorem V_v1 : (V m c main_v1 : FVec Ideal S512x1024 .bf16) = extractStridedSlice S512x1024 ![0, 0] (truncf .bf16 (A12 m c) bitsLt_bf16_f32) slices_S1024x1024_S512x1024_0_0 := rfl

/-- The last rows of the projection's weights, as the program's first statements leave them. -/
theorem V_v2 : (V m c main_v2 : FVec Ideal S512x1024 .bf16) = extractStridedSlice S512x1024 ![512, 0] (truncf .bf16 (A12 m c) bitsLt_bf16_f32) slices_S1024x1024_S512x1024_512_0 := rfl

/-- The linear unit's weights, as the program's first statements leave them. -/
theorem V_v3 : (V m c main_v3 : FVec Ideal S512x512 .bf16) = truncf .bf16 (A14 m c) bitsLt_bf16_f32 := rfl

/-- The block indices of the first ten input windows at every grid point. -/
theorem idx_in : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0]
    ∧ win0_9.index t = ![t.val / 8, 0, 0] :=
  (by decide +kernel : ∀ t : Fin grid0.N, _)

/-- The block indices of the other input windows at every grid point. -/
theorem idx_par : ∀ t : Fin cfg0.N, win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

/-- The block indices of the first seven output windows at every grid point. -/
theorem idx_out : ∀ t : Fin cfg0.N, win0_18.index t = ![t.val / 8, 0, 0]
    ∧ win0_19.index t = ![t.val / 8, t.val % 8, 0]
    ∧ win0_20.index t = ![t.val / 8, t.val % 8, 0]
    ∧ win0_21.index t = ![t.val / 8, t.val % 8, 0]
    ∧ win0_22.index t = ![t.val / 8, t.val % 8, 0]
    ∧ win0_23.index t = ![t.val / 8, t.val % 8, 0]
    ∧ win0_24.index t = ![t.val / 8, t.val % 8, 0] :=
  (by decide +kernel : ∀ t : Fin grid0.N, _)

/-- The block indices of the other output windows at every grid point. -/
theorem idx_acc : ∀ t : Fin cfg0.N, win0_25.index t = ![0, 0]
    ∧ win0_26.index t = ![0, 0]
    ∧ win0_27.index t = ![t.val / 8, 0, 0]
    ∧ win0_28.index t = ![0, 0]
    ∧ win0_29.index t = ![0, 0]
    ∧ win0_30.index t = ![0, 0]
    ∧ win0_31.index t = ![0, 0]
    ∧ win0_32.index t = ![0, 0]
    ∧ win0_33.index t = ![0, 0] :=
  (by decide +kernel : ∀ t : Fin grid0.N, _)

/-- The batch entry and the token a point's row stands for. -/
def rowB (t : Fin cfg0.N) : Fin 2 := ⟨t.val / 8, by have : t.val < 16 := t.isLt; omega⟩
def rowL (t : Fin cfg0.N) (r : Fin 256) : Fin 2048 := ⟨t.val % 8 * 256 + r.val, by omega⟩

/-- Argument 4 under tile `t`'s block. -/
theorem blk_4 (t : Fin cfg0.N) (r : Fin 256) (k : Fin 512) :
    (iblk m c 4 t : Vec Ideal S1x256x512 .f32) (ix3 0 r k) = A4 m c (ix3 (rowB t) (rowL t r) k) := by
  blk_ext [iblk, V, idx_in t, rowB, rowL]

/-- Argument 5 under tile `t`'s block. -/
theorem blk_5 (t : Fin cfg0.N) (r : Fin 256) (k : Fin 512) :
    (iblk m c 5 t : Vec Ideal S1x256x512 .f32) (ix3 0 r k) = A5 m c (ix3 (rowB t) (rowL t r) k) := by
  blk_ext [iblk, V, idx_in t, rowB, rowL]

/-- Argument 6 under tile `t`'s block. -/
theorem blk_6 (t : Fin cfg0.N) (r : Fin 256) (k : Fin 512) :
    (iblk m c 6 t : Vec Ideal S1x256x512 .f32) (ix3 0 r k) = A6 m c (ix3 (rowB t) (rowL t r) k) := by
  blk_ext [iblk, V, idx_in t, rowB, rowL]

/-- What the body loads of argument 0 at tile `t`. -/
theorem ld_v8 (t : Fin cfg0.N) (r : Fin 256) (k : Fin 512) : (rawAt m c t).v8 (ix3 0 r k) = A0 m c (ix3 (rowB t) (rowL t r) k) := by
  simp (disch := decide) only [rawAt, View.readAt_eq_ld, Memref.IsWhole.read_unread, View.ld_unit_lit']
  blk_ext [iblk, V, idx_in t, rowB, rowL]

/-- What the body loads of argument 1 at tile `t`. -/
theorem ld_v10 (t : Fin cfg0.N) (r : Fin 256) (k : Fin 512) : (rawAt m c t).v10 (ix3 0 r k) = A1 m c (ix3 (rowB t) (rowL t r) k) := by
  simp (disch := decide) only [rawAt, View.readAt_eq_ld, Memref.IsWhole.read_unread, View.ld_unit_lit']
  blk_ext [iblk, V, idx_in t, rowB, rowL]

/-- What the body loads of argument 2 at tile `t`. -/
theorem ld_v12 (t : Fin cfg0.N) (r : Fin 256) (k : Fin 512) : (rawAt m c t).v12 (ix3 0 r k) = A2 m c (ix3 (rowB t) (rowL t r) k) := by
  simp (disch := decide) only [rawAt, View.readAt_eq_ld, Memref.IsWhole.read_unread, View.ld_unit_lit']
  blk_ext [iblk, V, idx_in t, rowB, rowL]

/-- What the body loads of argument 3 at tile `t`. -/
theorem ld_v14 (t : Fin cfg0.N) (r : Fin 256) (k : Fin 512) : (rawAt m c t).v14 (ix3 0 r k) = A3 m c (ix3 (rowB t) (rowL t r) k) := by
  simp (disch := decide) only [rawAt, View.readAt_eq_ld, Memref.IsWhole.read_unread, View.ld_unit_lit']
  blk_ext [iblk, V, idx_in t, rowB, rowL]

/-- What the body loads of argument 13 at tile `t`. -/
theorem ld_v16 (t : Fin cfg0.N) (k : Fin 512) : (rawAt m c t).v16 (ix2 0 k) = A13 m c (ix2 0 k) := by
  simp (disch := decide) only [rawAt, View.readAt_eq_ld, Memref.IsWhole.read_unread, View.ld_unit_lit']
  blk_ext [iblk, V, idx_par t, rowB, rowL]

/-- What the body loads of argument 14 at tile `t`. -/
theorem ld_v17 (t : Fin cfg0.N) (p k : Fin 512) : (rawAt m c t).v17 (ix2 p k) = A14 m c (ix2 p k) := by
  simp (disch := decide) only [rawAt, View.readAt_eq_ld, Memref.IsWhole.read_unread, View.ld_unit_lit']
  refine (show _ = (V m c main_v3 : FVec Ideal _ .bf16) (ix2 p k) by blk_ext [iblk, idx_par t]).trans ?_
  rw [V_v3]; pointwise

/-- What the body loads of argument 15 at tile `t`. -/
theorem ld_v20 (t : Fin cfg0.N) (k : Fin 512) : (rawAt m c t).v20 (ix2 0 k) = A15 m c (ix2 0 k) := by
  simp (disch := decide) only [rawAt, View.readAt_eq_ld, Memref.IsWhole.read_unread, View.ld_unit_lit']
  blk_ext [iblk, V, idx_par t, rowB, rowL]

/-- What the body loads of argument 4 at tile `t`. -/
theorem ld_v53 (t : Fin cfg0.N) (r : Fin 256) (k : Fin 128) : (rawAt m c t).v53 (ix3 0 r k) = A4 m c (ix3 (rowB t) (rowL t r) ⟨0 + k.val, by omega⟩) := by
  simp (disch := decide) only [rawAt, View.readAt_eq_ld, Memref.IsWhole.read_unread, View.ld_unit_lit']
  pointwise
  exact blk_4 m c t r _

/-- What the body loads of argument 5 at tile `t`. -/
theorem ld_v55 (t : Fin cfg0.N) (r : Fin 256) (k : Fin 128) : (rawAt m c t).v55 (ix3 0 r k) = A5 m c (ix3 (rowB t) (rowL t r) ⟨0 + k.val, by omega⟩) := by
  simp (disch := decide) only [rawAt, View.readAt_eq_ld, Memref.IsWhole.read_unread, View.ld_unit_lit']
  pointwise
  exact blk_5 m c t r _

/-- What the body loads of argument 6 at tile `t`. -/
theorem ld_v57 (t : Fin cfg0.N) (r : Fin 256) (k : Fin 128) : (rawAt m c t).v57 (ix3 0 r k) = A6 m c (ix3 (rowB t) (rowL t r) ⟨0 + k.val, by omega⟩) := by
  simp (disch := decide) only [rawAt, View.readAt_eq_ld, Memref.IsWhole.read_unread, View.ld_unit_lit']
  pointwise
  exact blk_6 m c t r _

/-- What the body loads of argument 16 at tile `t`. -/
theorem ld_v59 (t : Fin cfg0.N) (k : Fin 128) : (rawAt m c t).v59 (ix2 0 k) = A16 m c (ix2 0 k) := by
  simp (disch := decide) only [rawAt, View.readAt_eq_ld, Memref.IsWhole.read_unread, View.ld_unit_lit']
  blk_ext [iblk, V, idx_par t, rowB, rowL]

/-- What the body loads of argument 4 at tile `t`. -/
theorem ld_v82 (t : Fin cfg0.N) (r : Fin 256) (k : Fin 128) : (rawAt m c t).v82 (ix3 0 r k) = A4 m c (ix3 (rowB t) (rowL t r) ⟨128 + k.val, by omega⟩) := by
  simp (disch := decide) only [rawAt, View.readAt_eq_ld, Memref.IsWhole.read_unread, View.ld_unit_lit']
  pointwise
  exact blk_4 m c t r _

/-- What the body loads of argument 5 at tile `t`. -/
theorem ld_v84 (t : Fin cfg0.N) (r : Fin 256) (k : Fin 128) : (rawAt m c t).v84 (ix3 0 r k) = A5 m c (ix3 (rowB t) (rowL t r) ⟨128 + k.val, by omega⟩) := by
  simp (disch := decide) only [rawAt, View.readAt_eq_ld, Memref.IsWhole.read_unread, View.ld_unit_lit']
  pointwise
  exact blk_5 m c t r _

/-- What the body loads of argument 6 at tile `t`. -/
theorem ld_v86 (t : Fin cfg0.N) (r : Fin 256) (k : Fin 128) : (rawAt m c t).v86 (ix3 0 r k) = A6 m c (ix3 (rowB t) (rowL t r) ⟨128 + k.val, by omega⟩) := by
  simp (disch := decide) only [rawAt, View.readAt_eq_ld, Memref.IsWhole.read_unread, View.ld_unit_lit']
  pointwise
  exact blk_6 m c t r _

/-- What the body loads of argument 4 at tile `t`. -/
theorem ld_v111 (t : Fin cfg0.N) (r : Fin 256) (k : Fin 128) : (rawAt m c t).v111 (ix3 0 r k) = A4 m c (ix3 (rowB t) (rowL t r) ⟨256 + k.val, by omega⟩) := by
  simp (disch := decide) only [rawAt, View.readAt_eq_ld, Memref.IsWhole.read_unread, View.ld_unit_lit']
  pointwise
  exact blk_4 m c t r _

/-- What the body loads of argument 5 at tile `t`. -/
theorem ld_v113 (t : Fin cfg0.N) (r : Fin 256) (k : Fin 128) : (rawAt m c t).v113 (ix3 0 r k) = A5 m c (ix3 (rowB t) (rowL t r) ⟨256 + k.val, by omega⟩) := by
  simp (disch := decide) only [rawAt, View.readAt_eq_ld, Memref.IsWhole.read_unread, View.ld_unit_lit']
  pointwise
  exact blk_5 m c t r _

/-- What the body loads of argument 6 at tile `t`. -/
theorem ld_v115 (t : Fin cfg0.N) (r : Fin 256) (k : Fin 128) : (rawAt m c t).v115 (ix3 0 r k) = A6 m c (ix3 (rowB t) (rowL t r) ⟨256 + k.val, by omega⟩) := by
  simp (disch := decide) only [rawAt, View.readAt_eq_ld, Memref.IsWhole.read_unread, View.ld_unit_lit']
  pointwise
  exact blk_6 m c t r _

/-- What the body loads of argument 4 at tile `t`. -/
theorem ld_v140 (t : Fin cfg0.N) (r : Fin 256) (k : Fin 128) : (rawAt m c t).v140 (ix3 0 r k) = A4 m c (ix3 (rowB t) (rowL t r) ⟨384 + k.val, by omega⟩) := by
  simp (disch := decide) only [rawAt, View.readAt_eq_ld, Memref.IsWhole.read_unread, View.ld_unit_lit']
  pointwise
  exact blk_4 m c t r _

/-- What the body loads of argument 5 at tile `t`. -/
theorem ld_v142 (t : Fin cfg0.N) (r : Fin 256) (k : Fin 128) : (rawAt m c t).v142 (ix3 0 r k) = A5 m c (ix3 (rowB t) (rowL t r) ⟨384 + k.val, by omega⟩) := by
  simp (disch := decide) only [rawAt, View.readAt_eq_ld, Memref.IsWhole.read_unread, View.ld_unit_lit']
  pointwise
  exact blk_5 m c t r _

/-- What the body loads of argument 6 at tile `t`. -/
theorem ld_v144 (t : Fin cfg0.N) (r : Fin 256) (k : Fin 128) : (rawAt m c t).v144 (ix3 0 r k) = A6 m c (ix3 (rowB t) (rowL t r) ⟨384 + k.val, by omega⟩) := by
  simp (disch := decide) only [rawAt, View.readAt_eq_ld, Memref.IsWhole.read_unread, View.ld_unit_lit']
  pointwise
  exact blk_6 m c t r _

/-- What the body loads of argument 12 at tile `t`. -/
theorem ld_v172 (t : Fin cfg0.N) (p : Fin 512) (k : Fin 1024) : (rawAt m c t).v172 (ix2 p k) = A12 m c (ix2 ⟨p.val, by omega⟩ k) := by
  simp (disch := decide) only [rawAt, View.readAt_eq_ld, Memref.IsWhole.read_unread, View.ld_unit_lit']
  refine (show _ = (V m c main_v1 : FVec Ideal _ .bf16) (ix2 p k) by blk_ext [iblk, idx_par t]).trans ?_
  rw [V_v1]; pointwise

/-- What the body loads of argument 12 at tile `t`. -/
theorem ld_v175 (t : Fin cfg0.N) (p : Fin 512) (k : Fin 1024) : (rawAt m c t).v175 (ix2 p k) = A12 m c (ix2 ⟨512 + p.val, by omega⟩ k) := by
  simp (disch := decide) only [rawAt, View.readAt_eq_ld, Memref.IsWhole.read_unread, View.ld_unit_lit']
  refine (show _ = (V m c main_v2 : FVec Ideal _ .bf16) (ix2 p k) by blk_ext [iblk, idx_par t]).trans ?_
  rw [V_v2]; pointwise

/-- What the body loads of argument 7 at tile `t`. -/
theorem ld_v179 (t : Fin cfg0.N) (r : Fin 256) (k : Fin 1024) : (rawAt m c t).v179 (ix3 0 r k) = A7 m c (ix3 (rowB t) (rowL t r) k) := by
  simp (disch := decide) only [rawAt, View.readAt_eq_ld, Memref.IsWhole.read_unread, View.ld_unit_lit']
  blk_ext [iblk, V, idx_in t, rowB, rowL]

/-- What the body loads of argument 9 at tile `t`. -/
theorem ld_v181 (t : Fin cfg0.N) (k : Fin 1024) : (rawAt m c t).v181 (ix3 0 0 k) = A9 m c (ix3 (rowB t) 0 k) := by
  simp (disch := decide) only [rawAt, View.readAt_eq_ld, Memref.IsWhole.read_unread, View.ld_unit_lit']
  blk_ext [iblk, V, idx_in t, rowB, rowL]

/-- What the body loads of argument 10 at tile `t`. -/
theorem ld_v183 (t : Fin cfg0.N) (k : Fin 1024) : (rawAt m c t).v183 (ix2 0 k) = A10 m c (ix2 0 k) := by
  simp (disch := decide) only [rawAt, View.readAt_eq_ld, Memref.IsWhole.read_unread, View.ld_unit_lit']
  blk_ext [iblk, V, idx_par t, rowB, rowL]

/-- What the body loads of argument 11 at tile `t`. -/
theorem ld_v184 (t : Fin cfg0.N) (k : Fin 1024) : (rawAt m c t).v184 (ix2 0 k) = A11 m c (ix2 0 k) := by
  simp (disch := decide) only [rawAt, View.readAt_eq_ld, Memref.IsWhole.read_unread, View.ld_unit_lit']
  blk_ext [iblk, V, idx_par t, rowB, rowL]

/-- What the body loads of argument 8 at tile `t`. -/
theorem ld_v185 (t : Fin cfg0.N) (r : Fin 256) (k : Fin 1024) : (rawAt m c t).v185 (ix3 0 r k) = A8 m c (ix3 (rowB t) (rowL t r) k) := by
  simp (disch := decide) only [rawAt, View.readAt_eq_ld, Memref.IsWhole.read_unread, View.ld_unit_lit']
  blk_ext [iblk, V, idx_in t, rowB, rowL]

end Cert.Tail

end
-- ==== Proof.TailTok.lean ====
/- The tokens the tail's tiles load, and the sums over tiles.  Hand-written, untrusted. -/
module

public import proofs.«01_k».proof.Proof.TailRef
public import proofs.«01_k».proof.Proof.TailPayB
public import proofs.«01_k».proof.Proof.TailBlocks

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen
open Idealize.ShloMosaic.Pipeline (Dat)

/-- The four heads' stores of the scans' gradient. -/
theorem canon_do (x : Loads Ideal) (q : Fin 1) (r : Fin 256) (k : Fin 512) :
    (View.canon [⟨Rect.unit (s := S1x256x512) ![0, 0, 384] S1x256x128.size inb_S1x256x512_S1x256x128_0_0_384, k0_pay1 (v147 x) (v501 x) (v502 x) (v503 x)⟩,
      ⟨Rect.unit (s := S1x256x512) ![0, 0, 256] S1x256x128.size inb_S1x256x512_S1x256x128_0_0_256, k0_pay143 (v118 x) (v126 x) (v129 x) (v459 x) (v461 x)⟩,
      ⟨Rect.unit (s := S1x256x512) ![0, 0, 128] S1x256x128.size inb_S1x256x512_S1x256x128_0_0_128, k0_pay134 x.v59 (v89 x) (v97 x) (v100 x) (v413 x)⟩,
      ⟨Rect.unit (s := S1x256x512) ![0, 0, 0] S1x256x128.size inb_S1x256x512_S1x256x128_0_0_0, k0_pay127 x.v59 (v60 x) (v68 x) (v71 x) (v376 x)⟩] : Vec Ideal S1x256x512 .f32) (ix3 q r k)
      = (tok x r).dO ⟨k.val / 128, by omega⟩ ⟨k.val % 128, by omega⟩ := by
  canon_tiles z h
  all_goals idx_vars z
  all_goals obtain rfl : r = z1 := Fin.ext h1
  · rw [p1_at]; exact congrArg₂ (tok x r).dO (Fin.ext (by dsimp; omega)) (Fin.ext (by dsimp; omega))
  · rw [p143_at]; exact congrArg₂ (tok x r).dO (Fin.ext (by dsimp; omega)) (Fin.ext (by dsimp; omega))
  · rw [p134_at]; exact congrArg₂ (tok x r).dO (Fin.ext (by dsimp; omega)) (Fin.ext (by dsimp; omega))
  · rw [p127_at]; exact congrArg₂ (tok x r).dO (Fin.ext (by dsimp; omega)) (Fin.ext (by dsimp; omega))

/-- The four heads' stores of their gate's gradient. -/
theorem canon_dzg (x : Loads Ideal) (q : Fin 1) (r : Fin 256) (k : Fin 512) :
    (View.canon [⟨Rect.unit (s := S1x256x512) ![0, 0, 384] S1x256x128.size inb_S1x256x512_S1x256x128_0_0_384, k0_pay2 (v491 x)⟩,
      ⟨Rect.unit (s := S1x256x512) ![0, 0, 256] S1x256x128.size inb_S1x256x512_S1x256x128_0_0_256, k0_pay144 (v454 x)⟩,
      ⟨Rect.unit (s := S1x256x512) ![0, 0, 128] S1x256x128.size inb_S1x256x512_S1x256x128_0_0_128, k0_pay135 (v417 x)⟩,
      ⟨Rect.unit (s := S1x256x512) ![0, 0, 0] S1x256x128.size inb_S1x256x512_S1x256x128_0_0_0, k0_pay128 (v76 x) (v79 x) (v375 x) (v377 x)⟩] : Vec Ideal S1x256x512 .f32) (ix3 q r k)
      = (tok x r).dzg ⟨k.val / 128, by omega⟩ ⟨k.val % 128, by omega⟩ := by
  canon_tiles z h
  all_goals idx_vars z
  all_goals obtain rfl : r = z1 := Fin.ext h1
  · rw [p2_at]; exact congrArg₂ (tok x r).dzg (Fin.ext (by dsimp; omega)) (Fin.ext (by dsimp; omega))
  · rw [p144_at]; exact congrArg₂ (tok x r).dzg (Fin.ext (by dsimp; omega)) (Fin.ext (by dsimp; omega))
  · rw [p135_at]; exact congrArg₂ (tok x r).dzg (Fin.ext (by dsimp; omega)) (Fin.ext (by dsimp; omega))
  · rw [p128_at]; exact congrArg₂ (tok x r).dzg (Fin.ext (by dsimp; omega)) (Fin.ext (by dsimp; omega))

/-- A nonnegative real factor moves inside a finite sum. -/
theorem mul_sum_of {ι : Type} [Fintype ι] {a : EReal} (h0 : 0 ≤ a) (h1 : a ≠ ⊤) (f : ι → EReal) : a * ∑ i, f i = ∑ i, a * f i := by
  classical
  induction (Finset.univ : Finset ι) using Finset.induction_on with
  | empty => simp
  | insert i s hi ih => rw [Finset.sum_insert hi, Finset.sum_insert hi, EReal.left_distrib_of_nonneg_of_ne_top h0 h1, ih]

/-- Half the sum of a row's means is its tiles' sums, each times one over twice the row's length. -/
theorem loss_sum (f : Fin 2048 → EReal) : In.c 0x3F000000#32 * ∑ l : Fin 2048, Ideal.div (f l) (In.c 0x44800000#32)
    = ∑ s : Fin 8, In.c 0x3A000000#32 * ∑ r : Fin 256, f ⟨s.val * 256 + r.val, by omega⟩ := by
  have h1 : In.c 0x3F000000#32 = (((1 : ℝ) / 2 : ℝ) : EReal) := by simp [Ideal.ofBits, Ideal.ieee, -EReal.coe_mul]; norm_num
  have h2 : In.c 0x44800000#32 = ((1024 : ℝ) : EReal) := by simp [Ideal.ofBits, Ideal.ieee, -EReal.coe_mul]; norm_num
  have h3 : In.c 0x3A000000#32 = (((1 : ℝ) / 2048 : ℝ) : EReal) := by simp [Ideal.ofBits, Ideal.ieee, -EReal.coe_mul]; norm_num
  have e : ∀ x : EReal, In.c 0x3F000000#32 * Ideal.div x (In.c 0x44800000#32) = In.c 0x3A000000#32 * x := fun x => by
    rw [← half_mean]
    rw [h1, h2, Ideal.div, Ideal.div, if_neg (by norm_num), if_neg (by norm_num)]
    rw [mul_comm x, ← mul_assoc]
  rw [mul_sum_of (by rw [h1]; exact EReal.coe_nonneg.mpr (by norm_num)) (by rw [h1]; exact EReal.coe_ne_top _)]
  simp only [e]
  refine (Fin.sum_mul_add_congr fun s r hl => ?_).symm.trans (Finset.sum_congr rfl fun s _ => (mul_sum_of (by rw [h3]; exact EReal.coe_nonneg.mpr (by norm_num)) (by rw [h3]; exact EReal.coe_ne_top _) _).symm)
  rfl

variable (m : (ℓ : Loc nD τ sig) → Buf (Elt Ideal) ℓ) (c : Dev nD)

/-- One token of the program's arguments. -/
def ktok (b : Fin 2) (l : Fin 2048) : In where
  u k := A0 m c (ix3 b l k)
  y0 k := A1 m c (ix3 b l k)
  y1 k := A2 m c (ix3 b l k)
  z k := A3 m c (ix3 b l k)
  o0 h d := A4 m c (ix3 b l ⟨h.val * 128 + d.val, by omega⟩)
  o1 h d := A5 m c (ix3 b l ⟨h.val * 128 + d.val, by omega⟩)
  zg h d := A6 m c (ix3 b l ⟨h.val * 128 + d.val, by omega⟩)
  x j := A7 m c (ix3 b l j)
  tgt j := A8 m c (ix3 b l j)
  gate j := A9 m c (ix3 b 0 j)
  lng j := A10 m c (ix2 0 j)
  lnb j := A11 m c (ix2 0 j)
  ws k j := A12 m c (ix2 ⟨k.val, by omega⟩ j)
  wg k j := A12 m c (ix2 ⟨512 + k.val, by omega⟩ j)
  dsk k := A13 m c (ix2 0 k)
  wglu k q := A14 m c (ix2 k q)
  bglu k := A15 m c (ix2 0 k)
  nw d := A16 m c (ix2 0 d)

/-- The field `u` of a loaded row. -/
theorem tok_u (t : Fin cfg0.N) (r : Fin 256) : (tok (rawAt m c t) r).u = (ktok m c (rowB t) (rowL t r)).u :=
  (funext fun k => ld_v8 m c t r k)

/-- The field `y0` of a loaded row. -/
theorem tok_y0 (t : Fin cfg0.N) (r : Fin 256) : (tok (rawAt m c t) r).y0 = (ktok m c (rowB t) (rowL t r)).y0 :=
  (funext fun k => ld_v10 m c t r k)

/-- The field `y1` of a loaded row. -/
theorem tok_y1 (t : Fin cfg0.N) (r : Fin 256) : (tok (rawAt m c t) r).y1 = (ktok m c (rowB t) (rowL t r)).y1 :=
  (funext fun k => ld_v12 m c t r k)

/-- The field `z` of a loaded row. -/
theorem tok_z (t : Fin cfg0.N) (r : Fin 256) : (tok (rawAt m c t) r).z = (ktok m c (rowB t) (rowL t r)).z :=
  (funext fun k => ld_v14 m c t r k)

/-- The field `o0` of a loaded row. -/
theorem tok_o0 (t : Fin cfg0.N) (r : Fin 256) : (tok (rawAt m c t) r).o0 = (ktok m c (rowB t) (rowL t r)).o0 :=
  (funext fun h => funext fun d => by
      fin_cases h
      · exact (ld_v53 m c t r d).trans (congrArg (fun q => A4 m c (ix3 (rowB t) (rowL t r) q)) (Fin.ext (by dsimp <;> omega)))
      · exact (ld_v82 m c t r d).trans (congrArg (fun q => A4 m c (ix3 (rowB t) (rowL t r) q)) (Fin.ext (by dsimp <;> omega)))
      · exact (ld_v111 m c t r d).trans (congrArg (fun q => A4 m c (ix3 (rowB t) (rowL t r) q)) (Fin.ext (by dsimp <;> omega)))
      · exact (ld_v140 m c t r d).trans (congrArg (fun q => A4 m c (ix3 (rowB t) (rowL t r) q)) (Fin.ext (by dsimp <;> omega))))

/-- The field `o1` of a loaded row. -/
theorem tok_o1 (t : Fin cfg0.N) (r : Fin 256) : (tok (rawAt m c t) r).o1 = (ktok m c (rowB t) (rowL t r)).o1 :=
  (funext fun h => funext fun d => by
      fin_cases h
      · exact (ld_v55 m c t r d).trans (congrArg (fun q => A5 m c (ix3 (rowB t) (rowL t r) q)) (Fin.ext (by dsimp <;> omega)))
      · exact (ld_v84 m c t r d).trans (congrArg (fun q => A5 m c (ix3 (rowB t) (rowL t r) q)) (Fin.ext (by dsimp <;> omega)))
      · exact (ld_v113 m c t r d).trans (congrArg (fun q => A5 m c (ix3 (rowB t) (rowL t r) q)) (Fin.ext (by dsimp <;> omega)))
      · exact (ld_v142 m c t r d).trans (congrArg (fun q => A5 m c (ix3 (rowB t) (rowL t r) q)) (Fin.ext (by dsimp <;> omega))))

/-- The field `zg` of a loaded row. -/
theorem tok_zg (t : Fin cfg0.N) (r : Fin 256) : (tok (rawAt m c t) r).zg = (ktok m c (rowB t) (rowL t r)).zg :=
  (funext fun h => funext fun d => by
      fin_cases h
      · exact (ld_v57 m c t r d).trans (congrArg (fun q => A6 m c (ix3 (rowB t) (rowL t r) q)) (Fin.ext (by dsimp <;> omega)))
      · exact (ld_v86 m c t r d).trans (congrArg (fun q => A6 m c (ix3 (rowB t) (rowL t r) q)) (Fin.ext (by dsimp <;> omega)))
      · exact (ld_v115 m c t r d).trans (congrArg (fun q => A6 m c (ix3 (rowB t) (rowL t r) q)) (Fin.ext (by dsimp <;> omega)))
      · exact (ld_v144 m c t r d).trans (congrArg (fun q => A6 m c (ix3 (rowB t) (rowL t r) q)) (Fin.ext (by dsimp <;> omega))))

/-- The field `x` of a loaded row. -/
theorem tok_x (t : Fin cfg0.N) (r : Fin 256) : (tok (rawAt m c t) r).x = (ktok m c (rowB t) (rowL t r)).x :=
  (funext fun k => ld_v179 m c t r k)

/-- The field `tgt` of a loaded row. -/
theorem tok_tgt (t : Fin cfg0.N) (r : Fin 256) : (tok (rawAt m c t) r).tgt = (ktok m c (rowB t) (rowL t r)).tgt :=
  (funext fun k => ld_v185 m c t r k)

/-- The field `gate` of a loaded row. -/
theorem tok_gate (t : Fin cfg0.N) (r : Fin 256) : (tok (rawAt m c t) r).gate = (ktok m c (rowB t) (rowL t r)).gate :=
  (funext fun k => ld_v181 m c t k)

/-- The field `lng` of a loaded row. -/
theorem tok_lng (t : Fin cfg0.N) (r : Fin 256) : (tok (rawAt m c t) r).lng = (ktok m c (rowB t) (rowL t r)).lng :=
  (funext fun k => ld_v183 m c t k)

/-- The field `lnb` of a loaded row. -/
theorem tok_lnb (t : Fin cfg0.N) (r : Fin 256) : (tok (rawAt m c t) r).lnb = (ktok m c (rowB t) (rowL t r)).lnb :=
  (funext fun k => ld_v184 m c t k)

/-- The field `ws` of a loaded row. -/
theorem tok_ws (t : Fin cfg0.N) (r : Fin 256) : (tok (rawAt m c t) r).ws = (ktok m c (rowB t) (rowL t r)).ws :=
  (funext fun p => funext fun k => ld_v172 m c t p k)

/-- The field `wg` of a loaded row. -/
theorem tok_wg (t : Fin cfg0.N) (r : Fin 256) : (tok (rawAt m c t) r).wg = (ktok m c (rowB t) (rowL t r)).wg :=
  (funext fun p => funext fun k => ld_v175 m c t p k)

/-- The field `dsk` of a loaded row. -/
theorem tok_dsk (t : Fin cfg0.N) (r : Fin 256) : (tok (rawAt m c t) r).dsk = (ktok m c (rowB t) (rowL t r)).dsk :=
  (funext fun k => ld_v16 m c t k)

/-- The field `wglu` of a loaded row. -/
theorem tok_wglu (t : Fin cfg0.N) (r : Fin 256) : (tok (rawAt m c t) r).wglu = (ktok m c (rowB t) (rowL t r)).wglu :=
  (funext fun p => funext fun k => ld_v17 m c t p k)

/-- The field `bglu` of a loaded row. -/
theorem tok_bglu (t : Fin cfg0.N) (r : Fin 256) : (tok (rawAt m c t) r).bglu = (ktok m c (rowB t) (rowL t r)).bglu :=
  (funext fun k => ld_v20 m c t k)

/-- The field `nw` of a loaded row. -/
theorem tok_nw (t : Fin cfg0.N) (r : Fin 256) : (tok (rawAt m c t) r).nw = (ktok m c (rowB t) (rowL t r)).nw :=
  (funext fun k => ld_v59 m c t k)

/-- A row of what a tile loads is its token. -/
theorem tok_eq (t : Fin cfg0.N) (r : Fin 256) : tok (rawAt m c t) r = ktok m c (rowB t) (rowL t r) :=
  In.ext (tok_u m c t r) (tok_y0 m c t r) (tok_y1 m c t r) (tok_z m c t r) (tok_o0 m c t r) (tok_o1 m c t r) (tok_zg m c t r) (tok_x m c t r) (tok_tgt m c t r) (tok_gate m c t r) (tok_lng m c t r) (tok_lnb m c t r) (tok_ws m c t r) (tok_wg m c t r) (tok_dsk m c t r) (tok_wglu m c t r) (tok_bglu m c t r) (tok_nw m c t r)

end Cert.Tail

end
-- ==== Proof.TailOuts.lean ====
/- What the tail's body leaves in its output blocks, tile by tile.  Hand-written, untrusted. -/
module

public import proofs.«01_k».proof.Proof.TailDefs
public import proofs.«01_k».proof.Proof.TailBlocks

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen

variable {F : FTy → Type} [FloatOps F] (m : (ℓ : Loc nD τ sig) → Buf (Elt F) ℓ) (c : Dev nD)

/-- The first tile of all leaves in its block of the loss. -/
theorem out_A_18 (t : Fin cfg0.N) (h0 : t.val % 16 = 0) (h1 : t.val % 8 = 0) :
    (out_A m c t h0 h1).1 = k0_pay99 (v222 (rawAt m c t)) (k0_pay12 (F := F)) := by
  have e : (out_A m c t h0 h1).1 = VO0_18.read (Elt F) (VO0_18.writes (Elt F) VO0_18.junk (⟨Rect.unit (s := S1x8x128) ![0, 0, 0] S1x8x128.size inb_S1x8x128_S1x8x128_0_0_0, k0_pay99 (v222 (rawAt m c t)) (View.readCov (ms0_18 t).view [⟨Rect.unit (s := S1x8x128) ![0, 0, 0] S1x8x128.size inb_S1x8x128_S1x8x128_0_0_0, (k0_pay12 (F := F))⟩] (Rect.unit (s := S1x8x128) ![0, 0, 0] S1x8x128.size inb_S1x8x128_S1x8x128_0_0_0).toLoadRect)⟩ :: [⟨Rect.unit (s := S1x8x128) ![0, 0, 0] S1x8x128.size inb_S1x8x128_S1x8x128_0_0_0, (k0_pay12 (F := F))⟩])) := by sl_kernel_rfl
  refine e.trans ?_
  simp (disch := decide) only [View.read_writes_junk_eq_canon, View.canon_cons_unit_lit', View.readCov_cons_unit_lit']

/-- The first tile of all leaves in its block of the gradient of `u`. -/
theorem out_A_19 (t : Fin cfg0.N) (h0 : t.val % 16 = 0) (h1 : t.val % 8 = 0) :
    (out_A m c t h0 h1).2.1 = k0_pay116 (v346 (rawAt m c t)) := by
  have e : (out_A m c t h0 h1).2.1 = VO0_19.read (Elt F) (VO0_19.writes (Elt F) VO0_19.junk ([⟨Rect.unit (s := S1x256x512) ![0, 0, 0] S1x256x512.size inb_S1x256x512_S1x256x512_0_0_0, k0_pay116 (v346 (rawAt m c t))⟩])) := by sl_kernel_rfl
  refine e.trans ?_
  simp (disch := decide) only [View.read_writes_junk_eq_canon, View.canon_cons_unit_lit']

/-- The first tile of all leaves in its block of the gradient of the first scan's outputs. -/
theorem out_A_20 (t : Fin cfg0.N) (h0 : t.val % 16 = 0) (h1 : t.val % 8 = 0) :
    (out_A m c t h0 h1).2.2.1 = k0_pay117 (v344 (rawAt m c t)) := by
  have e : (out_A m c t h0 h1).2.2.1 = VO0_20.read (Elt F) (VO0_20.writes (Elt F) VO0_20.junk ([⟨Rect.unit (s := S1x256x512) ![0, 0, 0] S1x256x512.size inb_S1x256x512_S1x256x512_0_0_0, k0_pay117 (v344 (rawAt m c t))⟩])) := by sl_kernel_rfl
  refine e.trans ?_
  simp (disch := decide) only [View.read_writes_junk_eq_canon, View.canon_cons_unit_lit']

/-- The first tile of all leaves in its block of the gradient of `z`. -/
theorem out_A_21 (t : Fin cfg0.N) (h0 : t.val % 16 = 0) (h1 : t.val % 8 = 0) :
    (out_A m c t h0 h1).2.2.2.1 = k0_pay118 (v322 (rawAt m c t)) := by
  have e : (out_A m c t h0 h1).2.2.2.1 = VO0_21.read (Elt F) (VO0_21.writes (Elt F) VO0_21.junk ([⟨Rect.unit (s := S1x256x512) ![0, 0, 0] S1x256x512.size inb_S1x256x512_S1x256x512_0_0_0, k0_pay118 (v322 (rawAt m c t))⟩])) := by sl_kernel_rfl
  refine e.trans ?_
  simp (disch := decide) only [View.read_writes_junk_eq_canon, View.canon_cons_unit_lit']

/-- The first tile of all leaves in its block of the gradient of the second scan's outputs. -/
theorem out_A_22 (t : Fin cfg0.N) (h0 : t.val % 16 = 0) (h1 : t.val % 8 = 0) :
    (out_A m c t h0 h1).2.2.2.2.1 = View.canon [⟨Rect.unit (s := S1x256x512) ![0, 0, 384] S1x256x128.size inb_S1x256x512_S1x256x128_0_0_384, k0_pay1 (v147 (rawAt m c t)) (v501 (rawAt m c t)) (v502 (rawAt m c t)) (v503 (rawAt m c t))⟩,
      ⟨Rect.unit (s := S1x256x512) ![0, 0, 256] S1x256x128.size inb_S1x256x512_S1x256x128_0_0_256, k0_pay143 (v118 (rawAt m c t)) (v126 (rawAt m c t)) (v129 (rawAt m c t)) (v459 (rawAt m c t)) (v461 (rawAt m c t))⟩,
      ⟨Rect.unit (s := S1x256x512) ![0, 0, 128] S1x256x128.size inb_S1x256x512_S1x256x128_0_0_128, k0_pay134 (rawAt m c t).v59 (v89 (rawAt m c t)) (v97 (rawAt m c t)) (v100 (rawAt m c t)) (v413 (rawAt m c t))⟩,
      ⟨Rect.unit (s := S1x256x512) ![0, 0, 0] S1x256x128.size inb_S1x256x512_S1x256x128_0_0_0, k0_pay127 (rawAt m c t).v59 (v60 (rawAt m c t)) (v68 (rawAt m c t)) (v71 (rawAt m c t)) (v376 (rawAt m c t))⟩] := by
  have e : (out_A m c t h0 h1).2.2.2.2.1 = VO0_22.read (Elt F) (VO0_22.writes (Elt F) VO0_22.junk ([⟨Rect.unit (s := S1x256x512) ![0, 0, 384] S1x256x128.size inb_S1x256x512_S1x256x128_0_0_384, k0_pay1 (v147 (rawAt m c t)) (v501 (rawAt m c t)) (v502 (rawAt m c t)) (v503 (rawAt m c t))⟩,
      ⟨Rect.unit (s := S1x256x512) ![0, 0, 256] S1x256x128.size inb_S1x256x512_S1x256x128_0_0_256, k0_pay143 (v118 (rawAt m c t)) (v126 (rawAt m c t)) (v129 (rawAt m c t)) (v459 (rawAt m c t)) (v461 (rawAt m c t))⟩,
      ⟨Rect.unit (s := S1x256x512) ![0, 0, 128] S1x256x128.size inb_S1x256x512_S1x256x128_0_0_128, k0_pay134 (rawAt m c t).v59 (v89 (rawAt m c t)) (v97 (rawAt m c t)) (v100 (rawAt m c t)) (v413 (rawAt m c t))⟩,
      ⟨Rect.unit (s := S1x256x512) ![0, 0, 0] S1x256x128.size inb_S1x256x512_S1x256x128_0_0_0, k0_pay127 (rawAt m c t).v59 (v60 (rawAt m c t)) (v68 (rawAt m c t)) (v71 (rawAt m c t)) (v376 (rawAt m c t))⟩])) := by sl_kernel_rfl
  refine e.trans ?_
  simp (disch := decide) only [View.read_writes_junk_eq_canon]

/-- The first tile of all leaves in its block of the gradient of the heads' gate. -/
theorem out_A_23 (t : Fin cfg0.N) (h0 : t.val % 16 = 0) (h1 : t.val % 8 = 0) :
    (out_A m c t h0 h1).2.2.2.2.2.1 = View.canon [⟨Rect.unit (s := S1x256x512) ![0, 0, 384] S1x256x128.size inb_S1x256x512_S1x256x128_0_0_384, k0_pay2 (v491 (rawAt m c t))⟩,
      ⟨Rect.unit (s := S1x256x512) ![0, 0, 256] S1x256x128.size inb_S1x256x512_S1x256x128_0_0_256, k0_pay144 (v454 (rawAt m c t))⟩,
      ⟨Rect.unit (s := S1x256x512) ![0, 0, 128] S1x256x128.size inb_S1x256x512_S1x256x128_0_0_128, k0_pay135 (v417 (rawAt m c t))⟩,
      ⟨Rect.unit (s := S1x256x512) ![0, 0, 0] S1x256x128.size inb_S1x256x512_S1x256x128_0_0_0, k0_pay128 (v76 (rawAt m c t)) (v79 (rawAt m c t)) (v375 (rawAt m c t)) (v377 (rawAt m c t))⟩] := by
  have e : (out_A m c t h0 h1).2.2.2.2.2.1 = VO0_23.read (Elt F) (VO0_23.writes (Elt F) VO0_23.junk ([⟨Rect.unit (s := S1x256x512) ![0, 0, 384] S1x256x128.size inb_S1x256x512_S1x256x128_0_0_384, k0_pay2 (v491 (rawAt m c t))⟩,
      ⟨Rect.unit (s := S1x256x512) ![0, 0, 256] S1x256x128.size inb_S1x256x512_S1x256x128_0_0_256, k0_pay144 (v454 (rawAt m c t))⟩,
      ⟨Rect.unit (s := S1x256x512) ![0, 0, 128] S1x256x128.size inb_S1x256x512_S1x256x128_0_0_128, k0_pay135 (v417 (rawAt m c t))⟩,
      ⟨Rect.unit (s := S1x256x512) ![0, 0, 0] S1x256x128.size inb_S1x256x512_S1x256x128_0_0_0, k0_pay128 (v76 (rawAt m c t)) (v79 (rawAt m c t)) (v375 (rawAt m c t)) (v377 (rawAt m c t))⟩])) := by sl_kernel_rfl
  refine e.trans ?_
  simp (disch := decide) only [View.read_writes_junk_eq_canon]

/-- The first tile of all leaves in its block of the gradient of the residual input. -/
theorem out_A_24 (t : Fin cfg0.N) (h0 : t.val % 16 = 0) (h1 : t.val % 8 = 0) :
    (out_A m c t h0 h1).2.2.2.2.2.2.1 = k0_pay101 (v277 (rawAt m c t)) := by
  have e : (out_A m c t h0 h1).2.2.2.2.2.2.1 = VO0_24.read (Elt F) (VO0_24.writes (Elt F) VO0_24.junk ([⟨Rect.unit (s := S1x256x1024) ![0, 0, 0] S1x256x1024.size inb_S1x256x1024_S1x256x1024_0_0_0, k0_pay101 (v277 (rawAt m c t))⟩])) := by sl_kernel_rfl
  refine e.trans ?_
  simp (disch := decide) only [View.read_writes_junk_eq_canon, View.canon_cons_unit_lit']

/-- The first tile of all leaves in its block of the gradient of the projection's first rows. -/
theorem out_A_25 (t : Fin cfg0.N) (h0 : t.val % 16 = 0) (h1 : t.val % 8 = 0) :
    (out_A m c t h0 h1).2.2.2.2.2.2.2.1 = k0_pay102 (v169 (rawAt m c t)) (v272 (rawAt m c t)) (k0_pay4 (F := F)) := by
  have e : (out_A m c t h0 h1).2.2.2.2.2.2.2.1 = VO0_25.read (Elt F) (VO0_25.writes (Elt F) VO0_25.junk (⟨Rect.unit (s := S512x1024) ![0, 0] S512x1024.size inb_S512x1024_S512x1024_0_0, k0_pay102 (v169 (rawAt m c t)) (v272 (rawAt m c t)) (View.readCov (ms0_25 t).view [⟨Rect.unit (s := S512x1024) ![0, 0] S512x1024.size inb_S512x1024_S512x1024_0_0, (k0_pay4 (F := F))⟩] (Rect.unit (s := S512x1024) ![0, 0] S512x1024.size inb_S512x1024_S512x1024_0_0).toLoadRect)⟩ :: [⟨Rect.unit (s := S512x1024) ![0, 0] S512x1024.size inb_S512x1024_S512x1024_0_0, (k0_pay4 (F := F))⟩])) := by sl_kernel_rfl
  refine e.trans ?_
  simp (disch := decide) only [View.read_writes_junk_eq_canon, View.canon_cons_unit_lit', View.readCov_cons_unit_lit']

/-- The first tile of all leaves in its block of the gradient of the projection's last rows. -/
theorem out_A_26 (t : Fin cfg0.N) (h0 : t.val % 16 = 0) (h1 : t.val % 8 = 0) :
    (out_A m c t h0 h1).2.2.2.2.2.2.2.2.1 = k0_pay103 (v171 (rawAt m c t)) (v272 (rawAt m c t)) (k0_pay5 (F := F)) := by
  have e : (out_A m c t h0 h1).2.2.2.2.2.2.2.2.1 = VO0_26.read (Elt F) (VO0_26.writes (Elt F) VO0_26.junk (⟨Rect.unit (s := S512x1024) ![0, 0] S512x1024.size inb_S512x1024_S512x1024_0_0, k0_pay103 (v171 (rawAt m c t)) (v272 (rawAt m c t)) (View.readCov (ms0_26 t).view [⟨Rect.unit (s := S512x1024) ![0, 0] S512x1024.size inb_S512x1024_S512x1024_0_0, (k0_pay5 (F := F))⟩] (Rect.unit (s := S512x1024) ![0, 0] S512x1024.size inb_S512x1024_S512x1024_0_0).toLoadRect)⟩ :: [⟨Rect.unit (s := S512x1024) ![0, 0] S512x1024.size inb_S512x1024_S512x1024_0_0, (k0_pay5 (F := F))⟩])) := by sl_kernel_rfl
  refine e.trans ?_
  simp (disch := decide) only [View.read_writes_junk_eq_canon, View.canon_cons_unit_lit', View.readCov_cons_unit_lit']

/-- The first tile of all leaves in its block of the gradient of the residual's gate. -/
theorem out_A_27 (t : Fin cfg0.N) (h0 : t.val % 16 = 0) (h1 : t.val % 8 = 0) :
    (out_A m c t h0 h1).2.2.2.2.2.2.2.2.2.1 = k0_pay104 (v275 (rawAt m c t)) (k0_pay13 (F := F)) := by
  have e : (out_A m c t h0 h1).2.2.2.2.2.2.2.2.2.1 = VO0_27.read (Elt F) (VO0_27.writes (Elt F) VO0_27.junk (⟨Rect.unit (s := S1x1x1024) ![0, 0, 0] S1x1x1024.size inb_S1x1x1024_S1x1x1024_0_0_0, k0_pay104 (v275 (rawAt m c t)) (View.readCov (ms0_27 t).view [⟨Rect.unit (s := S1x1x1024) ![0, 0, 0] S1x1x1024.size inb_S1x1x1024_S1x1x1024_0_0_0, (k0_pay13 (F := F))⟩] (Rect.unit (s := S1x1x1024) ![0, 0, 0] S1x1x1024.size inb_S1x1x1024_S1x1x1024_0_0_0).toLoadRect)⟩ :: [⟨Rect.unit (s := S1x1x1024) ![0, 0, 0] S1x1x1024.size inb_S1x1x1024_S1x1x1024_0_0_0, (k0_pay13 (F := F))⟩])) := by sl_kernel_rfl
  refine e.trans ?_
  simp (disch := decide) only [View.read_writes_junk_eq_canon, View.canon_cons_unit_lit', View.readCov_cons_unit_lit']

/-- The first tile of all leaves in its block of the gradient of the layer norm's scale. -/
theorem out_A_28 (t : Fin cfg0.N) (h0 : t.val % 16 = 0) (h1 : t.val % 8 = 0) :
    (out_A m c t h0 h1).2.2.2.2.2.2.2.2.2.2.1 = k0_pay105 (v243 (rawAt m c t)) (k0_pay6 (F := F)) := by
  have e : (out_A m c t h0 h1).2.2.2.2.2.2.2.2.2.2.1 = VO0_28.read (Elt F) (VO0_28.writes (Elt F) VO0_28.junk (⟨Rect.unit (s := S1x1024) ![0, 0] S1x1024.size inb_S1x1024_S1x1024_0_0, k0_pay105 (v243 (rawAt m c t)) (View.readCov (ms0_28 t).view [⟨Rect.unit (s := S1x1024) ![0, 0] S1x1024.size inb_S1x1024_S1x1024_0_0, (k0_pay6 (F := F))⟩] (Rect.unit (s := S1x1024) ![0, 0] S1x1024.size inb_S1x1024_S1x1024_0_0).toLoadRect)⟩ :: [⟨Rect.unit (s := S1x1024) ![0, 0] S1x1024.size inb_S1x1024_S1x1024_0_0, (k0_pay6 (F := F))⟩])) := by sl_kernel_rfl
  refine e.trans ?_
  simp (disch := decide) only [View.read_writes_junk_eq_canon, View.canon_cons_unit_lit', View.readCov_cons_unit_lit']

/-- The first tile of all leaves in its block of the gradient of the layer norm's shift. -/
theorem out_A_29 (t : Fin cfg0.N) (h0 : t.val % 16 = 0) (h1 : t.val % 8 = 0) :
    (out_A m c t h0 h1).2.2.2.2.2.2.2.2.2.2.2.1 = k0_pay106 (v240 (rawAt m c t)) (k0_pay7 (F := F)) := by
  have e : (out_A m c t h0 h1).2.2.2.2.2.2.2.2.2.2.2.1 = VO0_29.read (Elt F) (VO0_29.writes (Elt F) VO0_29.junk (⟨Rect.unit (s := S1x1024) ![0, 0] S1x1024.size inb_S1x1024_S1x1024_0_0, k0_pay106 (v240 (rawAt m c t)) (View.readCov (ms0_29 t).view [⟨Rect.unit (s := S1x1024) ![0, 0] S1x1024.size inb_S1x1024_S1x1024_0_0, (k0_pay7 (F := F))⟩] (Rect.unit (s := S1x1024) ![0, 0] S1x1024.size inb_S1x1024_S1x1024_0_0).toLoadRect)⟩ :: [⟨Rect.unit (s := S1x1024) ![0, 0] S1x1024.size inb_S1x1024_S1x1024_0_0, (k0_pay7 (F := F))⟩])) := by sl_kernel_rfl
  refine e.trans ?_
  simp (disch := decide) only [View.read_writes_junk_eq_canon, View.canon_cons_unit_lit', View.readCov_cons_unit_lit']

/-- The first tile of all leaves in its block of the gradient of the skip. -/
theorem out_A_30 (t : Fin cfg0.N) (h0 : t.val % 16 = 0) (h1 : t.val % 8 = 0) :
    (out_A m c t h0 h1).2.2.2.2.2.2.2.2.2.2.2.2.1 = k0_pay119 (v347 (rawAt m c t)) (k0_pay8 (F := F)) := by
  have e : (out_A m c t h0 h1).2.2.2.2.2.2.2.2.2.2.2.2.1 = VO0_30.read (Elt F) (VO0_30.writes (Elt F) VO0_30.junk (⟨Rect.unit (s := S1x512) ![0, 0] S1x512.size inb_S1x512_S1x512_0_0, k0_pay119 (v347 (rawAt m c t)) (View.readCov (ms0_30 t).view [⟨Rect.unit (s := S1x512) ![0, 0] S1x512.size inb_S1x512_S1x512_0_0, (k0_pay8 (F := F))⟩] (Rect.unit (s := S1x512) ![0, 0] S1x512.size inb_S1x512_S1x512_0_0).toLoadRect)⟩ :: [⟨Rect.unit (s := S1x512) ![0, 0] S1x512.size inb_S1x512_S1x512_0_0, (k0_pay8 (F := F))⟩])) := by sl_kernel_rfl
  refine e.trans ?_
  simp (disch := decide) only [View.read_writes_junk_eq_canon, View.canon_cons_unit_lit', View.readCov_cons_unit_lit']

/-- The first tile of all leaves in its block of the gradient of the linear unit's weights. -/
theorem out_A_31 (t : Fin cfg0.N) (h0 : t.val % 16 = 0) (h1 : t.val % 8 = 0) :
    (out_A m c t h0 h1).2.2.2.2.2.2.2.2.2.2.2.2.2.1 = k0_pay120 (v333 (rawAt m c t)) (k0_pay9 (F := F)) := by
  have e : (out_A m c t h0 h1).2.2.2.2.2.2.2.2.2.2.2.2.2.1 = VO0_31.read (Elt F) (VO0_31.writes (Elt F) VO0_31.junk (⟨Rect.unit (s := S512x512) ![0, 0] S512x512.size inb_S512x512_S512x512_0_0, k0_pay120 (v333 (rawAt m c t)) (View.readCov (ms0_31 t).view [⟨Rect.unit (s := S512x512) ![0, 0] S512x512.size inb_S512x512_S512x512_0_0, (k0_pay9 (F := F))⟩] (Rect.unit (s := S512x512) ![0, 0] S512x512.size inb_S512x512_S512x512_0_0).toLoadRect)⟩ :: [⟨Rect.unit (s := S512x512) ![0, 0] S512x512.size inb_S512x512_S512x512_0_0, (k0_pay9 (F := F))⟩])) := by sl_kernel_rfl
  refine e.trans ?_
  simp (disch := decide) only [View.read_writes_junk_eq_canon, View.canon_cons_unit_lit', View.readCov_cons_unit_lit']

/-- The first tile of all leaves in its block of the gradient of the linear unit's bias. -/
theorem out_A_32 (t : Fin cfg0.N) (h0 : t.val % 16 = 0) (h1 : t.val % 8 = 0) :
    (out_A m c t h0 h1).2.2.2.2.2.2.2.2.2.2.2.2.2.2.1 = k0_pay121 (v327 (rawAt m c t)) (k0_pay10 (F := F)) := by
  have e : (out_A m c t h0 h1).2.2.2.2.2.2.2.2.2.2.2.2.2.2.1 = VO0_32.read (Elt F) (VO0_32.writes (Elt F) VO0_32.junk (⟨Rect.unit (s := S1x512) ![0, 0] S1x512.size inb_S1x512_S1x512_0_0, k0_pay121 (v327 (rawAt m c t)) (View.readCov (ms0_32 t).view [⟨Rect.unit (s := S1x512) ![0, 0] S1x512.size inb_S1x512_S1x512_0_0, (k0_pay10 (F := F))⟩] (Rect.unit (s := S1x512) ![0, 0] S1x512.size inb_S1x512_S1x512_0_0).toLoadRect)⟩ :: [⟨Rect.unit (s := S1x512) ![0, 0] S1x512.size inb_S1x512_S1x512_0_0, (k0_pay10 (F := F))⟩])) := by sl_kernel_rfl
  refine e.trans ?_
  simp (disch := decide) only [View.read_writes_junk_eq_canon, View.canon_cons_unit_lit', View.readCov_cons_unit_lit']

/-- The first tile of all leaves in its block of the gradient of the norm's weight. -/
theorem out_A_33 (t : Fin cfg0.N) (h0 : t.val % 16 = 0) (h1 : t.val % 8 = 0) :
    (out_A m c t h0 h1).2.2.2.2.2.2.2.2.2.2.2.2.2.2.2 = (k0_pay3 (v494 (rawAt m c t)) (k0_pay145 (v457 (rawAt m c t)) (k0_pay136 (v419 (rawAt m c t)) (k0_pay129 (v73 (rawAt m c t)) (v376 (rawAt m c t)) (k0_pay11 (F := F)))))) := by
  have e : (out_A m c t h0 h1).2.2.2.2.2.2.2.2.2.2.2.2.2.2.2 = VO0_33.read (Elt F) (VO0_33.writes (Elt F) VO0_33.junk (⟨Rect.unit (s := S1x128) ![0, 0] S1x128.size inb_S1x128_S1x128_0_0, k0_pay3 (v494 (rawAt m c t)) (View.readCov (ms0_33 t).view (⟨Rect.unit (s := S1x128) ![0, 0] S1x128.size inb_S1x128_S1x128_0_0, k0_pay145 (v457 (rawAt m c t)) (View.readCov (ms0_33 t).view (⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay145 (v457 (rawAt m c t)) (View.readCov (ms0_33 t).view (⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩]) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readCov (ms0_33 t).view [⟨Rect.unit (s := S1x128) ![0, 0] S1x128.size inb_S1x128_S1x128_0_0, (k0_pay11 (F := F))⟩] (Rect.unit (s := S1x128) ![0, 0] S1x128.size inb_S1x128_S1x128_0_0).toLoadRect)⟩ :: [⟨Rect.unit (s := S1x128) ![0, 0] S1x128.size inb_S1x128_S1x128_0_0, (k0_pay11 (F := F))⟩])) := by sl_kernel_rfl
  refine e.trans ?_
  simp (disch := decide) only [View.read_writes_junk_eq_canon, View.canon_cons_unit_lit', View.readCov_cons_unit_lit']

/-- A tile inside a batch row leaves in its block of the loss. -/
theorem out_B_18 (t : Fin cfg0.N) (h0 : ¬t.val % 16 = 0) (h1 : ¬t.val % 8 = 0) (p : Outs F) :
    (out_B m c t h0 h1 p).1 = k0_pay99 (v222 (rawAt m c t)) p.1 := by
  have e : (out_B m c t h0 h1 p).1 = VO0_18.read (Elt F) (VO0_18.writes (Elt F) VO0_18.junk (⟨Rect.unit (s := S1x8x128) ![0, 0, 0] S1x8x128.size inb_S1x8x128_S1x8x128_0_0_0, k0_pay99 (v222 (rawAt m c t)) (View.readAt (Elt F) (ms0_18 t).view (Rect.unit (s := S1x8x128) ![0, 0, 0] S1x8x128.size inb_S1x8x128_S1x8x128_0_0_0).toLoadRect ((hs0_18 t).unread p.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of `u`. -/
theorem out_B_19 (t : Fin cfg0.N) (h0 : ¬t.val % 16 = 0) (h1 : ¬t.val % 8 = 0) (p : Outs F) :
    (out_B m c t h0 h1 p).2.1 = k0_pay116 (v346 (rawAt m c t)) := by
  have e : (out_B m c t h0 h1 p).2.1 = VO0_19.read (Elt F) (VO0_19.writes (Elt F) VO0_19.junk ([⟨Rect.unit (s := S1x256x512) ![0, 0, 0] S1x256x512.size inb_S1x256x512_S1x256x512_0_0_0, k0_pay116 (v346 (rawAt m c t))⟩])) := by sl_kernel_rfl
  refine e.trans ?_
  simp (disch := decide) only [View.read_writes_junk_eq_canon, View.canon_cons_unit_lit']

/-- A tile inside a batch row leaves in its block of the gradient of the first scan's outputs. -/
theorem out_B_20 (t : Fin cfg0.N) (h0 : ¬t.val % 16 = 0) (h1 : ¬t.val % 8 = 0) (p : Outs F) :
    (out_B m c t h0 h1 p).2.2.1 = k0_pay117 (v344 (rawAt m c t)) := by
  have e : (out_B m c t h0 h1 p).2.2.1 = VO0_20.read (Elt F) (VO0_20.writes (Elt F) VO0_20.junk ([⟨Rect.unit (s := S1x256x512) ![0, 0, 0] S1x256x512.size inb_S1x256x512_S1x256x512_0_0_0, k0_pay117 (v344 (rawAt m c t))⟩])) := by sl_kernel_rfl
  refine e.trans ?_
  simp (disch := decide) only [View.read_writes_junk_eq_canon, View.canon_cons_unit_lit']

/-- A tile inside a batch row leaves in its block of the gradient of `z`. -/
theorem out_B_21 (t : Fin cfg0.N) (h0 : ¬t.val % 16 = 0) (h1 : ¬t.val % 8 = 0) (p : Outs F) :
    (out_B m c t h0 h1 p).2.2.2.1 = k0_pay118 (v322 (rawAt m c t)) := by
  have e : (out_B m c t h0 h1 p).2.2.2.1 = VO0_21.read (Elt F) (VO0_21.writes (Elt F) VO0_21.junk ([⟨Rect.unit (s := S1x256x512) ![0, 0, 0] S1x256x512.size inb_S1x256x512_S1x256x512_0_0_0, k0_pay118 (v322 (rawAt m c t))⟩])) := by sl_kernel_rfl
  refine e.trans ?_
  simp (disch := decide) only [View.read_writes_junk_eq_canon, View.canon_cons_unit_lit']

/-- A tile inside a batch row leaves in its block of the gradient of the second scan's outputs. -/
theorem out_B_22 (t : Fin cfg0.N) (h0 : ¬t.val % 16 = 0) (h1 : ¬t.val % 8 = 0) (p : Outs F) :
    (out_B m c t h0 h1 p).2.2.2.2.1 = View.canon [⟨Rect.unit (s := S1x256x512) ![0, 0, 384] S1x256x128.size inb_S1x256x512_S1x256x128_0_0_384, k0_pay1 (v147 (rawAt m c t)) (v501 (rawAt m c t)) (v502 (rawAt m c t)) (v503 (rawAt m c t))⟩,
      ⟨Rect.unit (s := S1x256x512) ![0, 0, 256] S1x256x128.size inb_S1x256x512_S1x256x128_0_0_256, k0_pay143 (v118 (rawAt m c t)) (v126 (rawAt m c t)) (v129 (rawAt m c t)) (v459 (rawAt m c t)) (v461 (rawAt m c t))⟩,
      ⟨Rect.unit (s := S1x256x512) ![0, 0, 128] S1x256x128.size inb_S1x256x512_S1x256x128_0_0_128, k0_pay134 (rawAt m c t).v59 (v89 (rawAt m c t)) (v97 (rawAt m c t)) (v100 (rawAt m c t)) (v413 (rawAt m c t))⟩,
      ⟨Rect.unit (s := S1x256x512) ![0, 0, 0] S1x256x128.size inb_S1x256x512_S1x256x128_0_0_0, k0_pay127 (rawAt m c t).v59 (v60 (rawAt m c t)) (v68 (rawAt m c t)) (v71 (rawAt m c t)) (v376 (rawAt m c t))⟩] := by
  have e : (out_B m c t h0 h1 p).2.2.2.2.1 = VO0_22.read (Elt F) (VO0_22.writes (Elt F) VO0_22.junk ([⟨Rect.unit (s := S1x256x512) ![0, 0, 384] S1x256x128.size inb_S1x256x512_S1x256x128_0_0_384, k0_pay1 (v147 (rawAt m c t)) (v501 (rawAt m c t)) (v502 (rawAt m c t)) (v503 (rawAt m c t))⟩,
      ⟨Rect.unit (s := S1x256x512) ![0, 0, 256] S1x256x128.size inb_S1x256x512_S1x256x128_0_0_256, k0_pay143 (v118 (rawAt m c t)) (v126 (rawAt m c t)) (v129 (rawAt m c t)) (v459 (rawAt m c t)) (v461 (rawAt m c t))⟩,
      ⟨Rect.unit (s := S1x256x512) ![0, 0, 128] S1x256x128.size inb_S1x256x512_S1x256x128_0_0_128, k0_pay134 (rawAt m c t).v59 (v89 (rawAt m c t)) (v97 (rawAt m c t)) (v100 (rawAt m c t)) (v413 (rawAt m c t))⟩,
      ⟨Rect.unit (s := S1x256x512) ![0, 0, 0] S1x256x128.size inb_S1x256x512_S1x256x128_0_0_0, k0_pay127 (rawAt m c t).v59 (v60 (rawAt m c t)) (v68 (rawAt m c t)) (v71 (rawAt m c t)) (v376 (rawAt m c t))⟩])) := by sl_kernel_rfl
  refine e.trans ?_
  simp (disch := decide) only [View.read_writes_junk_eq_canon]

/-- A tile inside a batch row leaves in its block of the gradient of the heads' gate. -/
theorem out_B_23 (t : Fin cfg0.N) (h0 : ¬t.val % 16 = 0) (h1 : ¬t.val % 8 = 0) (p : Outs F) :
    (out_B m c t h0 h1 p).2.2.2.2.2.1 = View.canon [⟨Rect.unit (s := S1x256x512) ![0, 0, 384] S1x256x128.size inb_S1x256x512_S1x256x128_0_0_384, k0_pay2 (v491 (rawAt m c t))⟩,
      ⟨Rect.unit (s := S1x256x512) ![0, 0, 256] S1x256x128.size inb_S1x256x512_S1x256x128_0_0_256, k0_pay144 (v454 (rawAt m c t))⟩,
      ⟨Rect.unit (s := S1x256x512) ![0, 0, 128] S1x256x128.size inb_S1x256x512_S1x256x128_0_0_128, k0_pay135 (v417 (rawAt m c t))⟩,
      ⟨Rect.unit (s := S1x256x512) ![0, 0, 0] S1x256x128.size inb_S1x256x512_S1x256x128_0_0_0, k0_pay128 (v76 (rawAt m c t)) (v79 (rawAt m c t)) (v375 (rawAt m c t)) (v377 (rawAt m c t))⟩] := by
  have e : (out_B m c t h0 h1 p).2.2.2.2.2.1 = VO0_23.read (Elt F) (VO0_23.writes (Elt F) VO0_23.junk ([⟨Rect.unit (s := S1x256x512) ![0, 0, 384] S1x256x128.size inb_S1x256x512_S1x256x128_0_0_384, k0_pay2 (v491 (rawAt m c t))⟩,
      ⟨Rect.unit (s := S1x256x512) ![0, 0, 256] S1x256x128.size inb_S1x256x512_S1x256x128_0_0_256, k0_pay144 (v454 (rawAt m c t))⟩,
      ⟨Rect.unit (s := S1x256x512) ![0, 0, 128] S1x256x128.size inb_S1x256x512_S1x256x128_0_0_128, k0_pay135 (v417 (rawAt m c t))⟩,
      ⟨Rect.unit (s := S1x256x512) ![0, 0, 0] S1x256x128.size inb_S1x256x512_S1x256x128_0_0_0, k0_pay128 (v76 (rawAt m c t)) (v79 (rawAt m c t)) (v375 (rawAt m c t)) (v377 (rawAt m c t))⟩])) := by sl_kernel_rfl
  refine e.trans ?_
  simp (disch := decide) only [View.read_writes_junk_eq_canon]

/-- A tile inside a batch row leaves in its block of the gradient of the residual input. -/
theorem out_B_24 (t : Fin cfg0.N) (h0 : ¬t.val % 16 = 0) (h1 : ¬t.val % 8 = 0) (p : Outs F) :
    (out_B m c t h0 h1 p).2.2.2.2.2.2.1 = k0_pay101 (v277 (rawAt m c t)) := by
  have e : (out_B m c t h0 h1 p).2.2.2.2.2.2.1 = VO0_24.read (Elt F) (VO0_24.writes (Elt F) VO0_24.junk ([⟨Rect.unit (s := S1x256x1024) ![0, 0, 0] S1x256x1024.size inb_S1x256x1024_S1x256x1024_0_0_0, k0_pay101 (v277 (rawAt m c t))⟩])) := by sl_kernel_rfl
  refine e.trans ?_
  simp (disch := decide) only [View.read_writes_junk_eq_canon, View.canon_cons_unit_lit']

/-- A tile inside a batch row leaves in its block of the gradient of the projection's first rows. -/
theorem out_B_25 (t : Fin cfg0.N) (h0 : ¬t.val % 16 = 0) (h1 : ¬t.val % 8 = 0) (p : Outs F) :
    (out_B m c t h0 h1 p).2.2.2.2.2.2.2.1 = k0_pay102 (v169 (rawAt m c t)) (v272 (rawAt m c t)) p.2.2.2.2.2.2.2.1 := by
  have e : (out_B m c t h0 h1 p).2.2.2.2.2.2.2.1 = VO0_25.read (Elt F) (VO0_25.writes (Elt F) VO0_25.junk (⟨Rect.unit (s := S512x1024) ![0, 0] S512x1024.size inb_S512x1024_S512x1024_0_0, k0_pay102 (v169 (rawAt m c t)) (v272 (rawAt m c t)) (View.readAt (Elt F) (ms0_25 t).view (Rect.unit (s := S512x1024) ![0, 0] S512x1024.size inb_S512x1024_S512x1024_0_0).toLoadRect ((hs0_25 t).unread p.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the projection's last rows. -/
theorem out_B_26 (t : Fin cfg0.N) (h0 : ¬t.val % 16 = 0) (h1 : ¬t.val % 8 = 0) (p : Outs F) :
    (out_B m c t h0 h1 p).2.2.2.2.2.2.2.2.1 = k0_pay103 (v171 (rawAt m c t)) (v272 (rawAt m c t)) p.2.2.2.2.2.2.2.2.1 := by
  have e : (out_B m c t h0 h1 p).2.2.2.2.2.2.2.2.1 = VO0_26.read (Elt F) (VO0_26.writes (Elt F) VO0_26.junk (⟨Rect.unit (s := S512x1024) ![0, 0] S512x1024.size inb_S512x1024_S512x1024_0_0, k0_pay103 (v171 (rawAt m c t)) (v272 (rawAt m c t)) (View.readAt (Elt F) (ms0_26 t).view (Rect.unit (s := S512x1024) ![0, 0] S512x1024.size inb_S512x1024_S512x1024_0_0).toLoadRect ((hs0_26 t).unread p.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the residual's gate. -/
theorem out_B_27 (t : Fin cfg0.N) (h0 : ¬t.val % 16 = 0) (h1 : ¬t.val % 8 = 0) (p : Outs F) :
    (out_B m c t h0 h1 p).2.2.2.2.2.2.2.2.2.1 = k0_pay104 (v275 (rawAt m c t)) p.2.2.2.2.2.2.2.2.2.1 := by
  have e : (out_B m c t h0 h1 p).2.2.2.2.2.2.2.2.2.1 = VO0_27.read (Elt F) (VO0_27.writes (Elt F) VO0_27.junk (⟨Rect.unit (s := S1x1x1024) ![0, 0, 0] S1x1x1024.size inb_S1x1x1024_S1x1x1024_0_0_0, k0_pay104 (v275 (rawAt m c t)) (View.readAt (Elt F) (ms0_27 t).view (Rect.unit (s := S1x1x1024) ![0, 0, 0] S1x1x1024.size inb_S1x1x1024_S1x1x1024_0_0_0).toLoadRect ((hs0_27 t).unread p.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the layer norm's scale. -/
theorem out_B_28 (t : Fin cfg0.N) (h0 : ¬t.val % 16 = 0) (h1 : ¬t.val % 8 = 0) (p : Outs F) :
    (out_B m c t h0 h1 p).2.2.2.2.2.2.2.2.2.2.1 = k0_pay105 (v243 (rawAt m c t)) p.2.2.2.2.2.2.2.2.2.2.1 := by
  have e : (out_B m c t h0 h1 p).2.2.2.2.2.2.2.2.2.2.1 = VO0_28.read (Elt F) (VO0_28.writes (Elt F) VO0_28.junk (⟨Rect.unit (s := S1x1024) ![0, 0] S1x1024.size inb_S1x1024_S1x1024_0_0, k0_pay105 (v243 (rawAt m c t)) (View.readAt (Elt F) (ms0_28 t).view (Rect.unit (s := S1x1024) ![0, 0] S1x1024.size inb_S1x1024_S1x1024_0_0).toLoadRect ((hs0_28 t).unread p.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the layer norm's shift. -/
theorem out_B_29 (t : Fin cfg0.N) (h0 : ¬t.val % 16 = 0) (h1 : ¬t.val % 8 = 0) (p : Outs F) :
    (out_B m c t h0 h1 p).2.2.2.2.2.2.2.2.2.2.2.1 = k0_pay106 (v240 (rawAt m c t)) p.2.2.2.2.2.2.2.2.2.2.2.1 := by
  have e : (out_B m c t h0 h1 p).2.2.2.2.2.2.2.2.2.2.2.1 = VO0_29.read (Elt F) (VO0_29.writes (Elt F) VO0_29.junk (⟨Rect.unit (s := S1x1024) ![0, 0] S1x1024.size inb_S1x1024_S1x1024_0_0, k0_pay106 (v240 (rawAt m c t)) (View.readAt (Elt F) (ms0_29 t).view (Rect.unit (s := S1x1024) ![0, 0] S1x1024.size inb_S1x1024_S1x1024_0_0).toLoadRect ((hs0_29 t).unread p.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the skip. -/
theorem out_B_30 (t : Fin cfg0.N) (h0 : ¬t.val % 16 = 0) (h1 : ¬t.val % 8 = 0) (p : Outs F) :
    (out_B m c t h0 h1 p).2.2.2.2.2.2.2.2.2.2.2.2.1 = k0_pay119 (v347 (rawAt m c t)) p.2.2.2.2.2.2.2.2.2.2.2.2.1 := by
  have e : (out_B m c t h0 h1 p).2.2.2.2.2.2.2.2.2.2.2.2.1 = VO0_30.read (Elt F) (VO0_30.writes (Elt F) VO0_30.junk (⟨Rect.unit (s := S1x512) ![0, 0] S1x512.size inb_S1x512_S1x512_0_0, k0_pay119 (v347 (rawAt m c t)) (View.readAt (Elt F) (ms0_30 t).view (Rect.unit (s := S1x512) ![0, 0] S1x512.size inb_S1x512_S1x512_0_0).toLoadRect ((hs0_30 t).unread p.2.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the linear unit's weights. -/
theorem out_B_31 (t : Fin cfg0.N) (h0 : ¬t.val % 16 = 0) (h1 : ¬t.val % 8 = 0) (p : Outs F) :
    (out_B m c t h0 h1 p).2.2.2.2.2.2.2.2.2.2.2.2.2.1 = k0_pay120 (v333 (rawAt m c t)) p.2.2.2.2.2.2.2.2.2.2.2.2.2.1 := by
  have e : (out_B m c t h0 h1 p).2.2.2.2.2.2.2.2.2.2.2.2.2.1 = VO0_31.read (Elt F) (VO0_31.writes (Elt F) VO0_31.junk (⟨Rect.unit (s := S512x512) ![0, 0] S512x512.size inb_S512x512_S512x512_0_0, k0_pay120 (v333 (rawAt m c t)) (View.readAt (Elt F) (ms0_31 t).view (Rect.unit (s := S512x512) ![0, 0] S512x512.size inb_S512x512_S512x512_0_0).toLoadRect ((hs0_31 t).unread p.2.2.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the linear unit's bias. -/
theorem out_B_32 (t : Fin cfg0.N) (h0 : ¬t.val % 16 = 0) (h1 : ¬t.val % 8 = 0) (p : Outs F) :
    (out_B m c t h0 h1 p).2.2.2.2.2.2.2.2.2.2.2.2.2.2.1 = k0_pay121 (v327 (rawAt m c t)) p.2.2.2.2.2.2.2.2.2.2.2.2.2.2.1 := by
  have e : (out_B m c t h0 h1 p).2.2.2.2.2.2.2.2.2.2.2.2.2.2.1 = VO0_32.read (Elt F) (VO0_32.writes (Elt F) VO0_32.junk (⟨Rect.unit (s := S1x512) ![0, 0] S1x512.size inb_S1x512_S1x512_0_0, k0_pay121 (v327 (rawAt m c t)) (View.readAt (Elt F) (ms0_32 t).view (Rect.unit (s := S1x512) ![0, 0] S1x512.size inb_S1x512_S1x512_0_0).toLoadRect ((hs0_32 t).unread p.2.2.2.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- A tile inside a batch row leaves in its block of the gradient of the norm's weight. -/
theorem out_B_33 (t : Fin cfg0.N) (h0 : ¬t.val % 16 = 0) (h1 : ¬t.val % 8 = 0) (p : Outs F) :
    (out_B m c t h0 h1 p).2.2.2.2.2.2.2.2.2.2.2.2.2.2.2 = (k0_pay3 (v494 (rawAt m c t)) (k0_pay145 (v457 (rawAt m c t)) (k0_pay136 (v419 (rawAt m c t)) (k0_pay129 (v73 (rawAt m c t)) (v376 (rawAt m c t)) p.2.2.2.2.2.2.2.2.2.2.2.2.2.2.2)))) := by
  have e : (out_B m c t h0 h1 p).2.2.2.2.2.2.2.2.2.2.2.2.2.2.2 = VO0_33.read (Elt F) (VO0_33.writes (Elt F) VO0_33.junk (⟨Rect.unit (s := S1x128) ![0, 0] S1x128.size inb_S1x128_S1x128_0_0, k0_pay3 (v494 (rawAt m c t)) (View.readCov (ms0_33 t).view (⟨Rect.unit (s := S1x128) ![0, 0] S1x128.size inb_S1x128_S1x128_0_0, k0_pay145 (v457 (rawAt m c t)) (View.readCov (ms0_33 t).view (⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay145 (v457 (rawAt m c t)) (View.readCov (ms0_33 t).view (⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: [])) := by sl_kernel_rfl
  refine e.trans ?_
  simp (disch := decide) only [View.read_writes_junk_eq_canon, View.canon_cons_unit_lit', View.readCov_cons_unit_lit', View.readAt_eq_ld, Memref.IsWhole.read_unread, View.ld_unit_lit']

/-- The first tile of a later batch row leaves in its block of the loss. -/
theorem out_C_18 (t : Fin cfg0.N) (h0 : ¬t.val % 16 = 0) (h1 : t.val % 8 = 0) (p : Outs F) :
    (out_C m c t h0 h1 p).1 = k0_pay99 (v222 (rawAt m c t)) (k0_pay12 (F := F)) := by
  have e : (out_C m c t h0 h1 p).1 = VO0_18.read (Elt F) (VO0_18.writes (Elt F) VO0_18.junk (⟨Rect.unit (s := S1x8x128) ![0, 0, 0] S1x8x128.size inb_S1x8x128_S1x8x128_0_0_0, k0_pay99 (v222 (rawAt m c t)) (View.readCov (ms0_18 t).view [⟨Rect.unit (s := S1x8x128) ![0, 0, 0] S1x8x128.size inb_S1x8x128_S1x8x128_0_0_0, (k0_pay12 (F := F))⟩] (Rect.unit (s := S1x8x128) ![0, 0, 0] S1x8x128.size inb_S1x8x128_S1x8x128_0_0_0).toLoadRect)⟩ :: [⟨Rect.unit (s := S1x8x128) ![0, 0, 0] S1x8x128.size inb_S1x8x128_S1x8x128_0_0_0, (k0_pay12 (F := F))⟩])) := by sl_kernel_rfl
  refine e.trans ?_
  simp (disch := decide) only [View.read_writes_junk_eq_canon, View.canon_cons_unit_lit', View.readCov_cons_unit_lit']

/-- The first tile of a later batch row leaves in its block of the gradient of `u`. -/
theorem out_C_19 (t : Fin cfg0.N) (h0 : ¬t.val % 16 = 0) (h1 : t.val % 8 = 0) (p : Outs F) :
    (out_C m c t h0 h1 p).2.1 = k0_pay116 (v346 (rawAt m c t)) := by
  have e : (out_C m c t h0 h1 p).2.1 = VO0_19.read (Elt F) (VO0_19.writes (Elt F) VO0_19.junk ([⟨Rect.unit (s := S1x256x512) ![0, 0, 0] S1x256x512.size inb_S1x256x512_S1x256x512_0_0_0, k0_pay116 (v346 (rawAt m c t))⟩])) := by sl_kernel_rfl
  refine e.trans ?_
  simp (disch := decide) only [View.read_writes_junk_eq_canon, View.canon_cons_unit_lit']

/-- The first tile of a later batch row leaves in its block of the gradient of the first scan's outputs. -/
theorem out_C_20 (t : Fin cfg0.N) (h0 : ¬t.val % 16 = 0) (h1 : t.val % 8 = 0) (p : Outs F) :
    (out_C m c t h0 h1 p).2.2.1 = k0_pay117 (v344 (rawAt m c t)) := by
  have e : (out_C m c t h0 h1 p).2.2.1 = VO0_20.read (Elt F) (VO0_20.writes (Elt F) VO0_20.junk ([⟨Rect.unit (s := S1x256x512) ![0, 0, 0] S1x256x512.size inb_S1x256x512_S1x256x512_0_0_0, k0_pay117 (v344 (rawAt m c t))⟩])) := by sl_kernel_rfl
  refine e.trans ?_
  simp (disch := decide) only [View.read_writes_junk_eq_canon, View.canon_cons_unit_lit']

/-- The first tile of a later batch row leaves in its block of the gradient of `z`. -/
theorem out_C_21 (t : Fin cfg0.N) (h0 : ¬t.val % 16 = 0) (h1 : t.val % 8 = 0) (p : Outs F) :
    (out_C m c t h0 h1 p).2.2.2.1 = k0_pay118 (v322 (rawAt m c t)) := by
  have e : (out_C m c t h0 h1 p).2.2.2.1 = VO0_21.read (Elt F) (VO0_21.writes (Elt F) VO0_21.junk ([⟨Rect.unit (s := S1x256x512) ![0, 0, 0] S1x256x512.size inb_S1x256x512_S1x256x512_0_0_0, k0_pay118 (v322 (rawAt m c t))⟩])) := by sl_kernel_rfl
  refine e.trans ?_
  simp (disch := decide) only [View.read_writes_junk_eq_canon, View.canon_cons_unit_lit']

/-- The first tile of a later batch row leaves in its block of the gradient of the second scan's outputs. -/
theorem out_C_22 (t : Fin cfg0.N) (h0 : ¬t.val % 16 = 0) (h1 : t.val % 8 = 0) (p : Outs F) :
    (out_C m c t h0 h1 p).2.2.2.2.1 = View.canon [⟨Rect.unit (s := S1x256x512) ![0, 0, 384] S1x256x128.size inb_S1x256x512_S1x256x128_0_0_384, k0_pay1 (v147 (rawAt m c t)) (v501 (rawAt m c t)) (v502 (rawAt m c t)) (v503 (rawAt m c t))⟩,
      ⟨Rect.unit (s := S1x256x512) ![0, 0, 256] S1x256x128.size inb_S1x256x512_S1x256x128_0_0_256, k0_pay143 (v118 (rawAt m c t)) (v126 (rawAt m c t)) (v129 (rawAt m c t)) (v459 (rawAt m c t)) (v461 (rawAt m c t))⟩,
      ⟨Rect.unit (s := S1x256x512) ![0, 0, 128] S1x256x128.size inb_S1x256x512_S1x256x128_0_0_128, k0_pay134 (rawAt m c t).v59 (v89 (rawAt m c t)) (v97 (rawAt m c t)) (v100 (rawAt m c t)) (v413 (rawAt m c t))⟩,
      ⟨Rect.unit (s := S1x256x512) ![0, 0, 0] S1x256x128.size inb_S1x256x512_S1x256x128_0_0_0, k0_pay127 (rawAt m c t).v59 (v60 (rawAt m c t)) (v68 (rawAt m c t)) (v71 (rawAt m c t)) (v376 (rawAt m c t))⟩] := by
  have e : (out_C m c t h0 h1 p).2.2.2.2.1 = VO0_22.read (Elt F) (VO0_22.writes (Elt F) VO0_22.junk ([⟨Rect.unit (s := S1x256x512) ![0, 0, 384] S1x256x128.size inb_S1x256x512_S1x256x128_0_0_384, k0_pay1 (v147 (rawAt m c t)) (v501 (rawAt m c t)) (v502 (rawAt m c t)) (v503 (rawAt m c t))⟩,
      ⟨Rect.unit (s := S1x256x512) ![0, 0, 256] S1x256x128.size inb_S1x256x512_S1x256x128_0_0_256, k0_pay143 (v118 (rawAt m c t)) (v126 (rawAt m c t)) (v129 (rawAt m c t)) (v459 (rawAt m c t)) (v461 (rawAt m c t))⟩,
      ⟨Rect.unit (s := S1x256x512) ![0, 0, 128] S1x256x128.size inb_S1x256x512_S1x256x128_0_0_128, k0_pay134 (rawAt m c t).v59 (v89 (rawAt m c t)) (v97 (rawAt m c t)) (v100 (rawAt m c t)) (v413 (rawAt m c t))⟩,
      ⟨Rect.unit (s := S1x256x512) ![0, 0, 0] S1x256x128.size inb_S1x256x512_S1x256x128_0_0_0, k0_pay127 (rawAt m c t).v59 (v60 (rawAt m c t)) (v68 (rawAt m c t)) (v71 (rawAt m c t)) (v376 (rawAt m c t))⟩])) := by sl_kernel_rfl
  refine e.trans ?_
  simp (disch := decide) only [View.read_writes_junk_eq_canon]

/-- The first tile of a later batch row leaves in its block of the gradient of the heads' gate. -/
theorem out_C_23 (t : Fin cfg0.N) (h0 : ¬t.val % 16 = 0) (h1 : t.val % 8 = 0) (p : Outs F) :
    (out_C m c t h0 h1 p).2.2.2.2.2.1 = View.canon [⟨Rect.unit (s := S1x256x512) ![0, 0, 384] S1x256x128.size inb_S1x256x512_S1x256x128_0_0_384, k0_pay2 (v491 (rawAt m c t))⟩,
      ⟨Rect.unit (s := S1x256x512) ![0, 0, 256] S1x256x128.size inb_S1x256x512_S1x256x128_0_0_256, k0_pay144 (v454 (rawAt m c t))⟩,
      ⟨Rect.unit (s := S1x256x512) ![0, 0, 128] S1x256x128.size inb_S1x256x512_S1x256x128_0_0_128, k0_pay135 (v417 (rawAt m c t))⟩,
      ⟨Rect.unit (s := S1x256x512) ![0, 0, 0] S1x256x128.size inb_S1x256x512_S1x256x128_0_0_0, k0_pay128 (v76 (rawAt m c t)) (v79 (rawAt m c t)) (v375 (rawAt m c t)) (v377 (rawAt m c t))⟩] := by
  have e : (out_C m c t h0 h1 p).2.2.2.2.2.1 = VO0_23.read (Elt F) (VO0_23.writes (Elt F) VO0_23.junk ([⟨Rect.unit (s := S1x256x512) ![0, 0, 384] S1x256x128.size inb_S1x256x512_S1x256x128_0_0_384, k0_pay2 (v491 (rawAt m c t))⟩,
      ⟨Rect.unit (s := S1x256x512) ![0, 0, 256] S1x256x128.size inb_S1x256x512_S1x256x128_0_0_256, k0_pay144 (v454 (rawAt m c t))⟩,
      ⟨Rect.unit (s := S1x256x512) ![0, 0, 128] S1x256x128.size inb_S1x256x512_S1x256x128_0_0_128, k0_pay135 (v417 (rawAt m c t))⟩,
      ⟨Rect.unit (s := S1x256x512) ![0, 0, 0] S1x256x128.size inb_S1x256x512_S1x256x128_0_0_0, k0_pay128 (v76 (rawAt m c t)) (v79 (rawAt m c t)) (v375 (rawAt m c t)) (v377 (rawAt m c t))⟩])) := by sl_kernel_rfl
  refine e.trans ?_
  simp (disch := decide) only [View.read_writes_junk_eq_canon]

/-- The first tile of a later batch row leaves in its block of the gradient of the residual input. -/
theorem out_C_24 (t : Fin cfg0.N) (h0 : ¬t.val % 16 = 0) (h1 : t.val % 8 = 0) (p : Outs F) :
    (out_C m c t h0 h1 p).2.2.2.2.2.2.1 = k0_pay101 (v277 (rawAt m c t)) := by
  have e : (out_C m c t h0 h1 p).2.2.2.2.2.2.1 = VO0_24.read (Elt F) (VO0_24.writes (Elt F) VO0_24.junk ([⟨Rect.unit (s := S1x256x1024) ![0, 0, 0] S1x256x1024.size inb_S1x256x1024_S1x256x1024_0_0_0, k0_pay101 (v277 (rawAt m c t))⟩])) := by sl_kernel_rfl
  refine e.trans ?_
  simp (disch := decide) only [View.read_writes_junk_eq_canon, View.canon_cons_unit_lit']

/-- The first tile of a later batch row leaves in its block of the gradient of the projection's first rows. -/
theorem out_C_25 (t : Fin cfg0.N) (h0 : ¬t.val % 16 = 0) (h1 : t.val % 8 = 0) (p : Outs F) :
    (out_C m c t h0 h1 p).2.2.2.2.2.2.2.1 = k0_pay102 (v169 (rawAt m c t)) (v272 (rawAt m c t)) p.2.2.2.2.2.2.2.1 := by
  have e : (out_C m c t h0 h1 p).2.2.2.2.2.2.2.1 = VO0_25.read (Elt F) (VO0_25.writes (Elt F) VO0_25.junk (⟨Rect.unit (s := S512x1024) ![0, 0] S512x1024.size inb_S512x1024_S512x1024_0_0, k0_pay102 (v169 (rawAt m c t)) (v272 (rawAt m c t)) (View.readAt (Elt F) (ms0_25 t).view (Rect.unit (s := S512x1024) ![0, 0] S512x1024.size inb_S512x1024_S512x1024_0_0).toLoadRect ((hs0_25 t).unread p.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the projection's last rows. -/
theorem out_C_26 (t : Fin cfg0.N) (h0 : ¬t.val % 16 = 0) (h1 : t.val % 8 = 0) (p : Outs F) :
    (out_C m c t h0 h1 p).2.2.2.2.2.2.2.2.1 = k0_pay103 (v171 (rawAt m c t)) (v272 (rawAt m c t)) p.2.2.2.2.2.2.2.2.1 := by
  have e : (out_C m c t h0 h1 p).2.2.2.2.2.2.2.2.1 = VO0_26.read (Elt F) (VO0_26.writes (Elt F) VO0_26.junk (⟨Rect.unit (s := S512x1024) ![0, 0] S512x1024.size inb_S512x1024_S512x1024_0_0, k0_pay103 (v171 (rawAt m c t)) (v272 (rawAt m c t)) (View.readAt (Elt F) (ms0_26 t).view (Rect.unit (s := S512x1024) ![0, 0] S512x1024.size inb_S512x1024_S512x1024_0_0).toLoadRect ((hs0_26 t).unread p.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the residual's gate. -/
theorem out_C_27 (t : Fin cfg0.N) (h0 : ¬t.val % 16 = 0) (h1 : t.val % 8 = 0) (p : Outs F) :
    (out_C m c t h0 h1 p).2.2.2.2.2.2.2.2.2.1 = k0_pay104 (v275 (rawAt m c t)) (k0_pay13 (F := F)) := by
  have e : (out_C m c t h0 h1 p).2.2.2.2.2.2.2.2.2.1 = VO0_27.read (Elt F) (VO0_27.writes (Elt F) VO0_27.junk (⟨Rect.unit (s := S1x1x1024) ![0, 0, 0] S1x1x1024.size inb_S1x1x1024_S1x1x1024_0_0_0, k0_pay104 (v275 (rawAt m c t)) (View.readCov (ms0_27 t).view [⟨Rect.unit (s := S1x1x1024) ![0, 0, 0] S1x1x1024.size inb_S1x1x1024_S1x1x1024_0_0_0, (k0_pay13 (F := F))⟩] (Rect.unit (s := S1x1x1024) ![0, 0, 0] S1x1x1024.size inb_S1x1x1024_S1x1x1024_0_0_0).toLoadRect)⟩ :: [⟨Rect.unit (s := S1x1x1024) ![0, 0, 0] S1x1x1024.size inb_S1x1x1024_S1x1x1024_0_0_0, (k0_pay13 (F := F))⟩])) := by sl_kernel_rfl
  refine e.trans ?_
  simp (disch := decide) only [View.read_writes_junk_eq_canon, View.canon_cons_unit_lit', View.readCov_cons_unit_lit']

/-- The first tile of a later batch row leaves in its block of the gradient of the layer norm's scale. -/
theorem out_C_28 (t : Fin cfg0.N) (h0 : ¬t.val % 16 = 0) (h1 : t.val % 8 = 0) (p : Outs F) :
    (out_C m c t h0 h1 p).2.2.2.2.2.2.2.2.2.2.1 = k0_pay105 (v243 (rawAt m c t)) p.2.2.2.2.2.2.2.2.2.2.1 := by
  have e : (out_C m c t h0 h1 p).2.2.2.2.2.2.2.2.2.2.1 = VO0_28.read (Elt F) (VO0_28.writes (Elt F) VO0_28.junk (⟨Rect.unit (s := S1x1024) ![0, 0] S1x1024.size inb_S1x1024_S1x1024_0_0, k0_pay105 (v243 (rawAt m c t)) (View.readAt (Elt F) (ms0_28 t).view (Rect.unit (s := S1x1024) ![0, 0] S1x1024.size inb_S1x1024_S1x1024_0_0).toLoadRect ((hs0_28 t).unread p.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the layer norm's shift. -/
theorem out_C_29 (t : Fin cfg0.N) (h0 : ¬t.val % 16 = 0) (h1 : t.val % 8 = 0) (p : Outs F) :
    (out_C m c t h0 h1 p).2.2.2.2.2.2.2.2.2.2.2.1 = k0_pay106 (v240 (rawAt m c t)) p.2.2.2.2.2.2.2.2.2.2.2.1 := by
  have e : (out_C m c t h0 h1 p).2.2.2.2.2.2.2.2.2.2.2.1 = VO0_29.read (Elt F) (VO0_29.writes (Elt F) VO0_29.junk (⟨Rect.unit (s := S1x1024) ![0, 0] S1x1024.size inb_S1x1024_S1x1024_0_0, k0_pay106 (v240 (rawAt m c t)) (View.readAt (Elt F) (ms0_29 t).view (Rect.unit (s := S1x1024) ![0, 0] S1x1024.size inb_S1x1024_S1x1024_0_0).toLoadRect ((hs0_29 t).unread p.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the skip. -/
theorem out_C_30 (t : Fin cfg0.N) (h0 : ¬t.val % 16 = 0) (h1 : t.val % 8 = 0) (p : Outs F) :
    (out_C m c t h0 h1 p).2.2.2.2.2.2.2.2.2.2.2.2.1 = k0_pay119 (v347 (rawAt m c t)) p.2.2.2.2.2.2.2.2.2.2.2.2.1 := by
  have e : (out_C m c t h0 h1 p).2.2.2.2.2.2.2.2.2.2.2.2.1 = VO0_30.read (Elt F) (VO0_30.writes (Elt F) VO0_30.junk (⟨Rect.unit (s := S1x512) ![0, 0] S1x512.size inb_S1x512_S1x512_0_0, k0_pay119 (v347 (rawAt m c t)) (View.readAt (Elt F) (ms0_30 t).view (Rect.unit (s := S1x512) ![0, 0] S1x512.size inb_S1x512_S1x512_0_0).toLoadRect ((hs0_30 t).unread p.2.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the linear unit's weights. -/
theorem out_C_31 (t : Fin cfg0.N) (h0 : ¬t.val % 16 = 0) (h1 : t.val % 8 = 0) (p : Outs F) :
    (out_C m c t h0 h1 p).2.2.2.2.2.2.2.2.2.2.2.2.2.1 = k0_pay120 (v333 (rawAt m c t)) p.2.2.2.2.2.2.2.2.2.2.2.2.2.1 := by
  have e : (out_C m c t h0 h1 p).2.2.2.2.2.2.2.2.2.2.2.2.2.1 = VO0_31.read (Elt F) (VO0_31.writes (Elt F) VO0_31.junk (⟨Rect.unit (s := S512x512) ![0, 0] S512x512.size inb_S512x512_S512x512_0_0, k0_pay120 (v333 (rawAt m c t)) (View.readAt (Elt F) (ms0_31 t).view (Rect.unit (s := S512x512) ![0, 0] S512x512.size inb_S512x512_S512x512_0_0).toLoadRect ((hs0_31 t).unread p.2.2.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the linear unit's bias. -/
theorem out_C_32 (t : Fin cfg0.N) (h0 : ¬t.val % 16 = 0) (h1 : t.val % 8 = 0) (p : Outs F) :
    (out_C m c t h0 h1 p).2.2.2.2.2.2.2.2.2.2.2.2.2.2.1 = k0_pay121 (v327 (rawAt m c t)) p.2.2.2.2.2.2.2.2.2.2.2.2.2.2.1 := by
  have e : (out_C m c t h0 h1 p).2.2.2.2.2.2.2.2.2.2.2.2.2.2.1 = VO0_32.read (Elt F) (VO0_32.writes (Elt F) VO0_32.junk (⟨Rect.unit (s := S1x512) ![0, 0] S1x512.size inb_S1x512_S1x512_0_0, k0_pay121 (v327 (rawAt m c t)) (View.readAt (Elt F) (ms0_32 t).view (Rect.unit (s := S1x512) ![0, 0] S1x512.size inb_S1x512_S1x512_0_0).toLoadRect ((hs0_32 t).unread p.2.2.2.2.2.2.2.2.2.2.2.2.2.2.1))⟩ :: [])) := by sl_kernel_rfl
  refine e.trans ?_
  simp (disch := decide) only [View.read_writes_junk_eq_canon, View.canon_cons_unit_lit', View.readAt_eq_ld, Memref.IsWhole.read_unread, View.ld_unit_lit']

/-- The first tile of a later batch row leaves in its block of the gradient of the norm's weight. -/
theorem out_C_33 (t : Fin cfg0.N) (h0 : ¬t.val % 16 = 0) (h1 : t.val % 8 = 0) (p : Outs F) :
    (out_C m c t h0 h1 p).2.2.2.2.2.2.2.2.2.2.2.2.2.2.2 = (k0_pay3 (v494 (rawAt m c t)) (k0_pay145 (v457 (rawAt m c t)) (k0_pay136 (v419 (rawAt m c t)) (k0_pay129 (v73 (rawAt m c t)) (v376 (rawAt m c t)) p.2.2.2.2.2.2.2.2.2.2.2.2.2.2.2)))) := by
  have e : (out_C m c t h0 h1 p).2.2.2.2.2.2.2.2.2.2.2.2.2.2.2 = VO0_33.read (Elt F) (VO0_33.writes (Elt F) VO0_33.junk (⟨Rect.unit (s := S1x128) ![0, 0] S1x128.size inb_S1x128_S1x128_0_0, k0_pay3 (v494 (rawAt m c t)) (View.readCov (ms0_33 t).view (⟨Rect.unit (s := S1x128) ![0, 0] S1x128.size inb_S1x128_S1x128_0_0, k0_pay145 (v457 (rawAt m c t)) (View.readCov (ms0_33 t).view (⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay145 (v457 (rawAt m c t)) (View.readCov (ms0_33 t).view (⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay136 (v419 (rawAt m c t)) (View.readCov (ms0_33 t).view (⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: []) (Rect.unit (s := S1x128) ![0, 0] S1x128.size inb_S1x128_S1x128_0_0).toLoadRect)⟩ :: ⟨Rect.unit (s := S1x128) ![0, 0] S1x128.size inb_S1x128_S1x128_0_0, k0_pay129 (v73 (rawAt m c t)) (v376 (rawAt m c t)) (View.readAt (Elt F) (ms0_33 t).view (Rect.unit (s := S1x128) ![0, 0] S1x128.size inb_S1x128_S1x128_0_0).toLoadRect ((hs0_33 t).unread p.2.2.2.2.2.2.2.2.2.2.2.2.2.2.2))⟩ :: [])) := by sl_kernel_rfl
  refine e.trans ?_
  simp (disch := decide) only [View.read_writes_junk_eq_canon, View.canon_cons_unit_lit', View.readCov_cons_unit_lit', View.readAt_eq_ld, Memref.IsWhole.read_unread, View.ld_unit_lit']

end Cert.Tail

end
-- ==== Proof.TailFinA.lean ====
/- The tail's output arrays, tile by tile and batch row by batch row.  Hand-written, untrusted. -/
module

public import proofs.«01_k».proof.Proof.TailTok
public import proofs.«01_k».proof.Proof.TailOuts

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen
open Idealize.ShloMosaic.Pipeline (Dat)

variable (m : (ℓ : Loc nD τ sig) → Buf (Elt Ideal) ℓ) (c : Dev nD)

/-- The gradient of `u`. -/
theorem final_19 : (dats m 0 c).arrAt 19 (cfgs 0).N = F_du (ktok m c) := by
  refine (dats m 0 c).arrAt_eq_of_covers 19 _ (by decide +kernel) fun t hf y => ?_
  blk_simp
  idx_vars y
  have e : (win0_19.blk t).view.emb (ix3 y0 y1 y2) = ix3 (rowB t) (rowL t y1) y2 := by
    blk_ext [idx_out t, rowB, rowL]
  rw [after0_19, e]
  refine Eq.trans ?_ (congrArg (fun i : In => i.du y2) (tok_eq m c t y1))
  by_cases h0 : t.val % 16 = 0
  · rw [outsAt_A m c t h0 (by omega), out_A_19, p116_at]
  · by_cases h1 : t.val % 8 = 0
    · rw [outsAt_C m c t h0 h1, out_C_19, p116_at]
    · rw [outsAt_B m c t h0 h1, out_B_19, p116_at]

/-- The gradient of the first scan's outputs. -/
theorem final_20 : (dats m 0 c).arrAt 20 (cfgs 0).N = F_dys (ktok m c) := by
  refine (dats m 0 c).arrAt_eq_of_covers 20 _ (by decide +kernel) fun t hf y => ?_
  blk_simp
  idx_vars y
  have e : (win0_20.blk t).view.emb (ix3 y0 y1 y2) = ix3 (rowB t) (rowL t y1) y2 := by
    blk_ext [idx_out t, rowB, rowL]
  rw [after0_20, e]
  refine Eq.trans ?_ (congrArg (fun i : In => i.dys y2) (tok_eq m c t y1))
  by_cases h0 : t.val % 16 = 0
  · rw [outsAt_A m c t h0 (by omega), out_A_20, p117_at]
  · by_cases h1 : t.val % 8 = 0
    · rw [outsAt_C m c t h0 h1, out_C_20, p117_at]
    · rw [outsAt_B m c t h0 h1, out_B_20, p117_at]

/-- The gradient of `z`. -/
theorem final_21 : (dats m 0 c).arrAt 21 (cfgs 0).N = F_dz (ktok m c) := by
  refine (dats m 0 c).arrAt_eq_of_covers 21 _ (by decide +kernel) fun t hf y => ?_
  blk_simp
  idx_vars y
  have e : (win0_21.blk t).view.emb (ix3 y0 y1 y2) = ix3 (rowB t) (rowL t y1) y2 := by
    blk_ext [idx_out t, rowB, rowL]
  rw [after0_21, e]
  refine Eq.trans ?_ (congrArg (fun i : In => i.dz y2) (tok_eq m c t y1))
  by_cases h0 : t.val % 16 = 0
  · rw [outsAt_A m c t h0 (by omega), out_A_21, p118_at]
  · by_cases h1 : t.val % 8 = 0
    · rw [outsAt_C m c t h0 h1, out_C_21, p118_at]
    · rw [outsAt_B m c t h0 h1, out_B_21, p118_at]

/-- The gradient of the second scan's outputs. -/
theorem final_22 : (dats m 0 c).arrAt 22 (cfgs 0).N = F_do (ktok m c) := by
  refine (dats m 0 c).arrAt_eq_of_covers 22 _ (by decide +kernel) fun t hf y => ?_
  blk_simp
  idx_vars y
  have e : (win0_22.blk t).view.emb (ix3 y0 y1 y2) = ix3 (rowB t) (rowL t y1) y2 := by
    blk_ext [idx_out t, rowB, rowL]
  rw [after0_22, e]
  refine Eq.trans ?_ (congrArg (fun i : In => i.dO _ _) (tok_eq m c t y1))
  by_cases h0 : t.val % 16 = 0
  · rw [outsAt_A m c t h0 (by omega), out_A_22, canon_do]; rfl
  · by_cases h1 : t.val % 8 = 0
    · rw [outsAt_C m c t h0 h1, out_C_22, canon_do]; rfl
    · rw [outsAt_B m c t h0 h1, out_B_22, canon_do]; rfl

/-- The gradient of the heads' gate. -/
theorem final_23 : (dats m 0 c).arrAt 23 (cfgs 0).N = F_dzg (ktok m c) := by
  refine (dats m 0 c).arrAt_eq_of_covers 23 _ (by decide +kernel) fun t hf y => ?_
  blk_simp
  idx_vars y
  have e : (win0_23.blk t).view.emb (ix3 y0 y1 y2) = ix3 (rowB t) (rowL t y1) y2 := by
    blk_ext [idx_out t, rowB, rowL]
  rw [after0_23, e]
  refine Eq.trans ?_ (congrArg (fun i : In => i.dzg _ _) (tok_eq m c t y1))
  by_cases h0 : t.val % 16 = 0
  · rw [outsAt_A m c t h0 (by omega), out_A_23, canon_dzg]; rfl
  · by_cases h1 : t.val % 8 = 0
    · rw [outsAt_C m c t h0 h1, out_C_23, canon_dzg]; rfl
    · rw [outsAt_B m c t h0 h1, out_B_23, canon_dzg]; rfl

/-- The gradient of the residual input. -/
theorem final_24 : (dats m 0 c).arrAt 24 (cfgs 0).N = F_gx (ktok m c) := by
  refine (dats m 0 c).arrAt_eq_of_covers 24 _ (by decide +kernel) fun t hf y => ?_
  blk_simp
  idx_vars y
  have e : (win0_24.blk t).view.emb (ix3 y0 y1 y2) = ix3 (rowB t) (rowL t y1) y2 := by
    blk_ext [idx_out t, rowB, rowL]
  rw [after0_24, e]
  refine Eq.trans ?_ (congrArg (fun i : In => i.gx y2) (tok_eq m c t y1))
  by_cases h0 : t.val % 16 = 0
  · rw [outsAt_A m c t h0 (by omega), out_A_24, p101_at]
  · by_cases h1 : t.val % 8 = 0
    · rw [outsAt_C m c t h0 h1, out_C_24, p101_at]
    · rw [outsAt_B m c t h0 h1, out_B_24, p101_at]

/-- The loss. -/
theorem final_18 : (dats m 0 c).arrAt 18 (cfgs 0).N = F_loss (ktok m c) := by
  refine (dats m 0 c).arrAt_eq_of_covers 18 _ (by decide +kernel) fun t hf y => ?_
  blk_simp
  rw [after0_18, Pipeline.eq_sum_fin_of_reset_step_apply_of_flush (fun n h => (outsAt m c n h).1) 8 (fun _ => 0)
    (fun t j => In.c 0x3A000000#32 * ∑ r : Fin 256, (ktok m c (rowB t) (rowL t r)).sq)
    (fun t h j => by
      by_cases h0 : t.val % 16 = 0
      on_goal 1 => rw [outsAt_A m c t h0 h, out_A_18]
      on_goal 2 => rw [outsAt_C m c t h0 h, out_C_18]
      all_goals
        idx_vars j
        obtain rfl : j0 = 0 := Subsingleton.elim _ _
        rw [p99_at]
        simp only [tok_eq]
        refine Ideal.add_congr (by pointwise [k0_pay12]) rfl
        )
    (fun t h j => by
        rw [outsAt_B m c t (by omega) h, out_B_18]
        idx_vars j
        obtain rfl : j0 = 0 := Subsingleton.elim _ _
        rw [p99_at]
        simp only [tok_eq]
        )
    t ((flush0_18 t).mp hf) _, zero_add]
  idx_vars y
  have ht : t.val < 16 := t.isLt
  have e : (win0_18.blk t).view.emb (ix3 y0 y1 y2) = (ix3 (rowB t) y1 y2 : S2x8x128.Idx) := by
    blk_ext [idx_out t, rowB]
  have eB : ∀ s : Fin 8, ∀ h, rowB ⟨8 * (t.val / 8) + s.val, h⟩ = rowB t := fun s h => Fin.ext (by show (8 * (t.val / 8) + s.val) / 8 = t.val / 8; omega)
  have eL : ∀ (s : Fin 8) (r : Fin 256) (h h'), rowL ⟨8 * (t.val / 8) + s.val, h⟩ r = ⟨s.val * 256 + r.val, h'⟩ :=
    fun s r h h' => Fin.ext (by show (8 * (t.val / 8) + s.val) % 8 * 256 + r.val = s.val * 256 + r.val; omega)
  rw [e]
  refine Eq.trans ?_ (loss_sum fun l => (ktok m c (rowB t) l).sq).symm
  refine Fin.sum_fin_congr fun s => Ideal.mul_congr rfl (Fin.sum_fin_congr fun r => ?_)
  rw [eB, eL s r]

/-- The gradient of the residual's gate. -/
theorem final_27 : (dats m 0 c).arrAt 27 (cfgs 0).N = F_dgate (ktok m c) := by
  refine (dats m 0 c).arrAt_eq_of_covers 27 _ (by decide +kernel) fun t hf y => ?_
  blk_simp
  rw [after0_27, Pipeline.eq_sum_fin_of_reset_step_apply_of_flush (fun n h => (outsAt m c n h).2.2.2.2.2.2.2.2.2.1) 8 (fun _ => 0)
    (fun t j => ∑ r : Fin 256, (ktok m c (rowB t) (rowL t r)).dr (j 2) * (ktok m c (rowB t) (rowL t r)).y (j 2))
    (fun t h j => by
      by_cases h0 : t.val % 16 = 0
      on_goal 1 => rw [outsAt_A m c t h0 h, out_A_27]
      on_goal 2 => rw [outsAt_C m c t h0 h, out_C_27]
      all_goals
        idx_vars j
        obtain rfl : j0 = 0 := Subsingleton.elim _ _
        obtain rfl : j1 = 0 := Subsingleton.elim _ _
        rw [p104_at]
        simp only [tok_eq]
        refine Ideal.add_congr (by pointwise [k0_pay13]) rfl
        )
    (fun t h j => by
        rw [outsAt_B m c t (by omega) h, out_B_27]
        idx_vars j
        obtain rfl : j0 = 0 := Subsingleton.elim _ _
        obtain rfl : j1 = 0 := Subsingleton.elim _ _
        rw [p104_at]
        simp only [tok_eq]
        )
    t ((flush0_27 t).mp hf) _, zero_add]
  idx_vars y
  have ht : t.val < 16 := t.isLt
  have e : (win0_27.blk t).view.emb (ix3 y0 y1 y2) = (ix3 (rowB t) y1 y2 : S2x1x1024.Idx) := by
    blk_ext [idx_acc t, rowB]
  have eB : ∀ s : Fin 8, ∀ h, rowB ⟨8 * (t.val / 8) + s.val, h⟩ = rowB t := fun s h => Fin.ext (by show (8 * (t.val / 8) + s.val) / 8 = t.val / 8; omega)
  have eL : ∀ (s : Fin 8) (r : Fin 256) (h h'), rowL ⟨8 * (t.val / 8) + s.val, h⟩ r = ⟨s.val * 256 + r.val, h'⟩ :=
    fun s r h h' => Fin.ext (by show (8 * (t.val / 8) + s.val) % 8 * 256 + r.val = s.val * 256 + r.val; omega)
  rw [e]
  refine Fin.sum_mul_add_congr fun s r hl => ?_
  rw [eB, eL s r _ hl]; rfl

end Cert.Tail

end
-- ==== Proof.TailFinB.lean ====
/- The tail's output arrays that add up all tiles.  Hand-written, untrusted. -/
module

public import proofs.«01_k».proof.Proof.TailTok
public import proofs.«01_k».proof.Proof.TailOuts

@[expose] public section

set_option maxRecDepth 16384

noncomputable section

open Idealize.ShloMosaic Idealize.ShloMosaic.TcCoe Idealize.SL.Sem
open scoped BigOperators

namespace Cert.Tail

open Cert.Kernel4Ideal Cert.Kernel4Ideal.Gen
open Idealize.ShloMosaic.Pipeline (Dat)

variable (m : (ℓ : Loc nD τ sig) → Buf (Elt Ideal) ℓ) (c : Dev nD)

/-- The gradient of the projection's first rows. -/
theorem final_25 : (dats m 0 c).arrAt 25 (cfgs 0).N = F_dws (ktok m c) := by
  refine (dats m 0 c).arrAt_eq_of_after_last 25 t0_15 (by decide +kernel) _ fun j => ?_
  blk_simp
  rw [after0_25, Pipeline.eq_sum_fin_of_reset_step_apply_last (fun n h => (outsAt m c n h).2.2.2.2.2.2.2.1) 16 (fun _ => 0)
    (fun t j => ∑ r : Fin 256, (ktok m c (rowB t) (rowL t r)).s5 (j 0) * (ktok m c (rowB t) (rowL t r)).dy (j 1))
    (fun t h j => by
        rw [outsAt_A m c t h (by omega), out_A_25]
        idx_vars j
        rw [p102_at]
        simp only [tok_eq]
        refine Ideal.add_congr (by pointwise [k0_pay4]) rfl
        )
    (fun t h j => by
      by_cases hq : t.val % 8 = 0
      on_goal 1 => rw [outsAt_C m c t h hq, out_C_25]
      on_goal 2 => rw [outsAt_B m c t h hq, out_B_25]
      all_goals
        idx_vars j
        rw [p102_at]
        simp only [tok_eq]
        )
    (le_of_eq N_0) t0_15 rfl j, zero_add]
  idx_vars j
  exact Fin.sum_points_lanes_congr 8 fun t k ha hl => rfl

/-- The gradient of the projection's last rows. -/
theorem final_26 : (dats m 0 c).arrAt 26 (cfgs 0).N = F_dwg (ktok m c) := by
  refine (dats m 0 c).arrAt_eq_of_after_last 26 t0_15 (by decide +kernel) _ fun j => ?_
  blk_simp
  rw [after0_26, Pipeline.eq_sum_fin_of_reset_step_apply_last (fun n h => (outsAt m c n h).2.2.2.2.2.2.2.2.1) 16 (fun _ => 0)
    (fun t j => ∑ r : Fin 256, (ktok m c (rowB t) (rowL t r)).gnk (j 0) * (ktok m c (rowB t) (rowL t r)).dy (j 1))
    (fun t h j => by
        rw [outsAt_A m c t h (by omega), out_A_26]
        idx_vars j
        rw [p103_at]
        simp only [tok_eq]
        refine Ideal.add_congr (by pointwise [k0_pay5]) rfl
        )
    (fun t h j => by
      by_cases hq : t.val % 8 = 0
      on_goal 1 => rw [outsAt_C m c t h hq, out_C_26]
      on_goal 2 => rw [outsAt_B m c t h hq, out_B_26]
      all_goals
        idx_vars j
        rw [p103_at]
        simp only [tok_eq]
        )
    (le_of_eq N_0) t0_15 rfl j, zero_add]
  idx_vars j
  exact Fin.sum_points_lanes_congr 8 fun t k ha hl => rfl

/-- The gradient of the layer norm's scale. -/
theorem final_28 : (dats m 0 c).arrAt 28 (cfgs 0).N = F_dlng (ktok m c) := by
  refine (dats m 0 c).arrAt_eq_of_after_last 28 t0_15 (by decide +kernel) _ fun j => ?_
  blk_simp
  rw [after0_28, Pipeline.eq_sum_fin_of_reset_step_apply_last (fun n h => (outsAt m c n h).2.2.2.2.2.2.2.2.2.2.1) 16 (fun _ => 0)
    (fun t j => ∑ r : Fin 256, (ktok m c (rowB t) (rowL t r)).ln (j 1) * (ktok m c (rowB t) (rowL t r)).dl (j 1))
    (fun t h j => by
        rw [outsAt_A m c t h (by omega), out_A_28]
        idx_vars j
        obtain rfl : j0 = 0 := Subsingleton.elim _ _
        rw [p105_at]
        simp only [tok_eq]
        refine Ideal.add_congr (by pointwise [k0_pay6]) rfl
        )
    (fun t h j => by
      by_cases hq : t.val % 8 = 0
      on_goal 1 => rw [outsAt_C m c t h hq, out_C_28]
      on_goal 2 => rw [outsAt_B m c t h hq, out_B_28]
      all_goals
        idx_vars j
        obtain rfl : j0 = 0 := Subsingleton.elim _ _
        rw [p105_at]
        simp only [tok_eq]
        )
    (le_of_eq N_0) t0_15 rfl j, zero_add]
  idx_vars j
  exact Fin.sum_points_lanes_congr 8 fun t k ha hl => rfl

/-- The gradient of the layer norm's shift. -/
theorem final_29 : (dats m 0 c).arrAt 29 (cfgs 0).N = F_dlnb (ktok m c) := by
  refine (dats m 0 c).arrAt_eq_of_after_last 29 t0_15 (by decide +kernel) _ fun j => ?_
  blk_simp
  rw [after0_29, Pipeline.eq_sum_fin_of_reset_step_apply_last (fun n h => (outsAt m c n h).2.2.2.2.2.2.2.2.2.2.2.1) 16 (fun _ => 0)
    (fun t j => ∑ r : Fin 256, (ktok m c (rowB t) (rowL t r)).dl (j 1))
    (fun t h j => by
        rw [outsAt_A m c t h (by omega), out_A_29]
        idx_vars j
        obtain rfl : j0 = 0 := Subsingleton.elim _ _
        rw [p106_at]
        simp only [tok_eq]
        refine Ideal.add_congr (by pointwise [k0_pay7]) rfl
        )
    (fun t h j => by
      by_cases hq : t.val % 8 = 0
      on_goal 1 => rw [outsAt_C m c t h hq, out_C_29]
      on_goal 2 => rw [outsAt_B m c t h hq, out_B_29]
      all_goals
        idx_vars j
        obtain rfl : j0 = 0 := Subsingleton.elim _ _
        rw [p106_at]
        simp only [tok_eq]
        )
    (le_of_eq N_0) t0_15 rfl j, zero_add]
  idx_vars j
  exact Fin.sum_points_lanes_congr 8 fun t k ha hl => rfl

/-- The gradient of the skip. -/
theorem final_30 : (dats m 0 c).arrAt 30 (cfgs 0).N = F_ddsk (ktok m c) := by
  refine (dats m 0 c).arrAt_eq_of_after_last 30 t0_15 (by decide +kernel) _ fun j => ?_
  blk_simp
  rw [after0_30, Pipeline.eq_sum_fin_of_reset_step_apply_last (fun n h => (outsAt m c n h).2.2.2.2.2.2.2.2.2.2.2.2.1) 16 (fun _ => 0)
    (fun t j => ∑ r : Fin 256, (ktok m c (rowB t) (rowL t r)).dys (j 1) * (ktok m c (rowB t) (rowL t r)).u (j 1))
    (fun t h j => by
        rw [outsAt_A m c t h (by omega), out_A_30]
        idx_vars j
        obtain rfl : j0 = 0 := Subsingleton.elim _ _
        rw [p119_at]
        simp only [tok_eq]
        refine Ideal.add_congr (by pointwise [k0_pay8]) rfl
        )
    (fun t h j => by
      by_cases hq : t.val % 8 = 0
      on_goal 1 => rw [outsAt_C m c t h hq, out_C_30]
      on_goal 2 => rw [outsAt_B m c t h hq, out_B_30]
      all_goals
        idx_vars j
        obtain rfl : j0 = 0 := Subsingleton.elim _ _
        rw [p119_at]
        simp only [tok_eq]
        )
    (le_of_eq N_0) t0_15 rfl j, zero_add]
  idx_vars j
  exact Fin.sum_points_lanes_congr 8 fun t k ha hl => rfl

/-- The gradient of the linear unit's weights. -/
theorem final_31 : (dats m 0 c).arrAt 31 (cfgs 0).N = F_dwglu (ktok m c) := by
  refine (dats m 0 c).arrAt_eq_of_after_last 31 t0_15 (by decide +kernel) _ fun j => ?_
  blk_simp
  rw [after0_31, Pipeline.eq_sum_fin_of_reset_step_apply_last (fun n h => (outsAt m c n h).2.2.2.2.2.2.2.2.2.2.2.2.2.1) 16 (fun _ => 0)
    (fun t j => ∑ r : Fin 256, (ktok m c (rowB t) (rowL t r)).g (j 0) * (ktok m c (rowB t) (rowL t r)).dp (j 1))
    (fun t h j => by
        rw [outsAt_A m c t h (by omega), out_A_31]
        idx_vars j
        rw [p120_at]
        simp only [tok_eq]
        refine Ideal.add_congr (by pointwise [k0_pay9]) rfl
        )
    (fun t h j => by
      by_cases hq : t.val % 8 = 0
      on_goal 1 => rw [outsAt_C m c t h hq, out_C_31]
      on_goal 2 => rw [outsAt_B m c t h hq, out_B_31]
      all_goals
        idx_vars j
        rw [p120_at]
        simp only [tok_eq]
        )
    (le_of_eq N_0) t0_15 rfl j, zero_add]
  idx_vars j
  exact Fin.sum_points_lanes_congr 8 fun t k ha hl => rfl

/-- The gradient of the linear unit's bias. -/
theorem final_32 : (dats m 0 c).arrAt 32 (cfgs 0).N = F_dbglu (ktok m c) := by
  refine (dats m 0 c).arrAt_eq_of_after_last 32 t0_15 (by decide +kernel) _ fun j => ?_
  blk_simp
  rw [after0_32, Pipeline.eq_sum_fin_of_reset_step_apply_last (fun n h => (outsAt m c n h).2.2.2.2.2.2.2.2.2.2.2.2.2.2.1) 16 (fun _ => 0)
    (fun t j => ∑ r : Fin 256, (ktok m c (rowB t) (rowL t r)).dp (j 1))
    (fun t h j => by
        rw [outsAt_A m c t h (by omega), out_A_32]
        idx_vars j
        obtain rfl : j0 = 0 := Subsingleton.elim _ _
        rw [p121_at]
        simp only [tok_eq]
        refine Ideal.add_congr (by pointwise [k0_pay10]) rfl
        )
    (fun t h j => by
      by_cases hq : t.val % 8 = 0
      on_goal 1 => rw [outsAt_C m c t h hq, out_C_32]
      on_goal 2 => rw [outsAt_B m c t h hq, out_B_32]
      all_goals
        idx_vars j
        obtain rfl : j0 = 0 := Subsingleton.elim _ _
        rw [p121_at]
        simp only [tok_eq]
        )
    (le_of_eq N_0) t0_15 rfl j, zero_add]
  idx_vars j
  exact Fin.sum_points_lanes_congr 8 fun t k ha hl => rfl

/-- The gradient of the norm's weight. -/
theorem final_33 : (dats m 0 c).arrAt 33 (cfgs 0).N = F_dnw (ktok m c) := by
  refine (dats m 0 c).arrAt_eq_of_after_last 33 t0_15 (by decide +kernel) _ fun j => ?_
  blk_simp
  rw [after0_33, Pipeline.eq_sum_fin_of_reset_step_apply_last (fun n h => (outsAt m c n h).2.2.2.2.2.2.2.2.2.2.2.2.2.2.2) 16 (fun _ => 0)
    (fun t j => ∑ r : Fin 256, ∑ h : Fin 4, (ktok m c (rowB t) (rowL t r)).on h (j 1) * (ktok m c (rowB t) (rowL t r)).dow h (j 1))
    (fun t h j => by
        rw [outsAt_A m c t h (by omega), out_A_33]
        idx_vars j
        obtain rfl : j0 = 0 := Subsingleton.elim _ _
        rw [p3_at, p145_at, p136_at, p129_at]
        simp only [tok_eq]
        rw [add_assoc, add_assoc, add_assoc, ← Finset.sum_add_distrib, ← Finset.sum_add_distrib, ← Finset.sum_add_distrib]
        refine Ideal.add_congr (by pointwise [k0_pay11]) (Fin.sum_fin_congr fun r => ?_)
        rw [Fin.sum_univ_four, add_assoc, add_assoc]
        )
    (fun t h j => by
      by_cases hq : t.val % 8 = 0
      on_goal 1 => rw [outsAt_C m c t h hq, out_C_33]
      on_goal 2 => rw [outsAt_B m c t h hq, out_B_33]
      all_goals
        idx_vars j
        obtain rfl : j0 = 0 := Subsingleton.elim _ _
        rw [p3_at, p145_at, p136_at, p129_at]
        simp only [tok_eq]
        rw [add_assoc, add_assoc, add_assoc, ← Finset.sum_add_distrib, ← Finset.sum_add_distrib, ← Finset.sum_add_distrib]
        refine Ideal.add_congr rfl (Fin.sum_fin_congr fun r => ?_)
        rw [Fin.sum_univ_four, add_assoc, add_assoc]
        )
    (le_of_eq N_0) t0_15 rfl j, zero_add]
  idx_vars j
  exact Fin.sum_points_lanes_congr 8 fun t k ha hl => rfl

end Cert.Tail

end
-- ==== Proof.TailRun.lean ====
/- The runs of the tail's two programs and their equality.  Hand-written, untrusted. -/
module

public import proofs.«01_k».proof.Defs
public import proofs.«01_k».proof.Proof.TailLaunch
public import proofs.«01_k».proof.Proof.TailFinA
public import proofs.«01_k».proof.Proof.TailFinB
public import Idealize.ShloMosaic.Lib.Claim

@[expose] public section

set_option maxRecDepth 16384

noncomputable section

namespace Cert.Tail

open Idealize.ShloMosaic Idealize.ShloMosaic.StableHlo Idealize.SL.Sem
open Cert.Reference4Ideal Cert.Reference4Ideal.Gen

/-- The tokens of the reference's arguments. -/
abbrev mtok (m : (ℓ : Loc nD τ sig) → Buf (Elt Ideal) ℓ) (c : Dev nD) : Fin 2 → Fin 2048 → In := rtok (launchContents m c)

/-- The reference's run, its sixteen results as formulas over the tokens. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v207) = F_loss (mtok m c)
      ∧ r.2.mem (c.tc.loc main_v200) = F_du (mtok m c)
      ∧ r.2.mem (c.tc.loc main_v198) = F_dys (mtok m c)
      ∧ r.2.mem (c.tc.loc main_v176) = F_dz (mtok m c)
      ∧ r.2.mem (c.tc.loc main_v173) = F_do (mtok m c)
      ∧ r.2.mem (c.tc.loc main_v152) = F_dzg (mtok m c)
      ∧ r.2.mem (c.tc.loc main_v144) = F_gx (mtok m c)
      ∧ r.2.mem (c.tc.loc main_v208) = F_dws (mtok m c)
      ∧ r.2.mem (c.tc.loc main_v209) = F_dwg (mtok m c)
      ∧ r.2.mem (c.tc.loc main_v142) = F_dgate (mtok m c)
      ∧ r.2.mem (c.tc.loc main_v117) = F_dlng (mtok m c)
      ∧ r.2.mem (c.tc.loc main_v110) = F_dlnb (mtok m c)
      ∧ r.2.mem (c.tc.loc main_v205) = F_ddsk (mtok m c)
      ∧ r.2.mem (c.tc.loc main_v185) = F_dwglu (mtok m c)
      ∧ r.2.mem (c.tc.loc main_v183) = F_dbglu (mtok m c)
      ∧ r.2.mem (c.tc.loc main_v160) = F_dnw (mtok m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16) :=
  (θ_run defs _ _).mono (fun _ h c => ⟨(h c).1.trans (ref_loss (launchContents m c)),
      (h c).2.1.trans (ref_du (launchContents m c)),
      (h c).2.2.1.trans (ref_dys (launchContents m c)),
      (h c).2.2.2.1.trans (ref_dz (launchContents m c)),
      (h c).2.2.2.2.1.trans (ref_do (launchContents m c)),
      (h c).2.2.2.2.2.1.trans (ref_dzg (launchContents m c)),
      (h c).2.2.2.2.2.2.1.trans (ref_gx (launchContents m c)),
      (h c).2.2.2.2.2.2.2.1.trans (ref_dws (launchContents m c)),
      (h c).2.2.2.2.2.2.2.2.1.trans (ref_dwg (launchContents m c)),
      (h c).2.2.2.2.2.2.2.2.2.1.trans (ref_dgate (launchContents m c)),
      (h c).2.2.2.2.2.2.2.2.2.2.1.trans (ref_dlng (launchContents m c)),
      (h c).2.2.2.2.2.2.2.2.2.2.2.1.trans (ref_dlnb (launchContents m c)),
      (h c).2.2.2.2.2.2.2.2.2.2.2.2.1.trans (ref_ddsk (launchContents m c)),
      (h c).2.2.2.2.2.2.2.2.2.2.2.2.2.1.trans (ref_dwglu (launchContents m c)),
      (h c).2.2.2.2.2.2.2.2.2.2.2.2.2.2.1.trans (ref_dbglu (launchContents m c)),
      (h c).2.2.2.2.2.2.2.2.2.2.2.2.2.2.2.1.trans (ref_dnw (launchContents m c)),
      (h c).2.2.2.2.2.2.2.2.2.2.2.2.2.2.2.2⟩) (Cert.Reference4Ideal.Value.run m ρ)

/-- The reference runs from every starting memory, keeps its arguments, and declares no semaphore. -/
theorem ref_frame : Cert.quiescent_Reference4Ideal := by
  intro m ρ _
  exact (θ_run defs _ _).mono (fun r h => ⟨fun c => (h c).2.2.2.2.2.2.2.2.2.2.2.2.2.2.2.2, Idealize.ShloMosaic.sem_eq_zero_of_no_sems (by decide) r.2⟩) (ref_run m ρ)

/-- The idealized tail runs from every starting memory and keeps its arguments. -/
theorem ideal_frame : Cert.quiescent_Kernel4Ideal := fun m ρ _ => frame (F := Ideal) m ρ

/-- Equal arguments have equal tokens. -/
theorem mtok_eq (m : (ℓ : Loc Cert.Kernel4Ideal.nD Cert.Kernel4Ideal.τ Cert.Kernel4Ideal.sig) → Buf (Elt Ideal) ℓ)
    (m' : (ℓ : Loc nD τ sig) → Buf (Elt Ideal) ℓ) (c : Dev nD)
    (a0 : m' (c.tc.loc main_arg0) = m ((c.tc : Thread Cert.Kernel4Ideal.nD Cert.Kernel4Ideal.τ).loc Cert.Kernel4Ideal.main_arg0))
    (a1 : m' (c.tc.loc main_arg1) = m ((c.tc : Thread Cert.Kernel4Ideal.nD Cert.Kernel4Ideal.τ).loc Cert.Kernel4Ideal.main_arg1))
    (a2 : m' (c.tc.loc main_arg2) = m ((c.tc : Thread Cert.Kernel4Ideal.nD Cert.Kernel4Ideal.τ).loc Cert.Kernel4Ideal.main_arg2))
    (a3 : m' (c.tc.loc main_arg3) = m ((c.tc : Thread Cert.Kernel4Ideal.nD Cert.Kernel4Ideal.τ).loc Cert.Kernel4Ideal.main_arg3))
    (a4 : m' (c.tc.loc main_arg4) = m ((c.tc : Thread Cert.Kernel4Ideal.nD Cert.Kernel4Ideal.τ).loc Cert.Kernel4Ideal.main_arg4))
    (a5 : m' (c.tc.loc main_arg5) = m ((c.tc : Thread Cert.Kernel4Ideal.nD Cert.Kernel4Ideal.τ).loc Cert.Kernel4Ideal.main_arg5))
    (a6 : m' (c.tc.loc main_arg6) = m ((c.tc : Thread Cert.Kernel4Ideal.nD Cert.Kernel4Ideal.τ).loc Cert.Kernel4Ideal.main_arg6))
    (a7 : m' (c.tc.loc main_arg7) = m ((c.tc : Thread Cert.Kernel4Ideal.nD Cert.Kernel4Ideal.τ).loc Cert.Kernel4Ideal.main_arg7))
    (a8 : m' (c.tc.loc main_arg8) = m ((c.tc : Thread Cert.Kernel4Ideal.nD Cert.Kernel4Ideal.τ).loc Cert.Kernel4Ideal.main_arg8))
    (a9 : m' (c.tc.loc main_arg9) = m ((c.tc : Thread Cert.Kernel4Ideal.nD Cert.Kernel4Ideal.τ).loc Cert.Kernel4Ideal.main_arg9))
    (a10 : m' (c.tc.loc main_arg10) = m ((c.tc : Thread Cert.Kernel4Ideal.nD Cert.Kernel4Ideal.τ).loc Cert.Kernel4Ideal.main_arg10))
    (a11 : m' (c.tc.loc main_arg11) = m ((c.tc : Thread Cert.Kernel4Ideal.nD Cert.Kernel4Ideal.τ).loc Cert.Kernel4Ideal.main_arg11))
    (a12 : m' (c.tc.loc main_arg12) = m ((c.tc : Thread Cert.Kernel4Ideal.nD Cert.Kernel4Ideal.τ).loc Cert.Kernel4Ideal.main_arg12))
    (a13 : m' (c.tc.loc main_arg13) = m ((c.tc : Thread Cert.Kernel4Ideal.nD Cert.Kernel4Ideal.τ).loc Cert.Kernel4Ideal.main_arg13))
    (a14 : m' (c.tc.loc main_arg14) = m ((c.tc : Thread Cert.Kernel4Ideal.nD Cert.Kernel4Ideal.τ).loc Cert.Kernel4Ideal.main_arg14))
    (a15 : m' (c.tc.loc main_arg15) = m ((c.tc : Thread Cert.Kernel4Ideal.nD Cert.Kernel4Ideal.τ).loc Cert.Kernel4Ideal.main_arg15))
    (a16 : m' (c.tc.loc main_arg16) = m ((c.tc : Thread Cert.Kernel4Ideal.nD Cert.Kernel4Ideal.τ).loc Cert.Kernel4Ideal.main_arg16))
    : mtok m' c = ktok m c := by
  funext b l
  refine In.ext (funext fun _ => congrFun a0 _) (funext fun _ => congrFun a1 _) (funext fun _ => congrFun a2 _) (funext fun _ => congrFun a3 _) (funext fun _ => funext fun _ => congrFun a4 _) (funext fun _ => funext fun _ => congrFun a5 _) (funext fun _ => funext fun _ => congrFun a6 _) (funext fun _ => congrFun a7 _) (funext fun _ => congrFun a8 _) (funext fun _ => congrFun a9 _) (funext fun _ => congrFun a10 _) (funext fun _ => congrFun a11 _) (funext fun _ => funext fun _ => congrFun a12 _) (funext fun _ => funext fun _ => congrFun a12 _) (funext fun _ => congrFun a13 _) (funext fun _ => funext fun _ => congrFun a14 _) (funext fun _ => congrFun a15 _) (funext fun _ => congrFun a16 _)

-- the claim is a conjunction of thirty-three equations of arrays
set_option maxHeartbeats 1000000 in
/-- The tail's kernel computes exactly the loss and the gradients of every argument of the tail. -/
theorem value : Cert.algebraic_Kernel4Ideal_Reference4Ideal := by
  intro m g m' g' _ hagree
  refine ⟨fun c => (dats m 0 c).arrAt 18 (Cert.Kernel4Ideal.cfgs 0).N,
    fun c => (dats m 0 c).arrAt 19 (Cert.Kernel4Ideal.cfgs 0).N,
    fun c => (dats m 0 c).arrAt 20 (Cert.Kernel4Ideal.cfgs 0).N,
    fun c => (dats m 0 c).arrAt 21 (Cert.Kernel4Ideal.cfgs 0).N,
    fun c => (dats m 0 c).arrAt 22 (Cert.Kernel4Ideal.cfgs 0).N,
    fun c => (dats m 0 c).arrAt 23 (Cert.Kernel4Ideal.cfgs 0).N,
    fun c => (dats m 0 c).arrAt 24 (Cert.Kernel4Ideal.cfgs 0).N,
    fun c => (dats m 0 c).arrAt 25 (Cert.Kernel4Ideal.cfgs 0).N,
    fun c => (dats m 0 c).arrAt 26 (Cert.Kernel4Ideal.cfgs 0).N,
    fun c => (dats m 0 c).arrAt 27 (Cert.Kernel4Ideal.cfgs 0).N,
    fun c => (dats m 0 c).arrAt 28 (Cert.Kernel4Ideal.cfgs 0).N,
    fun c => (dats m 0 c).arrAt 29 (Cert.Kernel4Ideal.cfgs 0).N,
    fun c => (dats m 0 c).arrAt 30 (Cert.Kernel4Ideal.cfgs 0).N,
    fun c => (dats m 0 c).arrAt 31 (Cert.Kernel4Ideal.cfgs 0).N,
    fun c => (dats m 0 c).arrAt 32 (Cert.Kernel4Ideal.cfgs 0).N,
    fun c => (dats m 0 c).arrAt 33 (Cert.Kernel4Ideal.cfgs 0).N, run_blocks m g, ?_⟩
  refine (θ_run Cert.Reference4Ideal.defs _ _).mono (fun r h c => ?_) (ref_run m' g')
  have e : mtok m' c = ktok m c := mtok_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2
  exact ⟨(h c).1.trans ((congrArg F_loss e).trans (final_18 m c).symm),
    (h c).2.1.trans ((congrArg F_du e).trans (final_19 m c).symm),
    (h c).2.2.1.trans ((congrArg F_dys e).trans (final_20 m c).symm),
    (h c).2.2.2.1.trans ((congrArg F_dz e).trans (final_21 m c).symm),
    (h c).2.2.2.2.1.trans ((congrArg F_do e).trans (final_22 m c).symm),
    (h c).2.2.2.2.2.1.trans ((congrArg F_dzg e).trans (final_23 m c).symm),
    (h c).2.2.2.2.2.2.1.trans ((congrArg F_gx e).trans (final_24 m c).symm),
    (h c).2.2.2.2.2.2.2.1.trans ((congrArg F_dws e).trans (final_25 m c).symm),
    (h c).2.2.2.2.2.2.2.2.1.trans ((congrArg F_dwg e).trans (final_26 m c).symm),
    (h c).2.2.2.2.2.2.2.2.2.1.trans ((congrArg F_dgate e).trans (final_27 m c).symm),
    (h c).2.2.2.2.2.2.2.2.2.2.1.trans ((congrArg F_dlng e).trans (final_28 m c).symm),
    (h c).2.2.2.2.2.2.2.2.2.2.2.1.trans ((congrArg F_dlnb e).trans (final_29 m c).symm),
    (h c).2.2.2.2.2.2.2.2.2.2.2.2.1.trans ((congrArg F_ddsk e).trans (final_30 m c).symm),
    (h c).2.2.2.2.2.2.2.2.2.2.2.2.2.1.trans ((congrArg F_dwglu e).trans (final_31 m c).symm),
    (h c).2.2.2.2.2.2.2.2.2.2.2.2.2.2.1.trans ((congrArg F_dbglu e).trans (final_32 m c).symm),
    (h c).2.2.2.2.2.2.2.2.2.2.2.2.2.2.2.1.trans ((congrArg F_dnw e).trans (final_33 m c).symm), (h c).2.2.2.2.2.2.2.2.2.2.2.2.2.2.2.2⟩

end Cert.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.InProjRun
public import proofs.«01_k».proof.Proof.ProjFwdRun
public import proofs.«01_k».proof.Proof.ProjCtxRun
public import proofs.«01_k».proof.Proof.FwdCtxRun
public import proofs.«01_k».proof.Proof.AdamAdaRun
public import proofs.«01_k».proof.Proof.AdamInRun
public import proofs.«01_k».proof.Proof.AdamConvRun
public import proofs.«01_k».proof.Proof.AdaBwdRun
public import proofs.«01_k».proof.Proof.AdaFwdRun
public import proofs.«01_k».proof.Proof.CtxBwdRun
public import proofs.«01_k».proof.Proof.TailBits
public import proofs.«01_k».proof.Proof.TailRun
public import Idealize.ShloMosaic.Adequacy
public import Idealize.ShloMosaic.Init

@[expose] public section

noncomputable section

namespace Cert.Proof

open Idealize.ShloMosaic Idealize.SL.Sem Cert.Kernel

/-- The certificate: for each of the eleven calls the frames, the idealization, and the value of the kernel against its
    reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  fun m ρ _ => Cert.Kernel.Gen.frame m ρ, fun m ρ _ => Cert.KernelIdeal.Gen.frame m ρ, Cert.InProj.ref_frame,
  fun m ρ _ => Cert.Kernel2.Gen.frame m ρ, fun m ρ _ => Cert.Kernel2Ideal.Gen.frame m ρ, Cert.InProjF.ref_frame,
  fun m ρ _ => Cert.Kernel3.Gen.frame m ρ, fun m ρ _ => Cert.Kernel3Ideal.Gen.frame m ρ, Cert.InProjC.ref_frame,
  Cert.Tail.bits_frame, Cert.Tail.ideal_frame, Cert.Tail.ref_frame,
  fun m ρ _ => Cert.Kernel5.Gen.frame m ρ, fun m ρ _ => Cert.Kernel5Ideal.Gen.frame m ρ, Cert.InProjFC.ref_frame,
  fun m ρ _ => Cert.Kernel6.Gen.frame m ρ, fun m ρ _ => Cert.Kernel6Ideal.Gen.frame m ρ, Cert.AdamAda.ref_frame,
  fun m ρ _ => Cert.Kernel7.Gen.frame m ρ, fun m ρ _ => Cert.Kernel7Ideal.Gen.frame m ρ, Cert.AdamIn.ref_frame,
  fun m ρ _ => Cert.Kernel8.Gen.frame m ρ, fun m ρ _ => Cert.Kernel8Ideal.Gen.frame m ρ, Cert.AdaBwd.ref_frame,
  fun m ρ _ => Cert.Kernel9.Gen.frame m ρ, fun m ρ _ => Cert.Kernel9Ideal.Gen.frame m ρ, Cert.AdamConv.ref_frame,
  fun m ρ _ => Cert.Kernel10.Gen.frame m ρ, fun m ρ _ => Cert.Kernel10Ideal.Gen.frame m ρ, Cert.AdaFwd.ref_frame,
  fun m ρ _ => Cert.Kernel11.Gen.frame m ρ, fun m ρ _ => Cert.Kernel11Ideal.Gen.frame m ρ, Cert.CtxBwd.ref_frame,
  trivial, Cert.InProj.value, trivial, Cert.InProjF.value, trivial, Cert.InProjC.value,
  trivial, Cert.Tail.value, trivial, Cert.InProjFC.value, trivial, Cert.AdamAda.value, trivial, Cert.AdamIn.value,
  trivial, Cert.AdaBwd.value, trivial, Cert.AdamConv.value, trivial, Cert.AdaFwd.value,
  trivial, Cert.CtxBwd.value⟩

end Cert.Proof

end
